-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v72) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S32 : Shape := ⟨1, ![32]⟩
abbrev S4096x8192 : Shape := ⟨2, ![4096, 8192]⟩
abbrev S_ : Shape := ⟨0, ![]⟩
abbrev S1 : Shape := ⟨1, ![1]⟩
abbrev S3 : Shape := ⟨1, ![3]⟩
abbrev S2x64x8192 : Shape := ⟨3, ![2, 64, 8192]⟩
abbrev S2 : Shape := ⟨1, ![2]⟩
abbrev S1x64x8192 : Shape := ⟨3, ![1, 64, 8192]⟩
abbrev S64x8192 : Shape := ⟨2, ![64, 8192]⟩

abbrev nBuf : Space → Nat
  | .hbm => 157
  | .vmem => 4
  | .smem => 1
  | _ => 0

abbrev hbmTy0_0 (i : Nat) : BufTy := match i % 128 with
  | 0 => ⟨S4096x128, .f32⟩
  | 1 => ⟨S128x8192, .f32⟩
  | 2 => ⟨S32, .i32⟩
  | 3 => ⟨S32, .i32⟩
  | 4 => ⟨S4096x8192, .f32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S1, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S1, .i32⟩
  | 41 => ⟨S_, .i32⟩
  | 42 => ⟨S1, .i32⟩
  | 43 => ⟨S1, .i32⟩
  | 44 => ⟨S1, .i32⟩
  | 45 => ⟨S3, .i32⟩
  | 46 => ⟨S4096x8192, .f32⟩
  | 47 => ⟨S4096x8192, .f32⟩
  | 48 => ⟨S_, .f32⟩
  | 49 => ⟨S_, .f32⟩
  | 50 => ⟨S_, .f32⟩
  | 51 => ⟨S_, .f32⟩
  | 52 => ⟨S4096x8192, .f32⟩
  | 53 => ⟨S4096x8192, .f32⟩
  | 54 => ⟨S4096x8192, .f32⟩
  | 55 => ⟨S_, .f32⟩
  | 56 => ⟨S4096x8192, .f32⟩
  | 57 => ⟨S4096x8192, .i1⟩
  | 58 => ⟨S_, .f32⟩
  | 59 => ⟨S4096x8192, .f32⟩
  | 60 => ⟨S_, .f32⟩
  | 61 => ⟨S4096x8192, .f32⟩
  | 62 => ⟨S4096x8192, .i1⟩
  | 63 => ⟨S_, .f32⟩
  | 64 => ⟨S4096x8192, .f32⟩
  | 65 => ⟨S4096x8192, .f32⟩
  | 66 => ⟨S_, .f32⟩
  | 67 => ⟨S4096x8192, .f32⟩
  | 68 => ⟨S4096x8192, .i1⟩
  | 69 => ⟨S_, .f32⟩
  | 70 => ⟨S4096x8192, .f32⟩
  | 71 => ⟨S4096x8192, .f32⟩
  | 72 => ⟨S_, .f32⟩
  | 73 => ⟨S4096x8192, .f32⟩
  | 74 => ⟨S4096x8192, .i1⟩
  | 75 => ⟨S_, .f32⟩
  | 76 => ⟨S4096x8192, .f32⟩
  | 77 => ⟨S4096x8192, .f32⟩
  | 78 => ⟨S_, .f32⟩
  | 79 => ⟨S4096x8192, .f32⟩
  | 80 => ⟨S4096x8192, .i1⟩
  | 81 => ⟨S_, .f32⟩
  | 82 => ⟨S4096x8192, .f32⟩
  | 83 => ⟨S4096x8192, .f32⟩
  | 84 => ⟨S_, .f32⟩
  | 85 => ⟨S4096x8192, .f32⟩
  | 86 => ⟨S4096x8192, .i1⟩
  | 87 => ⟨S_, .f32⟩
  | 88 => ⟨S4096x8192, .f32⟩
  | 89 => ⟨S4096x8192, .f32⟩
  | 90 => ⟨S_, .f32⟩
  | 91 => ⟨S4096x8192, .f32⟩
  | 92 => ⟨S4096x8192, .i1⟩
  | 93 => ⟨S_, .f32⟩
  | 94 => ⟨S4096x8192, .f32⟩
  | 95 => ⟨S4096x8192, .f32⟩
  | 96 => ⟨S_, .f32⟩
  | 97 => ⟨S4096x8192, .f32⟩
  | 98 => ⟨S4096x8192, .i1⟩
  | 99 => ⟨S_, .f32⟩
  | 100 => ⟨S4096x8192, .f32⟩
  | 101 => ⟨S4096x8192, .f32⟩
  | 102 => ⟨S_, .f32⟩
  | 103 => ⟨S4096x8192, .f32⟩
  | 104 => ⟨S4096x8192, .i1⟩
  | 105 => ⟨S_, .f32⟩
  | 106 => ⟨S4096x8192, .f32⟩
  | 107 => ⟨S4096x8192, .f32⟩
  | 108 => ⟨S_, .f32⟩
  | 109 => ⟨S4096x8192, .f32⟩
  | 110 => ⟨S4096x8192, .i1⟩
  | 111 => ⟨S_, .f32⟩
  | 112 => ⟨S4096x8192, .f32⟩
  | 113 => ⟨S4096x8192, .f32⟩
  | 114 => ⟨S_, .f32⟩
  | 115 => ⟨S4096x8192, .f32⟩
  | 116 => ⟨S4096x8192, .i1⟩
  | 117 => ⟨S_, .f32⟩
  | 118 => ⟨S4096x8192, .f32⟩
  | 119 => ⟨S4096x8192, .f32⟩
  | 120 => ⟨S_, .f32⟩
  | 121 => ⟨S4096x8192, .f32⟩
  | 122 => ⟨S4096x8192, .i1⟩
  | 123 => ⟨S_, .f32⟩
  | 124 => ⟨S4096x8192, .f32⟩
  | 125 => ⟨S4096x8192, .f32⟩
  | 126 => ⟨S_, .f32⟩
  | 127 => ⟨S4096x8192, .f32⟩
  | _ => ⟨S4096x128, .f32⟩

abbrev hbmTy0_1 (i : Nat) : BufTy := match i % 128 with
  | 0 => ⟨S4096x8192, .i1⟩
  | 1 => ⟨S_, .f32⟩
  | 2 => ⟨S4096x8192, .f32⟩
  | 3 => ⟨S4096x8192, .f32⟩
  | 4 => ⟨S_, .f32⟩
  | 5 => ⟨S4096x8192, .f32⟩
  | 6 => ⟨S4096x8192, .i1⟩
  | 7 => ⟨S_, .f32⟩
  | 8 => ⟨S4096x8192, .f32⟩
  | 9 => ⟨S4096x8192, .f32⟩
  | 10 => ⟨S_, .f32⟩
  | 11 => ⟨S4096x8192, .f32⟩
  | 12 => ⟨S4096x8192, .i1⟩
  | 13 => ⟨S_, .f32⟩
  | 14 => ⟨S4096x8192, .f32⟩
  | 15 => ⟨S4096x8192, .f32⟩
  | 16 => ⟨S_, .f32⟩
  | 17 => ⟨S4096x8192, .f32⟩
  | 18 => ⟨S4096x8192, .f32⟩
  | 19 => ⟨S4096x8192, .f32⟩
  | 20 => ⟨S4096x8192, .f32⟩
  | 21 => ⟨S4096x8192, .f32⟩
  | 22 => ⟨S_, .f32⟩
  | 23 => ⟨S4096x8192, .f32⟩
  | 24 => ⟨S4096x8192, .f32⟩
  | 25 => ⟨S4096x8192, .f32⟩
  | 26 => ⟨S4096x8192, .f32⟩
  | 27 => ⟨S4096x8192, .f32⟩
  | 28 => ⟨S4096x8192, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | .local _ .vmem, ⟨0, _⟩ => ⟨S2x64x8192, .f32⟩
  | .local _ .vmem, ⟨1, _⟩ => ⟨S2x64x8192, .f32⟩
  | .local _ .vmem, ⟨2, _⟩ => ⟨S2x64x8192, .f32⟩
  | .local _ .vmem, ⟨3, _⟩ => ⟨S2x64x8192, .f32⟩
  | .local _ .smem, ⟨0, _⟩ => ⟨S3, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 3 15 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_c_1 : Ref sig .tc := ⟨.hbm, 5, rfl⟩
abbrev main_c_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_c_4 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_c_6 : Ref sig .tc := ⟨.hbm, 20, rfl⟩
abbrev main_v12 : Ref sig .tc := ⟨.hbm, 21, rfl⟩
abbrev main_c_7 : Ref sig .tc := ⟨.hbm, 22, rfl⟩
abbrev main_v13 : Ref sig .tc := ⟨.hbm, 23, rfl⟩
abbrev main_c_8 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_9 : Ref sig .tc := ⟨.hbm, 29, rfl⟩
abbrev main_v18 : Ref sig .tc := ⟨.hbm, 30, rfl⟩
abbrev main_c_10 : Ref sig .tc := ⟨.hbm, 31, rfl⟩
abbrev main_v19 : Ref sig .tc := ⟨.hbm, 32, rfl⟩
abbrev main_c_11 : Ref sig .tc := ⟨.hbm, 33, rfl⟩
abbrev main_v20 : Ref sig .tc := ⟨.hbm, 34, rfl⟩
abbrev main_c_12 : Ref sig .tc := ⟨.hbm, 35, rfl⟩
abbrev main_v21 : Ref sig .tc := ⟨.hbm, 36, rfl⟩
abbrev main_c_13 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst : Ref sig .tc := ⟨.hbm, 48, rfl⟩
abbrev main_v32 : Ref sig .tc := ⟨.hbm, 49, rfl⟩
abbrev main_cst_14 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_15 : Ref sig .tc := ⟨.hbm, 55, rfl⟩
abbrev main_v37 : Ref sig .tc := ⟨.hbm, 56, rfl⟩
abbrev main_v38 : Ref sig .tc := ⟨.hbm, 57, rfl⟩
abbrev main_cst_16 : Ref sig .tc := ⟨.hbm, 58, rfl⟩
abbrev main_v39 : Ref sig .tc := ⟨.hbm, 59, rfl⟩
abbrev main_cst_17 : Ref sig .tc := ⟨.hbm, 60, rfl⟩
abbrev main_v40 : Ref sig .tc := ⟨.hbm, 61, rfl⟩
abbrev main_v41 : Ref sig .tc := ⟨.hbm, 62, rfl⟩
abbrev main_cst_18 : Ref sig .tc := ⟨.hbm, 63, rfl⟩
abbrev main_v42 : Ref sig .tc := ⟨.hbm, 64, rfl⟩
abbrev main_v43 : Ref sig .tc := ⟨.hbm, 65, rfl⟩
abbrev main_cst_19 : Ref sig .tc := ⟨.hbm, 66, rfl⟩
abbrev main_v44 : Ref sig .tc := ⟨.hbm, 67, rfl⟩
abbrev main_v45 : Ref sig .tc := ⟨.hbm, 68, rfl⟩
abbrev main_cst_20 : Ref sig .tc := ⟨.hbm, 69, rfl⟩
abbrev main_v46 : Ref sig .tc := ⟨.hbm, 70, rfl⟩
abbrev main_v47 : Ref sig .tc := ⟨.hbm, 71, rfl⟩
abbrev main_cst_21 : Ref sig .tc := ⟨.hbm, 72, rfl⟩
abbrev main_v48 : Ref sig .tc := ⟨.hbm, 73, rfl⟩
abbrev main_v49 : Ref sig .tc := ⟨.hbm, 74, rfl⟩
abbrev main_cst_22 : Ref sig .tc := ⟨.hbm, 75, rfl⟩
abbrev main_v50 : Ref sig .tc := ⟨.hbm, 76, rfl⟩
abbrev main_v51 : Ref sig .tc := ⟨.hbm, 77, rfl⟩
abbrev main_cst_23 : Ref sig .tc := ⟨.hbm, 78, rfl⟩
abbrev main_v52 : Ref sig .tc := ⟨.hbm, 79, rfl⟩
abbrev main_v53 : Ref sig .tc := ⟨.hbm, 80, rfl⟩
abbrev main_cst_24 : Ref sig .tc := ⟨.hbm, 81, rfl⟩
abbrev main_v54 : Ref sig .tc := ⟨.hbm, 82, rfl⟩
abbrev main_v55 : Ref sig .tc := ⟨.hbm, 83, rfl⟩
abbrev main_cst_25 : Ref sig .tc := ⟨.hbm, 84, rfl⟩
abbrev main_v56 : Ref sig .tc := ⟨.hbm, 85, rfl⟩
abbrev main_v57 : Ref sig .tc := ⟨.hbm, 86, rfl⟩
abbrev main_cst_26 : Ref sig .tc := ⟨.hbm, 87, rfl⟩
abbrev main_v58 : Ref sig .tc := ⟨.hbm, 88, rfl⟩
abbrev main_v59 : Ref sig .tc := ⟨.hbm, 89, rfl⟩
abbrev main_cst_27 : Ref sig .tc := ⟨.hbm, 90, rfl⟩
abbrev main_v60 : Ref sig .tc := ⟨.hbm, 91, rfl⟩
abbrev main_v61 : Ref sig .tc := ⟨.hbm, 92, rfl⟩
abbrev main_cst_28 : Ref sig .tc := ⟨.hbm, 93, rfl⟩
abbrev main_v62 : Ref sig .tc := ⟨.hbm, 94, rfl⟩
abbrev main_v63 : Ref sig .tc := ⟨.hbm, 95, rfl⟩
abbrev main_cst_29 : Ref sig .tc := ⟨.hbm, 96, rfl⟩
abbrev main_v64 : Ref sig .tc := ⟨.hbm, 97, rfl⟩
abbrev main_v65 : Ref sig .tc := ⟨.hbm, 98, rfl⟩
abbrev main_cst_30 : Ref sig .tc := ⟨.hbm, 99, rfl⟩
abbrev main_v66 : Ref sig .tc := ⟨.hbm, 100, rfl⟩
abbrev main_v67 : Ref sig .tc := ⟨.hbm, 101, rfl⟩
abbrev main_cst_31 : Ref sig .tc := ⟨.hbm, 102, rfl⟩
abbrev main_v68 : Ref sig .tc := ⟨.hbm, 103, rfl⟩
abbrev main_v69 : Ref sig .tc := ⟨.hbm, 104, rfl⟩
abbrev main_cst_32 : Ref sig .tc := ⟨.hbm, 105, rfl⟩
abbrev main_v70 : Ref sig .tc := ⟨.hbm, 106, rfl⟩
abbrev main_v71 : Ref sig .tc := ⟨.hbm, 107, rfl⟩
abbrev main_cst_33 : Ref sig .tc := ⟨.hbm, 108, rfl⟩
abbrev main_v72 : Ref sig .tc := ⟨.hbm, 109, rfl⟩
abbrev main_v73 : Ref sig .tc := ⟨.hbm, 110, rfl⟩
abbrev main_cst_34 : Ref sig .tc := ⟨.hbm, 111, rfl⟩
abbrev main_v74 : Ref sig .tc := ⟨.hbm, 112, rfl⟩
abbrev main_v75 : Ref sig .tc := ⟨.hbm, 113, rfl⟩
abbrev main_cst_35 : Ref sig .tc := ⟨.hbm, 114, rfl⟩
abbrev main_v76 : Ref sig .tc := ⟨.hbm, 115, rfl⟩
abbrev main_v77 : Ref sig .tc := ⟨.hbm, 116, rfl⟩
abbrev main_cst_36 : Ref sig .tc := ⟨.hbm, 117, rfl⟩
abbrev main_v78 : Ref sig .tc := ⟨.hbm, 118, rfl⟩
abbrev main_v79 : Ref sig .tc := ⟨.hbm, 119, rfl⟩
abbrev main_cst_37 : Ref sig .tc := ⟨.hbm, 120, rfl⟩
abbrev main_v80 : Ref sig .tc := ⟨.hbm, 121, rfl⟩
abbrev main_v81 : Ref sig .tc := ⟨.hbm, 122, rfl⟩
abbrev main_cst_38 : Ref sig .tc := ⟨.hbm, 123, rfl⟩
abbrev main_v82 : Ref sig .tc := ⟨.hbm, 124, rfl⟩
abbrev main_v83 : Ref sig .tc := ⟨.hbm, 125, rfl⟩
abbrev main_cst_39 : Ref sig .tc := ⟨.hbm, 126, rfl⟩
abbrev main_v84 : Ref sig .tc := ⟨.hbm, 127, rfl⟩
abbrev main_v85 : Ref sig .tc := ⟨.hbm, 128, rfl⟩
abbrev main_cst_40 : Ref sig .tc := ⟨.hbm, 129, rfl⟩
abbrev main_v86 : Ref sig .tc := ⟨.hbm, 130, rfl⟩
abbrev main_v87 : Ref sig .tc := ⟨.hbm, 131, rfl⟩
abbrev main_cst_41 : Ref sig .tc := ⟨.hbm, 132, rfl⟩
abbrev main_v88 : Ref sig .tc := ⟨.hbm, 133, rfl⟩
abbrev main_v89 : Ref sig .tc := ⟨.hbm, 134, rfl⟩
abbrev main_cst_42 : Ref sig .tc := ⟨.hbm, 135, rfl⟩
abbrev main_v90 : Ref sig .tc := ⟨.hbm, 136, rfl⟩
abbrev main_v91 : Ref sig .tc := ⟨.hbm, 137, rfl⟩
abbrev main_cst_43 : Ref sig .tc := ⟨.hbm, 138, rfl⟩
abbrev main_v92 : Ref sig .tc := ⟨.hbm, 139, rfl⟩
abbrev main_v93 : Ref sig .tc := ⟨.hbm, 140, rfl⟩
abbrev main_cst_44 : Ref sig .tc := ⟨.hbm, 141, rfl⟩
abbrev main_v94 : Ref sig .tc := ⟨.hbm, 142, rfl⟩
abbrev main_v95 : Ref sig .tc := ⟨.hbm, 143, rfl⟩
abbrev main_cst_45 : Ref sig .tc := ⟨.hbm, 144, rfl⟩
abbrev main_call0_v0 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_46 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_stg0_0 : Ref sig .tc := ⟨.smem, 0, rfl⟩
abbrev cc0_sem0_0 : DmaSem sig := 0
abbrev barrier0 : Sem sig := 2

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k0_off1 (v0 : BitVec 32) : Fin 2 → Nat :=
  let c64_i32 : BitVec 32 := 64#32
  let v8 : BitVec 32 := Scalar.muli v0 c64_i32
  let c0_i32_8 : BitVec 32 := 0#32
  ![v8.toNat, 0]

def k0_off2 (v0 : BitVec 32) : Fin 2 → Nat :=
  let c2048_i32 : BitVec 32 := 2048#32
  let c64_i32_14 : BitVec 32 := 64#32
  let v19 : BitVec 32 := Scalar.muli v0 c64_i32_14
  let v20 : BitVec 32 := Scalar.addi c2048_i32 v19
  let c0_i32_19 : BitVec 32 := 0#32
  ![v20.toNat, 0]
def k0_dev3 (v2 : BitVec 32) : Nat :=
  let c0_i32_30 : BitVec 32 := 0#32
  let c1_i32_29 : BitVec 32 := 1#32
  let v31 : BitVec 32 := Scalar.muli v2 c1_i32_29
  let v32 : BitVec 32 := Scalar.addi c0_i32_30 v31
  v32.toNat
def k0_dev4 (v1 : BitVec 32) : Nat :=
  let c0_i32_40 : BitVec 32 := 0#32
  let c1_i32_39 : BitVec 32 := 1#32
  let v41 : BitVec 32 := Scalar.muli v1 c1_i32_39
  let v42 : BitVec 32 := Scalar.addi c0_i32_40 v41
  v42.toNat
def k0_off3 (v0 : BitVec 32) (c1_i32_45 : BitVec 32) : Fin 2 → Nat :=
  let v51 : BitVec 32 := Scalar.subi v0 c1_i32_45
  let c32_i32 : BitVec 32 := 32#32
  let v52 : BitVec 32 := Scalar.addi v51 c32_i32
  let c32_i32_46 : BitVec 32 := 32#32
  let v53 : BitVec 32 := Scalar.remsi v52 c32_i32_46
  let c64_i32_49 : BitVec 32 := 64#32
  let v56 : BitVec 32 := Scalar.muli v53 c64_i32_49
  let c0_i32_56 : BitVec 32 := 0#32
  ![v56.toNat, 0]
def k0_off4 (v0 : BitVec 32) (c1_i32_47 : BitVec 32) : Fin 2 → Nat :=
  let c2048_i32_51 : BitVec 32 := 2048#32
  let v54 : BitVec 32 := Scalar.addi v0 c1_i32_47
  let c32_i32_48 : BitVec 32 := 32#32
  let v55 : BitVec 32 := Scalar.remsi v54 c32_i32_48
  let c64_i32_50 : BitVec 32 := 64#32
  let v57 : BitVec 32 := Scalar.muli v55 c64_i32_50
  let v58 : BitVec 32 := Scalar.addi c2048_i32_51 v57
  let c0_i32_61 : BitVec 32 := 0#32
  ![v58.toNat, 0]
def k0_dev5 (v1 : BitVec 32) : Nat :=
  let c0_i32_112 : BitVec 32 := 0#32
  let c1_i32_111 : BitVec 32 := 1#32
  let v111 : BitVec 32 := Scalar.muli v1 c1_i32_111
  let v112 : BitVec 32 := Scalar.addi c0_i32_112 v111
  v112.toNat
def k0_dev6 (v2 : BitVec 32) : Nat :=
  let c0_i32_115 : BitVec 32 := 0#32
  let c1_i32_114 : BitVec 32 := 1#32
  let v113 : BitVec 32 := Scalar.muli v2 c1_i32_114
  let v114 : BitVec 32 := Scalar.addi c0_i32_115 v113
  v114.toNat
def k0_dev7 (v2 : BitVec 32) : Nat :=
  let c0_i32_121 : BitVec 32 := 0#32
  let c1_i32_120 : BitVec 32 := 1#32
  let v115 : BitVec 32 := Scalar.muli v2 c1_i32_120
  let v116 : BitVec 32 := Scalar.addi c0_i32_121 v115
  v116.toNat
def k0_dev8 (v1 : BitVec 32) : Nat :=
  let c0_i32_131 : BitVec 32 := 0#32
  let c1_i32_130 : BitVec 32 := 1#32
  let v125 : BitVec 32 := Scalar.muli v1 c1_i32_130
  let v126 : BitVec 32 := Scalar.addi c0_i32_131 v125
  v126.toNat
def k0_dev9 (v1 : BitVec 32) : Nat :=
  let c0_i32_222 : BitVec 32 := 0#32
  let c1_i32_221 : BitVec 32 := 1#32
  let v207 : BitVec 32 := Scalar.muli v1 c1_i32_221
  let v208 : BitVec 32 := Scalar.addi c0_i32_222 v207
  v208.toNat
def k0_dev10 (v2 : BitVec 32) : Nat :=
  let c0_i32_225 : BitVec 32 := 0#32
  let c1_i32_224 : BitVec 32 := 1#32
  let v209 : BitVec 32 := Scalar.muli v2 c1_i32_224
  let v210 : BitVec 32 := Scalar.addi c0_i32_225 v209
  v210.toNat
def k0_dev11 (v2 : BitVec 32) : Nat :=
  let c0_i32_235 : BitVec 32 := 0#32
  let c1_i32_234 : BitVec 32 := 1#32
  let v211 : BitVec 32 := Scalar.muli v2 c1_i32_234
  let v212 : BitVec 32 := Scalar.addi c0_i32_235 v211
  v212.toNat
def k0_dev12 (v1 : BitVec 32) : Nat :=
  let c0_i32_245 : BitVec 32 := 0#32
  let c1_i32_244 : BitVec 32 := 1#32
  let v221 : BitVec 32 := Scalar.muli v1 c1_i32_244
  let v222 : BitVec 32 := Scalar.addi c0_i32_245 v221
  v222.toNat
def k0_dev13 (v1 : BitVec 32) : Nat :=
  let c0_i32_335 : BitVec 32 := 0#32
  let c1_i32_334 : BitVec 32 := 1#32
  let v303 : BitVec 32 := Scalar.muli v1 c1_i32_334
  let v304 : BitVec 32 := Scalar.addi c0_i32_335 v303
  v304.toNat
def k0_dev14 (v2 : BitVec 32) : Nat :=
  let c0_i32_338 : BitVec 32 := 0#32
  let c1_i32_337 : BitVec 32 := 1#32
  let v305 : BitVec 32 := Scalar.muli v2 c1_i32_337
  let v306 : BitVec 32 := Scalar.addi c0_i32_338 v305
  v306.toNat
def k0_dev15 (v2 : BitVec 32) : Nat :=
  let c0_i32_348 : BitVec 32 := 0#32
  let c1_i32_347 : BitVec 32 := 1#32
  let v307 : BitVec 32 := Scalar.muli v2 c1_i32_347
  let v308 : BitVec 32 := Scalar.addi c0_i32_348 v307
  v308.toNat
def k0_dev16 (v1 : BitVec 32) : Nat :=
  let c0_i32_358 : BitVec 32 := 0#32
  let c1_i32_357 : BitVec 32 := 1#32
  let v317 : BitVec 32 := Scalar.muli v1 c1_i32_357
  let v318 : BitVec 32 := Scalar.addi c0_i32_358 v317
  v318.toNat
def k0_dev17 (v1 : BitVec 32) : Nat :=
  let c0_i32_448 : BitVec 32 := 0#32
  let c1_i32_447 : BitVec 32 := 1#32
  let v399 : BitVec 32 := Scalar.muli v1 c1_i32_447
  let v400 : BitVec 32 := Scalar.addi c0_i32_448 v399
  v400.toNat
def k0_dev18 (v2 : BitVec 32) : Nat :=
  let c0_i32_451 : BitVec 32 := 0#32
  let c1_i32_450 : BitVec 32 := 1#32
  let v401 : BitVec 32 := Scalar.muli v2 c1_i32_450
  let v402 : BitVec 32 := Scalar.addi c0_i32_451 v401
  v402.toNat
def k0_dev19 (v2 : BitVec 32) : Nat :=
  let c0_i32_461 : BitVec 32 := 0#32
  let c1_i32_460 : BitVec 32 := 1#32
  let v403 : BitVec 32 := Scalar.muli v2 c1_i32_460
  let v404 : BitVec 32 := Scalar.addi c0_i32_461 v403
  v404.toNat
def k0_dev20 (v1 : BitVec 32) : Nat :=
  let c0_i32_471 : BitVec 32 := 0#32
  let c1_i32_470 : BitVec 32 := 1#32
  let v413 : BitVec 32 := Scalar.muli v1 c1_i32_470
  let v414 : BitVec 32 := Scalar.addi c0_i32_471 v413
  v414.toNat
def k0_dev21 (v1 : BitVec 32) : Nat :=
  let c0_i32_561 : BitVec 32 := 0#32
  let c1_i32_560 : BitVec 32 := 1#32
  let v495 : BitVec 32 := Scalar.muli v1 c1_i32_560
  let v496 : BitVec 32 := Scalar.addi c0_i32_561 v495
  v496.toNat
def k0_dev22 (v2 : BitVec 32) : Nat :=
  let c0_i32_564 : BitVec 32 := 0#32
  let c1_i32_563 : BitVec 32 := 1#32
  let v497 : BitVec 32 := Scalar.muli v2 c1_i32_563
  let v498 : BitVec 32 := Scalar.addi c0_i32_564 v497
  v498.toNat
def k0_dev23 (v2 : BitVec 32) : Nat :=
  let c0_i32_574 : BitVec 32 := 0#32
  let c1_i32_573 : BitVec 32 := 1#32
  let v499 : BitVec 32 := Scalar.muli v2 c1_i32_573
  let v500 : BitVec 32 := Scalar.addi c0_i32_574 v499
  v500.toNat
def k0_dev24 (v1 : BitVec 32) : Nat :=
  let c0_i32_584 : BitVec 32 := 0#32
  let c1_i32_583 : BitVec 32 := 1#32
  let v509 : BitVec 32 := Scalar.muli v1 c1_i32_583
  let v510 : BitVec 32 := Scalar.addi c0_i32_584 v509
  v510.toNat
def k0_dev25 (v1 : BitVec 32) : Nat :=
  let c0_i32_674 : BitVec 32 := 0#32
  let c1_i32_673 : BitVec 32 := 1#32
  let v591 : BitVec 32 := Scalar.muli v1 c1_i32_673
  let v592 : BitVec 32 := Scalar.addi c0_i32_674 v591
  v592.toNat
def k0_dev26 (v2 : BitVec 32) : Nat :=
  let c0_i32_677 : BitVec 32 := 0#32
  let c1_i32_676 : BitVec 32 := 1#32
  let v593 : BitVec 32 := Scalar.muli v2 c1_i32_676
  let v594 : BitVec 32 := Scalar.addi c0_i32_677 v593
  v594.toNat
def k0_dev27 (v2 : BitVec 32) : Nat :=
  let c0_i32_687 : BitVec 32 := 0#32
  let c1_i32_686 : BitVec 32 := 1#32
  let v595 : BitVec 32 := Scalar.muli v2 c1_i32_686
  let v596 : BitVec 32 := Scalar.addi c0_i32_687 v595
  v596.toNat
def k0_dev28 (v1 : BitVec 32) : Nat :=
  let c0_i32_697 : BitVec 32 := 0#32
  let c1_i32_696 : BitVec 32 := 1#32
  let v605 : BitVec 32 := Scalar.muli v1 c1_i32_696
  let v606 : BitVec 32 := Scalar.addi c0_i32_697 v605
  v606.toNat
def k0_dev29 (v1 : BitVec 32) : Nat :=
  let c0_i32_787 : BitVec 32 := 0#32
  let c1_i32_786 : BitVec 32 := 1#32
  let v687 : BitVec 32 := Scalar.muli v1 c1_i32_786
  let v688 : BitVec 32 := Scalar.addi c0_i32_787 v687
  v688.toNat
def k0_dev30 (v2 : BitVec 32) : Nat :=
  let c0_i32_790 : BitVec 32 := 0#32
  let c1_i32_789 : BitVec 32 := 1#32
  let v689 : BitVec 32 := Scalar.muli v2 c1_i32_789
  let v690 : BitVec 32 := Scalar.addi c0_i32_790 v689
  v690.toNat
def k0_dev31 (v2 : BitVec 32) : Nat :=
  let c0_i32_800 : BitVec 32 := 0#32
  let c1_i32_799 : BitVec 32 := 1#32
  let v691 : BitVec 32 := Scalar.muli v2 c1_i32_799
  let v692 : BitVec 32 := Scalar.addi c0_i32_800 v691
  v692.toNat
def k0_dev32 (v1 : BitVec 32) : Nat :=
  let c0_i32_810 : BitVec 32 := 0#32
  let c1_i32_809 : BitVec 32 := 1#32
  let v701 : BitVec 32 := Scalar.muli v1 c1_i32_809
  let v702 : BitVec 32 := Scalar.addi c0_i32_810 v701
  v702.toNat
def k0_dev33 (v1 : BitVec 32) : Nat :=
  let c0_i32_900 : BitVec 32 := 0#32
  let c1_i32_899 : BitVec 32 := 1#32
  let v783 : BitVec 32 := Scalar.muli v1 c1_i32_899
  let v784 : BitVec 32 := Scalar.addi c0_i32_900 v783
  v784.toNat
def k0_dev34 (v2 : BitVec 32) : Nat :=
  let c0_i32_903 : BitVec 32 := 0#32
  let c1_i32_902 : BitVec 32 := 1#32
  let v785 : BitVec 32 := Scalar.muli v2 c1_i32_902
  let v786 : BitVec 32 := Scalar.addi c0_i32_903 v785
  v786.toNat
def k0_dev35 (v2 : BitVec 32) : Nat :=
  let c0_i32_913 : BitVec 32 := 0#32
  let c1_i32_912 : BitVec 32 := 1#32
  let v787 : BitVec 32 := Scalar.muli v2 c1_i32_912
  let v788 : BitVec 32 := Scalar.addi c0_i32_913 v787
  v788.toNat
def k0_dev36 (v1 : BitVec 32) : Nat :=
  let c0_i32_923 : BitVec 32 := 0#32
  let c1_i32_922 : BitVec 32 := 1#32
  let v797 : BitVec 32 := Scalar.muli v1 c1_i32_922
  let v798 : BitVec 32 := Scalar.addi c0_i32_923 v797
  v798.toNat
def k0_dev37 (v1 : BitVec 32) : Nat :=
  let c0_i32_1013 : BitVec 32 := 0#32
  let c1_i32_1012 : BitVec 32 := 1#32
  let v879 : BitVec 32 := Scalar.muli v1 c1_i32_1012
  let v880 : BitVec 32 := Scalar.addi c0_i32_1013 v879
  v880.toNat
def k0_dev38 (v2 : BitVec 32) : Nat :=
  let c0_i32_1016 : BitVec 32 := 0#32
  let c1_i32_1015 : BitVec 32 := 1#32
  let v881 : BitVec 32 := Scalar.muli v2 c1_i32_1015
  let v882 : BitVec 32 := Scalar.addi c0_i32_1016 v881
  v882.toNat
def k0_dev39 (v2 : BitVec 32) : Nat :=
  let c0_i32_1026 : BitVec 32 := 0#32
  let c1_i32_1025 : BitVec 32 := 1#32
  let v883 : BitVec 32 := Scalar.muli v2 c1_i32_1025
  let v884 : BitVec 32 := Scalar.addi c0_i32_1026 v883
  v884.toNat
def k0_dev40 (v1 : BitVec 32) : Nat :=
  let c0_i32_1036 : BitVec 32 := 0#32
  let c1_i32_1035 : BitVec 32 := 1#32
  let v893 : BitVec 32 := Scalar.muli v1 c1_i32_1035
  let v894 : BitVec 32 := Scalar.addi c0_i32_1036 v893
  v894.toNat
def k0_dev41 (v1 : BitVec 32) : Nat :=
  let c0_i32_1126 : BitVec 32 := 0#32
  let c1_i32_1125 : BitVec 32 := 1#32
  let v975 : BitVec 32 := Scalar.muli v1 c1_i32_1125
  let v976 : BitVec 32 := Scalar.addi c0_i32_1126 v975
  v976.toNat
def k0_dev42 (v2 : BitVec 32) : Nat :=
  let c0_i32_1129 : BitVec 32 := 0#32
  let c1_i32_1128 : BitVec 32 := 1#32
  let v977 : BitVec 32 := Scalar.muli v2 c1_i32_1128
  let v978 : BitVec 32 := Scalar.addi c0_i32_1129 v977
  v978.toNat
def k0_dev43 (v2 : BitVec 32) : Nat :=
  let c0_i32_1139 : BitVec 32 := 0#32
  let c1_i32_1138 : BitVec 32 := 1#32
  let v979 : BitVec 32 := Scalar.muli v2 c1_i32_1138
  let v980 : BitVec 32 := Scalar.addi c0_i32_1139 v979
  v980.toNat
def k0_dev44 (v1 : BitVec 32) : Nat :=
  let c0_i32_1149 : BitVec 32 := 0#32
  let c1_i32_1148 : BitVec 32 := 1#32
  let v989 : BitVec 32 := Scalar.muli v1 c1_i32_1148
  let v990 : BitVec 32 := Scalar.addi c0_i32_1149 v989
  v990.toNat
def k0_dev45 (v1 : BitVec 32) : Nat :=
  let c0_i32_1239 : BitVec 32 := 0#32
  let c1_i32_1238 : BitVec 32 := 1#32
  let v1071 : BitVec 32 := Scalar.muli v1 c1_i32_1238
  let v1072 : BitVec 32 := Scalar.addi c0_i32_1239 v1071
  v1072.toNat
def k0_dev46 (v2 : BitVec 32) : Nat :=
  let c0_i32_1242 : BitVec 32 := 0#32
  let c1_i32_1241 : BitVec 32 := 1#32
  let v1073 : BitVec 32 := Scalar.muli v2 c1_i32_1241
  let v1074 : BitVec 32 := Scalar.addi c0_i32_1242 v1073
  v1074.toNat
def k0_dev47 (v2 : BitVec 32) : Nat :=
  let c0_i32_1252 : BitVec 32 := 0#32
  let c1_i32_1251 : BitVec 32 := 1#32
  let v1075 : BitVec 32 := Scalar.muli v2 c1_i32_1251
  let v1076 : BitVec 32 := Scalar.addi c0_i32_1252 v1075
  v1076.toNat
def k0_dev48 (v1 : BitVec 32) : Nat :=
  let c0_i32_1262 : BitVec 32 := 0#32
  let c1_i32_1261 : BitVec 32 := 1#32
  let v1085 : BitVec 32 := Scalar.muli v1 c1_i32_1261
  let v1086 : BitVec 32 := Scalar.addi c0_i32_1262 v1085
  v1086.toNat
def k0_dev49 (v1 : BitVec 32) : Nat :=
  let c0_i32_1352 : BitVec 32 := 0#32
  let c1_i32_1351 : BitVec 32 := 1#32
  let v1167 : BitVec 32 := Scalar.muli v1 c1_i32_1351
  let v1168 : BitVec 32 := Scalar.addi c0_i32_1352 v1167
  v1168.toNat
def k0_dev50 (v2 : BitVec 32) : Nat :=
  let c0_i32_1355 : BitVec 32 := 0#32
  let c1_i32_1354 : BitVec 32 := 1#32
  let v1169 : BitVec 32 := Scalar.muli v2 c1_i32_1354
  let v1170 : BitVec 32 := Scalar.addi c0_i32_1355 v1169
  v1170.toNat
def k0_dev51 (v2 : BitVec 32) : Nat :=
  let c0_i32_1365 : BitVec 32 := 0#32
  let c1_i32_1364 : BitVec 32 := 1#32
  let v1171 : BitVec 32 := Scalar.muli v2 c1_i32_1364
  let v1172 : BitVec 32 := Scalar.addi c0_i32_1365 v1171
  v1172.toNat
def k0_dev52 (v1 : BitVec 32) : Nat :=
  let c0_i32_1375 : BitVec 32 := 0#32
  let c1_i32_1374 : BitVec 32 := 1#32
  let v1181 : BitVec 32 := Scalar.muli v1 c1_i32_1374
  let v1182 : BitVec 32 := Scalar.addi c0_i32_1375 v1181
  v1182.toNat
def k0_dev53 (v1 : BitVec 32) : Nat :=
  let c0_i32_1465 : BitVec 32 := 0#32
  let c1_i32_1464 : BitVec 32 := 1#32
  let v1263 : BitVec 32 := Scalar.muli v1 c1_i32_1464
  let v1264 : BitVec 32 := Scalar.addi c0_i32_1465 v1263
  v1264.toNat
def k0_dev54 (v2 : BitVec 32) : Nat :=
  let c0_i32_1468 : BitVec 32 := 0#32
  let c1_i32_1467 : BitVec 32 := 1#32
  let v1265 : BitVec 32 := Scalar.muli v2 c1_i32_1467
  let v1266 : BitVec 32 := Scalar.addi c0_i32_1468 v1265
  v1266.toNat
def k0_dev55 (v2 : BitVec 32) : Nat :=
  let c0_i32_1478 : BitVec 32 := 0#32
  let c1_i32_1477 : BitVec 32 := 1#32
  let v1267 : BitVec 32 := Scalar.muli v2 c1_i32_1477
  let v1268 : BitVec 32 := Scalar.addi c0_i32_1478 v1267
  v1268.toNat
def k0_dev56 (v1 : BitVec 32) : Nat :=
  let c0_i32_1488 : BitVec 32 := 0#32
  let c1_i32_1487 : BitVec 32 := 1#32
  let v1277 : BitVec 32 := Scalar.muli v1 c1_i32_1487
  let v1278 : BitVec 32 := Scalar.addi c0_i32_1488 v1277
  v1278.toNat
def k0_dev57 (v1 : BitVec 32) : Nat :=
  let c0_i32_1578 : BitVec 32 := 0#32
  let c1_i32_1577 : BitVec 32 := 1#32
  let v1359 : BitVec 32 := Scalar.muli v1 c1_i32_1577
  let v1360 : BitVec 32 := Scalar.addi c0_i32_1578 v1359
  v1360.toNat
def k0_dev58 (v2 : BitVec 32) : Nat :=
  let c0_i32_1581 : BitVec 32 := 0#32
  let c1_i32_1580 : BitVec 32 := 1#32
  let v1361 : BitVec 32 := Scalar.muli v2 c1_i32_1580
  let v1362 : BitVec 32 := Scalar.addi c0_i32_1581 v1361
  v1362.toNat
def k0_dev59 (v2 : BitVec 32) : Nat :=
  let c0_i32_1591 : BitVec 32 := 0#32
  let c1_i32_1590 : BitVec 32 := 1#32
  let v1363 : BitVec 32 := Scalar.muli v2 c1_i32_1590
  let v1364 : BitVec 32 := Scalar.addi c0_i32_1591 v1363
  v1364.toNat
def k0_dev60 (v1 : BitVec 32) : Nat :=
  let c0_i32_1601 : BitVec 32 := 0#32
  let c1_i32_1600 : BitVec 32 := 1#32
  let v1373 : BitVec 32 := Scalar.muli v1 c1_i32_1600
  let v1374 : BitVec 32 := Scalar.addi c0_i32_1601 v1373
  v1374.toNat
def k0_dev61 (v1 : BitVec 32) : Nat :=
  let c0_i32_1691 : BitVec 32 := 0#32
  let c1_i32_1690 : BitVec 32 := 1#32
  let v1455 : BitVec 32 := Scalar.muli v1 c1_i32_1690
  let v1456 : BitVec 32 := Scalar.addi c0_i32_1691 v1455
  v1456.toNat
def k0_dev62 (v2 : BitVec 32) : Nat :=
  let c0_i32_1694 : BitVec 32 := 0#32
  let c1_i32_1693 : BitVec 32 := 1#32
  let v1457 : BitVec 32 := Scalar.muli v2 c1_i32_1693
  let v1458 : BitVec 32 := Scalar.addi c0_i32_1694 v1457
  v1458.toNat
def k0_dev63 (v2 : BitVec 32) : Nat :=
  let c0_i32_1704 : BitVec 32 := 0#32
  let c1_i32_1703 : BitVec 32 := 1#32
  let v1459 : BitVec 32 := Scalar.muli v2 c1_i32_1703
  let v1460 : BitVec 32 := Scalar.addi c0_i32_1704 v1459
  v1460.toNat
def k0_dev64 (v1 : BitVec 32) : Nat :=
  let c0_i32_1714 : BitVec 32 := 0#32
  let c1_i32_1713 : BitVec 32 := 1#32
  let v1469 : BitVec 32 := Scalar.muli v1 c1_i32_1713
  let v1470 : BitVec 32 := Scalar.addi c0_i32_1714 v1469
  v1470.toNat
def k0_dev65 (v1 : BitVec 32) : Nat :=
  let c0_i32_1804 : BitVec 32 := 0#32
  let c1_i32_1803 : BitVec 32 := 1#32
  let v1551 : BitVec 32 := Scalar.muli v1 c1_i32_1803
  let v1552 : BitVec 32 := Scalar.addi c0_i32_1804 v1551
  v1552.toNat
def k0_dev66 (v2 : BitVec 32) : Nat :=
  let c0_i32_1807 : BitVec 32 := 0#32
  let c1_i32_1806 : BitVec 32 := 1#32
  let v1553 : BitVec 32 := Scalar.muli v2 c1_i32_1806
  let v1554 : BitVec 32 := Scalar.addi c0_i32_1807 v1553
  v1554.toNat
def k0_dev67 (v2 : BitVec 32) : Nat :=
  let c0_i32_1817 : BitVec 32 := 0#32
  let c1_i32_1816 : BitVec 32 := 1#32
  let v1555 : BitVec 32 := Scalar.muli v2 c1_i32_1816
  let v1556 : BitVec 32 := Scalar.addi c0_i32_1817 v1555
  v1556.toNat
def k0_dev68 (v1 : BitVec 32) : Nat :=
  let c0_i32_1827 : BitVec 32 := 0#32
  let c1_i32_1826 : BitVec 32 := 1#32
  let v1565 : BitVec 32 := Scalar.muli v1 c1_i32_1826
  let v1566 : BitVec 32 := Scalar.addi c0_i32_1827 v1565
  v1566.toNat
def k0_dev69 (v1 : BitVec 32) : Nat :=
  let c0_i32_1917 : BitVec 32 := 0#32
  let c1_i32_1916 : BitVec 32 := 1#32
  let v1647 : BitVec 32 := Scalar.muli v1 c1_i32_1916
  let v1648 : BitVec 32 := Scalar.addi c0_i32_1917 v1647
  v1648.toNat
def k0_dev70 (v2 : BitVec 32) : Nat :=
  let c0_i32_1920 : BitVec 32 := 0#32
  let c1_i32_1919 : BitVec 32 := 1#32
  let v1649 : BitVec 32 := Scalar.muli v2 c1_i32_1919
  let v1650 : BitVec 32 := Scalar.addi c0_i32_1920 v1649
  v1650.toNat
def k0_dev71 (v2 : BitVec 32) : Nat :=
  let c0_i32_1930 : BitVec 32 := 0#32
  let c1_i32_1929 : BitVec 32 := 1#32
  let v1651 : BitVec 32 := Scalar.muli v2 c1_i32_1929
  let v1652 : BitVec 32 := Scalar.addi c0_i32_1930 v1651
  v1652.toNat
def k0_dev72 (v1 : BitVec 32) : Nat :=
  let c0_i32_1940 : BitVec 32 := 0#32
  let c1_i32_1939 : BitVec 32 := 1#32
  let v1661 : BitVec 32 := Scalar.muli v1 c1_i32_1939
  let v1662 : BitVec 32 := Scalar.addi c0_i32_1940 v1661
  v1662.toNat
def k0_dev73 (v1 : BitVec 32) : Nat :=
  let c0_i32_2030 : BitVec 32 := 0#32
  let c1_i32_2029 : BitVec 32 := 1#32
  let v1743 : BitVec 32 := Scalar.muli v1 c1_i32_2029
  let v1744 : BitVec 32 := Scalar.addi c0_i32_2030 v1743
  v1744.toNat
def k0_dev74 (v2 : BitVec 32) : Nat :=
  let c0_i32_2033 : BitVec 32 := 0#32
  let c1_i32_2032 : BitVec 32 := 1#32
  let v1745 : BitVec 32 := Scalar.muli v2 c1_i32_2032
  let v1746 : BitVec 32 := Scalar.addi c0_i32_2033 v1745
  v1746.toNat
def k0_dev75 (v2 : BitVec 32) : Nat :=
  let c0_i32_2043 : BitVec 32 := 0#32
  let c1_i32_2042 : BitVec 32 := 1#32
  let v1747 : BitVec 32 := Scalar.muli v2 c1_i32_2042
  let v1748 : BitVec 32 := Scalar.addi c0_i32_2043 v1747
  v1748.toNat
def k0_dev76 (v1 : BitVec 32) : Nat :=
  let c0_i32_2053 : BitVec 32 := 0#32
  let c1_i32_2052 : BitVec 32 := 1#32
  let v1757 : BitVec 32 := Scalar.muli v1 c1_i32_2052
  let v1758 : BitVec 32 := Scalar.addi c0_i32_2053 v1757
  v1758.toNat
def k0_dev77 (v1 : BitVec 32) : Nat :=
  let c0_i32_2143 : BitVec 32 := 0#32
  let c1_i32_2142 : BitVec 32 := 1#32
  let v1839 : BitVec 32 := Scalar.muli v1 c1_i32_2142
  let v1840 : BitVec 32 := Scalar.addi c0_i32_2143 v1839
  v1840.toNat
def k0_dev78 (v2 : BitVec 32) : Nat :=
  let c0_i32_2146 : BitVec 32 := 0#32
  let c1_i32_2145 : BitVec 32 := 1#32
  let v1841 : BitVec 32 := Scalar.muli v2 c1_i32_2145
  let v1842 : BitVec 32 := Scalar.addi c0_i32_2146 v1841
  v1842.toNat
def k0_dev79 (v2 : BitVec 32) : Nat :=
  let c0_i32_2156 : BitVec 32 := 0#32
  let c1_i32_2155 : BitVec 32 := 1#32
  let v1843 : BitVec 32 := Scalar.muli v2 c1_i32_2155
  let v1844 : BitVec 32 := Scalar.addi c0_i32_2156 v1843
  v1844.toNat
def k0_dev80 (v1 : BitVec 32) : Nat :=
  let c0_i32_2166 : BitVec 32 := 0#32
  let c1_i32_2165 : BitVec 32 := 1#32
  let v1853 : BitVec 32 := Scalar.muli v1 c1_i32_2165
  let v1854 : BitVec 32 := Scalar.addi c0_i32_2166 v1853
  v1854.toNat
def k0_dev81 (v1 : BitVec 32) : Nat :=
  let c0_i32_2256 : BitVec 32 := 0#32
  let c1_i32_2255 : BitVec 32 := 1#32
  let v1935 : BitVec 32 := Scalar.muli v1 c1_i32_2255
  let v1936 : BitVec 32 := Scalar.addi c0_i32_2256 v1935
  v1936.toNat
def k0_dev82 (v2 : BitVec 32) : Nat :=
  let c0_i32_2259 : BitVec 32 := 0#32
  let c1_i32_2258 : BitVec 32 := 1#32
  let v1937 : BitVec 32 := Scalar.muli v2 c1_i32_2258
  let v1938 : BitVec 32 := Scalar.addi c0_i32_2259 v1937
  v1938.toNat
def k0_dev83 (v2 : BitVec 32) : Nat :=
  let c0_i32_2269 : BitVec 32 := 0#32
  let c1_i32_2268 : BitVec 32 := 1#32
  let v1939 : BitVec 32 := Scalar.muli v2 c1_i32_2268
  let v1940 : BitVec 32 := Scalar.addi c0_i32_2269 v1939
  v1940.toNat
def k0_dev84 (v1 : BitVec 32) : Nat :=
  let c0_i32_2279 : BitVec 32 := 0#32
  let c1_i32_2278 : BitVec 32 := 1#32
  let v1949 : BitVec 32 := Scalar.muli v1 c1_i32_2278
  let v1950 : BitVec 32 := Scalar.addi c0_i32_2279 v1949
  v1950.toNat
def k0_dev85 (v1 : BitVec 32) : Nat :=
  let c0_i32_2369 : BitVec 32 := 0#32
  let c1_i32_2368 : BitVec 32 := 1#32
  let v2031 : BitVec 32 := Scalar.muli v1 c1_i32_2368
  let v2032 : BitVec 32 := Scalar.addi c0_i32_2369 v2031
  v2032.toNat
def k0_dev86 (v2 : BitVec 32) : Nat :=
  let c0_i32_2372 : BitVec 32 := 0#32
  let c1_i32_2371 : BitVec 32 := 1#32
  let v2033 : BitVec 32 := Scalar.muli v2 c1_i32_2371
  let v2034 : BitVec 32 := Scalar.addi c0_i32_2372 v2033
  v2034.toNat
def k0_dev87 (v2 : BitVec 32) : Nat :=
  let c0_i32_2382 : BitVec 32 := 0#32
  let c1_i32_2381 : BitVec 32 := 1#32
  let v2035 : BitVec 32 := Scalar.muli v2 c1_i32_2381
  let v2036 : BitVec 32 := Scalar.addi c0_i32_2382 v2035
  v2036.toNat
def k0_dev88 (v1 : BitVec 32) : Nat :=
  let c0_i32_2392 : BitVec 32 := 0#32
  let c1_i32_2391 : BitVec 32 := 1#32
  let v2045 : BitVec 32 := Scalar.muli v1 c1_i32_2391
  let v2046 : BitVec 32 := Scalar.addi c0_i32_2392 v2045
  v2046.toNat
def k0_dev89 (v1 : BitVec 32) : Nat :=
  let c0_i32_2482 : BitVec 32 := 0#32
  let c1_i32_2481 : BitVec 32 := 1#32
  let v2127 : BitVec 32 := Scalar.muli v1 c1_i32_2481
  let v2128 : BitVec 32 := Scalar.addi c0_i32_2482 v2127
  v2128.toNat
def k0_dev90 (v2 : BitVec 32) : Nat :=
  let c0_i32_2485 : BitVec 32 := 0#32
  let c1_i32_2484 : BitVec 32 := 1#32
  let v2129 : BitVec 32 := Scalar.muli v2 c1_i32_2484
  let v2130 : BitVec 32 := Scalar.addi c0_i32_2485 v2129
  v2130.toNat
def k0_dev91 (v2 : BitVec 32) : Nat :=
  let c0_i32_2495 : BitVec 32 := 0#32
  let c1_i32_2494 : BitVec 32 := 1#32
  let v2131 : BitVec 32 := Scalar.muli v2 c1_i32_2494
  let v2132 : BitVec 32 := Scalar.addi c0_i32_2495 v2131
  v2132.toNat
def k0_dev92 (v1 : BitVec 32) : Nat :=
  let c0_i32_2505 : BitVec 32 := 0#32
  let c1_i32_2504 : BitVec 32 := 1#32
  let v2141 : BitVec 32 := Scalar.muli v1 c1_i32_2504
  let v2142 : BitVec 32 := Scalar.addi c0_i32_2505 v2141
  v2142.toNat
def k0_dev93 (v1 : BitVec 32) : Nat :=
  let c0_i32_2595 : BitVec 32 := 0#32
  let c1_i32_2594 : BitVec 32 := 1#32
  let v2223 : BitVec 32 := Scalar.muli v1 c1_i32_2594
  let v2224 : BitVec 32 := Scalar.addi c0_i32_2595 v2223
  v2224.toNat
def k0_dev94 (v2 : BitVec 32) : Nat :=
  let c0_i32_2598 : BitVec 32 := 0#32
  let c1_i32_2597 : BitVec 32 := 1#32
  let v2225 : BitVec 32 := Scalar.muli v2 c1_i32_2597
  let v2226 : BitVec 32 := Scalar.addi c0_i32_2598 v2225
  v2226.toNat
def k0_dev95 (v2 : BitVec 32) : Nat :=
  let c0_i32_2608 : BitVec 32 := 0#32
  let c1_i32_2607 : BitVec 32 := 1#32
  let v2227 : BitVec 32 := Scalar.muli v2 c1_i32_2607
  let v2228 : BitVec 32 := Scalar.addi c0_i32_2608 v2227
  v2228.toNat
def k0_dev96 (v1 : BitVec 32) : Nat :=
  let c0_i32_2618 : BitVec 32 := 0#32
  let c1_i32_2617 : BitVec 32 := 1#32
  let v2237 : BitVec 32 := Scalar.muli v1 c1_i32_2617
  let v2238 : BitVec 32 := Scalar.addi c0_i32_2618 v2237
  v2238.toNat
def k0_dev97 (v1 : BitVec 32) : Nat :=
  let c0_i32_2708 : BitVec 32 := 0#32
  let c1_i32_2707 : BitVec 32 := 1#32
  let v2319 : BitVec 32 := Scalar.muli v1 c1_i32_2707
  let v2320 : BitVec 32 := Scalar.addi c0_i32_2708 v2319
  v2320.toNat
def k0_dev98 (v2 : BitVec 32) : Nat :=
  let c0_i32_2711 : BitVec 32 := 0#32
  let c1_i32_2710 : BitVec 32 := 1#32
  let v2321 : BitVec 32 := Scalar.muli v2 c1_i32_2710
  let v2322 : BitVec 32 := Scalar.addi c0_i32_2711 v2321
  v2322.toNat
def k0_dev99 (v2 : BitVec 32) : Nat :=
  let c0_i32_2721 : BitVec 32 := 0#32
  let c1_i32_2720 : BitVec 32 := 1#32
  let v2323 : BitVec 32 := Scalar.muli v2 c1_i32_2720
  let v2324 : BitVec 32 := Scalar.addi c0_i32_2721 v2323
  v2324.toNat
def k0_dev100 (v1 : BitVec 32) : Nat :=
  let c0_i32_2731 : BitVec 32 := 0#32
  let c1_i32_2730 : BitVec 32 := 1#32
  let v2333 : BitVec 32 := Scalar.muli v1 c1_i32_2730
  let v2334 : BitVec 32 := Scalar.addi c0_i32_2731 v2333
  v2334.toNat
def k0_dev101 (v1 : BitVec 32) : Nat :=
  let c0_i32_2821 : BitVec 32 := 0#32
  let c1_i32_2820 : BitVec 32 := 1#32
  let v2415 : BitVec 32 := Scalar.muli v1 c1_i32_2820
  let v2416 : BitVec 32 := Scalar.addi c0_i32_2821 v2415
  v2416.toNat
def k0_dev102 (v2 : BitVec 32) : Nat :=
  let c0_i32_2824 : BitVec 32 := 0#32
  let c1_i32_2823 : BitVec 32 := 1#32
  let v2417 : BitVec 32 := Scalar.muli v2 c1_i32_2823
  let v2418 : BitVec 32 := Scalar.addi c0_i32_2824 v2417
  v2418.toNat
def k0_dev103 (v2 : BitVec 32) : Nat :=
  let c0_i32_2834 : BitVec 32 := 0#32
  let c1_i32_2833 : BitVec 32 := 1#32
  let v2419 : BitVec 32 := Scalar.muli v2 c1_i32_2833
  let v2420 : BitVec 32 := Scalar.addi c0_i32_2834 v2419
  v2420.toNat
def k0_dev104 (v1 : BitVec 32) : Nat :=
  let c0_i32_2844 : BitVec 32 := 0#32
  let c1_i32_2843 : BitVec 32 := 1#32
  let v2429 : BitVec 32 := Scalar.muli v1 c1_i32_2843
  let v2430 : BitVec 32 := Scalar.addi c0_i32_2844 v2429
  v2430.toNat
def k0_dev105 (v1 : BitVec 32) : Nat :=
  let c0_i32_2934 : BitVec 32 := 0#32
  let c1_i32_2933 : BitVec 32 := 1#32
  let v2511 : BitVec 32 := Scalar.muli v1 c1_i32_2933
  let v2512 : BitVec 32 := Scalar.addi c0_i32_2934 v2511
  v2512.toNat
def k0_dev106 (v2 : BitVec 32) : Nat :=
  let c0_i32_2937 : BitVec 32 := 0#32
  let c1_i32_2936 : BitVec 32 := 1#32
  let v2513 : BitVec 32 := Scalar.muli v2 c1_i32_2936
  let v2514 : BitVec 32 := Scalar.addi c0_i32_2937 v2513
  v2514.toNat
def k0_dev107 (v2 : BitVec 32) : Nat :=
  let c0_i32_2947 : BitVec 32 := 0#32
  let c1_i32_2946 : BitVec 32 := 1#32
  let v2515 : BitVec 32 := Scalar.muli v2 c1_i32_2946
  let v2516 : BitVec 32 := Scalar.addi c0_i32_2947 v2515
  v2516.toNat
def k0_dev108 (v1 : BitVec 32) : Nat :=
  let c0_i32_2957 : BitVec 32 := 0#32
  let c1_i32_2956 : BitVec 32 := 1#32
  let v2525 : BitVec 32 := Scalar.muli v1 c1_i32_2956
  let v2526 : BitVec 32 := Scalar.addi c0_i32_2957 v2525
  v2526.toNat
def k0_dev109 (v1 : BitVec 32) : Nat :=
  let c0_i32_3047 : BitVec 32 := 0#32
  let c1_i32_3046 : BitVec 32 := 1#32
  let v2607 : BitVec 32 := Scalar.muli v1 c1_i32_3046
  let v2608 : BitVec 32 := Scalar.addi c0_i32_3047 v2607
  v2608.toNat
def k0_dev110 (v2 : BitVec 32) : Nat :=
  let c0_i32_3050 : BitVec 32 := 0#32
  let c1_i32_3049 : BitVec 32 := 1#32
  let v2609 : BitVec 32 := Scalar.muli v2 c1_i32_3049
  let v2610 : BitVec 32 := Scalar.addi c0_i32_3050 v2609
  v2610.toNat
def k0_dev111 (v2 : BitVec 32) : Nat :=
  let c0_i32_3060 : BitVec 32 := 0#32
  let c1_i32_3059 : BitVec 32 := 1#32
  let v2611 : BitVec 32 := Scalar.muli v2 c1_i32_3059
  let v2612 : BitVec 32 := Scalar.addi c0_i32_3060 v2611
  v2612.toNat
def k0_dev112 (v1 : BitVec 32) : Nat :=
  let c0_i32_3070 : BitVec 32 := 0#32
  let c1_i32_3069 : BitVec 32 := 1#32
  let v2621 : BitVec 32 := Scalar.muli v1 c1_i32_3069
  let v2622 : BitVec 32 := Scalar.addi c0_i32_3070 v2621
  v2622.toNat
def k0_dev113 (v1 : BitVec 32) : Nat :=
  let c0_i32_3160 : BitVec 32 := 0#32
  let c1_i32_3159 : BitVec 32 := 1#32
  let v2703 : BitVec 32 := Scalar.muli v1 c1_i32_3159
  let v2704 : BitVec 32 := Scalar.addi c0_i32_3160 v2703
  v2704.toNat
def k0_dev114 (v2 : BitVec 32) : Nat :=
  let c0_i32_3163 : BitVec 32 := 0#32
  let c1_i32_3162 : BitVec 32 := 1#32
  let v2705 : BitVec 32 := Scalar.muli v2 c1_i32_3162
  let v2706 : BitVec 32 := Scalar.addi c0_i32_3163 v2705
  v2706.toNat
def k0_dev115 (v2 : BitVec 32) : Nat :=
  let c0_i32_3173 : BitVec 32 := 0#32
  let c1_i32_3172 : BitVec 32 := 1#32
  let v2707 : BitVec 32 := Scalar.muli v2 c1_i32_3172
  let v2708 : BitVec 32 := Scalar.addi c0_i32_3173 v2707
  v2708.toNat
def k0_dev116 (v1 : BitVec 32) : Nat :=
  let c0_i32_3183 : BitVec 32 := 0#32
  let c1_i32_3182 : BitVec 32 := 1#32
  let v2717 : BitVec 32 := Scalar.muli v1 c1_i32_3182
  let v2718 : BitVec 32 := Scalar.addi c0_i32_3183 v2717
  v2718.toNat
def k0_dev117 (v1 : BitVec 32) : Nat :=
  let c0_i32_3273 : BitVec 32 := 0#32
  let c1_i32_3272 : BitVec 32 := 1#32
  let v2799 : BitVec 32 := Scalar.muli v1 c1_i32_3272
  let v2800 : BitVec 32 := Scalar.addi c0_i32_3273 v2799
  v2800.toNat
def k0_dev118 (v2 : BitVec 32) : Nat :=
  let c0_i32_3276 : BitVec 32 := 0#32
  let c1_i32_3275 : BitVec 32 := 1#32
  let v2801 : BitVec 32 := Scalar.muli v2 c1_i32_3275
  let v2802 : BitVec 32 := Scalar.addi c0_i32_3276 v2801
  v2802.toNat
def k0_dev119 (v2 : BitVec 32) : Nat :=
  let c0_i32_3286 : BitVec 32 := 0#32
  let c1_i32_3285 : BitVec 32 := 1#32
  let v2803 : BitVec 32 := Scalar.muli v2 c1_i32_3285
  let v2804 : BitVec 32 := Scalar.addi c0_i32_3286 v2803
  v2804.toNat
def k0_dev120 (v1 : BitVec 32) : Nat :=
  let c0_i32_3296 : BitVec 32 := 0#32
  let c1_i32_3295 : BitVec 32 := 1#32
  let v2813 : BitVec 32 := Scalar.muli v1 c1_i32_3295
  let v2814 : BitVec 32 := Scalar.addi c0_i32_3296 v2813
  v2814.toNat
def k0_dev121 (v1 : BitVec 32) : Nat :=
  let c0_i32_3386 : BitVec 32 := 0#32
  let c1_i32_3385 : BitVec 32 := 1#32
  let v2895 : BitVec 32 := Scalar.muli v1 c1_i32_3385
  let v2896 : BitVec 32 := Scalar.addi c0_i32_3386 v2895
  v2896.toNat
def k0_dev122 (v2 : BitVec 32) : Nat :=
  let c0_i32_3389 : BitVec 32 := 0#32
  let c1_i32_3388 : BitVec 32 := 1#32
  let v2897 : BitVec 32 := Scalar.muli v2 c1_i32_3388
  let v2898 : BitVec 32 := Scalar.addi c0_i32_3389 v2897
  v2898.toNat
def k0_dev123 (v2 : BitVec 32) : Nat :=
  let c0_i32_3399 : BitVec 32 := 0#32
  let c1_i32_3398 : BitVec 32 := 1#32
  let v2899 : BitVec 32 := Scalar.muli v2 c1_i32_3398
  let v2900 : BitVec 32 := Scalar.addi c0_i32_3399 v2899
  v2900.toNat
def k0_dev124 (v1 : BitVec 32) : Nat :=
  let c0_i32_3409 : BitVec 32 := 0#32
  let c1_i32_3408 : BitVec 32 := 1#32
  let v2909 : BitVec 32 := Scalar.muli v1 c1_i32_3408
  let v2910 : BitVec 32 := Scalar.addi c0_i32_3409 v2909
  v2910.toNat
def k0_dev125 (v1 : BitVec 32) : Nat :=
  let c0_i32_3499 : BitVec 32 := 0#32
  let c1_i32_3498 : BitVec 32 := 1#32
  let v2991 : BitVec 32 := Scalar.muli v1 c1_i32_3498
  let v2992 : BitVec 32 := Scalar.addi c0_i32_3499 v2991
  v2992.toNat
def k0_dev126 (v2 : BitVec 32) : Nat :=
  let c0_i32_3502 : BitVec 32 := 0#32
  let c1_i32_3501 : BitVec 32 := 1#32
  let v2993 : BitVec 32 := Scalar.muli v2 c1_i32_3501
  let v2994 : BitVec 32 := Scalar.addi c0_i32_3502 v2993
  v2994.toNat
def k0_off5 (v0 : BitVec 32) : Fin 2 → Nat :=
  let c1_i32_3503 : BitVec 32 := 1#32
  let v2995 : BitVec 32 := Scalar.addi v0 c1_i32_3503
  let c32_i32_3504 : BitVec 32 := 32#32
  let v2996 : BitVec 32 := Scalar.remsi v2995 c32_i32_3504
  let c64_i32_3508 : BitVec 32 := 64#32
  let v3000 : BitVec 32 := Scalar.muli v2996 c64_i32_3508
  let c0_i32_3510 : BitVec 32 := 0#32
  ![v3000.toNat, 0]
def k0_off6 (v0 : BitVec 32) : Fin 2 → Nat :=
  let c2048_i32_3514 : BitVec 32 := 2048#32
  let c1_i32_3505 : BitVec 32 := 1#32
  let v2997 : BitVec 32 := Scalar.subi v0 c1_i32_3505
  let c32_i32_3506 : BitVec 32 := 32#32
  let v2998 : BitVec 32 := Scalar.addi v2997 c32_i32_3506
  let c32_i32_3507 : BitVec 32 := 32#32
  let v2999 : BitVec 32 := Scalar.remsi v2998 c32_i32_3507
  let c64_i32_3513 : BitVec 32 := 64#32
  let v3004 : BitVec 32 := Scalar.muli v2999 c64_i32_3513
  let v3005 : BitVec 32 := Scalar.addi c2048_i32_3514 v3004
  let c0_i32_3516 : BitVec 32 := 0#32
  ![v3005.toNat, 0]

def k0_chk3 (v0 : BitVec 32) : Prop :=
  (∀ a, (k0_off1 v0) a + S64x8192.size a ≤ S4096x8192.size a) ∧
  (∀ a, (k0_off2 v0) a + S64x8192.size a ≤ S4096x8192.size a) ∧
  (∀ (r : Fin 32), ∀ a, (k0_off3 v0 (BitVec.ofNat 32 r.val)) a + S64x8192.size a ≤ S4096x8192.size a) ∧
  (∀ (r : Fin 32), ∀ a, (k0_off4 v0 (BitVec.ofNat 32 r.val)) a + S64x8192.size a ≤ S4096x8192.size a) ∧
  (∀ a, (k0_off5 v0) a + S64x8192.size a ≤ S4096x8192.size a) ∧
  (∀ a, (k0_off6 v0) a + S64x8192.size a ≤ S4096x8192.size a)
theorem k0_off1_inb : ∀ (v0 : BitVec 32) (k0_hw3 : k0_chk3 v0), ∀ a, (k0_off1 v0) a + S64x8192.size a ≤ S4096x8192.size a := fun v0 k0_hw3 => k0_hw3.1
theorem k0_off2_inb : ∀ (v0 : BitVec 32) (k0_hw3 : k0_chk3 v0), ∀ a, (k0_off2 v0) a + S64x8192.size a ≤ S4096x8192.size a := fun v0 k0_hw3 => k0_hw3.2.1
theorem k0_off3_inb : ∀ (v0 : BitVec 32) (k0_hw3 : k0_chk3 v0), ∀ (r : Fin 32), ∀ a, (k0_off3 v0 (BitVec.ofNat 32 r.val)) a + S64x8192.size a ≤ S4096x8192.size a := fun v0 k0_hw3 r => k0_hw3.2.2.1 r
theorem k0_off4_inb : ∀ (v0 : BitVec 32) (k0_hw3 : k0_chk3 v0), ∀ (r : Fin 32), ∀ a, (k0_off4 v0 (BitVec.ofNat 32 r.val)) a + S64x8192.size a ≤ S4096x8192.size a := fun v0 k0_hw3 r => k0_hw3.2.2.2.1 r
theorem k0_off5_inb : ∀ (v0 : BitVec 32) (k0_hw3 : k0_chk3 v0), ∀ a, (k0_off5 v0) a + S64x8192.size a ≤ S4096x8192.size a := fun v0 k0_hw3 => k0_hw3.2.2.2.2.1
theorem k0_off6_inb : ∀ (v0 : BitVec 32) (k0_hw3 : k0_chk3 v0), ∀ a, (k0_off6 v0) a + S64x8192.size a ≤ S4096x8192.size a := fun v0 k0_hw3 => k0_hw3.2.2.2.2.2

def k0_dev127 (v2 : BitVec 32) : Nat :=
  let c0_i32_3536 : BitVec 32 := 0#32
  let c1_i32_3535 : BitVec 32 := 1#32
  let v3015 : BitVec 32 := Scalar.muli v2 c1_i32_3535
  let v3016 : BitVec 32 := Scalar.addi c0_i32_3536 v3015
  v3016.toNat
def k0_dev128 (v1 : BitVec 32) : Nat :=
  let c0_i32_3546 : BitVec 32 := 0#32
  let c1_i32_3545 : BitVec 32 := 1#32
  let v3025 : BitVec 32 := Scalar.muli v1 c1_i32_3545
  let v3026 : BitVec 32 := Scalar.addi c0_i32_3546 v3025
  v3026.toNat
def k0_dev129 (v1 : BitVec 32) : Nat :=
  let c0_i32_3627 : BitVec 32 := 0#32
  let c1_i32_3626 : BitVec 32 := 1#32
  let v3093 : BitVec 32 := Scalar.muli v1 c1_i32_3626
  let v3094 : BitVec 32 := Scalar.addi c0_i32_3627 v3093
  v3094.toNat
def k0_dev130 (v2 : BitVec 32) : Nat :=
  let c0_i32_3630 : BitVec 32 := 0#32
  let c1_i32_3629 : BitVec 32 := 1#32
  let v3095 : BitVec 32 := Scalar.muli v2 c1_i32_3629
  let v3096 : BitVec 32 := Scalar.addi c0_i32_3630 v3095
  v3096.toNat
def k0_dev131 (v2 : BitVec 32) : Nat :=
  let c0_i32_3640 : BitVec 32 := 0#32
  let c1_i32_3639 : BitVec 32 := 1#32
  let v3097 : BitVec 32 := Scalar.muli v2 c1_i32_3639
  let v3098 : BitVec 32 := Scalar.addi c0_i32_3640 v3097
  v3098.toNat
def k0_dev132 (v1 : BitVec 32) : Nat :=
  let c0_i32_3650 : BitVec 32 := 0#32
  let c1_i32_3649 : BitVec 32 := 1#32
  let v3107 : BitVec 32 := Scalar.muli v1 c1_i32_3649
  let v3108 : BitVec 32 := Scalar.addi c0_i32_3650 v3107
  v3108.toNat
def k0_dev133 (v1 : BitVec 32) : Nat :=
  let c0_i32_3731 : BitVec 32 := 0#32
  let c1_i32_3730 : BitVec 32 := 1#32
  let v3175 : BitVec 32 := Scalar.muli v1 c1_i32_3730
  let v3176 : BitVec 32 := Scalar.addi c0_i32_3731 v3175
  v3176.toNat
def k0_dev134 (v2 : BitVec 32) : Nat :=
  let c0_i32_3734 : BitVec 32 := 0#32
  let c1_i32_3733 : BitVec 32 := 1#32
  let v3177 : BitVec 32 := Scalar.muli v2 c1_i32_3733
  let v3178 : BitVec 32 := Scalar.addi c0_i32_3734 v3177
  v3178.toNat
def k0_dev135 (v2 : BitVec 32) : Nat :=
  let c0_i32_3744 : BitVec 32 := 0#32
  let c1_i32_3743 : BitVec 32 := 1#32
  let v3179 : BitVec 32 := Scalar.muli v2 c1_i32_3743
  let v3180 : BitVec 32 := Scalar.addi c0_i32_3744 v3179
  v3180.toNat
def k0_dev136 (v1 : BitVec 32) : Nat :=
  let c0_i32_3754 : BitVec 32 := 0#32
  let c1_i32_3753 : BitVec 32 := 1#32
  let v3189 : BitVec 32 := Scalar.muli v1 c1_i32_3753
  let v3190 : BitVec 32 := Scalar.addi c0_i32_3754 v3189
  v3190.toNat
def k0_dev137 (v1 : BitVec 32) : Nat :=
  let c0_i32_3835 : BitVec 32 := 0#32
  let c1_i32_3834 : BitVec 32 := 1#32
  let v3257 : BitVec 32 := Scalar.muli v1 c1_i32_3834
  let v3258 : BitVec 32 := Scalar.addi c0_i32_3835 v3257
  v3258.toNat
def k0_dev138 (v2 : BitVec 32) : Nat :=
  let c0_i32_3838 : BitVec 32 := 0#32
  let c1_i32_3837 : BitVec 32 := 1#32
  let v3259 : BitVec 32 := Scalar.muli v2 c1_i32_3837
  let v3260 : BitVec 32 := Scalar.addi c0_i32_3838 v3259
  v3260.toNat
def k0_dev139 (v2 : BitVec 32) : Nat :=
  let c0_i32_3848 : BitVec 32 := 0#32
  let c1_i32_3847 : BitVec 32 := 1#32
  let v3261 : BitVec 32 := Scalar.muli v2 c1_i32_3847
  let v3262 : BitVec 32 := Scalar.addi c0_i32_3848 v3261
  v3262.toNat
def k0_dev140 (v1 : BitVec 32) : Nat :=
  let c0_i32_3858 : BitVec 32 := 0#32
  let c1_i32_3857 : BitVec 32 := 1#32
  let v3271 : BitVec 32 := Scalar.muli v1 c1_i32_3857
  let v3272 : BitVec 32 := Scalar.addi c0_i32_3858 v3271
  v3272.toNat
def k0_dev141 (v1 : BitVec 32) : Nat :=
  let c0_i32_3939 : BitVec 32 := 0#32
  let c1_i32_3938 : BitVec 32 := 1#32
  let v3339 : BitVec 32 := Scalar.muli v1 c1_i32_3938
  let v3340 : BitVec 32 := Scalar.addi c0_i32_3939 v3339
  v3340.toNat
def k0_dev142 (v2 : BitVec 32) : Nat :=
  let c0_i32_3942 : BitVec 32 := 0#32
  let c1_i32_3941 : BitVec 32 := 1#32
  let v3341 : BitVec 32 := Scalar.muli v2 c1_i32_3941
  let v3342 : BitVec 32 := Scalar.addi c0_i32_3942 v3341
  v3342.toNat
def k0_dev143 (v2 : BitVec 32) : Nat :=
  let c0_i32_3952 : BitVec 32 := 0#32
  let c1_i32_3951 : BitVec 32 := 1#32
  let v3343 : BitVec 32 := Scalar.muli v2 c1_i32_3951
  let v3344 : BitVec 32 := Scalar.addi c0_i32_3952 v3343
  v3344.toNat
def k0_dev144 (v1 : BitVec 32) : Nat :=
  let c0_i32_3962 : BitVec 32 := 0#32
  let c1_i32_3961 : BitVec 32 := 1#32
  let v3353 : BitVec 32 := Scalar.muli v1 c1_i32_3961
  let v3354 : BitVec 32 := Scalar.addi c0_i32_3962 v3353
  v3354.toNat
def k0_dev145 (v1 : BitVec 32) : Nat :=
  let c0_i32_4043 : BitVec 32 := 0#32
  let c1_i32_4042 : BitVec 32 := 1#32
  let v3421 : BitVec 32 := Scalar.muli v1 c1_i32_4042
  let v3422 : BitVec 32 := Scalar.addi c0_i32_4043 v3421
  v3422.toNat
def k0_dev146 (v2 : BitVec 32) : Nat :=
  let c0_i32_4046 : BitVec 32 := 0#32
  let c1_i32_4045 : BitVec 32 := 1#32
  let v3423 : BitVec 32 := Scalar.muli v2 c1_i32_4045
  let v3424 : BitVec 32 := Scalar.addi c0_i32_4046 v3423
  v3424.toNat
def k0_dev147 (v2 : BitVec 32) : Nat :=
  let c0_i32_4056 : BitVec 32 := 0#32
  let c1_i32_4055 : BitVec 32 := 1#32
  let v3425 : BitVec 32 := Scalar.muli v2 c1_i32_4055
  let v3426 : BitVec 32 := Scalar.addi c0_i32_4056 v3425
  v3426.toNat
def k0_dev148 (v1 : BitVec 32) : Nat :=
  let c0_i32_4066 : BitVec 32 := 0#32
  let c1_i32_4065 : BitVec 32 := 1#32
  let v3435 : BitVec 32 := Scalar.muli v1 c1_i32_4065
  let v3436 : BitVec 32 := Scalar.addi c0_i32_4066 v3435
  v3436.toNat
def k0_dev149 (v1 : BitVec 32) : Nat :=
  let c0_i32_4147 : BitVec 32 := 0#32
  let c1_i32_4146 : BitVec 32 := 1#32
  let v3503 : BitVec 32 := Scalar.muli v1 c1_i32_4146
  let v3504 : BitVec 32 := Scalar.addi c0_i32_4147 v3503
  v3504.toNat
def k0_dev150 (v2 : BitVec 32) : Nat :=
  let c0_i32_4150 : BitVec 32 := 0#32
  let c1_i32_4149 : BitVec 32 := 1#32
  let v3505 : BitVec 32 := Scalar.muli v2 c1_i32_4149
  let v3506 : BitVec 32 := Scalar.addi c0_i32_4150 v3505
  v3506.toNat
def k0_dev151 (v2 : BitVec 32) : Nat :=
  let c0_i32_4160 : BitVec 32 := 0#32
  let c1_i32_4159 : BitVec 32 := 1#32
  let v3507 : BitVec 32 := Scalar.muli v2 c1_i32_4159
  let v3508 : BitVec 32 := Scalar.addi c0_i32_4160 v3507
  v3508.toNat
def k0_dev152 (v1 : BitVec 32) : Nat :=
  let c0_i32_4170 : BitVec 32 := 0#32
  let c1_i32_4169 : BitVec 32 := 1#32
  let v3517 : BitVec 32 := Scalar.muli v1 c1_i32_4169
  let v3518 : BitVec 32 := Scalar.addi c0_i32_4170 v3517
  v3518.toNat
def k0_dev153 (v1 : BitVec 32) : Nat :=
  let c0_i32_4251 : BitVec 32 := 0#32
  let c1_i32_4250 : BitVec 32 := 1#32
  let v3585 : BitVec 32 := Scalar.muli v1 c1_i32_4250
  let v3586 : BitVec 32 := Scalar.addi c0_i32_4251 v3585
  v3586.toNat
def k0_dev154 (v2 : BitVec 32) : Nat :=
  let c0_i32_4254 : BitVec 32 := 0#32
  let c1_i32_4253 : BitVec 32 := 1#32
  let v3587 : BitVec 32 := Scalar.muli v2 c1_i32_4253
  let v3588 : BitVec 32 := Scalar.addi c0_i32_4254 v3587
  v3588.toNat
def k0_dev155 (v2 : BitVec 32) : Nat :=
  let c0_i32_4264 : BitVec 32 := 0#32
  let c1_i32_4263 : BitVec 32 := 1#32
  let v3589 : BitVec 32 := Scalar.muli v2 c1_i32_4263
  let v3590 : BitVec 32 := Scalar.addi c0_i32_4264 v3589
  v3590.toNat
def k0_dev156 (v1 : BitVec 32) : Nat :=
  let c0_i32_4274 : BitVec 32 := 0#32
  let c1_i32_4273 : BitVec 32 := 1#32
  let v3599 : BitVec 32 := Scalar.muli v1 c1_i32_4273
  let v3600 : BitVec 32 := Scalar.addi c0_i32_4274 v3599
  v3600.toNat
def k0_dev157 (v1 : BitVec 32) : Nat :=
  let c0_i32_4355 : BitVec 32 := 0#32
  let c1_i32_4354 : BitVec 32 := 1#32
  let v3667 : BitVec 32 := Scalar.muli v1 c1_i32_4354
  let v3668 : BitVec 32 := Scalar.addi c0_i32_4355 v3667
  v3668.toNat
def k0_dev158 (v2 : BitVec 32) : Nat :=
  let c0_i32_4358 : BitVec 32 := 0#32
  let c1_i32_4357 : BitVec 32 := 1#32
  let v3669 : BitVec 32 := Scalar.muli v2 c1_i32_4357
  let v3670 : BitVec 32 := Scalar.addi c0_i32_4358 v3669
  v3670.toNat
def k0_dev159 (v2 : BitVec 32) : Nat :=
  let c0_i32_4368 : BitVec 32 := 0#32
  let c1_i32_4367 : BitVec 32 := 1#32
  let v3671 : BitVec 32 := Scalar.muli v2 c1_i32_4367
  let v3672 : BitVec 32 := Scalar.addi c0_i32_4368 v3671
  v3672.toNat
def k0_dev160 (v1 : BitVec 32) : Nat :=
  let c0_i32_4378 : BitVec 32 := 0#32
  let c1_i32_4377 : BitVec 32 := 1#32
  let v3681 : BitVec 32 := Scalar.muli v1 c1_i32_4377
  let v3682 : BitVec 32 := Scalar.addi c0_i32_4378 v3681
  v3682.toNat
def k0_dev161 (v1 : BitVec 32) : Nat :=
  let c0_i32_4459 : BitVec 32 := 0#32
  let c1_i32_4458 : BitVec 32 := 1#32
  let v3749 : BitVec 32 := Scalar.muli v1 c1_i32_4458
  let v3750 : BitVec 32 := Scalar.addi c0_i32_4459 v3749
  v3750.toNat
def k0_dev162 (v2 : BitVec 32) : Nat :=
  let c0_i32_4462 : BitVec 32 := 0#32
  let c1_i32_4461 : BitVec 32 := 1#32
  let v3751 : BitVec 32 := Scalar.muli v2 c1_i32_4461
  let v3752 : BitVec 32 := Scalar.addi c0_i32_4462 v3751
  v3752.toNat
def k0_dev163 (v2 : BitVec 32) : Nat :=
  let c0_i32_4472 : BitVec 32 := 0#32
  let c1_i32_4471 : BitVec 32 := 1#32
  let v3753 : BitVec 32 := Scalar.muli v2 c1_i32_4471
  let v3754 : BitVec 32 := Scalar.addi c0_i32_4472 v3753
  v3754.toNat
def k0_dev164 (v1 : BitVec 32) : Nat :=
  let c0_i32_4482 : BitVec 32 := 0#32
  let c1_i32_4481 : BitVec 32 := 1#32
  let v3763 : BitVec 32 := Scalar.muli v1 c1_i32_4481
  let v3764 : BitVec 32 := Scalar.addi c0_i32_4482 v3763
  v3764.toNat
def k0_dev165 (v1 : BitVec 32) : Nat :=
  let c0_i32_4563 : BitVec 32 := 0#32
  let c1_i32_4562 : BitVec 32 := 1#32
  let v3831 : BitVec 32 := Scalar.muli v1 c1_i32_4562
  let v3832 : BitVec 32 := Scalar.addi c0_i32_4563 v3831
  v3832.toNat
def k0_dev166 (v2 : BitVec 32) : Nat :=
  let c0_i32_4566 : BitVec 32 := 0#32
  let c1_i32_4565 : BitVec 32 := 1#32
  let v3833 : BitVec 32 := Scalar.muli v2 c1_i32_4565
  let v3834 : BitVec 32 := Scalar.addi c0_i32_4566 v3833
  v3834.toNat
def k0_dev167 (v2 : BitVec 32) : Nat :=
  let c0_i32_4576 : BitVec 32 := 0#32
  let c1_i32_4575 : BitVec 32 := 1#32
  let v3835 : BitVec 32 := Scalar.muli v2 c1_i32_4575
  let v3836 : BitVec 32 := Scalar.addi c0_i32_4576 v3835
  v3836.toNat
def k0_dev168 (v1 : BitVec 32) : Nat :=
  let c0_i32_4586 : BitVec 32 := 0#32
  let c1_i32_4585 : BitVec 32 := 1#32
  let v3845 : BitVec 32 := Scalar.muli v1 c1_i32_4585
  let v3846 : BitVec 32 := Scalar.addi c0_i32_4586 v3845
  v3846.toNat
def k0_dev169 (v1 : BitVec 32) : Nat :=
  let c0_i32_4667 : BitVec 32 := 0#32
  let c1_i32_4666 : BitVec 32 := 1#32
  let v3913 : BitVec 32 := Scalar.muli v1 c1_i32_4666
  let v3914 : BitVec 32 := Scalar.addi c0_i32_4667 v3913
  v3914.toNat
def k0_dev170 (v2 : BitVec 32) : Nat :=
  let c0_i32_4670 : BitVec 32 := 0#32
  let c1_i32_4669 : BitVec 32 := 1#32
  let v3915 : BitVec 32 := Scalar.muli v2 c1_i32_4669
  let v3916 : BitVec 32 := Scalar.addi c0_i32_4670 v3915
  v3916.toNat
def k0_dev171 (v2 : BitVec 32) : Nat :=
  let c0_i32_4680 : BitVec 32 := 0#32
  let c1_i32_4679 : BitVec 32 := 1#32
  let v3917 : BitVec 32 := Scalar.muli v2 c1_i32_4679
  let v3918 : BitVec 32 := Scalar.addi c0_i32_4680 v3917
  v3918.toNat
def k0_dev172 (v1 : BitVec 32) : Nat :=
  let c0_i32_4690 : BitVec 32 := 0#32
  let c1_i32_4689 : BitVec 32 := 1#32
  let v3927 : BitVec 32 := Scalar.muli v1 c1_i32_4689
  let v3928 : BitVec 32 := Scalar.addi c0_i32_4690 v3927
  v3928.toNat
def k0_dev173 (v1 : BitVec 32) : Nat :=
  let c0_i32_4771 : BitVec 32 := 0#32
  let c1_i32_4770 : BitVec 32 := 1#32
  let v3995 : BitVec 32 := Scalar.muli v1 c1_i32_4770
  let v3996 : BitVec 32 := Scalar.addi c0_i32_4771 v3995
  v3996.toNat
def k0_dev174 (v2 : BitVec 32) : Nat :=
  let c0_i32_4774 : BitVec 32 := 0#32
  let c1_i32_4773 : BitVec 32 := 1#32
  let v3997 : BitVec 32 := Scalar.muli v2 c1_i32_4773
  let v3998 : BitVec 32 := Scalar.addi c0_i32_4774 v3997
  v3998.toNat
def k0_dev175 (v2 : BitVec 32) : Nat :=
  let c0_i32_4784 : BitVec 32 := 0#32
  let c1_i32_4783 : BitVec 32 := 1#32
  let v3999 : BitVec 32 := Scalar.muli v2 c1_i32_4783
  let v4000 : BitVec 32 := Scalar.addi c0_i32_4784 v3999
  v4000.toNat
def k0_dev176 (v1 : BitVec 32) : Nat :=
  let c0_i32_4794 : BitVec 32 := 0#32
  let c1_i32_4793 : BitVec 32 := 1#32
  let v4009 : BitVec 32 := Scalar.muli v1 c1_i32_4793
  let v4010 : BitVec 32 := Scalar.addi c0_i32_4794 v4009
  v4010.toNat
def k0_dev177 (v1 : BitVec 32) : Nat :=
  let c0_i32_4875 : BitVec 32 := 0#32
  let c1_i32_4874 : BitVec 32 := 1#32
  let v4077 : BitVec 32 := Scalar.muli v1 c1_i32_4874
  let v4078 : BitVec 32 := Scalar.addi c0_i32_4875 v4077
  v4078.toNat
def k0_dev178 (v2 : BitVec 32) : Nat :=
  let c0_i32_4878 : BitVec 32 := 0#32
  let c1_i32_4877 : BitVec 32 := 1#32
  let v4079 : BitVec 32 := Scalar.muli v2 c1_i32_4877
  let v4080 : BitVec 32 := Scalar.addi c0_i32_4878 v4079
  v4080.toNat
def k0_dev179 (v2 : BitVec 32) : Nat :=
  let c0_i32_4888 : BitVec 32 := 0#32
  let c1_i32_4887 : BitVec 32 := 1#32
  let v4081 : BitVec 32 := Scalar.muli v2 c1_i32_4887
  let v4082 : BitVec 32 := Scalar.addi c0_i32_4888 v4081
  v4082.toNat
def k0_dev180 (v1 : BitVec 32) : Nat :=
  let c0_i32_4898 : BitVec 32 := 0#32
  let c1_i32_4897 : BitVec 32 := 1#32
  let v4091 : BitVec 32 := Scalar.muli v1 c1_i32_4897
  let v4092 : BitVec 32 := Scalar.addi c0_i32_4898 v4091
  v4092.toNat
def k0_dev181 (v1 : BitVec 32) : Nat :=
  let c0_i32_4979 : BitVec 32 := 0#32
  let c1_i32_4978 : BitVec 32 := 1#32
  let v4159 : BitVec 32 := Scalar.muli v1 c1_i32_4978
  let v4160 : BitVec 32 := Scalar.addi c0_i32_4979 v4159
  v4160.toNat
def k0_dev182 (v2 : BitVec 32) : Nat :=
  let c0_i32_4982 : BitVec 32 := 0#32
  let c1_i32_4981 : BitVec 32 := 1#32
  let v4161 : BitVec 32 := Scalar.muli v2 c1_i32_4981
  let v4162 : BitVec 32 := Scalar.addi c0_i32_4982 v4161
  v4162.toNat
def k0_dev183 (v2 : BitVec 32) : Nat :=
  let c0_i32_4992 : BitVec 32 := 0#32
  let c1_i32_4991 : BitVec 32 := 1#32
  let v4163 : BitVec 32 := Scalar.muli v2 c1_i32_4991
  let v4164 : BitVec 32 := Scalar.addi c0_i32_4992 v4163
  v4164.toNat
def k0_dev184 (v1 : BitVec 32) : Nat :=
  let c0_i32_5002 : BitVec 32 := 0#32
  let c1_i32_5001 : BitVec 32 := 1#32
  let v4173 : BitVec 32 := Scalar.muli v1 c1_i32_5001
  let v4174 : BitVec 32 := Scalar.addi c0_i32_5002 v4173
  v4174.toNat
def k0_dev185 (v1 : BitVec 32) : Nat :=
  let c0_i32_5083 : BitVec 32 := 0#32
  let c1_i32_5082 : BitVec 32 := 1#32
  let v4241 : BitVec 32 := Scalar.muli v1 c1_i32_5082
  let v4242 : BitVec 32 := Scalar.addi c0_i32_5083 v4241
  v4242.toNat
def k0_dev186 (v2 : BitVec 32) : Nat :=
  let c0_i32_5086 : BitVec 32 := 0#32
  let c1_i32_5085 : BitVec 32 := 1#32
  let v4243 : BitVec 32 := Scalar.muli v2 c1_i32_5085
  let v4244 : BitVec 32 := Scalar.addi c0_i32_5086 v4243
  v4244.toNat
def k0_dev187 (v2 : BitVec 32) : Nat :=
  let c0_i32_5096 : BitVec 32 := 0#32
  let c1_i32_5095 : BitVec 32 := 1#32
  let v4245 : BitVec 32 := Scalar.muli v2 c1_i32_5095
  let v4246 : BitVec 32 := Scalar.addi c0_i32_5096 v4245
  v4246.toNat
def k0_dev188 (v1 : BitVec 32) : Nat :=
  let c0_i32_5106 : BitVec 32 := 0#32
  let c1_i32_5105 : BitVec 32 := 1#32
  let v4255 : BitVec 32 := Scalar.muli v1 c1_i32_5105
  let v4256 : BitVec 32 := Scalar.addi c0_i32_5106 v4255
  v4256.toNat
def k0_dev189 (v1 : BitVec 32) : Nat :=
  let c0_i32_5187 : BitVec 32 := 0#32
  let c1_i32_5186 : BitVec 32 := 1#32
  let v4323 : BitVec 32 := Scalar.muli v1 c1_i32_5186
  let v4324 : BitVec 32 := Scalar.addi c0_i32_5187 v4323
  v4324.toNat
def k0_dev190 (v2 : BitVec 32) : Nat :=
  let c0_i32_5190 : BitVec 32 := 0#32
  let c1_i32_5189 : BitVec 32 := 1#32
  let v4325 : BitVec 32 := Scalar.muli v2 c1_i32_5189
  let v4326 : BitVec 32 := Scalar.addi c0_i32_5190 v4325
  v4326.toNat
def k0_dev191 (v2 : BitVec 32) : Nat :=
  let c0_i32_5200 : BitVec 32 := 0#32
  let c1_i32_5199 : BitVec 32 := 1#32
  let v4327 : BitVec 32 := Scalar.muli v2 c1_i32_5199
  let v4328 : BitVec 32 := Scalar.addi c0_i32_5200 v4327
  v4328.toNat
def k0_dev192 (v1 : BitVec 32) : Nat :=
  let c0_i32_5210 : BitVec 32 := 0#32
  let c1_i32_5209 : BitVec 32 := 1#32
  let v4337 : BitVec 32 := Scalar.muli v1 c1_i32_5209
  let v4338 : BitVec 32 := Scalar.addi c0_i32_5210 v4337
  v4338.toNat
def k0_dev193 (v1 : BitVec 32) : Nat :=
  let c0_i32_5291 : BitVec 32 := 0#32
  let c1_i32_5290 : BitVec 32 := 1#32
  let v4405 : BitVec 32 := Scalar.muli v1 c1_i32_5290
  let v4406 : BitVec 32 := Scalar.addi c0_i32_5291 v4405
  v4406.toNat
def k0_dev194 (v2 : BitVec 32) : Nat :=
  let c0_i32_5294 : BitVec 32 := 0#32
  let c1_i32_5293 : BitVec 32 := 1#32
  let v4407 : BitVec 32 := Scalar.muli v2 c1_i32_5293
  let v4408 : BitVec 32 := Scalar.addi c0_i32_5294 v4407
  v4408.toNat
def k0_dev195 (v2 : BitVec 32) : Nat :=
  let c0_i32_5304 : BitVec 32 := 0#32
  let c1_i32_5303 : BitVec 32 := 1#32
  let v4409 : BitVec 32 := Scalar.muli v2 c1_i32_5303
  let v4410 : BitVec 32 := Scalar.addi c0_i32_5304 v4409
  v4410.toNat
def k0_dev196 (v1 : BitVec 32) : Nat :=
  let c0_i32_5314 : BitVec 32 := 0#32
  let c1_i32_5313 : BitVec 32 := 1#32
  let v4419 : BitVec 32 := Scalar.muli v1 c1_i32_5313
  let v4420 : BitVec 32 := Scalar.addi c0_i32_5314 v4419
  v4420.toNat
def k0_dev197 (v1 : BitVec 32) : Nat :=
  let c0_i32_5395 : BitVec 32 := 0#32
  let c1_i32_5394 : BitVec 32 := 1#32
  let v4487 : BitVec 32 := Scalar.muli v1 c1_i32_5394
  let v4488 : BitVec 32 := Scalar.addi c0_i32_5395 v4487
  v4488.toNat
def k0_dev198 (v2 : BitVec 32) : Nat :=
  let c0_i32_5398 : BitVec 32 := 0#32
  let c1_i32_5397 : BitVec 32 := 1#32
  let v4489 : BitVec 32 := Scalar.muli v2 c1_i32_5397
  let v4490 : BitVec 32 := Scalar.addi c0_i32_5398 v4489
  v4490.toNat
def k0_dev199 (v2 : BitVec 32) : Nat :=
  let c0_i32_5408 : BitVec 32 := 0#32
  let c1_i32_5407 : BitVec 32 := 1#32
  let v4491 : BitVec 32 := Scalar.muli v2 c1_i32_5407
  let v4492 : BitVec 32 := Scalar.addi c0_i32_5408 v4491
  v4492.toNat
def k0_dev200 (v1 : BitVec 32) : Nat :=
  let c0_i32_5418 : BitVec 32 := 0#32
  let c1_i32_5417 : BitVec 32 := 1#32
  let v4501 : BitVec 32 := Scalar.muli v1 c1_i32_5417
  let v4502 : BitVec 32 := Scalar.addi c0_i32_5418 v4501
  v4502.toNat
def k0_dev201 (v1 : BitVec 32) : Nat :=
  let c0_i32_5499 : BitVec 32 := 0#32
  let c1_i32_5498 : BitVec 32 := 1#32
  let v4569 : BitVec 32 := Scalar.muli v1 c1_i32_5498
  let v4570 : BitVec 32 := Scalar.addi c0_i32_5499 v4569
  v4570.toNat
def k0_dev202 (v2 : BitVec 32) : Nat :=
  let c0_i32_5502 : BitVec 32 := 0#32
  let c1_i32_5501 : BitVec 32 := 1#32
  let v4571 : BitVec 32 := Scalar.muli v2 c1_i32_5501
  let v4572 : BitVec 32 := Scalar.addi c0_i32_5502 v4571
  v4572.toNat
def k0_dev203 (v2 : BitVec 32) : Nat :=
  let c0_i32_5512 : BitVec 32 := 0#32
  let c1_i32_5511 : BitVec 32 := 1#32
  let v4573 : BitVec 32 := Scalar.muli v2 c1_i32_5511
  let v4574 : BitVec 32 := Scalar.addi c0_i32_5512 v4573
  v4574.toNat
def k0_dev204 (v1 : BitVec 32) : Nat :=
  let c0_i32_5522 : BitVec 32 := 0#32
  let c1_i32_5521 : BitVec 32 := 1#32
  let v4583 : BitVec 32 := Scalar.muli v1 c1_i32_5521
  let v4584 : BitVec 32 := Scalar.addi c0_i32_5522 v4583
  v4584.toNat
def k0_dev205 (v1 : BitVec 32) : Nat :=
  let c0_i32_5603 : BitVec 32 := 0#32
  let c1_i32_5602 : BitVec 32 := 1#32
  let v4651 : BitVec 32 := Scalar.muli v1 c1_i32_5602
  let v4652 : BitVec 32 := Scalar.addi c0_i32_5603 v4651
  v4652.toNat
def k0_dev206 (v2 : BitVec 32) : Nat :=
  let c0_i32_5606 : BitVec 32 := 0#32
  let c1_i32_5605 : BitVec 32 := 1#32
  let v4653 : BitVec 32 := Scalar.muli v2 c1_i32_5605
  let v4654 : BitVec 32 := Scalar.addi c0_i32_5606 v4653
  v4654.toNat
def k0_dev207 (v2 : BitVec 32) : Nat :=
  let c0_i32_5616 : BitVec 32 := 0#32
  let c1_i32_5615 : BitVec 32 := 1#32
  let v4655 : BitVec 32 := Scalar.muli v2 c1_i32_5615
  let v4656 : BitVec 32 := Scalar.addi c0_i32_5616 v4655
  v4656.toNat
def k0_dev208 (v1 : BitVec 32) : Nat :=
  let c0_i32_5626 : BitVec 32 := 0#32
  let c1_i32_5625 : BitVec 32 := 1#32
  let v4665 : BitVec 32 := Scalar.muli v1 c1_i32_5625
  let v4666 : BitVec 32 := Scalar.addi c0_i32_5626 v4665
  v4666.toNat
def k0_dev209 (v1 : BitVec 32) : Nat :=
  let c0_i32_5707 : BitVec 32 := 0#32
  let c1_i32_5706 : BitVec 32 := 1#32
  let v4733 : BitVec 32 := Scalar.muli v1 c1_i32_5706
  let v4734 : BitVec 32 := Scalar.addi c0_i32_5707 v4733
  v4734.toNat
def k0_dev210 (v2 : BitVec 32) : Nat :=
  let c0_i32_5710 : BitVec 32 := 0#32
  let c1_i32_5709 : BitVec 32 := 1#32
  let v4735 : BitVec 32 := Scalar.muli v2 c1_i32_5709
  let v4736 : BitVec 32 := Scalar.addi c0_i32_5710 v4735
  v4736.toNat
def k0_dev211 (v2 : BitVec 32) : Nat :=
  let c0_i32_5720 : BitVec 32 := 0#32
  let c1_i32_5719 : BitVec 32 := 1#32
  let v4737 : BitVec 32 := Scalar.muli v2 c1_i32_5719
  let v4738 : BitVec 32 := Scalar.addi c0_i32_5720 v4737
  v4738.toNat
def k0_dev212 (v1 : BitVec 32) : Nat :=
  let c0_i32_5730 : BitVec 32 := 0#32
  let c1_i32_5729 : BitVec 32 := 1#32
  let v4747 : BitVec 32 := Scalar.muli v1 c1_i32_5729
  let v4748 : BitVec 32 := Scalar.addi c0_i32_5730 v4747
  v4748.toNat
def k0_dev213 (v1 : BitVec 32) : Nat :=
  let c0_i32_5811 : BitVec 32 := 0#32
  let c1_i32_5810 : BitVec 32 := 1#32
  let v4815 : BitVec 32 := Scalar.muli v1 c1_i32_5810
  let v4816 : BitVec 32 := Scalar.addi c0_i32_5811 v4815
  v4816.toNat
def k0_dev214 (v2 : BitVec 32) : Nat :=
  let c0_i32_5814 : BitVec 32 := 0#32
  let c1_i32_5813 : BitVec 32 := 1#32
  let v4817 : BitVec 32 := Scalar.muli v2 c1_i32_5813
  let v4818 : BitVec 32 := Scalar.addi c0_i32_5814 v4817
  v4818.toNat
def k0_dev215 (v2 : BitVec 32) : Nat :=
  let c0_i32_5824 : BitVec 32 := 0#32
  let c1_i32_5823 : BitVec 32 := 1#32
  let v4819 : BitVec 32 := Scalar.muli v2 c1_i32_5823
  let v4820 : BitVec 32 := Scalar.addi c0_i32_5824 v4819
  v4820.toNat
def k0_dev216 (v1 : BitVec 32) : Nat :=
  let c0_i32_5834 : BitVec 32 := 0#32
  let c1_i32_5833 : BitVec 32 := 1#32
  let v4829 : BitVec 32 := Scalar.muli v1 c1_i32_5833
  let v4830 : BitVec 32 := Scalar.addi c0_i32_5834 v4829
  v4830.toNat
def k0_dev217 (v1 : BitVec 32) : Nat :=
  let c0_i32_5915 : BitVec 32 := 0#32
  let c1_i32_5914 : BitVec 32 := 1#32
  let v4897 : BitVec 32 := Scalar.muli v1 c1_i32_5914
  let v4898 : BitVec 32 := Scalar.addi c0_i32_5915 v4897
  v4898.toNat
def k0_dev218 (v2 : BitVec 32) : Nat :=
  let c0_i32_5918 : BitVec 32 := 0#32
  let c1_i32_5917 : BitVec 32 := 1#32
  let v4899 : BitVec 32 := Scalar.muli v2 c1_i32_5917
  let v4900 : BitVec 32 := Scalar.addi c0_i32_5918 v4899
  v4900.toNat
def k0_dev219 (v2 : BitVec 32) : Nat :=
  let c0_i32_5928 : BitVec 32 := 0#32
  let c1_i32_5927 : BitVec 32 := 1#32
  let v4901 : BitVec 32 := Scalar.muli v2 c1_i32_5927
  let v4902 : BitVec 32 := Scalar.addi c0_i32_5928 v4901
  v4902.toNat
def k0_dev220 (v1 : BitVec 32) : Nat :=
  let c0_i32_5938 : BitVec 32 := 0#32
  let c1_i32_5937 : BitVec 32 := 1#32
  let v4911 : BitVec 32 := Scalar.muli v1 c1_i32_5937
  let v4912 : BitVec 32 := Scalar.addi c0_i32_5938 v4911
  v4912.toNat
def k0_dev221 (v1 : BitVec 32) : Nat :=
  let c0_i32_6019 : BitVec 32 := 0#32
  let c1_i32_6018 : BitVec 32 := 1#32
  let v4979 : BitVec 32 := Scalar.muli v1 c1_i32_6018
  let v4980 : BitVec 32 := Scalar.addi c0_i32_6019 v4979
  v4980.toNat
def k0_dev222 (v2 : BitVec 32) : Nat :=
  let c0_i32_6022 : BitVec 32 := 0#32
  let c1_i32_6021 : BitVec 32 := 1#32
  let v4981 : BitVec 32 := Scalar.muli v2 c1_i32_6021
  let v4982 : BitVec 32 := Scalar.addi c0_i32_6022 v4981
  v4982.toNat
def k0_dev223 (v2 : BitVec 32) : Nat :=
  let c0_i32_6032 : BitVec 32 := 0#32
  let c1_i32_6031 : BitVec 32 := 1#32
  let v4983 : BitVec 32 := Scalar.muli v2 c1_i32_6031
  let v4984 : BitVec 32 := Scalar.addi c0_i32_6032 v4983
  v4984.toNat
def k0_dev224 (v1 : BitVec 32) : Nat :=
  let c0_i32_6042 : BitVec 32 := 0#32
  let c1_i32_6041 : BitVec 32 := 1#32
  let v4993 : BitVec 32 := Scalar.muli v1 c1_i32_6041
  let v4994 : BitVec 32 := Scalar.addi c0_i32_6042 v4993
  v4994.toNat
def k0_dev225 (v1 : BitVec 32) : Nat :=
  let c0_i32_6123 : BitVec 32 := 0#32
  let c1_i32_6122 : BitVec 32 := 1#32
  let v5061 : BitVec 32 := Scalar.muli v1 c1_i32_6122
  let v5062 : BitVec 32 := Scalar.addi c0_i32_6123 v5061
  v5062.toNat
def k0_dev226 (v2 : BitVec 32) : Nat :=
  let c0_i32_6126 : BitVec 32 := 0#32
  let c1_i32_6125 : BitVec 32 := 1#32
  let v5063 : BitVec 32 := Scalar.muli v2 c1_i32_6125
  let v5064 : BitVec 32 := Scalar.addi c0_i32_6126 v5063
  v5064.toNat
def k0_dev227 (v2 : BitVec 32) : Nat :=
  let c0_i32_6136 : BitVec 32 := 0#32
  let c1_i32_6135 : BitVec 32 := 1#32
  let v5065 : BitVec 32 := Scalar.muli v2 c1_i32_6135
  let v5066 : BitVec 32 := Scalar.addi c0_i32_6136 v5065
  v5066.toNat
def k0_dev228 (v1 : BitVec 32) : Nat :=
  let c0_i32_6146 : BitVec 32 := 0#32
  let c1_i32_6145 : BitVec 32 := 1#32
  let v5075 : BitVec 32 := Scalar.muli v1 c1_i32_6145
  let v5076 : BitVec 32 := Scalar.addi c0_i32_6146 v5075
  v5076.toNat
def k0_dev229 (v1 : BitVec 32) : Nat :=
  let c0_i32_6227 : BitVec 32 := 0#32
  let c1_i32_6226 : BitVec 32 := 1#32
  let v5143 : BitVec 32 := Scalar.muli v1 c1_i32_6226
  let v5144 : BitVec 32 := Scalar.addi c0_i32_6227 v5143
  v5144.toNat
def k0_dev230 (v2 : BitVec 32) : Nat :=
  let c0_i32_6230 : BitVec 32 := 0#32
  let c1_i32_6229 : BitVec 32 := 1#32
  let v5145 : BitVec 32 := Scalar.muli v2 c1_i32_6229
  let v5146 : BitVec 32 := Scalar.addi c0_i32_6230 v5145
  v5146.toNat
def k0_dev231 (v2 : BitVec 32) : Nat :=
  let c0_i32_6240 : BitVec 32 := 0#32
  let c1_i32_6239 : BitVec 32 := 1#32
  let v5147 : BitVec 32 := Scalar.muli v2 c1_i32_6239
  let v5148 : BitVec 32 := Scalar.addi c0_i32_6240 v5147
  v5148.toNat
def k0_dev232 (v1 : BitVec 32) : Nat :=
  let c0_i32_6250 : BitVec 32 := 0#32
  let c1_i32_6249 : BitVec 32 := 1#32
  let v5157 : BitVec 32 := Scalar.muli v1 c1_i32_6249
  let v5158 : BitVec 32 := Scalar.addi c0_i32_6250 v5157
  v5158.toNat
def k0_dev233 (v1 : BitVec 32) : Nat :=
  let c0_i32_6331 : BitVec 32 := 0#32
  let c1_i32_6330 : BitVec 32 := 1#32
  let v5225 : BitVec 32 := Scalar.muli v1 c1_i32_6330
  let v5226 : BitVec 32 := Scalar.addi c0_i32_6331 v5225
  v5226.toNat
def k0_dev234 (v2 : BitVec 32) : Nat :=
  let c0_i32_6334 : BitVec 32 := 0#32
  let c1_i32_6333 : BitVec 32 := 1#32
  let v5227 : BitVec 32 := Scalar.muli v2 c1_i32_6333
  let v5228 : BitVec 32 := Scalar.addi c0_i32_6334 v5227
  v5228.toNat
def k0_dev235 (v2 : BitVec 32) : Nat :=
  let c0_i32_6344 : BitVec 32 := 0#32
  let c1_i32_6343 : BitVec 32 := 1#32
  let v5229 : BitVec 32 := Scalar.muli v2 c1_i32_6343
  let v5230 : BitVec 32 := Scalar.addi c0_i32_6344 v5229
  v5230.toNat
def k0_dev236 (v1 : BitVec 32) : Nat :=
  let c0_i32_6354 : BitVec 32 := 0#32
  let c1_i32_6353 : BitVec 32 := 1#32
  let v5239 : BitVec 32 := Scalar.muli v1 c1_i32_6353
  let v5240 : BitVec 32 := Scalar.addi c0_i32_6354 v5239
  v5240.toNat
def k0_dev237 (v1 : BitVec 32) : Nat :=
  let c0_i32_6435 : BitVec 32 := 0#32
  let c1_i32_6434 : BitVec 32 := 1#32
  let v5307 : BitVec 32 := Scalar.muli v1 c1_i32_6434
  let v5308 : BitVec 32 := Scalar.addi c0_i32_6435 v5307
  v5308.toNat
def k0_dev238 (v2 : BitVec 32) : Nat :=
  let c0_i32_6438 : BitVec 32 := 0#32
  let c1_i32_6437 : BitVec 32 := 1#32
  let v5309 : BitVec 32 := Scalar.muli v2 c1_i32_6437
  let v5310 : BitVec 32 := Scalar.addi c0_i32_6438 v5309
  v5310.toNat
def k0_dev239 (v2 : BitVec 32) : Nat :=
  let c0_i32_6448 : BitVec 32 := 0#32
  let c1_i32_6447 : BitVec 32 := 1#32
  let v5311 : BitVec 32 := Scalar.muli v2 c1_i32_6447
  let v5312 : BitVec 32 := Scalar.addi c0_i32_6448 v5311
  v5312.toNat
def k0_dev240 (v1 : BitVec 32) : Nat :=
  let c0_i32_6458 : BitVec 32 := 0#32
  let c1_i32_6457 : BitVec 32 := 1#32
  let v5321 : BitVec 32 := Scalar.muli v1 c1_i32_6457
  let v5322 : BitVec 32 := Scalar.addi c0_i32_6458 v5321
  v5322.toNat
def k0_dev241 (v1 : BitVec 32) : Nat :=
  let c0_i32_6539 : BitVec 32 := 0#32
  let c1_i32_6538 : BitVec 32 := 1#32
  let v5389 : BitVec 32 := Scalar.muli v1 c1_i32_6538
  let v5390 : BitVec 32 := Scalar.addi c0_i32_6539 v5389
  v5390.toNat
def k0_dev242 (v2 : BitVec 32) : Nat :=
  let c0_i32_6542 : BitVec 32 := 0#32
  let c1_i32_6541 : BitVec 32 := 1#32
  let v5391 : BitVec 32 := Scalar.muli v2 c1_i32_6541
  let v5392 : BitVec 32 := Scalar.addi c0_i32_6542 v5391
  v5392.toNat
def k0_dev243 (v2 : BitVec 32) : Nat :=
  let c0_i32_6552 : BitVec 32 := 0#32
  let c1_i32_6551 : BitVec 32 := 1#32
  let v5393 : BitVec 32 := Scalar.muli v2 c1_i32_6551
  let v5394 : BitVec 32 := Scalar.addi c0_i32_6552 v5393
  v5394.toNat
def k0_dev244 (v1 : BitVec 32) : Nat :=
  let c0_i32_6562 : BitVec 32 := 0#32
  let c1_i32_6561 : BitVec 32 := 1#32
  let v5403 : BitVec 32 := Scalar.muli v1 c1_i32_6561
  let v5404 : BitVec 32 := Scalar.addi c0_i32_6562 v5403
  v5404.toNat
def k0_dev245 (v1 : BitVec 32) : Nat :=
  let c0_i32_6643 : BitVec 32 := 0#32
  let c1_i32_6642 : BitVec 32 := 1#32
  let v5471 : BitVec 32 := Scalar.muli v1 c1_i32_6642
  let v5472 : BitVec 32 := Scalar.addi c0_i32_6643 v5471
  v5472.toNat
def k0_dev246 (v2 : BitVec 32) : Nat :=
  let c0_i32_6646 : BitVec 32 := 0#32
  let c1_i32_6645 : BitVec 32 := 1#32
  let v5473 : BitVec 32 := Scalar.muli v2 c1_i32_6645
  let v5474 : BitVec 32 := Scalar.addi c0_i32_6646 v5473
  v5474.toNat
def k0_dev247 (v2 : BitVec 32) : Nat :=
  let c0_i32_6656 : BitVec 32 := 0#32
  let c1_i32_6655 : BitVec 32 := 1#32
  let v5475 : BitVec 32 := Scalar.muli v2 c1_i32_6655
  let v5476 : BitVec 32 := Scalar.addi c0_i32_6656 v5475
  v5476.toNat
def k0_dev248 (v1 : BitVec 32) : Nat :=
  let c0_i32_6666 : BitVec 32 := 0#32
  let c1_i32_6665 : BitVec 32 := 1#32
  let v5485 : BitVec 32 := Scalar.muli v1 c1_i32_6665
  let v5486 : BitVec 32 := Scalar.addi c0_i32_6666 v5485
  v5486.toNat
def k0_dev249 (v1 : BitVec 32) : Nat :=
  let c0_i32_6735 : BitVec 32 := 0#32
  let c1_i32_6734 : BitVec 32 := 1#32
  let v5543 : BitVec 32 := Scalar.muli v1 c1_i32_6734
  let v5544 : BitVec 32 := Scalar.addi c0_i32_6735 v5543
  v5544.toNat

def k0_chk1_0 (v1 : BitVec 32) : Prop :=
  ((k0_dev1 v1) < nD) ∧
  ((k0_dev4 v1) < nD) ∧
  ((k0_dev5 v1) < nD) ∧
  ((k0_dev8 v1) < nD) ∧
  ((k0_dev9 v1) < nD) ∧
  ((k0_dev12 v1) < nD) ∧
  ((k0_dev13 v1) < nD) ∧
  ((k0_dev16 v1) < nD) ∧
  ((k0_dev17 v1) < nD) ∧
  ((k0_dev20 v1) < nD) ∧
  ((k0_dev21 v1) < nD) ∧
  ((k0_dev24 v1) < nD) ∧
  ((k0_dev25 v1) < nD) ∧
  ((k0_dev28 v1) < nD) ∧
  ((k0_dev29 v1) < nD) ∧
  ((k0_dev32 v1) < nD) ∧
  ((k0_dev33 v1) < nD) ∧
  ((k0_dev36 v1) < nD) ∧
  ((k0_dev37 v1) < nD) ∧
  ((k0_dev40 v1) < nD) ∧
  ((k0_dev41 v1) < nD) ∧
  ((k0_dev44 v1) < nD) ∧
  ((k0_dev45 v1) < nD) ∧
  ((k0_dev48 v1) < nD) ∧
  ((k0_dev49 v1) < nD) ∧
  ((k0_dev52 v1) < nD) ∧
  ((k0_dev53 v1) < nD) ∧
  ((k0_dev56 v1) < nD) ∧
  ((k0_dev57 v1) < nD) ∧
  ((k0_dev60 v1) < nD) ∧
  ((k0_dev61 v1) < nD) ∧
  ((k0_dev64 v1) < nD)
def k0_chk1_1 (v1 : BitVec 32) : Prop :=
  ((k0_dev65 v1) < nD) ∧
  ((k0_dev68 v1) < nD) ∧
  ((k0_dev69 v1) < nD) ∧
  ((k0_dev72 v1) < nD) ∧
  ((k0_dev73 v1) < nD) ∧
  ((k0_dev76 v1) < nD) ∧
  ((k0_dev77 v1) < nD) ∧
  ((k0_dev80 v1) < nD) ∧
  ((k0_dev81 v1) < nD) ∧
  ((k0_dev84 v1) < nD) ∧
  ((k0_dev85 v1) < nD) ∧
  ((k0_dev88 v1) < nD) ∧
  ((k0_dev89 v1) < nD) ∧
  ((k0_dev92 v1) < nD) ∧
  ((k0_dev93 v1) < nD) ∧
  ((k0_dev96 v1) < nD) ∧
  ((k0_dev97 v1) < nD) ∧
  ((k0_dev100 v1) < nD) ∧
  ((k0_dev101 v1) < nD) ∧
  ((k0_dev104 v1) < nD) ∧
  ((k0_dev105 v1) < nD) ∧
  ((k0_dev108 v1) < nD) ∧
  ((k0_dev109 v1) < nD) ∧
  ((k0_dev112 v1) < nD) ∧
  ((k0_dev113 v1) < nD) ∧
  ((k0_dev116 v1) < nD) ∧
  ((k0_dev117 v1) < nD) ∧
  ((k0_dev120 v1) < nD) ∧
  ((k0_dev121 v1) < nD) ∧
  ((k0_dev124 v1) < nD) ∧
  ((k0_dev125 v1) < nD) ∧
  ((k0_dev128 v1) < nD)
def k0_chk1_2 (v1 : BitVec 32) : Prop :=
  ((k0_dev129 v1) < nD) ∧
  ((k0_dev132 v1) < nD) ∧
  ((k0_dev133 v1) < nD) ∧
  ((k0_dev136 v1) < nD) ∧
  ((k0_dev137 v1) < nD) ∧
  ((k0_dev140 v1) < nD) ∧
  ((k0_dev141 v1) < nD) ∧
  ((k0_dev144 v1) < nD) ∧
  ((k0_dev145 v1) < nD) ∧
  ((k0_dev148 v1) < nD) ∧
  ((k0_dev149 v1) < nD) ∧
  ((k0_dev152 v1) < nD) ∧
  ((k0_dev153 v1) < nD) ∧
  ((k0_dev156 v1) < nD) ∧
  ((k0_dev157 v1) < nD) ∧
  ((k0_dev160 v1) < nD) ∧
  ((k0_dev161 v1) < nD) ∧
  ((k0_dev164 v1) < nD) ∧
  ((k0_dev165 v1) < nD) ∧
  ((k0_dev168 v1) < nD) ∧
  ((k0_dev169 v1) < nD) ∧
  ((k0_dev172 v1) < nD) ∧
  ((k0_dev173 v1) < nD) ∧
  ((k0_dev176 v1) < nD) ∧
  ((k0_dev177 v1) < nD) ∧
  ((k0_dev180 v1) < nD) ∧
  ((k0_dev181 v1) < nD) ∧
  ((k0_dev184 v1) < nD) ∧
  ((k0_dev185 v1) < nD) ∧
  ((k0_dev188 v1) < nD) ∧
  ((k0_dev189 v1) < nD) ∧
  ((k0_dev192 v1) < nD)
def k0_chk1_3 (v1 : BitVec 32) : Prop :=
  ((k0_dev193 v1) < nD) ∧
  ((k0_dev196 v1) < nD) ∧
  ((k0_dev197 v1) < nD) ∧
  ((k0_dev200 v1) < nD) ∧
  ((k0_dev201 v1) < nD) ∧
  ((k0_dev204 v1) < nD) ∧
  ((k0_dev205 v1) < nD) ∧
  ((k0_dev208 v1) < nD) ∧
  ((k0_dev209 v1) < nD) ∧
  ((k0_dev212 v1) < nD) ∧
  ((k0_dev213 v1) < nD) ∧
  ((k0_dev216 v1) < nD) ∧
  ((k0_dev217 v1) < nD) ∧
  ((k0_dev220 v1) < nD) ∧
  ((k0_dev221 v1) < nD) ∧
  ((k0_dev224 v1) < nD) ∧
  ((k0_dev225 v1) < nD) ∧
  ((k0_dev228 v1) < nD) ∧
  ((k0_dev229 v1) < nD) ∧
  ((k0_dev232 v1) < nD) ∧
  ((k0_dev233 v1) < nD) ∧
  ((k0_dev236 v1) < nD) ∧
  ((k0_dev237 v1) < nD) ∧
  ((k0_dev240 v1) < nD) ∧
  ((k0_dev241 v1) < nD) ∧
  ((k0_dev244 v1) < nD) ∧
  ((k0_dev245 v1) < nD) ∧
  ((k0_dev248 v1) < nD) ∧
  ((k0_dev249 v1) < nD)
def k0_chk1 (v1 : BitVec 32) : Prop :=
  k0_chk1_0 v1 ∧
  k0_chk1_1 v1 ∧
  k0_chk1_2 v1 ∧
  k0_chk1_3 v1
theorem k0_dev1_lt : ∀ (v1 : BitVec 32) (k0_hw1 : k0_chk1 v1), (k0_dev1 v1) < nD := fun v1 k0_hw1 => k0_hw1.1.1
theorem k0_dev4_lt : ∀ (v1 : BitVec 32) (k0_hw1 : k0_chk1 v1), (k0_dev4 v1) < nD := fun v1 k0_hw1 => k0_hw1.1.2.1
theorem k0_dev5_lt : ∀ (v1 : BitVec 32) (k0_hw1 : k0_chk1 v1), (k0_dev5 v1) < nD := fun v1 k0_hw1 => k0_hw1.1.2.2.1
theorem k0_dev8_lt : ∀ (v1 : BitVec 32) (k0_hw1 : k0_chk1 v1), (k0_dev8 v1) < nD := fun v1 k0_hw1 => k0_hw1.1.2.2.2.1
theorem k0_dev9_lt : ∀ (v1 : BitVec 32) (k0_hw1 : k0_chk1 v1), (k0_dev9 v1) < nD := fun v1 k0_hw1 => k0_hw1.1.2.2.2.2.1
theorem k0_dev12_lt : ∀ (v1 : BitVec 32) (k0_hw1 : k0_chk1 v1), (k0_dev12 v1) < nD := fun v1 k0_hw1 => k0_hw1.1.2.2.2.2.2.1
theorem k0_dev13_lt : ∀ (v1 : BitVec 32) (k0_hw1 : k0_chk1 v1), (k0_dev13 v1) < nD := fun v1 k0_hw1 => k0_hw1.1.2.2.2.2.2.2.1
theorem k0_dev16_lt : ∀ (v1 : BitVec 32) (k0_hw1 : k0_chk1 v1), (k0_dev16 v1) < nD := fun v1 k0_hw1 => k0_hw1.1.2.2.2.2.2.2.2.1
theorem k0_dev17_lt : ∀ (v1 : BitVec 32) (k0_hw1 : k0_chk1 v1), (k0_dev17 v1) < nD := fun v1 k0_hw1 => k0_hw1.1.2.2.2.2.2.2.2.2.1
theorem k0_dev20_lt : ∀ (v1 : BitVec 32) (k0_hw1 : k0_chk1 v1), (k0_dev20 v1) < nD := fun v1 k0_hw1 => k0_hw1.1.2.2.2.2.2.2.2.2.2.1
theorem k0_dev21_lt : ∀ (v1 : BitVec 32) (k0_hw1 : k0_chk1 v1), (k0_dev21 v1) < nD := fun v1 k0_hw1 => k0_hw1.1.2.2.2.2.2.2.2.2.2.2.1
theorem k0_dev24_lt : ∀ (v1 : BitVec 32) (k0_hw1 : k0_chk1 v1), (k0_dev24 v1) < nD := fun v1 k0_hw1 => k0_hw1.1.2.2.2.2.2.2.2.2.2.2.2.1
theorem k0_dev25_lt : ∀ (v1 : BitVec 32) (k0_hw1 : k0_chk1 v1), (k0_dev25 v1) < nD := fun v1 k0_hw1 => k0_hw1.1.2.2.2.2.2.2.2.2.2.2.2.2.1
theorem k0_dev28_lt : ∀ (v1 : BitVec 32) (k0_hw1 : k0_chk1 v1), (k0_dev28 v1) < nD := fun v1 k0_hw1 => k0_hw1.1.2.2.2.2.2.2.2.2.2.2.2.2.2.1
theorem k0_dev29_lt : ∀ (v1 : BitVec 32) (k0_hw1 : k0_chk1 v1), (k0_dev29 v1) < nD := fun v1 k0_hw1 => k0_hw1.1.2.2.2.2.2.2.2.2.2.2.2.2.2.2.1
theorem k0_dev32_lt : ∀ (v1 : BitVec 32) (k0_hw1 : k0_chk1 v1), (k0_dev32 v1) < nD := fun v1 k0_hw1 => k0_hw1.1.2.2.2.2.2.2.2.2.2.2.2.2.2.2.2.1
theorem k0_dev33_lt : ∀ (v1 : BitVec 32) (k0_hw1 : k0_chk1 v1), (k0_dev33 v1) < nD := fun v1 k0_hw1 => k0_hw1.1.2.2.2.2.2.2.2.2.2.2.2.2.2.2.2.2.1
theorem k0_dev36_lt : ∀ (v1 : BitVec 32) (k0_hw1 : k0_chk1 v1), (k0_dev36 v1) < nD := fun v1 k0_hw1 => k0_hw1.1.2.2.2.2.2.2.2.2.2.2.2.2.2.2.2.2.2.1
theorem k0_dev37_lt : ∀ (v1 : BitVec 32) (k0_hw1 : k0_chk1 v1), (k0_dev37 v1) < nD := fun v1 k0_hw1 => k0_hw1.1.2.2.2.2.2.2.2.2.2.2.2.2.2.2.2.2.2.2.1
theorem k0_dev40_lt : ∀ (v1 : BitVec 32) (k0_hw1 : k0_chk1 v1), (k0_dev40 v1) < nD := fun v1 k0_hw1 => k0_hw1.1.2.2.2.2.2.2.2.2.2.2.2.2.2.2.2.2.2.2.2.1
theorem k0_dev41_lt : ∀ (v1 : BitVec 32) (k0_hw1 : k0_chk1 v1), (k0_dev41 v1) < nD := fun v1 k0_hw1 => k0_hw1.1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.1.2.2.2.2.2.2.2.2.2.2.2.2.2.2.2.2.2.2.2.2.2.1
theorem k0_dev45_lt : ∀ (v1 : BitVec 32) (k0_hw1 : k0_chk1 v1), (k0_dev45 v1) < nD := fun v1 k0_hw1 => k0_hw1.1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.1.2.2.2.2.2.2.2.2.2.2.2.2.2.2.2.2.2.2.2.2.2.2.2.1
theorem k0_dev49_lt : ∀ (v1 : BitVec 32) (k0_hw1 : k0_chk1 v1), (k0_dev49 v1) < nD := fun v1 k0_hw1 => k0_hw1.1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.1.2.2.2.2.2.2.2.2.2.2.2.2.2.2.2.2.2.2.2.2.2.2.2.2.2.1
theorem k0_dev53_lt : ∀ (v1 : BitVec 32) (k0_hw1 : k0_chk1 v1), (k0_dev53 v1) < nD := fun v1 k0_hw1 => k0_hw1.1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.1.2.2.2.2.2.2.2.2.2.2.2.2.2.2.2.2.2.2.2.2.2.2.2.2.2.2.2.1
theorem k0_dev57_lt : ∀ (v1 : BitVec 32) (k0_hw1 : k0_chk1 v1), (k0_dev57 v1) < nD := fun v1 k0_hw1 => k0_hw1.1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.1.2.2.2.2.2.2.2.2.2.2.2.2.2.2.2.2.2.2.2.2.2.2.2.2.2.2.2.2.2.1
theorem k0_dev61_lt : ∀ (v1 : BitVec 32) (k0_hw1 : k0_chk1 v1), (k0_dev61 v1) < nD := fun v1 k0_hw1 => k0_hw1.1.2.2.2.2.2.2.2.2.2.2.2.2.2.2.2.2.2.2.2.2.2.2.2.2.2.2.2.2.2.2.1
theorem k0_dev64_lt : ∀ (v1 : BitVec 32) (k0_hw1 : k0_chk1 v1), (k0_dev64 v1) < nD := fun v1 k0_hw1 => k0_hw1.1.2.2.2.2.2.2.2.2.2.2.2.2.2.2.2.2.2.2.2.2.2.2.2.2.2.2.2.2.2.2.2
theorem k0_dev65_lt : ∀ (v1 : BitVec 32) (k0_hw1 : k0_chk1 v1), (k0_dev65 v1) < nD := fun v1 k0_hw1 => k0_hw1.2.1.1
theorem k0_dev68_lt : ∀ (v1 : BitVec 32) (k0_hw1 : k0_chk1 v1), (k0_dev68 v1) < nD := fun v1 k0_hw1 => k0_hw1.2.1.2.1
theorem k0_dev69_lt : ∀ (v1 : BitVec 32) (k0_hw1 : k0_chk1 v1), (k0_dev69 v1) < nD := fun v1 k0_hw1 => k0_hw1.2.1.2.2.1
theorem k0_dev72_lt : ∀ (v1 : BitVec 32) (k0_hw1 : k0_chk1 v1), (k0_dev72 v1) < nD := fun v1 k0_hw1 => k0_hw1.2.1.2.2.2.1
theorem k0_dev73_lt : ∀ (v1 : BitVec 32) (k0_hw1 : k0_chk1 v1), (k0_dev73 v1) < nD := fun v1 k0_hw1 => k0_hw1.2.1.2.2.2.2.1
theorem k0_dev76_lt : ∀ (v1 : BitVec 32) (k0_hw1 : k0_chk1 v1), (k0_dev76 v1) < nD := fun v1 k0_hw1 => k0_hw1.2.1.2.2.2.2.2.1
theorem k0_dev77_lt : ∀ (v1 : BitVec 32) (k0_hw1 : k0_chk1 v1), (k0_dev77 v1) < nD := fun v1 k0_hw1 => k0_hw1.2.1.2.2.2.2.2.2.1
theorem k0_dev80_lt : ∀ (v1 : BitVec 32) (k0_hw1 : k0_chk1 v1), (k0_dev80 v1) < nD := fun v1 k0_hw1 => k0_hw1.2.1.2.2.2.2.2.2.2.1
theorem k0_dev81_lt : ∀ (v1 : BitVec 32) (k0_hw1 : k0_chk1 v1), (k0_dev81 v1) < nD := fun v1 k0_hw1 => k0_hw1.2.1.2.2.2.2.2.2.2.2.1
theorem k0_dev84_lt : ∀ (v1 : BitVec 32) (k0_hw1 : k0_chk1 v1), (k0_dev84 v1) < nD := fun v1 k0_hw1 => k0_hw1.2.1.2.2.2.2.2.2.2.2.2.1
theorem k0_dev85_lt : ∀ (v1 : BitVec 32) (k0_hw1 : k0_chk1 v1), (k0_dev85 v1) < nD := fun v1 k0_hw1 => k0_hw1.2.1.2.2.2.2.2.2.2.2.2.2.1
theorem k0_dev88_lt : ∀ (v1 : BitVec 32) (k0_hw1 : k0_chk1 v1), (k0_dev88 v1) < nD := fun v1 k0_hw1 => k0_hw1.2.1.2.2.2.2.2.2.2.2.2.2.2.1
theorem k0_dev89_lt : ∀ (v1 : BitVec 32) (k0_hw1 : k0_chk1 v1), (k0_dev89 v1) < nD := fun v1 k0_hw1 => k0_hw1.2.1.2.2.2.2.2.2.2.2.2.2.2.2.1
theorem k0_dev92_lt : ∀ (v1 : BitVec 32) (k0_hw1 : k0_chk1 v1), (k0_dev92 v1) < nD := fun v1 k0_hw1 => k0_hw1.2.1.2.2.2.2.2.2.2.2.2.2.2.2.2.1
theorem k0_dev93_lt : ∀ (v1 : BitVec 32) (k0_hw1 : k0_chk1 v1), (k0_dev93 v1) < nD := fun v1 k0_hw1 => k0_hw1.2.1.2.2.2.2.2.2.2.2.2.2.2.2.2.2.1
theorem k0_dev96_lt : ∀ (v1 : BitVec 32) (k0_hw1 : k0_chk1 v1), (k0_dev96 v1) < nD := fun v1 k0_hw1 => k0_hw1.2.1.2.2.2.2.2.2.2.2.2.2.2.2.2.2.2.1
theorem k0_dev97_lt : ∀ (v1 : BitVec 32) (k0_hw1 : k0_chk1 v1), (k0_dev97 v1) < nD := fun v1 k0_hw1 => k0_hw1.2.1.2.2.2.2.2.2.2.2.2.2.2.2.2.2.2.2.1
theorem k0_dev100_lt : ∀ (v1 : BitVec 32) (k0_hw1 : k0_chk1 v1), (k0_dev100 v1) < nD := fun v1 k0_hw1 => k0_hw1.2.1.2.2.2.2.2.2.2.2.2.2.2.2.2.2.2.2.2.1
theorem k0_dev101_lt : ∀ (v1 : BitVec 32) (k0_hw1 : k0_chk1 v1), (k0_dev101 v1) < nD := fun v1 k0_hw1 => k0_hw1.2.1.2.2.2.2.2.2.2.2.2.2.2.2.2.2.2.2.2.2.1
theorem k0_dev104_lt : ∀ (v1 : BitVec 32) (k0_hw1 : k0_chk1 v1), (k0_dev104 v1) < nD := fun v1 k0_hw1 => k0_hw1.2.1.2.2.2.2.2.2.2.2.2.2.2.2.2.2.2.2.2.2.2.1
theorem k0_dev105_lt : ∀ (v1 : BitVec 32) (k0_hw1 : k0_chk1 v1), (k0_dev105 v1) < nD := fun v1 k0_hw1 => k0_hw1.2.1.2.2.2.2.2.2.2.2.2.2.2.2.2.2.2.2.2.2.2.2.1
theorem k0_dev108_lt : ∀ (v1 : BitVec 32) (k0_hw1 : k0_chk1 v1), (k0_dev108 v1) < nD := fun v1 k0_hw1 => k0_hw1.2.1.2.2.2.2.2.2.2.2.2.2.2.2.2.2.2.2.2.2.2.2.2.1
theorem k0_dev109_lt : ∀ (v1 : BitVec 32) (k0_hw1 : k0_chk1 v1), (k0_dev109 v1) < nD := fun v1 k0_hw1 => k0_hw1.2.1.2.2.2.2.2.2.2.2.2.2.2.2.2.2.2.2.2.2.2.2.2.2.1
theorem k0_dev112_lt : ∀ (v1 : BitVec 32) (k0_hw1 : k0_chk1 v1), (k0_dev112 v1) < nD := fun v1 k0_hw1 => k0_hw1.2.1.2.2.2.2.2.2.2.2.2.2.2.2.2.2.2.2.2.2.2.2.2.2.2.1
theorem k0_dev113_lt : ∀ (v1 : BitVec 32) (k0_hw1 : k0_chk1 v1), (k0_dev113 v1) < nD := fun v1 k0_hw1 => k0_hw1.2.1.2.2.2.2.2.2.2.2.2.2.2.2.2.2.2.2.2.2.2.2.2.2.2.2.1
theorem k0_dev116_lt : ∀ (v1 : BitVec 32) (k0_hw1 : k0_chk1 v1), (k0_dev116 v1) < nD := fun v1 k0_hw1 => k0_hw1.2.1.2.2.2.2.2.2.2.2.2.2.2.2.2.2.2.2.2.2.2.2.2.2.2.2.2.1
theorem k0_dev117_lt : ∀ (v1 : BitVec 32) (k0_hw1 : k0_chk1 v1), (k0_dev117 v1) < nD := fun v1 k0_hw1 => k0_hw1.2.1.2.2.2.2.2.2.2.2.2.2.2.2.2.2.2.2.2.2.2.2.2.2.2.2.2.2.1
theorem k0_dev120_lt : ∀ (v1 : BitVec 32) (k0_hw1 : k0_chk1 v1), (k0_dev120 v1) < nD := fun v1 k0_hw1 => k0_hw1.2.1.2.2.2.2.2.2.2.2.2.2.2.2.2.2.2.2.2.2.2.2.2.2.2.2.2.2.2.1
theorem k0_dev121_lt : ∀ (v1 : BitVec 32) (k0_hw1 : k0_chk1 v1), (k0_dev121 v1) < nD := fun v1 k0_hw1 => k0_hw1.2.1.2.2.2.2.2.2.2.2.2.2.2.2.2.2.2.2.2.2.2.2.2.2.2.2.2.2.2.2.1
theorem k0_dev124_lt : ∀ (v1 : BitVec 32) (k0_hw1 : k0_chk1 v1), (k0_dev124 v1) < nD := fun v1 k0_hw1 => k0_hw1.2.1.2.2.2.2.2.2.2.2.2.2.2.2.2.2.2.2.2.2.2.2.2.2.2.2.2.2.2.2.2.1
theorem k0_dev125_lt : ∀ (v1 : BitVec 32) (k0_hw1 : k0_chk1 v1), (k0_dev125 v1) < nD := fun v1 k0_hw1 => k0_hw1.2.1.2.2.2.2.2.2.2.2.2.2.2.2.2.2.2.2.2.2.2.2.2.2.2.2.2.2.2.2.2.2.1
theorem k0_dev128_lt : ∀ (v1 : BitVec 32) (k0_hw1 : k0_chk1 v1), (k0_dev128 v1) < nD := fun v1 k0_hw1 => k0_hw1.2.1.2.2.2.2.2.2.2.2.2.2.2.2.2.2.2.2.2.2.2.2.2.2.2.2.2.2.2.2.2.2.2
theorem k0_dev129_lt : ∀ (v1 : BitVec 32) (k0_hw1 : k0_chk1 v1), (k0_dev129 v1) < nD := fun v1 k0_hw1 => k0_hw1.2.2.1.1
theorem k0_dev132_lt : ∀ (v1 : BitVec 32) (k0_hw1 : k0_chk1 v1), (k0_dev132 v1) < nD := fun v1 k0_hw1 => k0_hw1.2.2.1.2.1
theorem k0_dev133_lt : ∀ (v1 : BitVec 32) (k0_hw1 : k0_chk1 v1), (k0_dev133 v1) < nD := fun v1 k0_hw1 => k0_hw1.2.2.1.2.2.1
theorem k0_dev136_lt : ∀ (v1 : BitVec 32) (k0_hw1 : k0_chk1 v1), (k0_dev136 v1) < nD := fun v1 k0_hw1 => k0_hw1.2.2.1.2.2.2.1
theorem k0_dev137_lt : ∀ (v1 : BitVec 32) (k0_hw1 : k0_chk1 v1), (k0_dev137 v1) < nD := fun v1 k0_hw1 => k0_hw1.2.2.1.2.2.2.2.1
theorem k0_dev140_lt : ∀ (v1 : BitVec 32) (k0_hw1 : k0_chk1 v1), (k0_dev140 v1) < nD := fun v1 k0_hw1 => k0_hw1.2.2.1.2.2.2.2.2.1
theorem k0_dev141_lt : ∀ (v1 : BitVec 32) (k0_hw1 : k0_chk1 v1), (k0_dev141 v1) < nD := fun v1 k0_hw1 => k0_hw1.2.2.1.2.2.2.2.2.2.1
theorem k0_dev144_lt : ∀ (v1 : BitVec 32) (k0_hw1 : k0_chk1 v1), (k0_dev144 v1) < nD := fun v1 k0_hw1 => k0_hw1.2.2.1.2.2.2.2.2.2.2.1
theorem k0_dev145_lt : ∀ (v1 : BitVec 32) (k0_hw1 : k0_chk1 v1), (k0_dev145 v1) < nD := fun v1 k0_hw1 => k0_hw1.2.2.1.2.2.2.2.2.2.2.2.1
theorem k0_dev148_lt : ∀ (v1 : BitVec 32) (k0_hw1 : k0_chk1 v1), (k0_dev148 v1) < nD := fun v1 k0_hw1 => k0_hw1.2.2.1.2.2.2.2.2.2.2.2.2.1
theorem k0_dev149_lt : ∀ (v1 : BitVec 32) (k0_hw1 : k0_chk1 v1), (k0_dev149 v1) < nD := fun v1 k0_hw1 => k0_hw1.2.2.1.2.2.2.2.2.2.2.2.2.2.1
theorem k0_dev152_lt : ∀ (v1 : BitVec 32) (k0_hw1 : k0_chk1 v1), (k0_dev152 v1) < nD := fun v1 k0_hw1 => k0_hw1.2.2.1.2.2.2.2.2.2.2.2.2.2.2.1
theorem k0_dev153_lt : ∀ (v1 : BitVec 32) (k0_hw1 : k0_chk1 v1), (k0_dev153 v1) < nD := fun v1 k0_hw1 => k0_hw1.2.2.1.2.2.2.2.2.2.2.2.2.2.2.2.1
theorem k0_dev156_lt : ∀ (v1 : BitVec 32) (k0_hw1 : k0_chk1 v1), (k0_dev156 v1) < nD := fun v1 k0_hw1 => k0_hw1.2.2.1.2.2.2.2.2.2.2.2.2.2.2.2.2.1
theorem k0_dev157_lt : ∀ (v1 : BitVec 32) (k0_hw1 : k0_chk1 v1), (k0_dev157 v1) < nD := fun v1 k0_hw1 => k0_hw1.2.2.1.2.2.2.2.2.2.2.2.2.2.2.2.2.2.1
theorem k0_dev160_lt : ∀ (v1 : BitVec 32) (k0_hw1 : k0_chk1 v1), (k0_dev160 v1) < nD := fun v1 k0_hw1 => k0_hw1.2.2.1.2.2.2.2.2.2.2.2.2.2.2.2.2.2.2.1
theorem k0_dev161_lt : ∀ (v1 : BitVec 32) (k0_hw1 : k0_chk1 v1), (k0_dev161 v1) < nD := fun v1 k0_hw1 => k0_hw1.2.2.1.2.2.2.2.2.2.2.2.2.2.2.2.2.2.2.2.1
theorem k0_dev164_lt : ∀ (v1 : BitVec 32) (k0_hw1 : k0_chk1 v1), (k0_dev164 v1) < nD := fun v1 k0_hw1 => k0_hw1.2.2.1.2.2.2.2.2.2.2.2.2.2.2.2.2.2.2.2.2.1
theorem k0_dev165_lt : ∀ (v1 : BitVec 32) (k0_hw1 : k0_chk1 v1), (k0_dev165 v1) < nD := fun v1 k0_hw1 => k0_hw1.2.2.1.2.2.2.2.2.2.2.2.2.2.2.2.2.2.2.2.2.2.1
theorem k0_dev168_lt : ∀ (v1 : BitVec 32) (k0_hw1 : k0_chk1 v1), (k0_dev168 v1) < nD := fun v1 k0_hw1 => k0_hw1.2.2.1.2.2.2.2.2.2.2.2.2.2.2.2.2.2.2.2.2.2.2.1
theorem k0_dev169_lt : ∀ (v1 : BitVec 32) (k0_hw1 : k0_chk1 v1), (k0_dev169 v1) < nD := fun v1 k0_hw1 => k0_hw1.2.2.1.2.2.2.2.2.2.2.2.2.2.2.2.2.2.2.2.2.2.2.2.1
theorem k0_dev172_lt : ∀ (v1 : BitVec 32) (k0_hw1 : k0_chk1 v1), (k0_dev172 v1) < nD := fun v1 k0_hw1 => k0_hw1.2.2.1.2.2.2.2.2.2.2.2.2.2.2.2.2.2.2.2.2.2.2.2.2.1
theorem k0_dev173_lt : ∀ (v1 : BitVec 32) (k0_hw1 : k0_chk1 v1), (k0_dev173 v1) < nD := fun v1 k0_hw1 => k0_hw1.2.2.1.2.2.2.2.2.2.2.2.2.2.2.2.2.2.2.2.2.2.2.2.2.2.1
theorem k0_dev176_lt : ∀ (v1 : BitVec 32) (k0_hw1 : k0_chk1 v1), (k0_dev176 v1) < nD := fun v1 k0_hw1 => k0_hw1.2.2.1.2.2.2.2.2.2.2.2.2.2.2.2.2.2.2.2.2.2.2.2.2.2.2.1
theorem k0_dev177_lt : ∀ (v1 : BitVec 32) (k0_hw1 : k0_chk1 v1), (k0_dev177 v1) < nD := fun v1 k0_hw1 => k0_hw1.2.2.1.2.2.2.2.2.2.2.2.2.2.2.2.2.2.2.2.2.2.2.2.2.2.2.2.1
theorem k0_dev180_lt : ∀ (v1 : BitVec 32) (k0_hw1 : k0_chk1 v1), (k0_dev180 v1) < nD := fun v1 k0_hw1 => k0_hw1.2.2.1.2.2.2.2.2.2.2.2.2.2.2.2.2.2.2.2.2.2.2.2.2.2.2.2.2.1
theorem k0_dev181_lt : ∀ (v1 : BitVec 32) (k0_hw1 : k0_chk1 v1), (k0_dev181 v1) < nD := fun v1 k0_hw1 => k0_hw1.2.2.1.2.2.2.2.2.2.2.2.2.2.2.2.2.2.2.2.2.2.2.2.2.2.2.2.2.2.1
theorem k0_dev184_lt : ∀ (v1 : BitVec 32) (k0_hw1 : k0_chk1 v1), (k0_dev184 v1) < nD := fun v1 k0_hw1 => k0_hw1.2.2.1.2.2.2.2.2.2.2.2.2.2.2.2.2.2.2.2.2.2.2.2.2.2.2.2.2.2.2.1
theorem k0_dev185_lt : ∀ (v1 : BitVec 32) (k0_hw1 : k0_chk1 v1), (k0_dev185 v1) < nD := fun v1 k0_hw1 => k0_hw1.2.2.1.2.2.2.2.2.2.2.2.2.2.2.2.2.2.2.2.2.2.2.2.2.2.2.2.2.2.2.2.1
theorem k0_dev188_lt : ∀ (v1 : BitVec 32) (k0_hw1 : k0_chk1 v1), (k0_dev188 v1) < nD := fun v1 k0_hw1 => k0_hw1.2.2.1.2.2.2.2.2.2.2.2.2.2.2.2.2.2.2.2.2.2.2.2.2.2.2.2.2.2.2.2.2.1
theorem k0_dev189_lt : ∀ (v1 : BitVec 32) (k0_hw1 : k0_chk1 v1), (k0_dev189 v1) < nD := fun v1 k0_hw1 => k0_hw1.2.2.1.2.2.2.2.2.2.2.2.2.2.2.2.2.2.2.2.2.2.2.2.2.2.2.2.2.2.2.2.2.2.1
theorem k0_dev192_lt : ∀ (v1 : BitVec 32) (k0_hw1 : k0_chk1 v1), (k0_dev192 v1) < nD := fun v1 k0_hw1 => k0_hw1.2.2.1.2.2.2.2.2.2.2.2.2.2.2.2.2.2.2.2.2.2.2.2.2.2.2.2.2.2.2.2.2.2.2
theorem k0_dev193_lt : ∀ (v1 : BitVec 32) (k0_hw1 : k0_chk1 v1), (k0_dev193 v1) < nD := fun v1 k0_hw1 => k0_hw1.2.2.2.1
theorem k0_dev196_lt : ∀ (v1 : BitVec 32) (k0_hw1 : k0_chk1 v1), (k0_dev196 v1) < nD := fun v1 k0_hw1 => k0_hw1.2.2.2.2.1
theorem k0_dev197_lt : ∀ (v1 : BitVec 32) (k0_hw1 : k0_chk1 v1), (k0_dev197 v1) < nD := fun v1 k0_hw1 => k0_hw1.2.2.2.2.2.1
theorem k0_dev200_lt : ∀ (v1 : BitVec 32) (k0_hw1 : k0_chk1 v1), (k0_dev200 v1) < nD := fun v1 k0_hw1 => k0_hw1.2.2.2.2.2.2.1
theorem k0_dev201_lt : ∀ (v1 : BitVec 32) (k0_hw1 : k0_chk1 v1), (k0_dev201 v1) < nD := fun v1 k0_hw1 => k0_hw1.2.2.2.2.2.2.2.1
theorem k0_dev204_lt : ∀ (v1 : BitVec 32) (k0_hw1 : k0_chk1 v1), (k0_dev204 v1) < nD := fun v1 k0_hw1 => k0_hw1.2.2.2.2.2.2.2.2.1
theorem k0_dev205_lt : ∀ (v1 : BitVec 32) (k0_hw1 : k0_chk1 v1), (k0_dev205 v1) < nD := fun v1 k0_hw1 => k0_hw1.2.2.2.2.2.2.2.2.2.1
theorem k0_dev208_lt : ∀ (v1 : BitVec 32) (k0_hw1 : k0_chk1 v1), (k0_dev208 v1) < nD := fun v1 k0_hw1 => k0_hw1.2.2.2.2.2.2.2.2.2.2.1
theorem k0_dev209_lt : ∀ (v1 : BitVec 32) (k0_hw1 : k0_chk1 v1), (k0_dev209 v1) < nD := fun v1 k0_hw1 => k0_hw1.2.2.2.2.2.2.2.2.2.2.2.1
theorem k0_dev212_lt : ∀ (v1 : BitVec 32) (k0_hw1 : k0_chk1 v1), (k0_dev212 v1) < nD := fun v1 k0_hw1 => k0_hw1.2.2.2.2.2.2.2.2.2.2.2.2.1
theorem k0_dev213_lt : ∀ (v1 : BitVec 32) (k0_hw1 : k0_chk1 v1), (k0_dev213 v1) < nD := fun v1 k0_hw1 => k0_hw1.2.2.2.2.2.2.2.2.2.2.2.2.2.1
theorem k0_dev216_lt : ∀ (v1 : BitVec 32) (k0_hw1 : k0_chk1 v1), (k0_dev216 v1) < nD := fun v1 k0_hw1 => k0_hw1.2.2.2.2.2.2.2.2.2.2.2.2.2.2.1
theorem k0_dev217_lt : ∀ (v1 : BitVec 32) (k0_hw1 : k0_chk1 v1), (k0_dev217 v1) < nD := fun v1 k0_hw1 => k0_hw1.2.2.2.2.2.2.2.2.2.2.2.2.2.2.2.1
theorem k0_dev220_lt : ∀ (v1 : BitVec 32) (k0_hw1 : k0_chk1 v1), (k0_dev220 v1) < nD := fun v1 k0_hw1 => k0_hw1.2.2.2.2.2.2.2.2.2.2.2.2.2.2.2.2.1
theorem k0_dev221_lt : ∀ (v1 : BitVec 32) (k0_hw1 : k0_chk1 v1), (k0_dev221 v1) < nD := fun v1 k0_hw1 => k0_hw1.2.2.2.2.2.2.2.2.2.2.2.2.2.2.2.2.2.1
theorem k0_dev224_lt : ∀ (v1 : BitVec 32) (k0_hw1 : k0_chk1 v1), (k0_dev224 v1) < nD := fun v1 k0_hw1 => k0_hw1.2.2.2.2.2.2.2.2.2.2.2.2.2.2.2.2.2.2.1
theorem k0_dev225_lt : ∀ (v1 : BitVec 32) (k0_hw1 : k0_chk1 v1), (k0_dev225 v1) < nD := fun v1 k0_hw1 => k0_hw1.2.2.2.2.2.2.2.2.2.2.2.2.2.2.2.2.2.2.2.1
theorem k0_dev228_lt : ∀ (v1 : BitVec 32) (k0_hw1 : k0_chk1 v1), (k0_dev228 v1) < nD := fun v1 k0_hw1 => k0_hw1.2.2.2.2.2.2.2.2.2.2.2.2.2.2.2.2.2.2.2.2.1
theorem k0_dev229_lt : ∀ (v1 : BitVec 32) (k0_hw1 : k0_chk1 v1), (k0_dev229 v1) < nD := fun v1 k0_hw1 => k0_hw1.2.2.2.2.2.2.2.2.2.2.2.2.2.2.2.2.2.2.2.2.2.1
theorem k0_dev232_lt : ∀ (v1 : BitVec 32) (k0_hw1 : k0_chk1 v1), (k0_dev232 v1) < nD := fun v1 k0_hw1 => k0_hw1.2.2.2.2.2.2.2.2.2.2.2.2.2.2.2.2.2.2.2.2.2.2.1
theorem k0_dev233_lt : ∀ (v1 : BitVec 32) (k0_hw1 : k0_chk1 v1), (k0_dev233 v1) < nD := fun v1 k0_hw1 => k0_hw1.2.2.2.2.2.2.2.2.2.2.2.2.2.2.2.2.2.2.2.2.2.2.2.1
theorem k0_dev236_lt : ∀ (v1 : BitVec 32) (k0_hw1 : k0_chk1 v1), (k0_dev236 v1) < nD := fun v1 k0_hw1 => k0_hw1.2.2.2.2.2.2.2.2.2.2.2.2.2.2.2.2.2.2.2.2.2.2.2.2.1
theorem k0_dev237_lt : ∀ (v1 : BitVec 32) (k0_hw1 : k0_chk1 v1), (k0_dev237 v1) < nD := fun v1 k0_hw1 => k0_hw1.2.2.2.2.2.2.2.2.2.2.2.2.2.2.2.2.2.2.2.2.2.2.2.2.2.1
theorem k0_dev240_lt : ∀ (v1 : BitVec 32) (k0_hw1 : k0_chk1 v1), (k0_dev240 v1) < nD := fun v1 k0_hw1 => k0_hw1.2.2.2.2.2.2.2.2.2.2.2.2.2.2.2.2.2.2.2.2.2.2.2.2.2.2.1
theorem k0_dev241_lt : ∀ (v1 : BitVec 32) (k0_hw1 : k0_chk1 v1), (k0_dev241 v1) < nD := fun v1 k0_hw1 => k0_hw1.2.2.2.2.2.2.2.2.2.2.2.2.2.2.2.2.2.2.2.2.2.2.2.2.2.2.2.1
theorem k0_dev244_lt : ∀ (v1 : BitVec 32) (k0_hw1 : k0_chk1 v1), (k0_dev244 v1) < nD := fun v1 k0_hw1 => k0_hw1.2.2.2.2.2.2.2.2.2.2.2.2.2.2.2.2.2.2.2.2.2.2.2.2.2.2.2.2.1
theorem k0_dev245_lt : ∀ (v1 : BitVec 32) (k0_hw1 : k0_chk1 v1), (k0_dev245 v1) < nD := fun v1 k0_hw1 => k0_hw1.2.2.2.2.2.2.2.2.2.2.2.2.2.2.2.2.2.2.2.2.2.2.2.2.2.2.2.2.2.1
theorem k0_dev248_lt : ∀ (v1 : BitVec 32) (k0_hw1 : k0_chk1 v1), (k0_dev248 v1) < nD := fun v1 k0_hw1 => k0_hw1.2.2.2.2.2.2.2.2.2.2.2.2.2.2.2.2.2.2.2.2.2.2.2.2.2.2.2.2.2.2.1
theorem k0_dev249_lt : ∀ (v1 : BitVec 32) (k0_hw1 : k0_chk1 v1), (k0_dev249 v1) < nD := fun v1 k0_hw1 => k0_hw1.2.2.2.2.2.2.2.2.2.2.2.2.2.2.2.2.2.2.2.2.2.2.2.2.2.2.2.2.2.2.2

def k0_dev250 (v2 : BitVec 32) : Nat :=
  let c0_i32_6738 : BitVec 32 := 0#32
  let c1_i32_6737 : BitVec 32 := 1#32
  let v5545 : BitVec 32 := Scalar.muli v2 c1_i32_6737
  let v5546 : BitVec 32 := Scalar.addi c0_i32_6738 v5545
  v5546.toNat

def k0_chk2_0 (v2 : BitVec 32) : Prop :=
  ((k0_dev2 v2) < nD) ∧
  ((k0_dev3 v2) < nD) ∧
  ((k0_dev6 v2) < nD) ∧
  ((k0_dev7 v2) < nD) ∧
  ((k0_dev10 v2) < nD) ∧
  ((k0_dev11 v2) < nD) ∧
  ((k0_dev14 v2) < nD) ∧
  ((k0_dev15 v2) < nD) ∧
  ((k0_dev18 v2) < nD) ∧
  ((k0_dev19 v2) < nD) ∧
  ((k0_dev22 v2) < nD) ∧
  ((k0_dev23 v2) < nD) ∧
  ((k0_dev26 v2) < nD) ∧
  ((k0_dev27 v2) < nD) ∧
  ((k0_dev30 v2) < nD) ∧
  ((k0_dev31 v2) < nD) ∧
  ((k0_dev34 v2) < nD) ∧
  ((k0_dev35 v2) < nD) ∧
  ((k0_dev38 v2) < nD) ∧
  ((k0_dev39 v2) < nD) ∧
  ((k0_dev42 v2) < nD) ∧
  ((k0_dev43 v2) < nD) ∧
  ((k0_dev46 v2) < nD) ∧
  ((k0_dev47 v2) < nD) ∧
  ((k0_dev50 v2) < nD) ∧
  ((k0_dev51 v2) < nD) ∧
  ((k0_dev54 v2) < nD) ∧
  ((k0_dev55 v2) < nD) ∧
  ((k0_dev58 v2) < nD) ∧
  ((k0_dev59 v2) < nD) ∧
  ((k0_dev62 v2) < nD) ∧
  ((k0_dev63 v2) < nD)
def k0_chk2_1 (v2 : BitVec 32) : Prop :=
  ((k0_dev66 v2) < nD) ∧
  ((k0_dev67 v2) < nD) ∧
  ((k0_dev70 v2) < nD) ∧
  ((k0_dev71 v2) < nD) ∧
  ((k0_dev74 v2) < nD) ∧
  ((k0_dev75 v2) < nD) ∧
  ((k0_dev78 v2) < nD) ∧
  ((k0_dev79 v2) < nD) ∧
  ((k0_dev82 v2) < nD) ∧
  ((k0_dev83 v2) < nD) ∧
  ((k0_dev86 v2) < nD) ∧
  ((k0_dev87 v2) < nD) ∧
  ((k0_dev90 v2) < nD) ∧
  ((k0_dev91 v2) < nD) ∧
  ((k0_dev94 v2) < nD) ∧
  ((k0_dev95 v2) < nD) ∧
  ((k0_dev98 v2) < nD) ∧
  ((k0_dev99 v2) < nD) ∧
  ((k0_dev102 v2) < nD) ∧
  ((k0_dev103 v2) < nD) ∧
  ((k0_dev106 v2) < nD) ∧
  ((k0_dev107 v2) < nD) ∧
  ((k0_dev110 v2) < nD) ∧
  ((k0_dev111 v2) < nD) ∧
  ((k0_dev114 v2) < nD) ∧
  ((k0_dev115 v2) < nD) ∧
  ((k0_dev118 v2) < nD) ∧
  ((k0_dev119 v2) < nD) ∧
  ((k0_dev122 v2) < nD) ∧
  ((k0_dev123 v2) < nD) ∧
  ((k0_dev126 v2) < nD) ∧
  ((k0_dev127 v2) < nD)
def k0_chk2_2 (v2 : BitVec 32) : Prop :=
  ((k0_dev130 v2) < nD) ∧
  ((k0_dev131 v2) < nD) ∧
  ((k0_dev134 v2) < nD) ∧
  ((k0_dev135 v2) < nD) ∧
  ((k0_dev138 v2) < nD) ∧
  ((k0_dev139 v2) < nD) ∧
  ((k0_dev142 v2) < nD) ∧
  ((k0_dev143 v2) < nD) ∧
  ((k0_dev146 v2) < nD) ∧
  ((k0_dev147 v2) < nD) ∧
  ((k0_dev150 v2) < nD) ∧
  ((k0_dev151 v2) < nD) ∧
  ((k0_dev154 v2) < nD) ∧
  ((k0_dev155 v2) < nD) ∧
  ((k0_dev158 v2) < nD) ∧
  ((k0_dev159 v2) < nD) ∧
  ((k0_dev162 v2) < nD) ∧
  ((k0_dev163 v2) < nD) ∧
  ((k0_dev166 v2) < nD) ∧
  ((k0_dev167 v2) < nD) ∧
  ((k0_dev170 v2) < nD) ∧
  ((k0_dev171 v2) < nD) ∧
  ((k0_dev174 v2) < nD) ∧
  ((k0_dev175 v2) < nD) ∧
  ((k0_dev178 v2) < nD) ∧
  ((k0_dev179 v2) < nD) ∧
  ((k0_dev182 v2) < nD) ∧
  ((k0_dev183 v2) < nD) ∧
  ((k0_dev186 v2) < nD) ∧
  ((k0_dev187 v2) < nD) ∧
  ((k0_dev190 v2) < nD) ∧
  ((k0_dev191 v2) < nD)
def k0_chk2_3 (v2 : BitVec 32) : Prop :=
  ((k0_dev194 v2) < nD) ∧
  ((k0_dev195 v2) < nD) ∧
  ((k0_dev198 v2) < nD) ∧
  ((k0_dev199 v2) < nD) ∧
  ((k0_dev202 v2) < nD) ∧
  ((k0_dev203 v2) < nD) ∧
  ((k0_dev206 v2) < nD) ∧
  ((k0_dev207 v2) < nD) ∧
  ((k0_dev210 v2) < nD) ∧
  ((k0_dev211 v2) < nD) ∧
  ((k0_dev214 v2) < nD) ∧
  ((k0_dev215 v2) < nD) ∧
  ((k0_dev218 v2) < nD) ∧
  ((k0_dev219 v2) < nD) ∧
  ((k0_dev222 v2) < nD) ∧
  ((k0_dev223 v2) < nD) ∧
  ((k0_dev226 v2) < nD) ∧
  ((k0_dev227 v2) < nD) ∧
  ((k0_dev230 v2) < nD) ∧
  ((k0_dev231 v2) < nD) ∧
  ((k0_dev234 v2) < nD) ∧
  ((k0_dev235 v2) < nD) ∧
  ((k0_dev238 v2) < nD) ∧
  ((k0_dev239 v2) < nD) ∧
  ((k0_dev242 v2) < nD) ∧
  ((k0_dev243 v2) < nD) ∧
  ((k0_dev246 v2) < nD) ∧
  ((k0_dev247 v2) < nD) ∧
  ((k0_dev250 v2) < nD)
def k0_chk2 (v2 : BitVec 32) : Prop :=
  k0_chk2_0 v2 ∧
  k0_chk2_1 v2 ∧
  k0_chk2_2 v2 ∧
  k0_chk2_3 v2
theorem k0_dev2_lt : ∀ (v2 : BitVec 32) (k0_hw2 : k0_chk2 v2), (k0_dev2 v2) < nD := fun v2 k0_hw2 => k0_hw2.1.1
theorem k0_dev3_lt : ∀ (v2 : BitVec 32) (k0_hw2 : k0_chk2 v2), (k0_dev3 v2) < nD := fun v2 k0_hw2 => k0_hw2.1.2.1
theorem k0_dev6_lt : ∀ (v2 : BitVec 32) (k0_hw2 : k0_chk2 v2), (k0_dev6 v2) < nD := fun v2 k0_hw2 => k0_hw2.1.2.2.1
theorem k0_dev7_lt : ∀ (v2 : BitVec 32) (k0_hw2 : k0_chk2 v2), (k0_dev7 v2) < nD := fun v2 k0_hw2 => k0_hw2.1.2.2.2.1
theorem k0_dev10_lt : ∀ (v2 : BitVec 32) (k0_hw2 : k0_chk2 v2), (k0_dev10 v2) < nD := fun v2 k0_hw2 => k0_hw2.1.2.2.2.2.1
theorem k0_dev11_lt : ∀ (v2 : BitVec 32) (k0_hw2 : k0_chk2 v2), (k0_dev11 v2) < nD := fun v2 k0_hw2 => k0_hw2.1.2.2.2.2.2.1
theorem k0_dev14_lt : ∀ (v2 : BitVec 32) (k0_hw2 : k0_chk2 v2), (k0_dev14 v2) < nD := fun v2 k0_hw2 => k0_hw2.1.2.2.2.2.2.2.1
theorem k0_dev15_lt : ∀ (v2 : BitVec 32) (k0_hw2 : k0_chk2 v2), (k0_dev15 v2) < nD := fun v2 k0_hw2 => k0_hw2.1.2.2.2.2.2.2.2.1
theorem k0_dev18_lt : ∀ (v2 : BitVec 32) (k0_hw2 : k0_chk2 v2), (k0_dev18 v2) < nD := fun v2 k0_hw2 => k0_hw2.1.2.2.2.2.2.2.2.2.1
theorem k0_dev19_lt : ∀ (v2 : BitVec 32) (k0_hw2 : k0_chk2 v2), (k0_dev19 v2) < nD := fun v2 k0_hw2 => k0_hw2.1.2.2.2.2.2.2.2.2.2.1
theorem k0_dev22_lt : ∀ (v2 : BitVec 32) (k0_hw2 : k0_chk2 v2), (k0_dev22 v2) < nD := fun v2 k0_hw2 => k0_hw2.1.2.2.2.2.2.2.2.2.2.2.1
theorem k0_dev23_lt : ∀ (v2 : BitVec 32) (k0_hw2 : k0_chk2 v2), (k0_dev23 v2) < nD := fun v2 k0_hw2 => k0_hw2.1.2.2.2.2.2.2.2.2.2.2.2.1
theorem k0_dev26_lt : ∀ (v2 : BitVec 32) (k0_hw2 : k0_chk2 v2), (k0_dev26 v2) < nD := fun v2 k0_hw2 => k0_hw2.1.2.2.2.2.2.2.2.2.2.2.2.2.1
theorem k0_dev27_lt : ∀ (v2 : BitVec 32) (k0_hw2 : k0_chk2 v2), (k0_dev27 v2) < nD := fun v2 k0_hw2 => k0_hw2.1.2.2.2.2.2.2.2.2.2.2.2.2.2.1
theorem k0_dev30_lt : ∀ (v2 : BitVec 32) (k0_hw2 : k0_chk2 v2), (k0_dev30 v2) < nD := fun v2 k0_hw2 => k0_hw2.1.2.2.2.2.2.2.2.2.2.2.2.2.2.2.1
theorem k0_dev31_lt : ∀ (v2 : BitVec 32) (k0_hw2 : k0_chk2 v2), (k0_dev31 v2) < nD := fun v2 k0_hw2 => k0_hw2.1.2.2.2.2.2.2.2.2.2.2.2.2.2.2.2.1
theorem k0_dev34_lt : ∀ (v2 : BitVec 32) (k0_hw2 : k0_chk2 v2), (k0_dev34 v2) < nD := fun v2 k0_hw2 => k0_hw2.1.2.2.2.2.2.2.2.2.2.2.2.2.2.2.2.2.1
theorem k0_dev35_lt : ∀ (v2 : BitVec 32) (k0_hw2 : k0_chk2 v2), (k0_dev35 v2) < nD := fun v2 k0_hw2 => k0_hw2.1.2.2.2.2.2.2.2.2.2.2.2.2.2.2.2.2.2.1
theorem k0_dev38_lt : ∀ (v2 : BitVec 32) (k0_hw2 : k0_chk2 v2), (k0_dev38 v2) < nD := fun v2 k0_hw2 => k0_hw2.1.2.2.2.2.2.2.2.2.2.2.2.2.2.2.2.2.2.2.1
theorem k0_dev39_lt : ∀ (v2 : BitVec 32) (k0_hw2 : k0_chk2 v2), (k0_dev39 v2) < nD := fun v2 k0_hw2 => k0_hw2.1.2.2.2.2.2.2.2.2.2.2.2.2.2.2.2.2.2.2.2.1
theorem k0_dev42_lt : ∀ (v2 : BitVec 32) (k0_hw2 : k0_chk2 v2), (k0_dev42 v2) < nD := fun v2 k0_hw2 => k0_hw2.1.2.2.2.2.2.2.2.2.2.2.2.2.2.2.2.2.2.2.2.2.1
theorem k0_dev43_lt : ∀ (v2 : BitVec 32) (k0_hw2 : k0_chk2 v2), (k0_dev43 v2) < nD := fun v2 k0_hw2 => k0_hw2.1.2.2.2.2.2.2.2.2.2.2.2.2.2.2.2.2.2.2.2.2.2.1
theorem k0_dev46_lt : ∀ (v2 : BitVec 32) (k0_hw2 : k0_chk2 v2), (k0_dev46 v2) < nD := fun v2 k0_hw2 => k0_hw2.1.2.2.2.2.2.2.2.2.2.2.2.2.2.2.2.2.2.2.2.2.2.2.1
theorem k0_dev47_lt : ∀ (v2 : BitVec 32) (k0_hw2 : k0_chk2 v2), (k0_dev47 v2) < nD := fun v2 k0_hw2 => k0_hw2.1.2.2.2.2.2.2.2.2.2.2.2.2.2.2.2.2.2.2.2.2.2.2.2.1
theorem k0_dev50_lt : ∀ (v2 : BitVec 32) (k0_hw2 : k0_chk2 v2), (k0_dev50 v2) < nD := fun v2 k0_hw2 => k0_hw2.1.2.2.2.2.2.2.2.2.2.2.2.2.2.2.2.2.2.2.2.2.2.2.2.2.1
theorem k0_dev51_lt : ∀ (v2 : BitVec 32) (k0_hw2 : k0_chk2 v2), (k0_dev51 v2) < nD := fun v2 k0_hw2 => k0_hw2.1.2.2.2.2.2.2.2.2.2.2.2.2.2.2.2.2.2.2.2.2.2.2.2.2.2.1
theorem k0_dev54_lt : ∀ (v2 : BitVec 32) (k0_hw2 : k0_chk2 v2), (k0_dev54 v2) < nD := fun v2 k0_hw2 => k0_hw2.1.2.2.2.2.2.2.2.2.2.2.2.2.2.2.2.2.2.2.2.2.2.2.2.2.2.2.1
theorem k0_dev55_lt : ∀ (v2 : BitVec 32) (k0_hw2 : k0_chk2 v2), (k0_dev55 v2) < nD := fun v2 k0_hw2 => k0_hw2.1.2.2.2.2.2.2.2.2.2.2.2.2.2.2.2.2.2.2.2.2.2.2.2.2.2.2.2.1
theorem k0_dev58_lt : ∀ (v2 : BitVec 32) (k0_hw2 : k0_chk2 v2), (k0_dev58 v2) < nD := fun v2 k0_hw2 => k0_hw2.1.2.2.2.2.2.2.2.2.2.2.2.2.2.2.2.2.2.2.2.2.2.2.2.2.2.2.2.2.1
theorem k0_dev59_lt : ∀ (v2 : BitVec 32) (k0_hw2 : k0_chk2 v2), (k0_dev59 v2) < nD := fun v2 k0_hw2 => k0_hw2.1.2.2.2.2.2.2.2.2.2.2.2.2.2.2.2.2.2.2.2.2.2.2.2.2.2.2.2.2.2.1
theorem k0_dev62_lt : ∀ (v2 : BitVec 32) (k0_hw2 : k0_chk2 v2), (k0_dev62 v2) < nD := fun v2 k0_hw2 => k0_hw2.1.2.2.2.2.2.2.2.2.2.2.2.2.2.2.2.2.2.2.2.2.2.2.2.2.2.2.2.2.2.2.1
theorem k0_dev63_lt : ∀ (v2 : BitVec 32) (k0_hw2 : k0_chk2 v2), (k0_dev63 v2) < nD := fun v2 k0_hw2 => k0_hw2.1.2.2.2.2.2.2.2.2.2.2.2.2.2.2.2.2.2.2.2.2.2.2.2.2.2.2.2.2.2.2.2
theorem k0_dev66_lt : ∀ (v2 : BitVec 32) (k0_hw2 : k0_chk2 v2), (k0_dev66 v2) < nD := fun v2 k0_hw2 => k0_hw2.2.1.1
theorem k0_dev67_lt : ∀ (v2 : BitVec 32) (k0_hw2 : k0_chk2 v2), (k0_dev67 v2) < nD := fun v2 k0_hw2 => k0_hw2.2.1.2.1
theorem k0_dev70_lt : ∀ (v2 : BitVec 32) (k0_hw2 : k0_chk2 v2), (k0_dev70 v2) < nD := fun v2 k0_hw2 => k0_hw2.2.1.2.2.1
theorem k0_dev71_lt : ∀ (v2 : BitVec 32) (k0_hw2 : k0_chk2 v2), (k0_dev71 v2) < nD := fun v2 k0_hw2 => k0_hw2.2.1.2.2.2.1
theorem k0_dev74_lt : ∀ (v2 : BitVec 32) (k0_hw2 : k0_chk2 v2), (k0_dev74 v2) < nD := fun v2 k0_hw2 => k0_hw2.2.1.2.2.2.2.1
theorem k0_dev75_lt : ∀ (v2 : BitVec 32) (k0_hw2 : k0_chk2 v2), (k0_dev75 v2) < nD := fun v2 k0_hw2 => k0_hw2.2.1.2.2.2.2.2.1
theorem k0_dev78_lt : ∀ (v2 : BitVec 32) (k0_hw2 : k0_chk2 v2), (k0_dev78 v2) < nD := fun v2 k0_hw2 => k0_hw2.2.1.2.2.2.2.2.2.1
theorem k0_dev79_lt : ∀ (v2 : BitVec 32) (k0_hw2 : k0_chk2 v2), (k0_dev79 v2) < nD := fun v2 k0_hw2 => k0_hw2.2.1.2.2.2.2.2.2.2.1
theorem k0_dev82_lt : ∀ (v2 : BitVec 32) (k0_hw2 : k0_chk2 v2), (k0_dev82 v2) < nD := fun v2 k0_hw2 => k0_hw2.2.1.2.2.2.2.2.2.2.2.1
theorem k0_dev83_lt : ∀ (v2 : BitVec 32) (k0_hw2 : k0_chk2 v2), (k0_dev83 v2) < nD := fun v2 k0_hw2 => k0_hw2.2.1.2.2.2.2.2.2.2.2.2.1
theorem k0_dev86_lt : ∀ (v2 : BitVec 32) (k0_hw2 : k0_chk2 v2), (k0_dev86 v2) < nD := fun v2 k0_hw2 => k0_hw2.2.1.2.2.2.2.2.2.2.2.2.2.1
theorem k0_dev87_lt : ∀ (v2 : BitVec 32) (k0_hw2 : k0_chk2 v2), (k0_dev87 v2) < nD := fun v2 k0_hw2 => k0_hw2.2.1.2.2.2.2.2.2.2.2.2.2.2.1
theorem k0_dev90_lt : ∀ (v2 : BitVec 32) (k0_hw2 : k0_chk2 v2), (k0_dev90 v2) < nD := fun v2 k0_hw2 => k0_hw2.2.1.2.2.2.2.2.2.2.2.2.2.2.2.1
theorem k0_dev91_lt : ∀ (v2 : BitVec 32) (k0_hw2 : k0_chk2 v2), (k0_dev91 v2) < nD := fun v2 k0_hw2 => k0_hw2.2.1.2.2.2.2.2.2.2.2.2.2.2.2.2.1
theorem k0_dev94_lt : ∀ (v2 : BitVec 32) (k0_hw2 : k0_chk2 v2), (k0_dev94 v2) < nD := fun v2 k0_hw2 => k0_hw2.2.1.2.2.2.2.2.2.2.2.2.2.2.2.2.2.1
theorem k0_dev95_lt : ∀ (v2 : BitVec 32) (k0_hw2 : k0_chk2 v2), (k0_dev95 v2) < nD := fun v2 k0_hw2 => k0_hw2.2.1.2.2.2.2.2.2.2.2.2.2.2.2.2.2.2.1
theorem k0_dev98_lt : ∀ (v2 : BitVec 32) (k0_hw2 : k0_chk2 v2), (k0_dev98 v2) < nD := fun v2 k0_hw2 => k0_hw2.2.1.2.2.2.2.2.2.2.2.2.2.2.2.2.2.2.2.1
theorem k0_dev99_lt : ∀ (v2 : BitVec 32) (k0_hw2 : k0_chk2 v2), (k0_dev99 v2) < nD := fun v2 k0_hw2 => k0_hw2.2.1.2.2.2.2.2.2.2.2.2.2.2.2.2.2.2.2.2.1
theorem k0_dev102_lt : ∀ (v2 : BitVec 32) (k0_hw2 : k0_chk2 v2), (k0_dev102 v2) < nD := fun v2 k0_hw2 => k0_hw2.2.1.2.2.2.2.2.2.2.2.2.2.2.2.2.2.2.2.2.2.1
theorem k0_dev103_lt : ∀ (v2 : BitVec 32) (k0_hw2 : k0_chk2 v2), (k0_dev103 v2) < nD := fun v2 k0_hw2 => k0_hw2.2.1.2.2.2.2.2.2.2.2.2.2.2.2.2.2.2.2.2.2.2.1
theorem k0_dev106_lt : ∀ (v2 : BitVec 32) (k0_hw2 : k0_chk2 v2), (k0_dev106 v2) < nD := fun v2 k0_hw2 => k0_hw2.2.1.2.2.2.2.2.2.2.2.2.2.2.2.2.2.2.2.2.2.2.2.1
theorem k0_dev107_lt : ∀ (v2 : BitVec 32) (k0_hw2 : k0_chk2 v2), (k0_dev107 v2) < nD := fun v2 k0_hw2 => k0_hw2.2.1.2.2.2.2.2.2.2.2.2.2.2.2.2.2.2.2.2.2.2.2.2.1
theorem k0_dev110_lt : ∀ (v2 : BitVec 32) (k0_hw2 : k0_chk2 v2), (k0_dev110 v2) < nD := fun v2 k0_hw2 => k0_hw2.2.1.2.2.2.2.2.2.2.2.2.2.2.2.2.2.2.2.2.2.2.2.2.2.1
theorem k0_dev111_lt : ∀ (v2 : BitVec 32) (k0_hw2 : k0_chk2 v2), (k0_dev111 v2) < nD := fun v2 k0_hw2 => k0_hw2.2.1.2.2.2.2.2.2.2.2.2.2.2.2.2.2.2.2.2.2.2.2.2.2.2.1
theorem k0_dev114_lt : ∀ (v2 : BitVec 32) (k0_hw2 : k0_chk2 v2), (k0_dev114 v2) < nD := fun v2 k0_hw2 => k0_hw2.2.1.2.2.2.2.2.2.2.2.2.2.2.2.2.2.2.2.2.2.2.2.2.2.2.2.1
theorem k0_dev115_lt : ∀ (v2 : BitVec 32) (k0_hw2 : k0_chk2 v2), (k0_dev115 v2) < nD := fun v2 k0_hw2 => k0_hw2.2.1.2.2.2.2.2.2.2.2.2.2.2.2.2.2.2.2.2.2.2.2.2.2.2.2.2.1
theorem k0_dev118_lt : ∀ (v2 : BitVec 32) (k0_hw2 : k0_chk2 v2), (k0_dev118 v2) < nD := fun v2 k0_hw2 => k0_hw2.2.1.2.2.2.2.2.2.2.2.2.2.2.2.2.2.2.2.2.2.2.2.2.2.2.2.2.2.1
theorem k0_dev119_lt : ∀ (v2 : BitVec 32) (k0_hw2 : k0_chk2 v2), (k0_dev119 v2) < nD := fun v2 k0_hw2 => k0_hw2.2.1.2.2.2.2.2.2.2.2.2.2.2.2.2.2.2.2.2.2.2.2.2.2.2.2.2.2.2.1
theorem k0_dev122_lt : ∀ (v2 : BitVec 32) (k0_hw2 : k0_chk2 v2), (k0_dev122 v2) < nD := fun v2 k0_hw2 => k0_hw2.2.1.2.2.2.2.2.2.2.2.2.2.2.2.2.2.2.2.2.2.2.2.2.2.2.2.2.2.2.2.1
theorem k0_dev123_lt : ∀ (v2 : BitVec 32) (k0_hw2 : k0_chk2 v2), (k0_dev123 v2) < nD := fun v2 k0_hw2 => k0_hw2.2.1.2.2.2.2.2.2.2.2.2.2.2.2.2.2.2.2.2.2.2.2.2.2.2.2.2.2.2.2.2.1
theorem k0_dev126_lt : ∀ (v2 : BitVec 32) (k0_hw2 : k0_chk2 v2), (k0_dev126 v2) < nD := fun v2 k0_hw2 => k0_hw2.2.1.2.2.2.2.2.2.2.2.2.2.2.2.2.2.2.2.2.2.2.2.2.2.2.2.2.2.2.2.2.2.1
theorem k0_dev127_lt : ∀ (v2 : BitVec 32) (k0_hw2 : k0_chk2 v2), (k0_dev127 v2) < nD := fun v2 k0_hw2 => k0_hw2.2.1.2.2.2.2.2.2.2.2.2.2.2.2.2.2.2.2.2.2.2.2.2.2.2.2.2.2.2.2.2.2.2
theorem k0_dev130_lt : ∀ (v2 : BitVec 32) (k0_hw2 : k0_chk2 v2), (k0_dev130 v2) < nD := fun v2 k0_hw2 => k0_hw2.2.2.1.1
theorem k0_dev131_lt : ∀ (v2 : BitVec 32) (k0_hw2 : k0_chk2 v2), (k0_dev131 v2) < nD := fun v2 k0_hw2 => k0_hw2.2.2.1.2.1
theorem k0_dev134_lt : ∀ (v2 : BitVec 32) (k0_hw2 : k0_chk2 v2), (k0_dev134 v2) < nD := fun v2 k0_hw2 => k0_hw2.2.2.1.2.2.1
theorem k0_dev135_lt : ∀ (v2 : BitVec 32) (k0_hw2 : k0_chk2 v2), (k0_dev135 v2) < nD := fun v2 k0_hw2 => k0_hw2.2.2.1.2.2.2.1
theorem k0_dev138_lt : ∀ (v2 : BitVec 32) (k0_hw2 : k0_chk2 v2), (k0_dev138 v2) < nD := fun v2 k0_hw2 => k0_hw2.2.2.1.2.2.2.2.1
theorem k0_dev139_lt : ∀ (v2 : BitVec 32) (k0_hw2 : k0_chk2 v2), (k0_dev139 v2) < nD := fun v2 k0_hw2 => k0_hw2.2.2.1.2.2.2.2.2.1
theorem k0_dev142_lt : ∀ (v2 : BitVec 32) (k0_hw2 : k0_chk2 v2), (k0_dev142 v2) < nD := fun v2 k0_hw2 => k0_hw2.2.2.1.2.2.2.2.2.2.1
theorem k0_dev143_lt : ∀ (v2 : BitVec 32) (k0_hw2 : k0_chk2 v2), (k0_dev143 v2) < nD := fun v2 k0_hw2 => k0_hw2.2.2.1.2.2.2.2.2.2.2.1
theorem k0_dev146_lt : ∀ (v2 : BitVec 32) (k0_hw2 : k0_chk2 v2), (k0_dev146 v2) < nD := fun v2 k0_hw2 => k0_hw2.2.2.1.2.2.2.2.2.2.2.2.1
theorem k0_dev147_lt : ∀ (v2 : BitVec 32) (k0_hw2 : k0_chk2 v2), (k0_dev147 v2) < nD := fun v2 k0_hw2 => k0_hw2.2.2.1.2.2.2.2.2.2.2.2.2.1
theorem k0_dev150_lt : ∀ (v2 : BitVec 32) (k0_hw2 : k0_chk2 v2), (k0_dev150 v2) < nD := fun v2 k0_hw2 => k0_hw2.2.2.1.2.2.2.2.2.2.2.2.2.2.1
theorem k0_dev151_lt : ∀ (v2 : BitVec 32) (k0_hw2 : k0_chk2 v2), (k0_dev151 v2) < nD := fun v2 k0_hw2 => k0_hw2.2.2.1.2.2.2.2.2.2.2.2.2.2.2.1
theorem k0_dev154_lt : ∀ (v2 : BitVec 32) (k0_hw2 : k0_chk2 v2), (k0_dev154 v2) < nD := fun v2 k0_hw2 => k0_hw2.2.2.1.2.2.2.2.2.2.2.2.2.2.2.2.1
theorem k0_dev155_lt : ∀ (v2 : BitVec 32) (k0_hw2 : k0_chk2 v2), (k0_dev155 v2) < nD := fun v2 k0_hw2 => k0_hw2.2.2.1.2.2.2.2.2.2.2.2.2.2.2.2.2.1
theorem k0_dev158_lt : ∀ (v2 : BitVec 32) (k0_hw2 : k0_chk2 v2), (k0_dev158 v2) < nD := fun v2 k0_hw2 => k0_hw2.2.2.1.2.2.2.2.2.2.2.2.2.2.2.2.2.2.1
theorem k0_dev159_lt : ∀ (v2 : BitVec 32) (k0_hw2 : k0_chk2 v2), (k0_dev159 v2) < nD := fun v2 k0_hw2 => k0_hw2.2.2.1.2.2.2.2.2.2.2.2.2.2.2.2.2.2.2.1
theorem k0_dev162_lt : ∀ (v2 : BitVec 32) (k0_hw2 : k0_chk2 v2), (k0_dev162 v2) < nD := fun v2 k0_hw2 => k0_hw2.2.2.1.2.2.2.2.2.2.2.2.2.2.2.2.2.2.2.2.1
theorem k0_dev163_lt : ∀ (v2 : BitVec 32) (k0_hw2 : k0_chk2 v2), (k0_dev163 v2) < nD := fun v2 k0_hw2 => k0_hw2.2.2.1.2.2.2.2.2.2.2.2.2.2.2.2.2.2.2.2.2.1
theorem k0_dev166_lt : ∀ (v2 : BitVec 32) (k0_hw2 : k0_chk2 v2), (k0_dev166 v2) < nD := fun v2 k0_hw2 => k0_hw2.2.2.1.2.2.2.2.2.2.2.2.2.2.2.2.2.2.2.2.2.2.1
theorem k0_dev167_lt : ∀ (v2 : BitVec 32) (k0_hw2 : k0_chk2 v2), (k0_dev167 v2) < nD := fun v2 k0_hw2 => k0_hw2.2.2.1.2.2.2.2.2.2.2.2.2.2.2.2.2.2.2.2.2.2.2.1
theorem k0_dev170_lt : ∀ (v2 : BitVec 32) (k0_hw2 : k0_chk2 v2), (k0_dev170 v2) < nD := fun v2 k0_hw2 => k0_hw2.2.2.1.2.2.2.2.2.2.2.2.2.2.2.2.2.2.2.2.2.2.2.2.1
theorem k0_dev171_lt : ∀ (v2 : BitVec 32) (k0_hw2 : k0_chk2 v2), (k0_dev171 v2) < nD := fun v2 k0_hw2 => k0_hw2.2.2.1.2.2.2.2.2.2.2.2.2.2.2.2.2.2.2.2.2.2.2.2.2.1
theorem k0_dev174_lt : ∀ (v2 : BitVec 32) (k0_hw2 : k0_chk2 v2), (k0_dev174 v2) < nD := fun v2 k0_hw2 => k0_hw2.2.2.1.2.2.2.2.2.2.2.2.2.2.2.2.2.2.2.2.2.2.2.2.2.2.1
theorem k0_dev175_lt : ∀ (v2 : BitVec 32) (k0_hw2 : k0_chk2 v2), (k0_dev175 v2) < nD := fun v2 k0_hw2 => k0_hw2.2.2.1.2.2.2.2.2.2.2.2.2.2.2.2.2.2.2.2.2.2.2.2.2.2.2.1
theorem k0_dev178_lt : ∀ (v2 : BitVec 32) (k0_hw2 : k0_chk2 v2), (k0_dev178 v2) < nD := fun v2 k0_hw2 => k0_hw2.2.2.1.2.2.2.2.2.2.2.2.2.2.2.2.2.2.2.2.2.2.2.2.2.2.2.2.1
theorem k0_dev179_lt : ∀ (v2 : BitVec 32) (k0_hw2 : k0_chk2 v2), (k0_dev179 v2) < nD := fun v2 k0_hw2 => k0_hw2.2.2.1.2.2.2.2.2.2.2.2.2.2.2.2.2.2.2.2.2.2.2.2.2.2.2.2.2.1
theorem k0_dev182_lt : ∀ (v2 : BitVec 32) (k0_hw2 : k0_chk2 v2), (k0_dev182 v2) < nD := fun v2 k0_hw2 => k0_hw2.2.2.1.2.2.2.2.2.2.2.2.2.2.2.2.2.2.2.2.2.2.2.2.2.2.2.2.2.2.1
theorem k0_dev183_lt : ∀ (v2 : BitVec 32) (k0_hw2 : k0_chk2 v2), (k0_dev183 v2) < nD := fun v2 k0_hw2 => k0_hw2.2.2.1.2.2.2.2.2.2.2.2.2.2.2.2.2.2.2.2.2.2.2.2.2.2.2.2.2.2.2.1
theorem k0_dev186_lt : ∀ (v2 : BitVec 32) (k0_hw2 : k0_chk2 v2), (k0_dev186 v2) < nD := fun v2 k0_hw2 => k0_hw2.2.2.1.2.2.2.2.2.2.2.2.2.2.2.2.2.2.2.2.2.2.2.2.2.2.2.2.2.2.2.2.1
theorem k0_dev187_lt : ∀ (v2 : BitVec 32) (k0_hw2 : k0_chk2 v2), (k0_dev187 v2) < nD := fun v2 k0_hw2 => k0_hw2.2.2.1.2.2.2.2.2.2.2.2.2.2.2.2.2.2.2.2.2.2.2.2.2.2.2.2.2.2.2.2.2.1
theorem k0_dev190_lt : ∀ (v2 : BitVec 32) (k0_hw2 : k0_chk2 v2), (k0_dev190 v2) < nD := fun v2 k0_hw2 => k0_hw2.2.2.1.2.2.2.2.2.2.2.2.2.2.2.2.2.2.2.2.2.2.2.2.2.2.2.2.2.2.2.2.2.2.1
theorem k0_dev191_lt : ∀ (v2 : BitVec 32) (k0_hw2 : k0_chk2 v2), (k0_dev191 v2) < nD := fun v2 k0_hw2 => k0_hw2.2.2.1.2.2.2.2.2.2.2.2.2.2.2.2.2.2.2.2.2.2.2.2.2.2.2.2.2.2.2.2.2.2.2
theorem k0_dev194_lt : ∀ (v2 : BitVec 32) (k0_hw2 : k0_chk2 v2), (k0_dev194 v2) < nD := fun v2 k0_hw2 => k0_hw2.2.2.2.1
theorem k0_dev195_lt : ∀ (v2 : BitVec 32) (k0_hw2 : k0_chk2 v2), (k0_dev195 v2) < nD := fun v2 k0_hw2 => k0_hw2.2.2.2.2.1
theorem k0_dev198_lt : ∀ (v2 : BitVec 32) (k0_hw2 : k0_chk2 v2), (k0_dev198 v2) < nD := fun v2 k0_hw2 => k0_hw2.2.2.2.2.2.1
theorem k0_dev199_lt : ∀ (v2 : BitVec 32) (k0_hw2 : k0_chk2 v2), (k0_dev199 v2) < nD := fun v2 k0_hw2 => k0_hw2.2.2.2.2.2.2.1
theorem k0_dev202_lt : ∀ (v2 : BitVec 32) (k0_hw2 : k0_chk2 v2), (k0_dev202 v2) < nD := fun v2 k0_hw2 => k0_hw2.2.2.2.2.2.2.2.1
theorem k0_dev203_lt : ∀ (v2 : BitVec 32) (k0_hw2 : k0_chk2 v2), (k0_dev203 v2) < nD := fun v2 k0_hw2 => k0_hw2.2.2.2.2.2.2.2.2.1
theorem k0_dev206_lt : ∀ (v2 : BitVec 32) (k0_hw2 : k0_chk2 v2), (k0_dev206 v2) < nD := fun v2 k0_hw2 => k0_hw2.2.2.2.2.2.2.2.2.2.1
theorem k0_dev207_lt : ∀ (v2 : BitVec 32) (k0_hw2 : k0_chk2 v2), (k0_dev207 v2) < nD := fun v2 k0_hw2 => k0_hw2.2.2.2.2.2.2.2.2.2.2.1
theorem k0_dev210_lt : ∀ (v2 : BitVec 32) (k0_hw2 : k0_chk2 v2), (k0_dev210 v2) < nD := fun v2 k0_hw2 => k0_hw2.2.2.2.2.2.2.2.2.2.2.2.1
theorem k0_dev211_lt : ∀ (v2 : BitVec 32) (k0_hw2 : k0_chk2 v2), (k0_dev211 v2) < nD := fun v2 k0_hw2 => k0_hw2.2.2.2.2.2.2.2.2.2.2.2.2.1
theorem k0_dev214_lt : ∀ (v2 : BitVec 32) (k0_hw2 : k0_chk2 v2), (k0_dev214 v2) < nD := fun v2 k0_hw2 => k0_hw2.2.2.2.2.2.2.2.2.2.2.2.2.2.1
theorem k0_dev215_lt : ∀ (v2 : BitVec 32) (k0_hw2 : k0_chk2 v2), (k0_dev215 v2) < nD := fun v2 k0_hw2 => k0_hw2.2.2.2.2.2.2.2.2.2.2.2.2.2.2.1
theorem k0_dev218_lt : ∀ (v2 : BitVec 32) (k0_hw2 : k0_chk2 v2), (k0_dev218 v2) < nD := fun v2 k0_hw2 => k0_hw2.2.2.2.2.2.2.2.2.2.2.2.2.2.2.2.1
theorem k0_dev219_lt : ∀ (v2 : BitVec 32) (k0_hw2 : k0_chk2 v2), (k0_dev219 v2) < nD := fun v2 k0_hw2 => k0_hw2.2.2.2.2.2.2.2.2.2.2.2.2.2.2.2.2.1
theorem k0_dev222_lt : ∀ (v2 : BitVec 32) (k0_hw2 : k0_chk2 v2), (k0_dev222 v2) < nD := fun v2 k0_hw2 => k0_hw2.2.2.2.2.2.2.2.2.2.2.2.2.2.2.2.2.2.1
theorem k0_dev223_lt : ∀ (v2 : BitVec 32) (k0_hw2 : k0_chk2 v2), (k0_dev223 v2) < nD := fun v2 k0_hw2 => k0_hw2.2.2.2.2.2.2.2.2.2.2.2.2.2.2.2.2.2.2.1
theorem k0_dev226_lt : ∀ (v2 : BitVec 32) (k0_hw2 : k0_chk2 v2), (k0_dev226 v2) < nD := fun v2 k0_hw2 => k0_hw2.2.2.2.2.2.2.2.2.2.2.2.2.2.2.2.2.2.2.2.1
theorem k0_dev227_lt : ∀ (v2 : BitVec 32) (k0_hw2 : k0_chk2 v2), (k0_dev227 v2) < nD := fun v2 k0_hw2 => k0_hw2.2.2.2.2.2.2.2.2.2.2.2.2.2.2.2.2.2.2.2.2.1
theorem k0_dev230_lt : ∀ (v2 : BitVec 32) (k0_hw2 : k0_chk2 v2), (k0_dev230 v2) < nD := fun v2 k0_hw2 => k0_hw2.2.2.2.2.2.2.2.2.2.2.2.2.2.2.2.2.2.2.2.2.2.1
theorem k0_dev231_lt : ∀ (v2 : BitVec 32) (k0_hw2 : k0_chk2 v2), (k0_dev231 v2) < nD := fun v2 k0_hw2 => k0_hw2.2.2.2.2.2.2.2.2.2.2.2.2.2.2.2.2.2.2.2.2.2.2.1
theorem k0_dev234_lt : ∀ (v2 : BitVec 32) (k0_hw2 : k0_chk2 v2), (k0_dev234 v2) < nD := fun v2 k0_hw2 => k0_hw2.2.2.2.2.2.2.2.2.2.2.2.2.2.2.2.2.2.2.2.2.2.2.2.1
theorem k0_dev235_lt : ∀ (v2 : BitVec 32) (k0_hw2 : k0_chk2 v2), (k0_dev235 v2) < nD := fun v2 k0_hw2 => k0_hw2.2.2.2.2.2.2.2.2.2.2.2.2.2.2.2.2.2.2.2.2.2.2.2.2.1
theorem k0_dev238_lt : ∀ (v2 : BitVec 32) (k0_hw2 : k0_chk2 v2), (k0_dev238 v2) < nD := fun v2 k0_hw2 => k0_hw2.2.2.2.2.2.2.2.2.2.2.2.2.2.2.2.2.2.2.2.2.2.2.2.2.2.1
theorem k0_dev239_lt : ∀ (v2 : BitVec 32) (k0_hw2 : k0_chk2 v2), (k0_dev239 v2) < nD := fun v2 k0_hw2 => k0_hw2.2.2.2.2.2.2.2.2.2.2.2.2.2.2.2.2.2.2.2.2.2.2.2.2.2.2.1
theorem k0_dev242_lt : ∀ (v2 : BitVec 32) (k0_hw2 : k0_chk2 v2), (k0_dev242 v2) < nD := fun v2 k0_hw2 => k0_hw2.2.2.2.2.2.2.2.2.2.2.2.2.2.2.2.2.2.2.2.2.2.2.2.2.2.2.2.1
theorem k0_dev243_lt : ∀ (v2 : BitVec 32) (k0_hw2 : k0_chk2 v2), (k0_dev243 v2) < nD := fun v2 k0_hw2 => k0_hw2.2.2.2.2.2.2.2.2.2.2.2.2.2.2.2.2.2.2.2.2.2.2.2.2.2.2.2.2.1
theorem k0_dev246_lt : ∀ (v2 : BitVec 32) (k0_hw2 : k0_chk2 v2), (k0_dev246 v2) < nD := fun v2 k0_hw2 => k0_hw2.2.2.2.2.2.2.2.2.2.2.2.2.2.2.2.2.2.2.2.2.2.2.2.2.2.2.2.2.2.1
theorem k0_dev247_lt : ∀ (v2 : BitVec 32) (k0_hw2 : k0_chk2 v2), (k0_dev247 v2) < nD := fun v2 k0_hw2 => k0_hw2.2.2.2.2.2.2.2.2.2.2.2.2.2.2.2.2.2.2.2.2.2.2.2.2.2.2.2.2.2.2.1
theorem k0_dev250_lt : ∀ (v2 : BitVec 32) (k0_hw2 : k0_chk2 v2), (k0_dev250 v2) < nD := fun v2 k0_hw2 => k0_hw2.2.2.2.2.2.2.2.2.2.2.2.2.2.2.2.2.2.2.2.2.2.2.2.2.2.2.2.2.2.2.2

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 107
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .i1⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .i1⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .i1⟩
  | .hbm, ⟨28, _⟩ => ⟨S_, .f32⟩
  | .hbm, ⟨29, _⟩ => ⟨S4096x8192, .f32⟩
  | .hbm, ⟨30, _⟩ => ⟨S4096x8192, .f32⟩
  | .hbm, ⟨31, _⟩ => ⟨S_, .f32⟩
  | .hbm, ⟨32, _⟩ => ⟨S4096x8192, .f32⟩
  | .hbm, ⟨33, _⟩ => ⟨S4096x8192, .i1⟩
  | .hbm, ⟨34, _⟩ => ⟨S_, .f32⟩
  | .hbm, ⟨35, _⟩ => ⟨S4096x8192, .f32⟩
  | .hbm, ⟨36, _⟩ => ⟨S4096x8192, .f32⟩
  | .hbm, ⟨37, _⟩ => ⟨S_, .f32⟩
  | .hbm, ⟨38, _⟩ => ⟨S4096x8192, .f32⟩
  | .hbm, ⟨39, _⟩ => ⟨S4096x8192, .i1⟩
  | .hbm, ⟨40, _⟩ => ⟨S_, .f32⟩
  | .hbm, ⟨41, _⟩ => ⟨S4096x8192, .f32⟩
  | .hbm, ⟨42, _⟩ => ⟨S4096x8192, .f32⟩
  | .hbm, ⟨43, _⟩ => ⟨S_, .f32⟩
  | .hbm, ⟨44, _⟩ => ⟨S4096x8192, .f32⟩
  | .hbm, ⟨45, _⟩ => ⟨S4096x8192, .i1⟩
  | .hbm, ⟨46, _⟩ => ⟨S_, .f32⟩
  | .hbm, ⟨47, _⟩ => ⟨S4096x8192, .f32⟩
  | .hbm, ⟨48, _⟩ => ⟨S4096x8192, .f32⟩
  | .hbm, ⟨49, _⟩ => ⟨S_, .f32⟩
  | .hbm, ⟨50, _⟩ => ⟨S4096x8192, .f32⟩
  | .hbm, ⟨51, _⟩ => ⟨S4096x8192, .i1⟩
  | .hbm, ⟨52, _⟩ => ⟨S_, .f32⟩
  | .hbm, ⟨53, _⟩ => ⟨S4096x8192, .f32⟩
  | .hbm, ⟨54, _⟩ => ⟨S4096x8192, .f32⟩
  | .hbm, ⟨55, _⟩ => ⟨S_, .f32⟩
  | .hbm, ⟨56, _⟩ => ⟨S4096x8192, .f32⟩
  | .hbm, ⟨57, _⟩ => ⟨S4096x8192, .i1⟩
  | .hbm, ⟨58, _⟩ => ⟨S_, .f32⟩
  | .hbm, ⟨59, _⟩ => ⟨S4096x8192, .f32⟩
  | .hbm, ⟨60, _⟩ => ⟨S4096x8192, .f32⟩
  | .hbm, ⟨61, _⟩ => ⟨S_, .f32⟩
  | .hbm, ⟨62, _⟩ => ⟨S4096x8192, .f32⟩
  | .hbm, ⟨63, _⟩ => ⟨S4096x8192, .i1⟩
  | .hbm, ⟨64, _⟩ => ⟨S_, .f32⟩
  | .hbm, ⟨65, _⟩ => ⟨S4096x8192, .f32⟩
  | .hbm, ⟨66, _⟩ => ⟨S4096x8192, .f32⟩
  | .hbm, ⟨67, _⟩ => ⟨S_, .f32⟩
  | .hbm, ⟨68, _⟩ => ⟨S4096x8192, .f32⟩
  | .hbm, ⟨69, _⟩ => ⟨S4096x8192, .i1⟩
  | .hbm, ⟨70, _⟩ => ⟨S_, .f32⟩
  | .hbm, ⟨71, _⟩ => ⟨S4096x8192, .f32⟩
  | .hbm, ⟨72, _⟩ => ⟨S4096x8192, .f32⟩
  | .hbm, ⟨73, _⟩ => ⟨S_, .f32⟩
  | .hbm, ⟨74, _⟩ => ⟨S4096x8192, .f32⟩
  | .hbm, ⟨75, _⟩ => ⟨S4096x8192, .i1⟩
  | .hbm, ⟨76, _⟩ => ⟨S_, .f32⟩
  | .hbm, ⟨77, _⟩ => ⟨S4096x8192, .f32⟩
  | .hbm, ⟨78, _⟩ => ⟨S4096x8192, .f32⟩
  | .hbm, ⟨79, _⟩ => ⟨S_, .f32⟩
  | .hbm, ⟨80, _⟩ => ⟨S4096x8192, .f32⟩
  | .hbm, ⟨81, _⟩ => ⟨S4096x8192, .i1⟩
  | .hbm, ⟨82, _⟩ => ⟨S_, .f32⟩
  | .hbm, ⟨83, _⟩ => ⟨S4096x8192, .f32⟩
  | .hbm, ⟨84, _⟩ => ⟨S4096x8192, .f32⟩
  | .hbm, ⟨85, _⟩ => ⟨S_, .f32⟩
  | .hbm, ⟨86, _⟩ => ⟨S4096x8192, .f32⟩
  | .hbm, ⟨87, _⟩ => ⟨S4096x8192, .i1⟩
  | .hbm, ⟨88, _⟩ => ⟨S_, .f32⟩
  | .hbm, ⟨89, _⟩ => ⟨S4096x8192, .f32⟩
  | .hbm, ⟨90, _⟩ => ⟨S4096x8192, .f32⟩
  | .hbm, ⟨91, _⟩ => ⟨S_, .f32⟩
  | .hbm, ⟨92, _⟩ => ⟨S4096x8192, .f32⟩
  | .hbm, ⟨93, _⟩ => ⟨S4096x8192, .i1⟩
  | .hbm, ⟨94, _⟩ => ⟨S_, .f32⟩
  | .hbm, ⟨95, _⟩ => ⟨S4096x8192, .f32⟩
  | .hbm, ⟨96, _⟩ => ⟨S4096x8192, .f32⟩
  | .hbm, ⟨97, _⟩ => ⟨S4096x8192, .f32⟩
  | .hbm, ⟨98, _⟩ => ⟨S4096x8192, .f32⟩
  | .hbm, ⟨99, _⟩ => ⟨S4096x8192, .f32⟩
  | .hbm, ⟨100, _⟩ => ⟨S_, .f32⟩
  | .hbm, ⟨101, _⟩ => ⟨S4096x8192, .f32⟩
  | .hbm, ⟨102, _⟩ => ⟨S4096x8192, .f32⟩
  | .hbm, ⟨103, _⟩ => ⟨S4096x8192, .f32⟩
  | .hbm, ⟨104, _⟩ => ⟨S4096x8192, .f32⟩
  | .hbm, ⟨105, _⟩ => ⟨S4096x8192, .f32⟩
  | .hbm, ⟨106, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩
abbrev main_v23 : Ref sig .tc := ⟨.hbm, 36, rfl⟩
abbrev main_cst_10 : Ref sig .tc := ⟨.hbm, 37, rfl⟩
abbrev main_v24 : Ref sig .tc := ⟨.hbm, 38, rfl⟩
abbrev main_v25 : Ref sig .tc := ⟨.hbm, 39, rfl⟩
abbrev main_cst_11 : Ref sig .tc := ⟨.hbm, 40, rfl⟩
abbrev main_v26 : Ref sig .tc := ⟨.hbm, 41, rfl⟩
abbrev main_v27 : Ref sig .tc := ⟨.hbm, 42, rfl⟩
abbrev main_cst_12 : Ref sig .tc := ⟨.hbm, 43, rfl⟩
abbrev main_v28 : Ref sig .tc := ⟨.hbm, 44, rfl⟩
abbrev main_v29 : Ref sig .tc := ⟨.hbm, 45, rfl⟩
abbrev main_cst_13 : Ref sig .tc := ⟨.hbm, 46, rfl⟩
abbrev main_v30 : Ref sig .tc := ⟨.hbm, 47, rfl⟩
abbrev main_v31 : Ref sig .tc := ⟨.hbm, 48, rfl⟩
abbrev main_cst_14 : Ref sig .tc := ⟨.hbm, 49, rfl⟩
abbrev main_v32 : Ref sig .tc := ⟨.hbm, 50, rfl⟩
abbrev main_v33 : Ref sig .tc := ⟨.hbm, 51, rfl⟩
abbrev main_cst_15 : Ref sig .tc := ⟨.hbm, 52, rfl⟩
abbrev main_v34 : Ref sig .tc := ⟨.hbm, 53, rfl⟩
abbrev main_v35 : Ref sig .tc := ⟨.hbm, 54, rfl⟩
abbrev main_cst_16 : Ref sig .tc := ⟨.hbm, 55, rfl⟩
abbrev main_v36 : Ref sig .tc := ⟨.hbm, 56, rfl⟩
abbrev main_v37 : Ref sig .tc := ⟨.hbm, 57, rfl⟩
abbrev main_cst_17 : Ref sig .tc := ⟨.hbm, 58, rfl⟩
abbrev main_v38 : Ref sig .tc := ⟨.hbm, 59, rfl⟩
abbrev main_v39 : Ref sig .tc := ⟨.hbm, 60, rfl⟩
abbrev main_cst_18 : Ref sig .tc := ⟨.hbm, 61, rfl⟩
abbrev main_v40 : Ref sig .tc := ⟨.hbm, 62, rfl⟩
abbrev main_v41 : Ref sig .tc := ⟨.hbm, 63, rfl⟩
abbrev main_cst_19 : Ref sig .tc := ⟨.hbm, 64, rfl⟩
abbrev main_v42 : Ref sig .tc := ⟨.hbm, 65, rfl⟩
abbrev main_v43 : Ref sig .tc := ⟨.hbm, 66, rfl⟩
abbrev main_cst_20 : Ref sig .tc := ⟨.hbm, 67, rfl⟩
abbrev main_v44 : Ref sig .tc := ⟨.hbm, 68, rfl⟩
abbrev main_v45 : Ref sig .tc := ⟨.hbm, 69, rfl⟩
abbrev main_cst_21 : Ref sig .tc := ⟨.hbm, 70, rfl⟩
abbrev main_v46 : Ref sig .tc := ⟨.hbm, 71, rfl⟩
abbrev main_v47 : Ref sig .tc := ⟨.hbm, 72, rfl⟩
abbrev main_cst_22 : Ref sig .tc := ⟨.hbm, 73, rfl⟩
abbrev main_v48 : Ref sig .tc := ⟨.hbm, 74, rfl⟩
abbrev main_v49 : Ref sig .tc := ⟨.hbm, 75, rfl⟩
abbrev main_cst_23 : Ref sig .tc := ⟨.hbm, 76, rfl⟩
abbrev main_v50 : Ref sig .tc := ⟨.hbm, 77, rfl⟩
abbrev main_v51 : Ref sig .tc := ⟨.hbm, 78, rfl⟩
abbrev main_cst_24 : Ref sig .tc := ⟨.hbm, 79, rfl⟩
abbrev main_v52 : Ref sig .tc := ⟨.hbm, 80, rfl⟩
abbrev main_v53 : Ref sig .tc := ⟨.hbm, 81, rfl⟩
abbrev main_cst_25 : Ref sig .tc := ⟨.hbm, 82, rfl⟩
abbrev main_v54 : Ref sig .tc := ⟨.hbm, 83, rfl⟩
abbrev main_v55 : Ref sig .tc := ⟨.hbm, 84, rfl⟩
abbrev main_cst_26 : Ref sig .tc := ⟨.hbm, 85, rfl⟩
abbrev main_v56 : Ref sig .tc := ⟨.hbm, 86, rfl⟩
abbrev main_v57 : Ref sig .tc := ⟨.hbm, 87, rfl⟩
abbrev main_cst_27 : Ref sig .tc := ⟨.hbm, 88, rfl⟩
abbrev main_v58 : Ref sig .tc := ⟨.hbm, 89, rfl⟩
abbrev main_v59 : Ref sig .tc := ⟨.hbm, 90, rfl⟩
abbrev main_cst_28 : Ref sig .tc := ⟨.hbm, 91, rfl⟩
abbrev main_v60 : Ref sig .tc := ⟨.hbm, 92, rfl⟩
abbrev main_v61 : Ref sig .tc := ⟨.hbm, 93, rfl⟩
abbrev main_cst_29 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_30 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== Proof.Kernel.Same.lean ====
/- The program as printed and its reading at the ideal values are one text: equal body tables, equal programs. -/
module

public import proofs.«01_k».proof.Kernel
public import proofs.«01_k».proof.Proof.Gen.Kernel
public import proofs.«01_k».proof.KernelIdeal
public import proofs.«01_k».proof.Proof.Gen.KernelIdeal

@[expose] public section

namespace Cert.Kernel.Ring
open Idealize.ShloMosaic Idealize.SL.Sem
variable {F : FTy → Type} [FloatOps F]

set_option maxHeartbeats 0 in
theorem body_eq : Cert.Kernel.cc0_body (F := F) = Cert.KernelIdeal.cc0_body (F := F) := rfl

theorem pcfgs_eq : Cert.Kernel.pcfgs (F := F) = Cert.KernelIdeal.pcfgs (F := F) := rfl

set_option maxHeartbeats 0 in
theorem defs₀_eq : Cert.Kernel.defs₀ (F := F) = Cert.KernelIdeal.defs₀ (F := F) := by
  funext p
  cases p with
  | tc =>
    funext ℓ a
    match ℓ, a with
    | 0, (t, s) =>
      show Cert.Kernel.cc0_body (F := F) _ _ _ _ _ _ _ _ _ _ _ _ _ _ _ _ _ _ _ _ _ _ _ _ = Cert.KernelIdeal.cc0_body (F := F) _ _ _ _ _ _ _ _ _ _ _ _ _ _ _ _ _ _ _ _ _ _ _ _
      rw [body_eq]
  | scScalar i => rfl
  | scVector i j => rfl

theorem defs_eq : Cert.Kernel.defs (F := F) = Cert.KernelIdeal.defs (F := F) := by
  show Pipeline.defs (Cert.KernelIdeal.pcfgs (F := F)) (Cert.Kernel.defs₀ (F := F)) = Pipeline.defs (Cert.KernelIdeal.pcfgs (F := F)) (Cert.KernelIdeal.defs₀ (F := F))
  rw [defs₀_eq]

set_option maxHeartbeats 0 in
theorem main_eq : Cert.Kernel.main (F := F) = Cert.KernelIdeal.main := rfl

end Cert.Kernel.Ring

end
-- ==== Proof.KernelIdeal.Atoms.lean ====
/- The body of the all-reduce as a sequence of steps: hop g of the two rings is the list of steps
   `stepAt (20 * g)`, ..., `stepAt (20 * g + 19)`, each a function of what follows it; a step a hop does not
   have is the identity. -/
module

public import proofs.«01_k».proof.Proof.Gen.KernelIdeal.Skeleton

@[expose] public section

noncomputable section

namespace Cert.KernelIdeal.Ring

open Idealize.ShloMosaic Idealize.SL.Sem Cert.KernelIdeal.Gen

variable {F : FTy → Type} [FloatOps F]

/-- The three words the kernel reads from scalar memory (its position in the ring, its left and its right
    neighbour) with the side conditions assumed of them. -/
structure Env where
  v0 : BitVec 32
  h3 : k0_chk3 v0
  v1 : BitVec 32
  h1 : k0_chk1 v1
  v2 : BitVec 32
  h2 : k0_chk2 v2

/-- A program of the kernel with no result. -/
abbrev Pr (F : FTy → Type) := Prog (TpuEff nD τ sig (Elt F) Λ₀ .tc) PUnit

/-- The two slots buffer that ring `X` sends from (`false`: the ring to the right; `true`: to the left). -/
abbrev mS : Bool → Memref sig .tc .vmem S2x64x8192 .f32
  | false => Memref.whole cc0_scratch0
  | true => Memref.whole cc0_scratch2
/-- The two slots ring `X` receives into. -/
abbrev mR : Bool → Memref sig .tc .vmem S2x64x8192 .f32
  | false => Memref.whole cc0_scratch1
  | true => Memref.whole cc0_scratch3

theorem inb2 (s : Fin 2) : ∀ a, (![s.val, 0, 0] : Fin 3 → ℕ) a + S1x64x8192.size a ≤ S2x64x8192.size a := by
  revert s; decide
theorem inbS (s : Fin 2) : ∀ a, (![s.val] : Fin 1 → ℕ) a + S1.size a ≤ S2.size a := by
  revert s; decide

/-- Slot `s` of a two slots buffer. -/
abbrev sv (M : Memref sig .tc .vmem S2x64x8192 .f32) (s : Fin 2) : Memref sig .tc .vmem S64x8192 .f32 :=
  (M.slice (Rect.unit (s := S2x64x8192) ![s.val, 0, 0] S1x64x8192.size (inb2 s)) (fun _ => rfl)).squeeze S64x8192
    squeezes_S1x64x8192_S64x8192
/-- The rectangle of slot `s`. -/
abbrev rs (s : Fin 2) : Rect S2x64x8192 := Rect.unit (s := S2x64x8192) ![s.val, 0, 0] S1x64x8192.size (inb2 s)
/-- Semaphore `s` of an array of two. -/
abbrev se (M : DmaSems sig S2) (s : Fin 2) : DmaSem sig :=
  ((M.slice (Rect.unit (s := S2) ![s.val] S1.size (inbS s))).squeeze S_ squeezes_S1_S_).sem

abbrev semS : Bool → Fin 2 → DmaSem sig
  | false, s => se cc0_scratch4 s
  | true, s => se cc0_scratch6 s
abbrev semR : Bool → Fin 2 → DmaSem sig
  | false, s => se cc0_scratch5 s
  | true, s => se cc0_scratch7 s
abbrev semL : Bool → Fin 2 → DmaSem sig
  | false, s => se cc0_scratch8 s
  | true, s => se cc0_scratch9 s
abbrev semT : Bool → DmaSem sig
  | false => cc0_scratch10.sem
  | true => cc0_scratch11.sem
abbrev semC : Bool → Sem sig
  | false => cc0_scratch12.sem
  | true => cc0_scratch13.sem

/-- The row chunk of an array of the whole shape that ring `X` names at distance `r`. -/
abbrev off (X : Bool) (v0 : BitVec 32) (r : Fin 32) : Fin 2 → ℕ :=
  match X with
  | false => k0_off3 v0 (BitVec.ofNat 32 r.val)
  | true => k0_off4 v0 (BitVec.ofNat 32 r.val)
theorem off_inb (X : Bool) (v0 : BitVec 32) (h : k0_chk3 v0) (r : Fin 32) :
    ∀ a, (off X v0 r) a + S64x8192.size a ≤ S4096x8192.size a :=
  match X with
  | false => k0_off3_inb v0 h r
  | true => k0_off4_inb v0 h r
abbrev off0 (X : Bool) (v0 : BitVec 32) : Fin 2 → ℕ :=
  match X with
  | false => k0_off1 v0
  | true => k0_off2 v0
theorem off0_inb (X : Bool) (v0 : BitVec 32) (h : k0_chk3 v0) :
    ∀ a, (off0 X v0) a + S64x8192.size a ≤ S4096x8192.size a :=
  match X with
  | false => k0_off1_inb v0 h
  | true => k0_off2_inb v0 h
abbrev offE (X : Bool) (v0 : BitVec 32) : Fin 2 → ℕ :=
  match X with
  | false => k0_off5 v0
  | true => k0_off6 v0
theorem offE_inb (X : Bool) (v0 : BitVec 32) (h : k0_chk3 v0) :
    ∀ a, (offE X v0) a + S64x8192.size a ≤ S4096x8192.size a :=
  match X with
  | false => k0_off5_inb v0 h
  | true => k0_off6_inb v0 h

/-- The 64 rows of a whole array at an offset. -/
abbrev rv (M : Memref sig .tc .hbm S4096x8192 .f32) (o : Fin 2 → ℕ)
    (h : ∀ a, o a + S64x8192.size a ≤ S4096x8192.size a) : Memref sig .tc .hbm S64x8192 .f32 :=
  M.slice (Rect.unit (s := S4096x8192) o S64x8192.size h) (fun _ => rfl)
abbrev yM : Memref sig .tc .hbm S4096x8192 .f32 := Memref.whole main_v1
abbrev oM : Memref sig .tc .hbm S4096x8192 .f32 := Memref.whole main_v30
abbrev yv (E : Env) (X : Bool) (r : Fin 32) := rv yM (off X E.v0 r) (off_inb X E.v0 E.h3 r)
abbrev ov (E : Env) (X : Bool) (r : Fin 32) := rv oM (off X E.v0 r) (off_inb X E.v0 E.h3 r)
abbrev yv0 (E : Env) (X : Bool) := rv yM (off0 X E.v0) (off0_inb X E.v0 E.h3)
abbrev ovE (E : Env) (X : Bool) := rv oM (offE X E.v0) (offE_inb X E.v0 E.h3)

/-- The neighbour ring `X` sends to. -/
abbrev dn (E : Env) : Bool → Dev nD
  | false => ⟨k0_dev2 E.v2, k0_dev2_lt E.v2 E.h2⟩
  | true => ⟨k0_dev1 E.v1, k0_dev1_lt E.v1 E.h1⟩

variable (E : Env)

def tSend (X : Bool) (s : Fin 2) (k : Pr F) : Pr F :=
  .op (.enqueueDma (sv (mS X) s) (.remote (Dev.tc (dn E X)) (sv (mR X) s) (.dma (semS X s))) (.dma (semR X s))
    ((View.wordExact_bits rfl).reshape _ _) ((View.wordExact_bits rfl).reshape _ _) ⟨⟨rfl, Or.inl rfl⟩, trivial⟩) fun _ => k
def tWaitS (X : Bool) (s : Fin 2) (k : Pr F) : Pr F :=
  .op (.waitDma2 (semS X s) (sv (mR X) s) (sv (mS X) s)
    ((View.wordExact_bits rfl).reshape _ _) ((View.wordExact_bits rfl).reshape _ _)) fun _ => k
def tWaitR (X : Bool) (s : Fin 2) (k : Pr F) : Pr F :=
  .op (.waitDma2 (semR X s) (sv (mS X) s) (sv (mR X) s)
    ((View.wordExact_bits rfl).reshape _ _) ((View.wordExact_bits rfl).reshape _ _)) fun _ => k
def tLoad (X : Bool) (s : Fin 2) (o : Fin 2 → ℕ) (h : ∀ a, o a + S64x8192.size a ≤ S4096x8192.size a) (k : Pr F) : Pr F :=
  .op (.enqueueDma (rv yM o h) (.here (sv (mS X) s)) (.dma (semL X s))
    (View.wordExact_bits rfl) ((View.wordExact_bits rfl).reshape _ _) ⟨Or.inl rfl, trivial⟩) fun _ => k
def tWaitL (X : Bool) (s : Fin 2) (o : Fin 2 → ℕ) (h : ∀ a, o a + S64x8192.size a ≤ S4096x8192.size a) (k : Pr F) : Pr F :=
  .op (.waitDma2 (semL X s) (rv yM o h) (sv (mS X) s)
    (View.wordExact_bits rfl) ((View.wordExact_bits rfl).reshape _ _)) fun _ => k
def tOut (X : Bool) (M : Memref sig .tc .vmem S2x64x8192 .f32) (s : Fin 2) (o : Fin 2 → ℕ) (h : ∀ a, o a + S64x8192.size a ≤ S4096x8192.size a) (k : Pr F) : Pr F :=
  .op (.enqueueDma (sv M s) (.here (rv oM o h)) (.dma (semT X))
    ((View.wordExact_bits rfl).reshape _ _) (View.wordExact_bits rfl) ⟨Or.inl rfl, trivial⟩) fun _ => k
def tWaitT (X : Bool) (M : Memref sig .tc .vmem S2x64x8192 .f32) (s : Fin 2) (o : Fin 2 → ℕ) (h : ∀ a, o a + S64x8192.size a ≤ S4096x8192.size a) (k : Pr F) : Pr F :=
  .op (.waitDma2 (semT X) (sv M s) (rv oM o h)
    ((View.wordExact_bits rfl).reshape _ _) (View.wordExact_bits rfl)) fun _ => k
/-- The sum the reduce-scatter stores. -/
def pAdd (a b : Vec F S1x64x8192 .f32) : FVec F S1x64x8192 .f32 :=
  shapeCast S1x64x8192 (addf (shapeCast S64x8192 a shapeCasts_S1x64x8192_S64x8192)
    (shapeCast S64x8192 b shapeCasts_S1x64x8192_S64x8192)) shapeCasts_S64x8192_S1x64x8192
/-- What the all-gather copies on. -/
def pCopy (a : Vec F S1x64x8192 .f32) : FVec F S1x64x8192 .f32 :=
  shapeCast S1x64x8192 (shapeCast S64x8192 a shapeCasts_S1x64x8192_S64x8192) shapeCasts_S64x8192_S1x64x8192
/-- Add the received slot into the next slot to send. -/
def tAdd (X : Bool) (n s : Fin 2) (k : Pr F) : Pr F :=
  .op (.load (mS X) (rs n).toLoadRect (View.loadsAt_vmem h_S1x64x8192)) fun a =>
  .op (.load (mR X) (rs s).toLoadRect (View.loadsAt_vmem h_S1x64x8192)) fun b =>
  .op (.load (mS X) (rs n).toLoadRect (View.loadsAt_vmem h_S1x64x8192)) fun _ =>
  .op (.store (mS X) (rs n) (pAdd a b) Finset.univ (View.stores_vmem_bits_univ h_S1x64x8192 rfl) (.inl rfl)) fun _ => k
/-- Copy the received slot into the next slot to send. -/
def tCopy (X : Bool) (n s : Fin 2) (k : Pr F) : Pr F :=
  .op (.load (mR X) (rs s).toLoadRect (View.loadsAt_vmem h_S1x64x8192)) fun b =>
  .op (.load (mS X) (rs n).toLoadRect (View.loadsAt_vmem h_S1x64x8192)) fun _ =>
  .op (.store (mS X) (rs n) (pCopy b) Finset.univ (View.stores_vmem_bits_univ h_S1x64x8192 rfl) (.inl rfl)) fun _ => k
def tSignal (d : Dev nD) (s : Sem sig) (k : Pr F) : Pr F := .op (.semSignal (d, .tc) s (1#32).toInt) fun _ => k
def tWait (s : Sem sig) (n : BitVec 32) (k : Pr F) : Pr F := .op (.semWait s n.toInt) fun _ => k

/-- Hop number `g` modulo two, and the other slot. -/
abbrev cur (g : ℕ) : Fin 2 := ⟨g % 2, Nat.mod_lt _ (by decide)⟩
abbrev nxt (g : ℕ) : Fin 2 := ⟨(g + 1) % 2, Nat.mod_lt _ (by decide)⟩
abbrev fin32 (r : ℕ) : Fin 32 := ⟨r % 32, Nat.mod_lt _ (by decide)⟩

/-- Step `j` of hop `g`, before `k`. -/
def step (g : ℕ) (j : ℕ) (k : Pr F) : Pr F :=
  match j with
  | 0 => bif Nat.ble 2 g then tWait (semC false) 1#32 k else k
  | 1 => bif Nat.ble 2 g then tWait (semC true) 1#32 k else k
  | 2 => tSend E false (cur g) k
  | 3 => tSend E true (cur g) k
  | 4 => bif Nat.ble 1 g then tWaitS false (nxt g) k else k
  | 5 => bif Nat.ble 1 g then tWaitS true (nxt g) k else k
  | 6 => bif Nat.ble 31 g then k else tLoad false (nxt g) (off false E.v0 (fin32 (g + 1))) (off_inb false E.v0 E.h3 (fin32 (g + 1))) k
  | 7 => bif Nat.ble 31 g then k else tLoad true (nxt g) (off true E.v0 (fin32 (g + 1))) (off_inb true E.v0 E.h3 (fin32 (g + 1))) k
  | 8 => bif Nat.ble 31 g then k else tWaitL false (nxt g) (off false E.v0 (fin32 (g + 1))) (off_inb false E.v0 E.h3 (fin32 (g + 1))) k
  | 9 => bif Nat.ble 31 g then k else tWaitL true (nxt g) (off true E.v0 (fin32 (g + 1))) (off_inb true E.v0 E.h3 (fin32 (g + 1))) k
  | 10 => tWaitR false (cur g) k
  | 11 => bif Nat.ble 31 g then tOut false (mR false) (cur g) (off false E.v0 (fin32 (g - 31))) (off_inb false E.v0 E.h3 (fin32 (g - 31))) k
      else tAdd false (nxt g) (cur g) k
  | 12 => bif Nat.ble 31 g then bif Nat.ble 61 g then k else tCopy false (nxt g) (cur g) k else k
  | 13 => tWaitR true (cur g) k
  | 14 => bif Nat.ble 31 g then tOut true (mR true) (cur g) (off true E.v0 (fin32 (g - 31))) (off_inb true E.v0 E.h3 (fin32 (g - 31))) k
      else tAdd true (nxt g) (cur g) k
  | 15 => bif Nat.ble 31 g then bif Nat.ble 61 g then k else tCopy true (nxt g) (cur g) k else k
  | 16 => bif Nat.ble 31 g then tWaitT false (mR false) (cur g) (off false E.v0 (fin32 (g - 31))) (off_inb false E.v0 E.h3 (fin32 (g - 31))) k else k
  | 17 => bif Nat.ble 31 g then tWaitT true (mR true) (cur g) (off true E.v0 (fin32 (g - 31))) (off_inb true E.v0 E.h3 (fin32 (g - 31))) k else k
  | 18 => tSignal (dn E true) (semC false) k
  | 19 => tSignal (dn E false) (semC true) k
  | 20 => bif Nat.beq g 30 then tOut false (mS false) 1 (offE false E.v0) (offE_inb false E.v0 E.h3) k else k
  | 21 => bif Nat.beq g 30 then tOut true (mS true) 1 (offE true E.v0) (offE_inb true E.v0 E.h3) k else k
  | 22 => bif Nat.beq g 30 then tWaitT false (mS false) 1 (offE false E.v0) (offE_inb false E.v0 E.h3) k else k
  | 23 => bif Nat.beq g 30 then tWaitT true (mS true) 1 (offE true E.v0) (offE_inb true E.v0 E.h3) k else k
  | _ => k

/-- Step number `i` of the hops: 24 to a hop. -/
def stepAt (i : ℕ) (k : Pr F) : Pr F := step E (i / 24) (i % 24) k
/-- `n` steps from number `a` on, before `k`. -/
def run (a : ℕ) : ℕ → Pr F → Pr F
  | 0, k => k
  | n + 1, k => stepAt E a (run (a + 1) n k)
theorem run_zero (a : ℕ) (k : Pr F) : run E a 0 k = k := rfl
theorem run_succ (a n : ℕ) (k : Pr F) : run E a (n + 1) k = stepAt E a (run E (a + 1) n k) := rfl
theorem run_add (a n m : ℕ) (k : Pr F) : run E a (n + m) k = run E a n (run E (a + n) m k) := by
  induction n generalizing a with
  | zero => simp [run_zero]
  | succ n ih =>
    rw [Nat.add_right_comm, run_succ, run_succ, ih, Nat.add_right_comm a 1 n]; rfl

/-- Before the hops: the entry barrier and the first two chunks. -/
def pro1 (k : Pr F) : Pr F :=
  tSignal (dn E true) barrier0 <| tSignal (dn E false) barrier0 <| tWait barrier0 2#32 <|
  tLoad false 0 (off0 false E.v0) (off0_inb false E.v0 E.h3) <|
  tWaitL false 0 (off0 false E.v0) (off0_inb false E.v0 E.h3) k
def pro2 (k : Pr F) : Pr F :=
  tLoad true 0 (off0 true E.v0) (off0_inb true E.v0 E.h3) <|
  tWaitL true 0 (off0 true E.v0) (off0_inb true E.v0 E.h3) k
/-- After the hops: the last two sends have left, the last four credits have come. -/
def epi (k : Pr F) : Pr F :=
  tWaitS false 1 <| tWaitS true 1 <| tWait (semC false) 2#32 <| tWait (semC true) 2#32 k

end Cert.KernelIdeal.Ring

end
-- ==== Proof.KernelIdeal.Sched.lean ====
/- The protocol of the two rings: who signals whom, when, and what each signal hands over.
   Ring `X` of device `c` sends to `dnD X c` and receives from `upD X c`. -/
module

public import proofs.«01_k».proof.Proof.KernelIdeal.Atoms
public import Idealize.ShloMosaic.Lib.Pipeline.Regions
public import Idealize.ShloMosaic.Lib.Pipeline.Kit
public import Idealize.ShloMosaic.Lib.Rounds
public import Idealize.ShloMosaic.Lib.Release
public import Idealize.ShloMosaic.Lib.Transfers
public import Idealize.ShloMosaic.Lib.StableHlo
public import Idealize.ShloMosaic.Lib.Tactic
public import Idealize.ShloMosaic.PureOps
public import Idealize.ShloMosaic.Lib.Pipeline.RegionTalk

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The ring -/

/-- The place of each device in the ring, and the device at each place. -/
def posT : Dev nD → Fin 32 := ![0,31,24,7,8,23,16,15,1,30,25,6,9,22,17,14,2,29,26,5,10,21,18,13,3,28,27,4,11,20,19,12]
def devT : Fin 32 → Dev nD := ![0,8,16,24,27,19,11,3,4,12,20,28,31,23,15,7,6,14,22,30,29,21,13,5,2,10,18,26,25,17,9,1]
theorem devT_posT (c : Dev nD) : devT (posT c) = c := by revert c; decide
theorem posT_devT (i : Fin 32) : posT (devT i) = i := by revert i; decide

/-- Place `p` moved by `k` against the direction of ring `X`. -/
def sh (X : Bool) (p : Fin 32) (k : ℕ) : Fin 32 :=
  match X with
  | false => ⟨(p.val + 31 * k) % 32, Nat.mod_lt _ (by decide)⟩
  | true => ⟨(p.val + k) % 32, Nat.mod_lt _ (by decide)⟩

theorem sh_sh (X : Bool) (p : Fin 32) (a b : ℕ) : sh X (sh X p a) b = sh X p (a + b) := by
  cases X <;> (unfold sh; apply Fin.ext; dsimp only; omega)
theorem sh_not (X : Bool) (p : Fin 32) (a : ℕ) : sh X (sh (!X) p a) a = p := by
  cases X
  · show sh false (sh true p a) a = p; unfold sh; apply Fin.ext; dsimp only; omega
  · show sh true (sh false p a) a = p; unfold sh; apply Fin.ext; dsimp only; omega
theorem sh_add32 (X : Bool) (p : Fin 32) (a : ℕ) : sh X p (a + 32) = sh X p a := by
  cases X <;> (unfold sh; apply Fin.ext; dsimp only; omega)
theorem sh_zero (X : Bool) (p : Fin 32) : sh X p 0 = p := by
  cases X <;> (unfold sh; apply Fin.ext; dsimp only; omega)
theorem sh_inj (X : Bool) (p : Fin 32) {a b : ℕ} (ha : a < 32) (hb : b < 32) (h : sh X p a = sh X p b) : a = b := by
  cases X <;> (unfold sh at h; have := congrArg Fin.val h; dsimp only at this; omega)

/-- The device ring `X` of a device receives from, and the one it sends to. -/
def upD (X : Bool) (c : Dev nD) : Dev nD := devT (sh X (posT c) 1)
def dnD (X : Bool) (c : Dev nD) : Dev nD := upD (!X) c
theorem posT_up (X : Bool) (c : Dev nD) : posT (upD X c) = sh X (posT c) 1 := posT_devT _
theorem up_dn (X : Bool) (c : Dev nD) : upD X (dnD X c) = c := by
  show devT (sh X (posT (upD (!X) c)) 1) = c
  rw [posT_up, sh_not, devT_posT]
theorem dn_up (X : Bool) (c : Dev nD) : dnD X (upD X c) = c := by
  have := up_dn (!X) c; unfold dnD at this ⊢; rwa [Bool.not_not] at this
theorem dn_not (X : Bool) (c : Dev nD) : dnD (!X) c = upD X c := by unfold dnD; rw [Bool.not_not]
theorem up_inj (X : Bool) : Function.Injective (upD X) := fun a b h => by rw [← dn_up X a, h, dn_up]
theorem dn_inj (X : Bool) : Function.Injective (dnD X) := fun a b h => by rw [← up_dn X a, h, up_dn]

/-! ## Contents -/

abbrev Slab (F : FTy → Type) : Type := Vec F S64x8192 .f32
abbrev Whole (F : FTy → Type) : Type := Vec F S4096x8192 .f32

/-- The chunk of 64 rows number `i` of the half of ring `X`. -/
abbrev rowOff (X : Bool) (i : Fin 32) : Fin 2 → ℕ := ![(bif X then 2048 else 0) + i.val * 64, 0]
theorem rowOff_inb (X : Bool) (i : Fin 32) : ∀ a, (rowOff X i) a + S64x8192.size a ≤ S4096x8192.size a := by
  revert i; cases X <;> decide
/-- What a whole array holds in those rows. -/
def chunk (f : Whole F) (X : Bool) (i : Fin 32) : Slab F :=
  (rv oM (rowOff X i) (rowOff_inb X i)).view.read (Elt F) f

variable (y : Dev nD → Whole F)

/-- What ring `X` of device `c` sends at hop `g`. -/
def snd (X : Bool) : ℕ → Dev nD → Slab F
  | 0, c => chunk (y c) X (posT c)
  | g + 1, c => if g < 31 then addf (chunk (y c) X (sh X (posT c) (g + 1))) (snd X g (upD X c)) else snd X g (upD X c)

/-- The total of chunk `i`, as the device that completes it computes it. -/
def tot (X : Bool) (i : Fin 32) : Slab F := snd y X 31 (devT (sh (!X) i 31))

theorem snd_tot (X : Bool) (t : ℕ) (c : Dev nD) : snd y X (31 + t) c = tot y X (sh X (posT c) (31 + t)) := by
  induction t generalizing c with
  | zero =>
    unfold tot
    have h : sh (!X) (sh X (posT c) (31 + 0)) 31 = posT c := by
      have := sh_not (!X) (posT c) 31; rwa [Bool.not_not] at this
    rw [h, devT_posT]
  | succ t ih =>
    rw [← Nat.add_assoc, snd, if_neg (by omega), ih, posT_up, sh_sh]
    congr 2; omega

/-! ## Slots -/

abbrev Key : Type := Dev nD × Bool × Fin 2
abbrev UU : Type := UR sig nD τ × (URounds (GSem nD τ sig) ℕ × (USlots Key × Counters))
local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) :=
  (Emb.inl : Emb _ (URounds (GSem nD τ sig) ℕ × (USlots Key × Counters))).trans embR
abbrev ES : Emb (USlots Key) (MT nD τ sig ℕ (Elt F) ℕ UU ℕ) :=
  ((Emb.inl : Emb _ (USlots Key × Counters)).trans (Emb.inr : Emb _ (URounds (GSem nD τ sig) ℕ × (USlots Key × Counters)))).trans embR
abbrev EC : UEmb Counters (MT nD τ sig ℕ (Elt F) ℕ UU ℕ) := countersEmb

instance : (ER (F := F)).LandsIn (upEmb : UEmb _ 𝕄) := by unfold ER; infer_instance
instance : (ES (F := F)).LandsIn (upEmb : UEmb _ 𝕄) := by unfold ES; infer_instance
instance : (EC (F := F)).LandsIn (upEmb : UEmb _ 𝕄) := by infer_instance

variable (F) in
/-- A slot at contents not chosen. -/
abbrev sAny (M : Memref sig .tc .vmem S2x64x8192 .f32) (s : Fin 2) (c : Dev nD) : sProp 𝕄 :=
  slot ((sv M s).view.loc (c : Thread nD τ)) (sv M s).view.set
/-- A slot that holds `v`. -/
def sIs (M : Memref sig .tc .vmem S2x64x8192 .f32) (s : Fin 2) (c : Dev nD) (q : PosShare TreeShare) (v : Slab F) : sProp 𝕄 :=
  iprop(∃ f, ⌜(sv M s).view.read (Elt F) f = v⌝ ∗ ((sv M s).view.loc (c : Thread nD τ) ↦[(sv M s).view.set]{q} f))

instance sIs_storable (M s c q) (v : Slab F) : BI.Storable (upEmb : UEmb _ 𝕄) (sIs M s c q v) := by
  unfold sIs; infer_instance

/-! ## The cells -/

abbrev cS (X : Bool) (s : Fin 2) (c : Dev nD) : GSem nD τ sig := ((c : Thread nD τ), .dma (semS X s))
abbrev cR (X : Bool) (s : Fin 2) (c : Dev nD) : GSem nD τ sig := ((c : Thread nD τ), .dma (semR X s))
abbrev cC (X : Bool) (c : Dev nD) : GSem nD τ sig := ((c : Thread nD τ), .reg (semC X))
abbrev cB (c : Dev nD) : GSem nD τ sig := ((c : Thread nD τ), .reg barrier0)

inductive Role where
  | send (X : Bool) (s : Fin 2) | recv (X : Bool) (s : Fin 2) | cred (X : Bool) | bar | other
  deriving DecidableEq

def role : SemLoc sig → Role
  | .reg s => if s = semC false then .cred false else if s = semC true then .cred true else if s = barrier0 then .bar else .other
  | .dma s => if s = semS false 0 then .send false 0 else if s = semS false 1 then .send false 1
      else if s = semS true 0 then .send true 0 else if s = semS true 1 then .send true 1
      else if s = semR false 0 then .recv false 0 else if s = semR false 1 then .recv false 1
      else if s = semR true 0 then .recv true 0 else if s = semR true 1 then .recv true 1 else .other

theorem role_S (X s) : role (.dma (semS X s)) = .send X s := by revert X s; decide
theorem role_R (X s) : role (.dma (semR X s)) = .recv X s := by revert X s; decide
theorem role_C (X) : role (.reg (semC X)) = .cred X := by revert X; decide
theorem role_B : role (.reg barrier0) = .bar := by decide

variable (F) in
/-- What a reader of ring `X`'s slots tells of its first `n` hops: each slot released again, at its next round. -/
def Known (X : Bool) (c : Dev nD) (n : ℕ) : sProp 𝕄 :=
  bigSep (Finset.range n) fun e => iprop(released ES ((c, X, cur e) : Key) (e / 2 + 2) ∗ reached ER (cR X (cur e) c) (e / 2 + 1))
variable (F) in
/-- What it tells at the start: both slots released, all at round 0. -/
def Hello (X : Bool) (c : Dev nD) : sProp 𝕄 :=
  iprop((released ES ((c, X, 0) : Key) 1 ∗ released ES ((c, X, 1) : Key) 1)
    ∗ (reached ER (cR X 0 c) 0 ∗ reached ER (cR X 1 c) 0) ∗ reached ER (cC (!X) c) 0)

instance (X c n) : BI.Persistent (Known F X c n) := by unfold Known; infer_instance
instance (X c) : BI.Persistent (Hello F X c) := by unfold Hello; infer_instance
instance (X c n) : BI.Storable (upEmb : UEmb _ 𝕄) (Known F X c n) := by unfold Known; infer_instance
instance (X c) : BI.Storable (upEmb : UEmb _ 𝕄) (Hello F X c) := by unfold Hello; infer_instance

/-- The amount of a slot's transfer. -/
abbrev NN : ℕ := (sv (mS false) 0).view.dmaCredit

/-- Who owes what to each cell and what it hands over. -/
def Rd : Rounds.Schedule (GSem nD τ sig) ℕ 𝕄 where
  duties g r := if g.1.2 = .tc then
      match role g.2 with
      | .send _ _ => if r < 31 then {0} else ∅
      | .recv _ _ => if r < 31 then {0} else ∅
      | .cred _ => if r = 0 then Finset.range 62 else ∅
      | .bar => if r = 0 then {0, 1} else ∅
      | .other => ∅
    else ∅
  amount g r d := match role g.2 with
      | .send _ _ => NN
      | .recv _ _ => NN
      | _ => 1
  payload g r d := match role g.2 with
      | .send X s => sAny F (mS X) s g.1.1
      | .recv X s => sIs (mR X) s g.1.1 fullShare (snd y X (2 * r + s.val) (upD X g.1.1))
      | .cred X => Known F X (dnD X g.1.1) (d + 1)
      | .bar => Hello F (decide (d = 1)) (dnD (decide (d = 1)) g.1.1)
      | .other => iprop(emp)
  amount_pos g r d _ := by
    have : 0 < NN := by decide
    split <;> first | exact this | exact Nat.one_pos
  unitless _ := False

end Cert.KernelIdeal.Ring

end
-- ==== Proof.KernelIdeal.Mem.lean ====
/- The slots and the row chunks as memory: what a copy, a load and a store through them read and leave. -/
module

public import proofs.«01_k».proof.Proof.KernelIdeal.Sched
public import Idealize.ShloMosaic.Lib.Pipeline.Value

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-- The rows of the half of ring `X`. -/
def half (X : Bool) : Finset S4096x8192.Idx := Finset.univ.filter fun i => decide (2048 ≤ (i 0).val) = X
theorem half_disj : Disjoint (half false) (half true) := Finset.disjoint_left.mpr fun i h1 h2 => by
  have a := (Finset.mem_filter.mp h1).2; have b := (Finset.mem_filter.mp h2).2
  rw [a] at b; cases b
theorem half_union : half false ∪ half true = Finset.univ := Finset.eq_univ_of_forall fun i => by
  cases h : decide (2048 ≤ (i 0).val)
  · exact Finset.mem_union_left _ (Finset.mem_filter.mpr ⟨Finset.mem_univ _, h⟩)
  · exact Finset.mem_union_right _ (Finset.mem_filter.mpr ⟨Finset.mem_univ _, h⟩)

theorem emb_of_mem {κ : Kind} {sp : Space} {S : Shape} {e : EltTy} (v : View sig κ sp S e) {i : v.ty.Idx} (h : i ∈ v.set) :
    ∃ x : S.Idx, v.emb x = i := by
  obtain ⟨x, -, e⟩ := Finset.mem_map.mp h; exact ⟨x, e⟩

theorem ov_emb (o : Fin 2 → ℕ) (h) (x : S64x8192.Idx) (a : Fin 2) :
    (((rv oM o h).view.emb x : S4096x8192.Idx) a).val = o a + (x a).val := by
  show o a + 1 * (x a).val = _; rw [Nat.one_mul]

theorem ov_set_half (X : Bool) (i : Fin 32) : (rv oM (rowOff X i) (rowOff_inb X i)).view.set ⊆ half X := by
  intro j hj
  obtain ⟨x, rfl⟩ := emb_of_mem _ hj
  refine Finset.mem_filter.mpr ⟨Finset.mem_univ _, ?_⟩
  have e := ov_emb (rowOff X i) (rowOff_inb X i) x 0
  have hx : (x 0).val < 64 := (x 0).isLt
  rw [e]
  have hi := i.isLt
  cases X
  · show decide (2048 ≤ 0 + i.val * 64 + (x 0).val) = false; exact decide_eq_false (by omega)
  · show decide (2048 ≤ 2048 + i.val * 64 + (x 0).val) = true; exact decide_eq_true (by omega)

/-- A copy into a chunk: that chunk is what came, another chunk of the half is as before. -/
theorem chunk_write (f : Whole F) (X : Bool) (i : Fin 32) (w : Slab F) :
    chunk ((rv oM (rowOff X i) (rowOff_inb X i)).view.write (Elt F) f w Finset.univ) X i = w := View.read_write_univ _ _
theorem chunk_write_ne (f : Whole F) (X : Bool) (i i' : Fin 32) (hi : i' ≠ i) (w : Slab F) :
    chunk ((rv oM (rowOff X i) (rowOff_inb X i)).view.write (Elt F) f w Finset.univ) X i' = chunk f X i' := by
  funext x
  unfold chunk
  rw [View.read_apply, View.read_apply]
  refine congrArg (_root_.cast _) (View.write_of_not_mem (v := (rv oM (rowOff X i) (rowOff_inb X i)).view) f w Finset.univ fun hm => hi ?_)
  obtain ⟨x', hx'⟩ := emb_of_mem _ (show _ ∈ View.set _ from hm)
  have e := ov_emb (rowOff X i) (rowOff_inb X i) x' 0
  have e' := ov_emb (rowOff X i') (rowOff_inb X i') x 0
  rw [hx', e'] at e
  have h1 : (x 0).val < 64 := (x 0).isLt
  have h2 : (x' 0).val < 64 := (x' 0).isLt
  apply Fin.ext
  have e : (bif X then 2048 else 0) + i'.val * 64 + (x 0).val = (bif X then 2048 else 0) + i.val * 64 + (x' 0).val := e
  omega

/-- Reading the argument's chunk is reading the chunk. -/
theorem y_chunk (f : Whole F) (X : Bool) (i : Fin 32) :
    (rv yM (rowOff X i) (rowOff_inb X i)).view.read (Elt F) f = chunk f X i := rfl

theorem slot_write (M : Memref sig .tc .vmem S2x64x8192 .f32) (s : Fin 2) (f) (w : Slab F) :
    (sv M s).view.read (Elt F) ((sv M s).view.write (Elt F) f w Finset.univ) = w := View.read_write_univ _ _

theorem slot_set (M : Memref sig .tc .vmem S2x64x8192 .f32) (s : Fin 2) :
    (sv M s).view.set = (M.view.slice (rs s)).set := View.set_reshape _ _

theorem load_sub (M : Memref sig .tc .vmem S2x64x8192 .f32) (s : Fin 2) : M.view.setOn (rs s).toLoadRect.set ⊆ (sv M s).view.set := by
  rw [slot_set, View.set_slice]; exact Finset.map_subset_map.mpr (subset_of_eq rfl)
theorem store_sub (M : Memref sig .tc .vmem S2x64x8192 .f32) (s : Fin 2) : (M.access (rs s)).setOn Finset.univ ⊆ (sv M s).view.set := by
  rw [slot_set]; exact subset_of_eq rfl

theorem load_read (M : Memref sig .tc .vmem S2x64x8192 .f32) (s : Fin 2) (f : M.view.ty.Contents (Elt F)) :
    shapeCast S64x8192 (M.view.readAt (Elt F) (rs s).toLoadRect f) shapeCasts_S1x64x8192_S64x8192 = (sv M s).view.read (Elt F) f := rfl

theorem store_read (M : Memref sig .tc .vmem S2x64x8192 .f32) (s : Fin 2) (f : M.view.ty.Contents (Elt F)) (w : Slab F) :
    (sv M s).view.read (Elt F) ((M.access (rs s)).write (Elt F) f (shapeCast S1x64x8192 w shapeCasts_S64x8192_S1x64x8192) Finset.univ) = w := by
  rw [← load_read]
  show shapeCast S64x8192 ((M.access (rs s)).read (Elt F) _) shapeCasts_S1x64x8192_S64x8192 = w
  rw [View.read_write_univ]
  exact shapeCast_shapeCast w _ _

theorem slots_disj (M : Memref sig .tc .vmem S2x64x8192 .f32) : Disjoint (sv M 0).view.set (sv M 1).view.set := by
  rw [slot_set, slot_set, View.set_slice, View.set_slice]
  refine (Finset.disjoint_map _).mpr (Finset.disjoint_left.mpr fun i h1 h2 => ?_)
  have a := (Rect.mem_set_unit.mp h1 0).2; have b := (Rect.mem_set_unit.mp h2 0).1
  exact absurd (Nat.lt_of_le_of_lt b a) (by decide)
theorem slots_union (M : Memref sig .tc .vmem S2x64x8192 .f32) : (sv M 0).view.set ∪ (sv M 1).view.set = M.view.set := by
  rw [slot_set, slot_set, View.set_slice, View.set_slice, ← Finset.map_union]
  refine congrArg (Finset.map M.view.emb) (Finset.eq_univ_of_forall fun i => ?_)
  rcases Nat.lt_or_ge (i 0).val 1 with h | h
  · refine Finset.mem_union_left _ (Rect.mem_set_unit.mpr fun a => ?_)
    have ha := (i a).isLt
    fin_cases a
    · exact ⟨Nat.zero_le _, h⟩
    · exact ⟨Nat.zero_le _, by simpa using ha⟩
    · exact ⟨Nat.zero_le _, by simpa using ha⟩
  · refine Finset.mem_union_right _ (Rect.mem_set_unit.mpr fun a => ?_)
    have ha := (i a).isLt
    fin_cases a
    · exact ⟨h, by simpa using ha⟩
    · exact ⟨Nat.zero_le _, by simpa using ha⟩
    · exact ⟨Nat.zero_le _, by simpa using ha⟩
theorem slot_nonempty (M : Memref sig .tc .vmem S2x64x8192 .f32) (s : Fin 2) : (sv M s).view.set.Nonempty :=
  ⟨_, View.emb_mem_set _ (fun a => ⟨0, by fin_cases a <;> decide⟩)⟩

end Cert.KernelIdeal.Ring

end
-- ==== Proof.KernelIdeal.Proto.lean ====
/- Facts of the schedule, the levels of the waits, and what a device owes as the hops go by. -/
module

public import proofs.«01_k».proof.Proof.KernelIdeal.Mem

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

theorem bigSep_elim' {I : Type} [DecidableEq I] {s : Finset I} {i : I} (h : i ∈ s) {Φ : I → sProp 𝕄} : (bigSep s Φ : sProp 𝕄) ⊢ Φ i := bigSep_elim h
theorem bigSep_insert' {I : Type} [DecidableEq I] {i : I} {s : Finset I} (h : i ∉ s) {Φ : I → sProp 𝕄} : bigSep (insert i s) Φ = iprop(Φ i ∗ bigSep s Φ) :=
  bigSep_insert h
theorem bigSep_union' {I : Type} [DecidableEq I] {s t : Finset I} (h : Disjoint s t) {Φ : I → sProp 𝕄} : bigSep (s ∪ t) Φ = iprop(bigSep s Φ ∗ bigSep t Φ) :=
  bigSep_union h

section Sched
variable (y : Dev nD → Whole F)

instance Rd_storable (g : GSem nD τ sig) (r d : ℕ) : BI.Storable (upEmb : UEmb _ 𝕄) ((Rd y).payload g r d) := by
  dsimp only [Rd]; split <;> infer_instance

theorem duties_S (X s c) {r : ℕ} (h : r < 31) : (Rd y).duties (cS X s c) r = {0} := by
  dsimp only [Rd]; rw [if_pos rfl, role_S]; exact if_pos h
theorem duties_R (X s c) {r : ℕ} (h : r < 31) : (Rd y).duties (cR X s c) r = {0} := by
  dsimp only [Rd]; rw [if_pos rfl, role_R]; exact if_pos h
theorem duties_C (X c) : (Rd y).duties (cC X c) 0 = Finset.range 62 := by
  dsimp only [Rd]; rw [if_pos rfl, role_C]; exact if_pos rfl
theorem duties_B (c) : (Rd y).duties (cB c) 0 = {0, 1} := by
  dsimp only [Rd]; rw [if_pos rfl, role_B]; exact if_pos rfl
theorem end_S (X s c) : ∀ r, 31 ≤ r → (Rd y).duties (cS X s c) r = ∅ := fun r h => by
  dsimp only [Rd]; rw [if_pos rfl, role_S]; exact if_neg (by omega)
theorem end_R (X s c) : ∀ r, 31 ≤ r → (Rd y).duties (cR X s c) r = ∅ := fun r h => by
  dsimp only [Rd]; rw [if_pos rfl, role_R]; exact if_neg (by omega)
theorem end_C (X c) : ∀ r, 1 ≤ r → (Rd y).duties (cC X c) r = ∅ := fun r h => by
  dsimp only [Rd]; rw [if_pos rfl, role_C]; exact if_neg (by omega)
theorem end_B (c) : ∀ r, 1 ≤ r → (Rd y).duties (cB c) r = ∅ := fun r h => by
  dsimp only [Rd]; rw [if_pos rfl, role_B]; exact if_neg (by omega)

theorem amount_S (X s c) (r d : ℕ) : (Rd y).amount (cS X s c) r d = NN := by dsimp only [Rd]; rw [role_S]
theorem amount_R (X s c) (r d : ℕ) : (Rd y).amount (cR X s c) r d = NN := by dsimp only [Rd]; rw [role_R]
theorem amount_C (X c) (r d : ℕ) : (Rd y).amount (cC X c) r d = 1 := by dsimp only [Rd]; rw [role_C]
theorem amount_B (c) (r d : ℕ) : (Rd y).amount (cB c) r d = 1 := by dsimp only [Rd]; rw [role_B]

theorem payload_S (X s c) (r d : ℕ) : (Rd y).payload (cS X s c) r d = sAny F (mS X) s c := by dsimp only [Rd]; rw [role_S]
theorem payload_R (X s c) (r d : ℕ) : (Rd y).payload (cR X s c) r d = sIs (mR X) s c fullShare (snd y X (2 * r + s.val) (upD X c)) := by
  dsimp only [Rd]; rw [role_R]
theorem payload_C (X c) (r d : ℕ) : (Rd y).payload (cC X c) r d = Known F X (dnD X c) (d + 1) := by dsimp only [Rd]; rw [role_C]
theorem payload_B (c) (r d : ℕ) : (Rd y).payload (cB c) r d = Hello F (decide (d = 1)) (dnD (decide (d = 1)) c) := by dsimp only [Rd]; rw [role_B]

theorem expect_S (X s c) {r : ℕ} (h : r < 31) : (Rd y).expect (cS X s c) r = NN := by
  unfold Schedule.expect Schedule.amountOf; rw [duties_S y X s c h, Finset.sum_singleton, amount_S]
theorem expect_R (X s c) {r : ℕ} (h : r < 31) : (Rd y).expect (cR X s c) r = NN := by
  unfold Schedule.expect Schedule.amountOf; rw [duties_R y X s c h, Finset.sum_singleton, amount_R]
theorem expect_C (X c) : (Rd y).expect (cC X c) 0 = 62 := by
  unfold Schedule.expect Schedule.amountOf; rw [duties_C, Finset.sum_congr rfl (fun d _ => amount_C y X c 0 d)]; simp
theorem expect_B (c) : (Rd y).expect (cB c) 0 = 2 := by
  unfold Schedule.expect Schedule.amountOf; rw [duties_B, Finset.sum_congr rfl (fun d _ => amount_B y c 0 d)]; rfl

theorem rest_S (X s c) {r : ℕ} (h : r < 31) :
    bigSep ((Rd y).duties (cS X s c) r \ ∅) (fun d => (Rd y).payload (cS X s c) r d) = sAny F (mS X) s c := by
  rw [Finset.sdiff_empty, duties_S y X s c h, bigSep_singleton, payload_S]
theorem rest_R (X s c) {r : ℕ} (h : r < 31) :
    bigSep ((Rd y).duties (cR X s c) r \ ∅) (fun d => (Rd y).payload (cR X s c) r d)
      = sIs (mR X) s c fullShare (snd y X (2 * r + s.val) (upD X c)) := by
  rw [Finset.sdiff_empty, duties_R y X s c h, bigSep_singleton, payload_R]
theorem rest_B (c) : bigSep ((Rd y).duties (cB c) 0 \ ∅) (fun d => (Rd y).payload (cB c) 0 d)
      = iprop(Hello F false (dnD false c) ∗ Hello F true (dnD true c)) := by
  rw [Finset.sdiff_empty, duties_B, bigSep_insert (by decide), bigSep_singleton, payload_B, payload_B]; rfl

end Sched

/-! ## Levels -/

def L (g : GSem nD τ sig) : Finset ℕ := if g.1.2 = .tc then Finset.range 62 else ∅
theorem L_tc (c : Dev nD) (sm : SemLoc sig) : L ((c : Thread nD τ), sm) = Finset.range 62 := if_pos rfl
theorem L_of_ne (g : GSem nD τ sig) (h : g.1.2 ≠ .tc) : L g = ∅ := if_neg h
def lv (g : GSem nD τ sig) (i : ℕ) : ℕ := match role g.2 with
  | .recv _ _ => 2 * i + 2
  | .cred _ => 2 * i + 3
  | .bar => 1
  | _ => 0
theorem lv_S (X s c i) : lv (cS X s c) i = 0 := by dsimp only [lv]; rw [role_S]
theorem lv_R (X s c i) : lv (cR X s c) i = 2 * i + 2 := by dsimp only [lv]; rw [role_R]
theorem lv_C (X c i) : lv (cC X c) i = 2 * i + 3 := by dsimp only [lv]; rw [role_C]
theorem lv_B (c i) : lv (cB c) i = 1 := by dsimp only [lv]; rw [role_B]

/-- Everything owed lies above level `n`. -/
def Above (n : ℕ) (O : CellTallies nD τ sig ℕ) : Prop := ∀ g j, 0 < O g j → j ∈ L g ∧ n < lv g j
theorem Above.zero (n : ℕ) : Above n 0 := fun g j h => absurd h (Nat.lt_irrefl 0)
theorem Above.add {n : ℕ} {O O' : CellTallies nD τ sig ℕ} (h : Above n O) (h' : Above n O') : Above n (O + O') := fun g j hg => by
  rw [Pi.add_apply, Finsupp.add_apply] at hg
  rcases Nat.add_pos_iff_pos_or_pos.mp hg with hg | hg
  · exact h g j hg
  · exact h' g j hg
theorem Above.mono {n n' : ℕ} {O : CellTallies nD τ sig ℕ} (hn : n' ≤ n) (h : Above n O) : Above n' O := fun g j hg =>
  ⟨(h g j hg).1, Nat.lt_of_le_of_lt hn (h g j hg).2⟩
theorem Above.at {n : ℕ} {g : GSem nD τ sig} {i k : ℕ} (hi : i ∈ L g) (hl : n < lv g i) : Above n (tallyAt g i k) := fun g' j hg => by
  rw [tallyAt_apply] at hg
  split at hg
  · next h => rw [h.1, h.2]; exact ⟨hi, hl⟩
  · exact absurd hg (Nat.lt_irrefl 0)
theorem Above.sum {n : ℕ} {S : Finset ℕ} {T : ℕ → CellTallies nD τ sig ℕ} (h : ∀ s ∈ S, Above n (T s)) : Above n (∑ s ∈ S, T s) := by
  induction S using Finset.induction_on with
  | empty => exact Above.zero n
  | insert a S ha ih =>
    rw [Finset.sum_insert ha]
    exact (h a (Finset.mem_insert_self _ _)).add (ih fun s hs => h s (Finset.mem_insert_of_mem hs))

theorem mayWait (c : Dev nD) (sm : SemLoc sig) (i n : ℕ) (hi : i < 62) (hl : lv ((c : Thread nD τ), sm) i ≤ n)
    {O : CellTallies nD τ sig ℕ} (hO : Above n O) : (levAts L lv : sProp 𝕄) ⊢ MayWait (c : Thread nD τ) sm i O :=
  MayOwe.of_cut (L := L) (lev := lv) n (fun p hp => by rw [Finset.mem_singleton.mp hp, L_tc]; exact Finset.mem_range.mpr hi)
    (fun g j hg => (hO g j hg).1) (fun p hp => by rw [Finset.mem_singleton.mp hp]; exact hl) (fun g j hg => (hO g j hg).2)

/-! ## What a device owes -/

abbrev rT (X : Bool) (c : Dev nD) (g : ℕ) : CellTallies nD τ sig ℕ := tallyAt (cR X (cur g) (dnD X c)) g NN
abbrev cT (X : Bool) (c : Dev nD) (g : ℕ) : CellTallies nD τ sig ℕ := tallyAt (cC X (upD X c)) g 1
abbrev bT (X : Bool) (c : Dev nD) : CellTallies nD τ sig ℕ := tallyAt (cB (dnD X c)) 0 1
def hopT (c : Dev nD) (g : ℕ) : CellTallies nD τ sig ℕ := cT true c g + cT false c g + rT true c g + rT false c g
/-- Before hop `g`. -/
def owed (c : Dev nD) (g : ℕ) : CellTallies nD τ sig ℕ := ∑ h ∈ Finset.Ico g 62, hopT c h
/-- At the start. -/
def O₀ (c : Dev nD) : CellTallies nD τ sig ℕ := owed c 0 + bT false c + bT true c

theorem Ico_cons {g n : ℕ} (h : g < n) : Finset.Ico g n = insert g (Finset.Ico (g + 1) n) := by
  ext i; simp only [Finset.mem_insert, Finset.mem_Ico]; omega
theorem not_mem_Ico (g n : ℕ) : g ∉ Finset.Ico (g + 1) n := fun h => absurd (Finset.mem_Ico.mp h).1 (Nat.not_succ_le_self g)
theorem owed_succ (c : Dev nD) {g : ℕ} (h : g < 62) :
    owed c g = owed c (g + 1) + cT true c g + cT false c g + rT true c g + rT false c g := by
  unfold owed; rw [Ico_cons h, Finset.sum_insert (not_mem_Ico g 62), add_comm]; unfold hopT; simp only [add_assoc]
theorem owed_end (c : Dev nD) : owed c 62 = 0 := by unfold owed; rw [Finset.Ico_self, Finset.sum_empty]

theorem above_rT (X c) {g n : ℕ} (h : g < 62) (hn : n < 2 * g + 2) : Above n (rT X c g) :=
  Above.at (by rw [L_tc]; exact Finset.mem_range.mpr h) (by rw [lv_R]; exact hn)
theorem above_cT (X c) {g n : ℕ} (h : g < 62) (hn : n < 2 * g + 3) : Above n (cT X c g) :=
  Above.at (by rw [L_tc]; exact Finset.mem_range.mpr h) (by rw [lv_C]; exact hn)
theorem above_bT (X c) : Above 0 (bT X c) :=
  Above.at (by rw [L_tc]; exact Finset.mem_range.mpr (by decide)) (by rw [lv_B]; decide)
theorem above_owed (c) {g n : ℕ} (hn : n < 2 * g + 2) : Above n (owed c g) := Above.sum fun h hh => by
  have h1 := Finset.mem_Ico.mp hh
  exact (((above_cT true c h1.2 (by omega)).add (above_cT false c h1.2 (by omega))).add (above_rT true c h1.2 (by omega))).add
    (above_rT false c h1.2 (by omega))
theorem above_O₀ (c) : Above 0 (O₀ c) := ((above_owed c (by decide)).add (above_bT _ c)).add (above_bT _ c)

end Cert.KernelIdeal.Ring

end
-- ==== Proof.KernelIdeal.Steps.lean ====
/- One rule for each kind of step of a hop, over the state of its ring. -/
module

public import proofs.«01_k».proof.Proof.KernelIdeal.Proto

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]
local notation "𝕄" => MT nD τ sig ℕ (Elt F) ℕ UU ℕ

abbrev 𝒱₀ : Variants := Variants.none
/-- The kernel's run of `k` on device `c`. -/
abbrev wpK (c : Dev nD) (k : Pr F) (Q : PUnit → sProp 𝕄) : sProp 𝕄 :=
  wp frame (wpE (defs₀ (F := F)) 𝒱₀ (c : Thread nD τ) none) Set.univ k Q

/-- The counters the protocol speaks of. -/
def cellsOf (c : Dev nD) : Finset (GSem nD τ sig) :=
  {cS false 0 c, cS false 1 c, cS true 0 c, cS true 1 c, cR false 0 c, cR false 1 c, cR true 0 c, cR true 1 c, cC false c, cC true c, cB c}
def cells : Finset (GSem nD τ sig) := Finset.univ.biUnion cellsOf
theorem mem_cells {c : Dev nD} {g : GSem nD τ sig} (h : g ∈ cellsOf c) : g ∈ cells := Finset.mem_biUnion.mpr ⟨c, Finset.mem_univ _, h⟩
theorem cS_mem (X s c) : cS X s c ∈ cells := mem_cells (c := c) (by cases X <;> fin_cases s <;> simp [cellsOf])
theorem cR_mem (X s c) : cR X s c ∈ cells := mem_cells (c := c) (by cases X <;> fin_cases s <;> simp [cellsOf])
theorem cC_mem (X c) : cC X c ∈ cells := mem_cells (c := c) (by cases X <;> simp [cellsOf])
theorem cB_mem (c) : cB c ∈ cells := mem_cells (c := c) (by simp [cellsOf])

variable (F) in
abbrev slotOf (k : Key) : sProp 𝕄 := sAny F (mR k.2.1) k.2.2 k.1

variable (y : Dev nD → Whole F)

/-- What every device shares. -/
def Ctx (K : GSem nD τ sig → ℕ) (Ks : Key → ℕ) : sProp 𝕄 :=
  iprop(bigSep cells (fun g => cellInv ER (Rd y) (K g) g) ∗ bigSep Finset.univ (fun k => slotInv ES (Ks k) k (slotOf F k)) ∗ levAts L lv)
instance (K Ks) : BI.Persistent (Ctx y K Ks) := by unfold Ctx; infer_instance

variable {K : GSem nD τ sig → ℕ} {Ks : Key → ℕ}

theorem ctx_cell {g : GSem nD τ sig} (h : g ∈ cells) : Ctx y K Ks ⊢ cellInv ER (Rd y) (K g) g := by
  unfold Ctx
  iintro ⟨H, -, -⟩
  iapply (bigSep_elim' (Φ := fun g => (cellInv ER (Rd y) (K g) g : sProp 𝕄)) h) $$ H
theorem ctx_slot (k : Key) : Ctx y K Ks ⊢ slotInv ES (Ks k) k (slotOf F k) := by
  unfold Ctx
  iintro ⟨-, H, -⟩
  iapply (bigSep_elim' (Φ := fun k => (slotInv ES (Ks k) k (slotOf F k) : sProp 𝕄)) (Finset.mem_univ k)) $$ H
theorem ctx_wait (c : Dev nD) (sm : SemLoc sig) (i n : ℕ) (hi : i < 62) (hl : lv ((c : Thread nD τ), sm) i ≤ n)
    {O : CellTallies nD τ sig ℕ} (hO : Above n O) : Ctx y K Ks ⊢ MayWait (c : Thread nD τ) sm i O := by
  unfold Ctx
  iintro ⟨-, -, H⟩
  iapply (mayWait (F := F) c sm i n hi hl hO) $$ H

variable (F) in
/-- What the device owes, whatever it has waited for. -/
def Ow (c : Dev nD) (O : CellTallies nD τ sig ℕ) : sProp 𝕄 := iprop(∃ W, owes (c : Thread nD τ) O W)

/-! ## Credits -/

variable (F) in
/-- What device `c` has been told by its credits of ring `X` before hop `g`, with those still to come. -/
def CrSt (X : Bool) (c : Dev nD) (g : ℕ) : sProp 𝕄 :=
  iprop((∃ S : Finset ℕ, ⌜S ⊆ Finset.range 62 ∧ g - 2 ≤ S.card⌝ ∗ atPos ER (cC X c) 0 S (g - 2)
      ∗ bigSep S (fun d => Known F X (dnD X c) (d + 1)))
    ∗ bigSep (Finset.Ico (g - 2) 62) (fun d => cred (tallyAt (cC X c) d 1)))

theorem crSt_small (X : Bool) (c : Dev nD) {g : ℕ} (h : g < 2) : CrSt F X c (g + 1) = CrSt F X c g := by
  unfold CrSt; rw [show g + 1 - 2 = 0 by omega, show g - 2 = 0 by omega]

/-- Each payload of the credit cell. -/
theorem pay_C (X c) (T : Finset ℕ) : bigSep T (fun d => (Rd y).payload (cC X c) 0 d) = bigSep T (fun d => Known F X (dnD X c) (d + 1)) :=
  bigSep_congr fun d _ => payload_C y X c 0 d

theorem one_int : ((1#32 : BitVec 32).toInt) = ((1 : ℕ) : ℤ) := rfl
theorem two_int : ((2#32 : BitVec 32).toInt) = ((2 : ℕ) : ℤ) := rfl

theorem st_cred (X : Bool) (c : Dev nD) (g : ℕ) (hg : 2 ≤ g) (hg' : g < 62) (k : Pr F) (Q : PUnit → sProp 𝕄) :
    iprop(Ctx y K Ks ∗ CrSt F X c g ∗ Ow F c (owed c g))
      ⊢ iprop((iprop(CrSt F X c (g + 1) ∗ Ow F c (owed c g)) -∗ wpK c k Q) -∗ wpK c (tWait (semC X) 1#32 k) Q) := by
  obtain ⟨e, rfl⟩ := Nat.exists_eq_add_of_le' hg
  unfold CrSt Ow tWait
  rw [one_int, show e + 2 - 2 = e by omega, show e + 2 + 1 - 2 = e + 1 by omega, Ico_cons (show e < 62 by omega),
    bigSep_insert' (not_mem_Ico e 62)]
  iintro ⟨#HC, ⟨⟨%S, %hS, Hat, HK⟩, ⟨Hc, Hcs⟩⟩, ⟨%W, HO⟩⟩ Hk
  iapply (Rounds.wp_wait 𝒱₀ ER (Rd y) (c : Thread nD τ) none (κ := K (cC X c)) (sm := .reg (semC X)) (k' := 1)
      (wpE_semWait_eq 𝒱₀ (c : Thread nD τ) none Set.univ) (Set.mem_univ _) (cr := Finsupp.single e 1) (O := owed c (e + 2)) (W := W)
      {(SemLoc.reg (semC X), e)} (R := 0) (m := e) (T := S) (Finsupp.sum_single_index rfl) (by
        intro p hp
        obtain ⟨i, hi, rfl⟩ := Finset.mem_image.mp (Finset.mem_coe.mp hp)
        have := Finsupp.support_single_subset hi
        rw [Finset.mem_singleton.mp this]; exact Finset.mem_singleton_self _)) $$ [Hc HO Hat]
  · isplitr; · iapply (ctx_cell y (cC_mem X c)); iexact HC
    isplitl [Hc]; · iexact Hc
    isplitl [HO]; · iexact HO
    isplitr; · iapply (ctx_wait y c (.reg (semC X)) e (2 * e + 3) (by omega) (by rw [lv_C]) (above_owed c (by omega))); iexact HC
    iexact Hat
  iintro %S' ⟨%hS', HO, Hat, HP⟩
  ihave HP' := (Entails.of_eq (pay_C y X c (S' \ S))) $$ HP
  iapply Hk
  isplitl [Hat HK HP' Hcs]
  · isplitr [Hcs]
    · iexists S'
      isplitr
      · ipureintro
        rw [duties_C, expect_C] at hS'
        refine ⟨hS'.2.1, ?_⟩
        have := Finset.card_sdiff_add_card_eq_card hS'.2.1
        rw [Finset.card_range] at this
        omega
      isplitl [Hat]; · iexact Hat
      iapply (Entails.of_eq (show iprop(bigSep (S' \ S) (fun d => Known F X (dnD X c) (d + 1)) ∗ bigSep S (fun d => Known F X (dnD X c) (d + 1)))
          = bigSep S' (fun d => Known F X (dnD X c) (d + 1)) by
        rw [← bigSep_union' Finset.sdiff_disjoint, Finset.sdiff_union_of_subset hS'.1]))
      isplitl [HP']; · iexact HP'
      iexact HK
    iexact Hcs
  iexists _; iexact HO

variable (F) in
/-- That the slot hop `g` writes has been released, and its counter is at the hop's round. -/
def Rdy (X : Bool) (c : Dev nD) (g : ℕ) : sProp 𝕄 :=
  iprop(released ES ((dnD X c, X, cur g) : Key) (g / 2 + 1) ∗ reached ER (cR X (cur g) (dnD X c)) (g / 2))
instance (X c g) : BI.Persistent (Rdy F X c g) := by unfold Rdy; infer_instance

theorem rdy (X : Bool) (c : Dev nD) (g : ℕ) (hg' : g < 62) :
    iprop(CrSt F X c (g + 1) ∗ Hello F X (dnD X c)) ⊢ iprop(CrSt F X c (g + 1) ∗ Rdy F X c g) := by
  rcases Nat.lt_or_ge g 2 with hg | hg
  · unfold Hello Rdy
    iintro ⟨HC, ⟨⟨#H1, #H2⟩, ⟨#H3, #H4⟩, -⟩⟩
    isplitl [HC]; · iexact HC
    obtain rfl | rfl : g = 0 ∨ g = 1 := by omega
    · isplitr; · iexact H1
      iexact H3
    · isplitr; · iexact H2
      iexact H4
  · obtain ⟨e, rfl⟩ := Nat.exists_eq_add_of_le' hg
    unfold CrSt Rdy
    rw [show e + 2 + 1 - 2 = e + 1 by omega, show (e + 2) / 2 = e / 2 + 1 by omega,
      show cur (e + 2) = cur e from Fin.ext (by show (e + 2) % 2 = e % 2; omega)]
    iintro ⟨⟨⟨%S, %hS, Hat, #HK⟩, Hcs⟩, -⟩
    have hd : ∃ d ∈ S, e ≤ d := Classical.byContradiction fun hn => by
      have := Finset.card_le_card (show S ⊆ Finset.range e from fun d hd => Finset.mem_range.mpr
        (Nat.lt_of_not_le fun h => hn ⟨d, hd, h⟩))
      rw [Finset.card_range] at this
      omega
    obtain ⟨d, hd, hed⟩ := hd
    ihave #HK1 := (bigSep_elim' (Φ := fun d => Known F X (dnD X c) (d + 1)) hd) $$ HK
    unfold Known
    ihave #HK2 := (bigSep_elim' (Φ := fun e => (iprop(released ES ((dnD X c, X, cur e) : Key) (e / 2 + 2) ∗ reached ER (cR X (cur e) (dnD X c)) (e / 2 + 1)) : sProp 𝕄))
      (Finset.mem_range.mpr (show e < d + 1 by omega))) $$ HK1
    isplitl [Hat Hcs]
    · isplitl [Hat]
      · iexists S
        isplitr; · ipureintro; exact hS
        isplitl [Hat]; · iexact Hat
        iexact HK
      iexact Hcs
    iexact HK2

/-! ## Sends -/

variable (F) in
/-- No send of slot `s` is under way; `r` have left. -/
def Idle (X : Bool) (c : Dev nD) (s : Fin 2) (r : ℕ) : sProp 𝕄 := iprop(atPos ER (cS X s c) r ∅ 0 ∗ reached ER (cS X s c) r)
variable (F) in
/-- Send number `r` of slot `s` is under way. -/
def Fly (X : Bool) (c : Dev nD) (s : Fin 2) (r : ℕ) : sProp 𝕄 := iprop(atPos ER (cS X s c) r ∅ 0 ∗ cred (tallyAt (cS X s c) 0 NN))

theorem cred_S (X : Bool) (s : Fin 2) : (sv (mS X) s).view.dmaCredit = NN := by cases X <;> rfl
theorem cred_R (X : Bool) (s : Fin 2) : (sv (mR X) s).view.dmaCredit = NN := by cases X <;> rfl

set_option maxHeartbeats 800000 in
theorem st_send (E : Env) (X : Bool) (c : Dev nD) (hdn : dn E X = dnD X c) (g : ℕ) (hg : g < 62) (O : CellTallies nD τ sig ℕ) (k : Pr F) (Q : PUnit → sProp 𝕄) :
    iprop(Ctx y K Ks ∗ Rdy F X c g ∗ (dutyTok ER (cS X (cur g) c) (g / 2) 0 ∗ dutyTok ER (cR X (cur g) (dnD X c)) (g / 2) 0
        ∗ writeTok ES ((dnD X c, X, cur g) : Key) (g / 2 + 1)) ∗ Idle F X c (cur g) (g / 2) ∗ sIs (mS X) (cur g) c fullShare (snd y X g c)
        ∗ Ow F c (O + rT X c g))
      ⊢ iprop((iprop(Fly F X c (cur g) (g / 2) ∗ Ow F c O) -∗ wpK c k Q) -∗ wpK c (tSend E X (cur g) k) Q) := by
  unfold tSend Rdy Idle Fly Ow sIs
  have hup : upD X (dn E X) = c := by rw [hdn, up_dn]
  rw [← hdn]
  iintro ⟨#HC, ⟨#Hrel, #HrR⟩, ⟨HtS, HtR, HtW⟩, ⟨Hat, #HrS⟩, ⟨%fs, %hfs, Hs⟩, ⟨%W, HO⟩⟩ Hk
  ihave #HIs := (ctx_slot y (dn E X, X, cur g)) $$ HC
  imod (slot_take ES (k := ((dn E X, X, cur g) : Key)) (S := slotOf F (dn E X, X, cur g)) (Set.mem_univ (Ks (dn E X, X, cur g))) (g / 2 + 1)) $$ [HtW] with Hd
  · isplitr; · iexact HIs
    isplitr; · iexact Hrel
    iexact HtW
  unfold slotOf sAny slot
  icases Hd with ⟨%fd, Hd⟩
  iapply (Rounds.wp_send_pointsTo 𝒱₀ ER (Rd y) (c : Thread nD τ) none (c' := (dn E X : Thread nD τ)) (src := sv (mS X) (cur g)) (dst := sv (mR X) (cur g))
      (sS := .dma (semS X (cur g))) (sem := .dma (semR X (cur g))) (q := fullShare) (fs := fs) (κ₁ := K (cS X (cur g) c)) (κ₂ := K (cR X (cur g) (dn E X)))
      (r₁ := g / 2) (r₂ := g / 2) (d₁ := 0) (d₂ := 0) (fd := fd)
      (by rw [duties_S y X _ c (by omega)]; exact Finset.mem_singleton_self _) (by rw [duties_R y X _ _ (by omega)]; exact Finset.mem_singleton_self _)
      g 0 NN (by cases X <;> rfl) (amount_S y X _ c _ _) (amount_R y X _ _ _ _) (O₀ := O + rT X c g) O (by rw [hdn]) (W := W)
      (by rw [payload_S]; unfold sAny slot; iintro H; iexists fs; iexact H)
      (by
        rw [payload_R, hup, show 2 * (g / 2) + (cur g).val = g from Nat.div_add_mod g 2]; unfold sIs
        iintro H
        iexists _
        isplitr
        rotate_left
        · iexact H
        · ipureintro; exact (slot_write _ _ _ _).trans hfs)) $$ [Hs Hd HO HtS HtR]
  · isplitr; · iapply (ctx_cell y (cS_mem X (cur g) c)); iexact HC
    isplitr; · iapply (ctx_cell y (cR_mem X (cur g) (dn E X))); iexact HC
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hat Hc]
  · isplitl [Hat]; · iexact Hat
    iexact Hc
  iexists W; iexact HO

theorem st_waitS (X : Bool) (c : Dev nD) (s : Fin 2) (r : ℕ) (hr : r < 31) (O : CellTallies nD τ sig ℕ) (hO : Above 0 O) (k : Pr F) (Q : PUnit → sProp 𝕄) :
    iprop(Ctx y K Ks ∗ Fly F X c s r ∗ Ow F c O)
      ⊢ iprop((iprop(Idle F X c s (r + 1) ∗ sAny F (mS X) s c ∗ Ow F c O) -∗ wpK c k Q) -∗ wpK c (tWaitS X s k) Q) := by
  unfold tWaitS Idle Fly Ow
  iintro ⟨#HC, ⟨Hat, Hc⟩, ⟨%W, HO⟩⟩ Hk
  iapply (Rounds.wp_wait_rest_token 𝒱₀ ER (Rd y) (c : Thread nD τ) none (κ := K (cS X s c)) (sm := .dma (semS X s))
      (fun Kk => (wpE_waitDma2_eq 𝒱₀ (c : Thread nD τ) none Set.univ (dst := sv (mS X) s) Kk).trans (by rw [cred_S])) (Set.mem_univ _) 0 (O := O) (W := W) (R := r) (m := 0) (T := ∅)
      (k' := NN) ((Nat.zero_add _).trans (expect_S y X s c hr).symm)) $$ [Hc HO Hat]
  · isplitr; · iapply (ctx_cell y (cS_mem X s c)); iexact HC
    isplitl [Hc]; · iexact Hc
    isplitl [HO]; · iexact HO
    isplitr; · iapply (ctx_wait y c (.dma (semS X s)) 0 0 (by decide) (by rw [lv_S]) hO); iexact HC
    iexact Hat
  iintro ⟨HO, Hat, #Hr, Hpay⟩
  ihave Hp := (Entails.of_eq (rest_S y X s c hr)) $$ Hpay
  iapply Hk
  isplitl [Hat]
  · isplitl [Hat]; · iexact Hat
    iexact Hr
  isplitl [Hp]; · iexact Hp
  iexists _; iexact HO

/-! ## Receives -/

theorem st_waitR (X : Bool) (c : Dev nD) (g : ℕ) (hg : g < 62) (O : CellTallies nD τ sig ℕ) (hO : Above (2 * g + 2) O) (k : Pr F) (Q : PUnit → sProp 𝕄) :
    iprop(Ctx y K Ks ∗ atPos ER (cR X (cur g) c) (g / 2) ∅ 0 ∗ cred (tallyAt (cR X (cur g) c) g NN) ∗ Ow F c O)
      ⊢ iprop((iprop((atPos ER (cR X (cur g) c) (g / 2 + 1) ∅ 0 ∗ reached ER (cR X (cur g) c) (g / 2 + 1))
          ∗ sIs (mR X) (cur g) c fullShare (snd y X g (upD X c)) ∗ Ow F c O) -∗ wpK c k Q) -∗ wpK c (tWaitR X (cur g) k) Q) := by
  unfold tWaitR Ow
  iintro ⟨#HC, Hat, Hc, ⟨%W, HO⟩⟩ Hk
  iapply (Rounds.wp_wait_rest_token 𝒱₀ ER (Rd y) (c : Thread nD τ) none (κ := K (cR X (cur g) c)) (sm := .dma (semR X (cur g)))
      (fun Kk => (wpE_waitDma2_eq 𝒱₀ (c : Thread nD τ) none Set.univ (dst := sv (mR X) (cur g)) Kk).trans (by rw [cred_R])) (Set.mem_univ _) g (O := O) (W := W) (R := g / 2) (m := 0) (T := ∅)
      (k' := NN) ((Nat.zero_add _).trans (expect_R y X (cur g) c (show g / 2 < 31 by omega)).symm)) $$ [Hc HO Hat]
  · isplitr; · iapply (ctx_cell y (cR_mem X (cur g) c)); iexact HC
    isplitl [Hc]; · iexact Hc
    isplitl [HO]; · iexact HO
    isplitr; · iapply (ctx_wait y c (.dma (semR X (cur g))) g (2 * g + 2) hg (by rw [lv_R]) hO); iexact HC
    iexact Hat
  iintro ⟨HO, Hat, #Hr, Hpay⟩
  ihave Hp := (Entails.of_eq ((rest_R y X (cur g) c (show g / 2 < 31 by omega)).trans
    (by rw [show 2 * (g / 2) + (cur g).val = g from Nat.div_add_mod g 2]))) $$ Hpay
  iapply Hk
  isplitl [Hat]
  · isplitl [Hat]; · iexact Hat
    iexact Hr
  isplitl [Hp]; · iexact Hp
  iexists _; iexact HO

/-! ## The sum and the copy -/

theorem st_add (X : Bool) (c : Dev nD) (n s : Fin 2) (a b : Slab F) (k : Pr F) (Q : PUnit → sProp 𝕄) :
    iprop(sIs (mS X) n c fullShare a ∗ sIs (mR X) s c fullShare b)
      ⊢ iprop((iprop(sIs (mS X) n c fullShare (addf (φ := .f32) a b) ∗ sIs (mR X) s c fullShare b) -∗ wpK c k Q) -∗ wpK c (tAdd X n s k) Q) := by
  unfold tAdd sIs
  iintro ⟨⟨%fa, %ha, HA⟩, ⟨%fb, %hb, HB⟩⟩ Hk
  iapply (wp_load 𝒱₀ (c : Thread nD τ) none Set.univ (load_sub (mS X) n)) $$ HA
  iintro HA
  iapply (wp_load 𝒱₀ (c : Thread nD τ) none Set.univ (load_sub (mR X) s)) $$ HB
  iintro HB
  iapply (wp_load 𝒱₀ (c : Thread nD τ) none Set.univ (load_sub (mS X) n)) $$ HA
  iintro HA
  iapply (wp_store 𝒱₀ (c : Thread nD τ) none Set.univ (store_sub (mS X) n)) $$ HA
  iintro HA
  iapply Hk
  isplitl [HA]
  · iexists _
    isplitr
    rotate_left
    · iexact HA
    ipureintro
    unfold pAdd
    rw [store_read, load_read, load_read, ha, hb]
  iexists fb
  isplitr; · ipureintro; exact hb
  iexact HB

theorem st_copy (X : Bool) (c : Dev nD) (n s : Fin 2) (q : PosShare TreeShare) (b : Slab F) (k : Pr F) (Q : PUnit → sProp 𝕄) :
    iprop(sAny F (mS X) n c ∗ sIs (mR X) s c q b)
      ⊢ iprop((iprop(sIs (mS X) n c fullShare b ∗ sIs (mR X) s c q b) -∗ wpK c k Q) -∗ wpK c (tCopy X n s k) Q) := by
  unfold tCopy sIs sAny slot
  iintro ⟨⟨%fa, HA⟩, ⟨%fb, %hb, HB⟩⟩ Hk
  iapply (wp_load 𝒱₀ (c : Thread nD τ) none Set.univ (load_sub (mR X) s)) $$ HB
  iintro HB
  iapply (wp_load 𝒱₀ (c : Thread nD τ) none Set.univ (load_sub (mS X) n)) $$ HA
  iintro HA
  iapply (wp_store 𝒱₀ (c : Thread nD τ) none Set.univ (store_sub (mS X) n)) $$ HA
  iintro HA
  iapply Hk
  isplitl [HA]
  · iexists _
    isplitr
    rotate_left
    · iexact HA
    ipureintro
    unfold pCopy
    rw [store_read, load_read, hb]
  iexists fb
  isplitr; · ipureintro; exact hb
  iexact HB

/-! ## Local copies -/

/-- The half share each ring holds of the device's partial sums. -/
abbrev hs : Bool → PosShare TreeShare
  | false => fullShare.left
  | true => fullShare.right
/-- The ring's share of the partial sums. -/
def Yh (X : Bool) (c : Dev nD) : sProp 𝕄 := yM.view.loc (c : Thread nD τ) ↦[Finset.univ]{hs X} (y c)
/-- The load of chunk `i` into slot `s` under way. -/
def LFly (X : Bool) (c : Dev nD) (s : Fin 2) (i : Fin 32) : sProp 𝕄 :=
  iprop((∃ fd, Flight EC (c : Thread nD τ) (.dma (semL X s)) 0 NN
      iprop(((sv (mS X) s).view.loc (c : Thread nD τ) ↦[(sv (mS X) s).view.set]{fullShare} ((sv (mS X) s).view.write (Elt F) fd (chunk (y c) X i) Finset.univ))
        ∗ (yM.view.loc (c : Thread nD τ) ↦[(rv yM (rowOff X i) (rowOff_inb X i)).view.set]{hs X} (y c))))
    ∗ (yM.view.loc (c : Thread nD τ) ↦[Finset.univ \ (rv yM (rowOff X i) (rowOff_inb X i)).view.set]{hs X} (y c)))

theorem st_load (X : Bool) (c : Dev nD) (s : Fin 2) (i : Fin 32) (o : Fin 2 → ℕ) (h) (ho : o = rowOff X i) (k : Pr F) (Q : PUnit → sProp 𝕄) :
    iprop(semVal ((c : Thread nD τ), .dma (semL X s)) 0 ∗ sAny F (mS X) s c ∗ Yh y X c)
      ⊢ iprop((LFly y X c s i -∗ wpK c k Q) -∗ wpK c (tLoad X s o h k) Q) := by
  subst ho
  unfold tLoad LFly Yh sAny slot
  iintro ⟨Hv, ⟨%fd, Hd⟩, Hy⟩ Hk
  ihave Hy' := (pointsTo_split_subset (Finset.subset_univ (rv yM (rowOff X i) (rowOff_inb X i)).view.set)) $$ Hy
  icases Hy' with ⟨Hy, Hr⟩
  iapply (wp_dmaLocal EC 𝒱₀ (c : Thread nD τ) none 0 NN (by cases X <;> rfl) (by decide) (Finset.Subset.refl _)) $$ [Hy Hd Hv]
  · isplitl [Hy]; · iexact Hy
    isplitl [Hd]; · iexact Hd
    iexact Hv
  iintro HF
  iapply Hk
  isplitl [HF]; · iexists fd; iexact HF
  iexact Hr

theorem st_waitL (X : Bool) (c : Dev nD) (s : Fin 2) (i : Fin 32) (o : Fin 2 → ℕ) (h) (O : CellTallies nD τ sig ℕ) (hO : Above 0 O)
    (hl : lv ((c : Thread nD τ), .dma (semL X s)) 0 ≤ 0) (k : Pr F) (Q : PUnit → sProp 𝕄) :
    iprop(Ctx y K Ks ∗ LFly y X c s i ∗ Ow F c O)
      ⊢ iprop((iprop(semVal ((c : Thread nD τ), .dma (semL X s)) 0 ∗ sIs (mS X) s c fullShare (chunk (y c) X i) ∗ Yh y X c ∗ Ow F c O) -∗ wpK c k Q)
        -∗ wpK c (tWaitL X s o h k) Q) := by
  unfold tWaitL LFly Yh Ow
  iintro ⟨#HC, ⟨⟨%fd, HF⟩, Hr⟩, ⟨%W, HO⟩⟩ Hk
  iapply (wp_waitLocalO EC 𝒱₀ (c : Thread nD τ) none (sem := semL X s) (O := O) (W := W) 0 (N := NN) (by cases X <;> rfl)) $$ [HF HO]
  · isplitl [HF]; · iexact HF
    isplitl [HO]; · iexact HO
    iapply (ctx_wait y c (.dma (semL X s)) 0 0 (by decide) hl hO); iexact HC
  iintro ⟨⟨Hd, Hy⟩, Hv, HO⟩
  iapply Hk
  isplitl [Hv]; · iexact Hv
  isplitl [Hd]
  · unfold sIs
    iexists _
    isplitr
    rotate_left
    · iexact Hd
    ipureintro; exact slot_write _ _ _ _
  isplitr [HO]
  · ihave Hj := (pointsTo_split_subset (ℓ := yM.view.loc (c : Thread nD τ)) (q := hs X) (f := y c)
      (Finset.subset_univ (rv yM (rowOff X i) (rowOff_inb X i)).view.set)).2 $$ [Hy Hr]
    · isplitl [Hy]; · iexact Hy
      iexact Hr
    iexact Hj
  iexists _; iexact HO

/-- The copy of slot `s` of `M`, holding `v`, to chunk `i` of the half of the result at `fo` under way. -/
def TFly (X : Bool) (M : Memref sig .tc .vmem S2x64x8192 .f32) (c : Dev nD) (s : Fin 2) (q : PosShare TreeShare) (v : Slab F) (i : Fin 32) (fo : Whole F) : sProp 𝕄 :=
  iprop(∃ f, ⌜(sv M s).view.read (Elt F) f = v⌝ ∗ Flight EC (c : Thread nD τ) (.dma (semT X)) 0 NN
      iprop((oM.view.loc (c : Thread nD τ) ↦[half X]{fullShare} ((rv oM (rowOff X i) (rowOff_inb X i)).view.write (Elt F) fo v Finset.univ))
        ∗ ((sv M s).view.loc (c : Thread nD τ) ↦[(sv M s).view.set]{q} f)))

theorem st_out (X : Bool) (M : Memref sig .tc .vmem S2x64x8192 .f32) (c : Dev nD) (s : Fin 2) (q : PosShare TreeShare) (v : Slab F) (i : Fin 32) (fo : Whole F)
    (o : Fin 2 → ℕ) (h) (ho : o = rowOff X i) (k : Pr F) (Q : PUnit → sProp 𝕄) :
    iprop(semVal ((c : Thread nD τ), .dma (semT X)) 0 ∗ sIs M s c q v ∗ (oM.view.loc (c : Thread nD τ) ↦[half X]{fullShare} fo))
      ⊢ iprop((TFly X M c s q v i fo -∗ wpK c k Q) -∗ wpK c (tOut X M s o h k) Q) := by
  subst ho
  unfold tOut TFly sIs
  iintro ⟨Hv, ⟨%f, %hf, Hs⟩, Ho⟩ Hk
  subst hf
  iapply (wp_dmaLocal EC 𝒱₀ (c : Thread nD τ) none (dst := rv oM (rowOff X i) h) (Sd := half X) 0 NN (by cases X <;> rfl) (by decide) (ov_set_half X i)) $$ [Hs Ho Hv]
  · isplitl [Hs]; · iexact Hs
    isplitl [Ho]; · iexact Ho
    iexact Hv
  iintro HF
  iapply Hk
  iexists f
  isplitr; · ipureintro; rfl
  iexact HF

theorem st_waitT (X : Bool) (M : Memref sig .tc .vmem S2x64x8192 .f32) (c : Dev nD) (s : Fin 2) (q : PosShare TreeShare) (v : Slab F) (i : Fin 32) (fo : Whole F)
    (o : Fin 2 → ℕ) (h) (O : CellTallies nD τ sig ℕ) (hO : Above 0 O)
    (hl : lv ((c : Thread nD τ), .dma (semT X)) 0 ≤ 0) (k : Pr F) (Q : PUnit → sProp 𝕄) :
    iprop(Ctx y K Ks ∗ TFly X M c s q v i fo ∗ Ow F c O)
      ⊢ iprop((iprop(semVal ((c : Thread nD τ), .dma (semT X)) 0 ∗ sIs M s c q v
            ∗ (oM.view.loc (c : Thread nD τ) ↦[half X]{fullShare} ((rv oM (rowOff X i) (rowOff_inb X i)).view.write (Elt F) fo v Finset.univ)) ∗ Ow F c O) -∗ wpK c k Q)
        -∗ wpK c (tWaitT X M s o h k) Q) := by
  unfold tWaitT TFly Ow
  iintro ⟨#HC, ⟨%f, %hf, HF⟩, ⟨%W, HO⟩⟩ Hk
  iapply (wp_waitLocalO EC 𝒱₀ (c : Thread nD τ) none (sem := semT X) (O := O) (W := W) 0 (N := NN) (by cases X <;> rfl)) $$ [HF HO]
  · isplitl [HF]; · iexact HF
    isplitl [HO]; · iexact HO
    iapply (ctx_wait y c (.dma (semT X)) 0 0 (by decide) hl hO); iexact HC
  iintro ⟨⟨Ho, Hs⟩, Hv, HO⟩
  iapply Hk
  isplitl [Hv]; · iexact Hv
  isplitl [Hs]
  · unfold sIs
    iexists f
    isplitr; · ipureintro; exact hf
    iexact Hs
  isplitl [Ho]; · iexact Ho
  iexists _; iexact HO

/-! ## The credit given -/

theorem known_succ (X : Bool) (c : Dev nD) (n : ℕ) : Known F X c (n + 1)
    = iprop((released ES ((c, X, cur n) : Key) (n / 2 + 2) ∗ reached ER (cR X (cur n) c) (n / 2 + 1)) ∗ Known F X c n) := by
  unfold Known; rw [Finset.range_add_one, bigSep_insert' Finset.notMem_range_self]

theorem st_sig (X : Bool) (c d : Dev nD) (hd : d = upD X c) (g : ℕ) (hg : g < 62) (v : Slab F) (O : CellTallies nD τ sig ℕ) (k : Pr F) (Q : PUnit → sProp 𝕄) :
    iprop(Ctx y K Ks ∗ Hello F (!X) (dnD (!X) c) ∗ dutyTok ER (cC X (upD X c)) 0 g ∗ Known F X c g ∗ reached ER (cR X (cur g) c) (g / 2 + 1)
        ∗ readerAt ES ((c, X, cur g) : Key) (g / 2 + 1) ∗ sIs (mR X) (cur g) c fullShare v ∗ Ow F c (O + cT X c g))
      ⊢ iprop((iprop(Known F X c (g + 1) ∗ readerAt ES ((c, X, cur g) : Key) (g / 2 + 2) ∗ Ow F c O) -∗ wpK c k Q) -∗ wpK c (tSignal d (semC X) k) Q) := by
  subst hd
  unfold tSignal Ow sIs Hello
  rw [one_int, dn_not, Bool.not_not]
  iintro ⟨#HC, ⟨-, -, #HrC⟩, Htok, #HK, #HrR, Hra, ⟨%f, -, Hs⟩, ⟨%W, HO⟩⟩ Hk
  ihave #HIs := (ctx_slot y (c, X, cur g)) $$ HC
  imod (slot_release ES (k := ((c, X, cur g) : Key)) (S := slotOf F (c, X, cur g)) (Set.mem_univ (Ks (c, X, cur g)))
    (slot_slot_false (slot_nonempty (mR X) (cur g))) (g / 2 + 1)) $$ [Hra Hs] with ⟨Hra, #Hrel⟩
  · isplitr; · iexact HIs
    isplitl [Hra]; · iexact Hra
    unfold slotOf sAny slot
    iexists f; iexact Hs
  ihave #HK' := (show iprop((released ES ((c, X, cur g) : Key) (g / 2 + 1 + 1) ∗ reached ER (cR X (cur g) c) (g / 2 + 1)) ∗ Known F X c g) ⊢ Known F X c (g + 1)
      from Entails.of_eq (known_succ X c g).symm) $$ [HK HrR Hrel]
  · isplitr
    · isplitr; · iexact Hrel
      iexact HrR
    iexact HK
  iapply (Rounds.wp_signal 𝒱₀ ER (Rd y) (c : Thread nD τ) none (dst := (upD X c : Thread nD τ)) (sem := semC X) (r := 0) (d := g) (κ := K (cC X (upD X c)))
      (by rw [duties_C]; exact Finset.mem_range.mpr hg) (amount_C y X (upD X c) 0 g) g O rfl (W := W)) $$ [HO Htok]
  · isplitr; · iapply (ctx_cell y (cC_mem X (upD X c))); iexact HC
    isplitl [HO]; · iexact HO
    isplitl [Htok]; · iexact Htok
    isplitr
    · rw [payload_C, dn_up]; iexact HK'
    iexact HrC
  iintro HO
  iapply Hk
  isplitr; · iexact HK'
  isplitl [Hra]; · iexact Hra
  iexists W; iexact HO

end Cert.KernelIdeal.Ring

end
-- ==== Proof.KernelIdeal.Offs.lean ====
/- The row offsets the kernel computes. -/
module

public import proofs.«01_k».proof.Proof.KernelIdeal.Sched

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]
local notation "𝕄" => MT nD τ sig ℕ (Elt F) ℕ UU ℕ

theorem off_pos : ∀ (X : Bool) (p r : Fin 32), off X (BitVec.ofNat 32 p.val) r = rowOff X (sh X p r.val) := by
  set_option maxRecDepth 100000 in decide
theorem off0_pos : ∀ (X : Bool) (p : Fin 32), off0 X (BitVec.ofNat 32 p.val) = rowOff X p := by decide
theorem offE_pos : ∀ (X : Bool) (p : Fin 32), offE X (BitVec.ofNat 32 p.val) = rowOff X (sh X p 31) := by decide

/-- The words read are the device's place and neighbours. -/
structure Good (E : Env) (c : Dev nD) : Prop where
  v0 : E.v0 = BitVec.ofNat 32 (posT c).val
  dn : ∀ X, dn E X = dnD X c

theorem Good.off {E : Env} {c : Dev nD} (h : Good E c) (X : Bool) {r : ℕ} (hr : r < 32) : off X E.v0 (fin32 r) = rowOff X (sh X (posT c) r) := by
  rw [h.v0, off_pos]; show rowOff X (sh X (posT c) (r % 32)) = _; rw [Nat.mod_eq_of_lt hr]
theorem Good.off0 {E : Env} {c : Dev nD} (h : Good E c) (X : Bool) : off0 X E.v0 = rowOff X (posT c) := by rw [h.v0, off0_pos]
theorem Good.offE {E : Env} {c : Dev nD} (h : Good E c) (X : Bool) : offE X E.v0 = rowOff X (sh X (posT c) 31) := by rw [h.v0, offE_pos]

theorem ble_t {n g : ℕ} (h : n ≤ g) : Nat.ble n g = true := Nat.ble_eq.mpr h
theorem ble_f {n g : ℕ} (h : g < n) : Nat.ble n g = false := Bool.eq_false_iff.mpr fun e => absurd (Nat.ble_eq.mp e) (Nat.not_le_of_lt h)

end Cert.KernelIdeal.Ring

end
-- ==== Proof.KernelIdeal.HopSteps.lean ====
/- The steps of a hop, over the state a ring is in at each. -/
module

public import proofs.«01_k».proof.Proof.KernelIdeal.Steps
public import proofs.«01_k».proof.Proof.KernelIdeal.Offs

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]
local notation "𝕄" => MT nD τ sig ℕ (Elt F) ℕ UU ℕ

variable (F) in
abbrev posR (X : Bool) (c : Dev nD) (s : Fin 2) (r : ℕ) : sProp 𝕄 := atPos ER (cR X s c) r ∅ 0

variable (y : Dev nD → Whole F) {K : GSem nD τ sig → ℕ} {Ks : Key → ℕ} (E : Env) (c : Dev nD) (hE : Good E c)

/-! ## The states of a ring -/

variable (F) in
/-- The send before the last: under way, but before hop 0. -/
def SndNxt (X : Bool) (g : ℕ) : sProp 𝕄 :=
  if g = 0 then iprop(Idle F X c (nxt g) 0 ∗ sAny F (mS X) (nxt g) c) else Fly F X c (nxt g) ((g - 1) / 2)
/-- The next slot to send, before hop `g`: what hop `g` sends, when there is one. -/
def NX (X : Bool) (g : ℕ) : sProp 𝕄 := if g < 62 then sIs (mS X) (cur g) c fullShare (snd y X g c) else sAny F (mS X) (cur g) c

/-- What the half of the result holds before hop `g`. -/
def OutP (X : Bool) (g : ℕ) (fo : Whole F) : Prop :=
  (∀ t, t < g - 31 → chunk fo X (sh X (posT c) t) = tot y X (sh X (posT c) t))
    ∧ (31 ≤ g → chunk fo X (sh X (posT c) 31) = tot y X (sh X (posT c) 31))
def Out (P : Whole F → Prop) (X : Bool) : sProp 𝕄 := iprop(∃ fo : Whole F, ⌜P fo⌝ ∗ (oM.view.loc (c : Thread nD τ) ↦[half X]{fullShare} fo))
variable (F) in
abbrev vL (X : Bool) (s : Fin 2) : sProp 𝕄 := semVal ((c : Thread nD τ), .dma (semL X s)) 0
variable (F) in
abbrev vT (X : Bool) : sProp 𝕄 := semVal ((c : Thread nD τ), .dma (semT X)) 0

def Ld1 (X : Bool) (g : ℕ) : sProp 𝕄 :=
  if g < 31 then LFly y X c (nxt g) (sh X (posT c) (g + 1)) else iprop(vL F c X (nxt g) ∗ sAny F (mS X) (nxt g) c ∗ Yh y X c)
def Ld2 (X : Bool) (g : ℕ) : sProp 𝕄 :=
  if g < 31 then sIs (mS X) (nxt g) c fullShare (chunk (y c) X (sh X (posT c) (g + 1))) else sAny F (mS X) (nxt g) c

/-- After the sum, or with the copy of what was received to the result under way. -/
def Mid (X : Bool) (g : ℕ) (N : sProp 𝕄) : sProp 𝕄 :=
  if g < 31 then iprop(NX y c X (g + 1) ∗ sIs (mR X) (cur g) c fullShare (snd y X g (upD X c)) ∗ vT F c X ∗ Out c (OutP y c X g) X)
  else iprop(N ∗ sIs (mR X) (cur g) c fullShare.right (snd y X g (upD X c))
    ∗ ∃ fo : Whole F, ⌜OutP y c X g fo⌝ ∗ TFly X (mR X) c (cur g) fullShare.left (snd y X g (upD X c)) (sh X (posT c) (g - 31)) fo)
/-- After the received slot is done with. -/
def OutE (X : Bool) (g : ℕ) (fo : Whole F) : Prop := if g < 31 then OutP y c X g fo else OutP y c X (g + 1) fo

theorem sem_lv (X s) : lv ((c : Thread nD τ), .dma (semL X s)) 0 ≤ 0 := by cases X <;> fin_cases s <;> exact Nat.le_refl 0
theorem semT_lv (X) : lv ((c : Thread nD τ), .dma (semT X)) 0 ≤ 0 := by cases X <;> exact Nat.le_refl 0

abbrev ix (X : Bool) (a b : ℕ) : ℕ := bif X then b else a

include hE

theorem hp_cred (X : Bool) (g : ℕ) (hg : g < 62) (k : Pr F) (Q : PUnit → sProp 𝕄) :
    iprop(Ctx y K Ks ∗ CrSt F X c g ∗ Ow F c (owed c g))
      ⊢ iprop((iprop(CrSt F X c (g + 1) ∗ Ow F c (owed c g)) -∗ wpK c k Q) -∗ wpK c (step E g (ix X 0 1) k) Q) := by
  have e : step E g (ix X 0 1) k = bif Nat.ble 2 g then tWait (semC X) 1#32 k else k := by cases X <;> rfl
  rw [e]
  rcases Nat.lt_or_ge g 2 with h | h
  · rw [ble_f h, cond_false, crSt_small X c h]
    iintro ⟨-, H1, H2⟩ Hk
    iapply Hk
    isplitl [H1]; · iexact H1
    iexact H2
  · rw [ble_t h, cond_true]
    exact st_cred y X c g h hg k Q

theorem hp_send (X : Bool) (g : ℕ) (hg : g < 62) (O : CellTallies nD τ sig ℕ) (k : Pr F) (Q : PUnit → sProp 𝕄) :
    iprop(Ctx y K Ks ∗ Rdy F X c g ∗ (dutyTok ER (cS X (cur g) c) (g / 2) 0 ∗ dutyTok ER (cR X (cur g) (dnD X c)) (g / 2) 0
        ∗ writeTok ES ((dnD X c, X, cur g) : Key) (g / 2 + 1)) ∗ Idle F X c (cur g) (g / 2) ∗ NX y c X g
        ∗ Ow F c (O + rT X c g))
      ⊢ iprop((iprop(Fly F X c (cur g) (g / 2) ∗ Ow F c O) -∗ wpK c k Q) -∗ wpK c (step E g (ix X 2 3) k) Q) := by
  have e : step E g (ix X 2 3) k = tSend E X (cur g) k := by cases X <;> rfl
  unfold NX
  rw [e, if_pos hg]
  exact st_send y E X c (hE.dn X) g hg O k Q

theorem hp_waitS (X : Bool) (g : ℕ) (hg : g < 62) (O : CellTallies nD τ sig ℕ) (hO : Above 0 O) (k : Pr F) (Q : PUnit → sProp 𝕄) :
    iprop(Ctx y K Ks ∗ SndNxt F c X g ∗ Ow F c O)
      ⊢ iprop((iprop(Idle F X c (nxt g) ((g + 1) / 2) ∗ sAny F (mS X) (nxt g) c ∗ Ow F c O) -∗ wpK c k Q) -∗ wpK c (step E g (ix X 4 5) k) Q) := by
  have e : step E g (ix X 4 5) k = bif Nat.ble 1 g then tWaitS X (nxt g) k else k := by cases X <;> rfl
  unfold SndNxt
  rw [e]
  rcases Nat.eq_zero_or_pos g with h | h
  · subst h
    rw [if_pos rfl, ble_f (by decide), cond_false, show (0 + 1) / 2 = 0 from rfl]
    iintro ⟨-, ⟨H1, H2⟩, H3⟩ Hk
    iapply Hk
    isplitl [H1]; · iexact H1
    isplitl [H2]; · iexact H2
    iexact H3
  · rw [if_neg (by omega), ble_t h, cond_true, show (g + 1) / 2 = (g - 1) / 2 + 1 by omega]
    exact st_waitS y X c (nxt g) ((g - 1) / 2) (by omega) O hO k Q

theorem hp_load (X : Bool) (g : ℕ) (hg : g < 62) (k : Pr F) (Q : PUnit → sProp 𝕄) :
    iprop(vL F c X (nxt g) ∗ sAny F (mS X) (nxt g) c ∗ Yh y X c)
      ⊢ iprop((Ld1 y c X g -∗ wpK c k Q) -∗ wpK c (step E g (ix X 6 7) k) Q) := by
  have e : step E g (ix X 6 7) k = bif Nat.ble 31 g then k else tLoad X (nxt g) (off X E.v0 (fin32 (g + 1))) (off_inb X E.v0 E.h3 (fin32 (g + 1))) k := by
    cases X <;> rfl
  unfold Ld1
  rw [e]
  rcases Nat.lt_or_ge g 31 with h | h
  · rw [if_pos h, ble_f h, cond_false]
    exact st_load y X c (nxt g) _ _ _ (hE.off X (by omega)) k Q
  · rw [if_neg (by omega), ble_t h, cond_true]
    iintro H Hk
    iapply Hk; iexact H

theorem hp_waitL (X : Bool) (g : ℕ) (hg : g < 62) (O : CellTallies nD τ sig ℕ) (hO : Above 0 O) (k : Pr F) (Q : PUnit → sProp 𝕄) :
    iprop(Ctx y K Ks ∗ Ld1 y c X g ∗ Ow F c O)
      ⊢ iprop((iprop(vL F c X (nxt g) ∗ Ld2 y c X g ∗ Yh y X c ∗ Ow F c O) -∗ wpK c k Q) -∗ wpK c (step E g (ix X 8 9) k) Q) := by
  have e : step E g (ix X 8 9) k = bif Nat.ble 31 g then k else tWaitL X (nxt g) (off X E.v0 (fin32 (g + 1))) (off_inb X E.v0 E.h3 (fin32 (g + 1))) k := by
    cases X <;> rfl
  unfold Ld1 Ld2
  rw [e]
  rcases Nat.lt_or_ge g 31 with h | h
  · rw [if_pos h, if_pos h, ble_f h, cond_false]
    exact st_waitL y X c (nxt g) _ _ _ O hO (sem_lv c X (nxt g)) k Q
  · rw [if_neg (by omega), if_neg (by omega), ble_t h, cond_true]
    iintro ⟨-, ⟨H1, H2, H3⟩, H4⟩ Hk
    iapply Hk
    isplitl [H1]; · iexact H1
    isplitl [H2]; · iexact H2
    isplitl [H3]; · iexact H3
    iexact H4

theorem hp_waitR (X : Bool) (g : ℕ) (hg : g < 62) (O : CellTallies nD τ sig ℕ) (hO : Above (2 * g + 2) O) (k : Pr F) (Q : PUnit → sProp 𝕄) :
    iprop(Ctx y K Ks ∗ posR F X c (cur g) (g / 2) ∗ cred (tallyAt (cR X (cur g) c) g NN) ∗ Ow F c O)
      ⊢ iprop((iprop((posR F X c (cur g) (g / 2 + 1) ∗ reached ER (cR X (cur g) c) (g / 2 + 1))
          ∗ sIs (mR X) (cur g) c fullShare (snd y X g (upD X c)) ∗ Ow F c O) -∗ wpK c k Q) -∗ wpK c (step E g (ix X 10 13) k) Q) := by
  have e : step E g (ix X 10 13) k = tWaitR X (cur g) k := by cases X <;> rfl
  rw [e]
  exact st_waitR y X c g hg O hO k Q

theorem sIs_split (M : Memref sig .tc .vmem S2x64x8192 .f32) (s : Fin 2) (v : Slab F) :
    sIs M s c fullShare v ⊢ iprop(sIs M s c fullShare.left v ∗ sIs M s c fullShare.right v) := by
  unfold sIs
  iintro ⟨%f, %hf, H⟩
  ihave H' := (pointsTo_share (PosShare.mem_left_op_right fullShare)).1 $$ H
  icases H' with ⟨H1, H2⟩
  isplitl [H1]
  · iexists f
    isplitr; · ipureintro; exact hf
    iexact H1
  · iexists f
    isplitr; · ipureintro; exact hf
    iexact H2

theorem hp_use (X : Bool) (g : ℕ) (hg : g < 62) (k : Pr F) (Q : PUnit → sProp 𝕄) :
    iprop(Ld2 y c X g ∗ sIs (mR X) (cur g) c fullShare (snd y X g (upD X c)) ∗ vT F c X ∗ Out c (OutP y c X g) X)
      ⊢ iprop((Mid y c X g (sAny F (mS X) (nxt g) c) -∗ wpK c k Q) -∗ wpK c (step E g (ix X 11 14) k) Q) := by
  have e : step E g (ix X 11 14) k = bif Nat.ble 31 g then tOut X (mR X) (cur g) (off X E.v0 (fin32 (g - 31))) (off_inb X E.v0 E.h3 (fin32 (g - 31))) k
      else tAdd X (nxt g) (cur g) k := by cases X <;> rfl
  unfold Mid Ld2 NX
  rw [e]
  rcases Nat.lt_or_ge g 31 with h | h
  · rw [if_pos h, if_pos h, ble_f h, cond_false, if_pos (show g + 1 < 62 by omega)]
    iintro ⟨H1, H2, H3, H4⟩ Hk
    iapply (st_add X c (nxt g) (cur g) (chunk (y c) X (sh X (posT c) (g + 1))) (snd y X g (upD X c)) k Q) $$ [H1 H2]
    · isplitl [H1]; · iexact H1
      iexact H2
    iintro ⟨H1, H2⟩
    iapply Hk
    isplitl [H1]
    · rw [snd, if_pos h]; iexact H1
    isplitl [H2]; · iexact H2
    isplitl [H3]; · iexact H3
    iexact H4
  · rw [if_neg (by omega), if_neg (by omega), ble_t h, cond_true]
    unfold Out
    iintro ⟨H1, H2, H3, ⟨%fo, %hfo, H4⟩⟩ Hk
    ihave H2' := (sIs_split E c hE (mR X) (cur g) (snd y X g (upD X c))) $$ H2
    icases H2' with ⟨H2, H2r⟩
    iapply (st_out X (mR X) c (cur g) fullShare.left (snd y X g (upD X c)) (sh X (posT c) (g - 31)) fo _ _ (hE.off X (by omega)) k Q) $$ [H2 H3 H4]
    · isplitl [H3]; · iexact H3
      isplitl [H2]; · iexact H2
      iexact H4
    iintro H
    iapply Hk
    isplitl [H1]; · iexact H1
    isplitl [H2r]; · iexact H2r
    iexists fo
    isplitr; · ipureintro; exact hfo
    iexact H

theorem hp_copy (X : Bool) (g : ℕ) (hg : g < 62) (k : Pr F) (Q : PUnit → sProp 𝕄) :
    Mid y c X g (sAny F (mS X) (nxt g) c)
      ⊢ iprop((Mid y c X g (NX y c X (g + 1)) -∗ wpK c k Q) -∗ wpK c (step E g (ix X 12 15) k) Q) := by
  have e : step E g (ix X 12 15) k = bif Nat.ble 31 g then bif Nat.ble 61 g then k else tCopy X (nxt g) (cur g) k else k := by cases X <;> rfl
  unfold Mid
  rw [e]
  rcases Nat.lt_or_ge g 31 with h | h
  · rw [if_pos h, if_pos h, ble_f h, cond_false]
    iintro H Hk
    iapply Hk; iexact H
  · rw [if_neg (by omega), if_neg (by omega), ble_t h, cond_true]
    rcases Nat.lt_or_ge g 61 with h' | h'
    · unfold NX
      rw [ble_f h', cond_false, if_pos (show g + 1 < 62 by omega)]
      iintro ⟨H1, H2, H3⟩ Hk
      iapply (st_copy X c (nxt g) (cur g) fullShare.right (snd y X g (upD X c)) k Q) $$ [H1 H2]
      · isplitl [H1]; · iexact H1
        iexact H2
      iintro ⟨H1, H2⟩
      iapply Hk
      isplitl [H1]
      · rw [snd, if_neg (by omega)]; iexact H1
      isplitl [H2]; · iexact H2
      iexact H3
    · unfold NX
      rw [ble_t h', cond_true, if_neg (show ¬ g + 1 < 62 by omega)]
      iintro H Hk
      iapply Hk; iexact H

omit hE in
theorem pts_join (ℓ : Loc nD τ sig) (I : Finset (Idx ℓ)) (f f' : Buf (Elt F) ℓ) :
    iprop((ℓ ↦[I]{fullShare.left} f) ∗ ℓ ↦[I]{fullShare.right} f') ⊢ (ℓ ↦[I]{fullShare} f : sProp 𝕄) :=
  pure_elim _ pointsTo_agree fun hv => by
    rw [pointsTo_congr (f := f') (g := f) (fun i hi => ((hv i (Finset.mem_inter.mpr ⟨hi, hi⟩)).1).symm)]
    exact (pointsTo_share (PosShare.mem_left_op_right fullShare)).2

theorem sIs_join (M : Memref sig .tc .vmem S2x64x8192 .f32) (s : Fin 2) (v v' : Slab F) :
    iprop(sIs M s c fullShare.left v ∗ sIs M s c fullShare.right v') ⊢ sIs M s c fullShare v := by
  unfold sIs
  iintro ⟨⟨%f, %hf, H1⟩, ⟨%f', -, H2⟩⟩
  ihave H := (pts_join ((sv M s).view.loc (c : Thread nD τ)) (sv M s).view.set f f') $$ [H1 H2]
  · isplitl [H1]; · iexact H1
    iexact H2
  iexists f
  isplitr; · ipureintro; exact hf
  iexact H

theorem hp_waitT (X : Bool) (g : ℕ) (hg : g < 62) (O : CellTallies nD τ sig ℕ) (hO : Above 0 O) (k : Pr F) (Q : PUnit → sProp 𝕄) :
    iprop(Ctx y K Ks ∗ Mid y c X g (NX y c X (g + 1)) ∗ Ow F c O)
      ⊢ iprop((iprop(NX y c X (g + 1) ∗ sIs (mR X) (cur g) c fullShare (snd y X g (upD X c)) ∗ vT F c X ∗ Out c (OutE y c X g) X ∗ Ow F c O) -∗ wpK c k Q)
        -∗ wpK c (step E g (ix X 16 17) k) Q) := by
  have e : step E g (ix X 16 17) k = bif Nat.ble 31 g then tWaitT X (mR X) (cur g) (off X E.v0 (fin32 (g - 31))) (off_inb X E.v0 E.h3 (fin32 (g - 31))) k else k := by
    cases X <;> rfl
  unfold Mid
  rw [e]
  rcases Nat.lt_or_ge g 31 with h | h
  · rw [if_pos h, ble_f h, cond_false]
    unfold OutE
    simp only [if_pos h]
    iintro ⟨-, ⟨H1, H2, H3, H4⟩, H5⟩ Hk
    iapply Hk
    isplitl [H1]; · iexact H1
    isplitl [H2]; · iexact H2
    isplitl [H3]; · iexact H3
    isplitl [H4]; · iexact H4
    iexact H5
  · rw [if_neg (by omega), ble_t h, cond_true]
    iintro ⟨#HC, ⟨H1, H2r, ⟨%fo, %hfo, H⟩⟩, HO⟩ Hk
    iapply (st_waitT y X (mR X) c (cur g) fullShare.left (snd y X g (upD X c)) (sh X (posT c) (g - 31)) fo _ _ O hO (semT_lv c X) k Q) $$ [H HO]
    · isplitr; · iexact HC
      isplitl [H]; · iexact H
      iexact HO
    iintro ⟨H3, H2, H4, HO⟩
    ihave H2' := (sIs_join E c hE (mR X) (cur g) (snd y X g (upD X c)) (snd y X g (upD X c))) $$ [H2 H2r]
    · isplitl [H2]; · iexact H2
      iexact H2r
    iapply Hk
    isplitl [H1]; · iexact H1
    isplitl [H2']; · iexact H2'
    isplitl [H3]; · iexact H3
    isplitl [H4]
    · unfold Out
      iexists _
      isplitr
      rotate_left
      · iexact H4
      · ipureintro
        unfold OutE
        rw [if_neg (by omega)]
        have hv : snd y X g (upD X c) = tot y X (sh X (posT c) (g - 31)) := by
          have := snd_tot y X (g - 31) (upD X c)
          rw [show 31 + (g - 31) = g by omega] at this
          rw [this, posT_up, sh_sh, show 1 + g = g - 31 + 32 by omega, sh_add32]
        refine ⟨fun t ht => ?_, fun _ => ?_⟩
        · rcases Nat.lt_or_ge t (g - 31) with h1 | h1
          · rw [chunk_write_ne _ _ _ _ (fun he => absurd (sh_inj X (posT c) (by omega) (by omega) he) (by omega))]
            exact hfo.1 t h1
          · obtain rfl : t = g - 31 := by omega
            rw [chunk_write, hv]
        · rw [chunk_write_ne _ _ _ _ (fun he => absurd (sh_inj X (posT c) (by omega) (by omega) he) (by omega))]
          exact hfo.2 h
    iexact HO

theorem hp_sig (X : Bool) (g : ℕ) (hg : g < 62) (v : Slab F) (O : CellTallies nD τ sig ℕ) (k : Pr F) (Q : PUnit → sProp 𝕄) :
    iprop(Ctx y K Ks ∗ Hello F (!X) (dnD (!X) c) ∗ dutyTok ER (cC X (upD X c)) 0 g ∗ Known F X c g ∗ reached ER (cR X (cur g) c) (g / 2 + 1)
        ∗ readerAt ES ((c, X, cur g) : Key) (g / 2 + 1) ∗ sIs (mR X) (cur g) c fullShare v ∗ Ow F c (O + cT X c g))
      ⊢ iprop((iprop(Known F X c (g + 1) ∗ readerAt ES ((c, X, cur g) : Key) (g / 2 + 2) ∗ Ow F c O) -∗ wpK c k Q) -∗ wpK c (step E g (ix X 18 19) k) Q) := by
  have e : step E g (ix X 18 19) k = tSignal (dn E (!X)) (semC X) k := by cases X <;> rfl
  rw [e]
  exact st_sig y X c (dn E (!X)) ((hE.dn (!X)).trans (dn_not X c)) g hg v O k Q

/-- The result's own chunk on its way, at the last hop of the first phase. -/
def Last (y : Dev nD → Whole F) (c : Dev nD) (X : Bool) (g : ℕ) : sProp 𝕄 :=
  if g = 30 then iprop(∃ fo : Whole F, ⌜OutE y c X g fo⌝ ∗ TFly X (mS X) c 1 fullShare (snd y X 31 c) (sh X (posT c) 31) fo)
  else iprop(vT F c X ∗ NX y c X (g + 1) ∗ Out c (OutE y c X g) X)

theorem hp_out (X : Bool) (g : ℕ) (hg : g < 62) (k : Pr F) (Q : PUnit → sProp 𝕄) :
    iprop(vT F c X ∗ NX y c X (g + 1) ∗ Out c (OutE y c X g) X)
      ⊢ iprop((Last y c X g -∗ wpK c k Q) -∗ wpK c (step E g (ix X 20 21) k) Q) := by
  have e : step E g (ix X 20 21) k = bif Nat.beq g 30 then tOut X (mS X) 1 (offE X E.v0) (offE_inb X E.v0 E.h3) k else k := by cases X <;> rfl
  unfold Last
  rw [e]
  by_cases h : g = 30
  · subst h
    rw [if_pos rfl]
    unfold NX Out
    rw [if_pos (by decide)]
    show _ ⊢ iprop(_ -∗ wpK c (tOut X (mS X) 1 (offE X E.v0) (offE_inb X E.v0 E.h3) k) Q)
    iintro ⟨H3, H2, ⟨%fo, %hfo, H4⟩⟩ Hk
    iapply (st_out X (mS X) c 1 fullShare (snd y X 31 c) (sh X (posT c) 31) fo _ _ (hE.offE X) k Q) $$ [H2 H3 H4]
    · isplitl [H3]; · iexact H3
      isplitl [H2]; · iexact H2
      iexact H4
    iintro H
    iapply Hk
    iexists fo
    isplitr; · ipureintro; exact hfo
    iexact H
  · rw [if_neg h, show Nat.beq g 30 = false from Bool.eq_false_iff.mpr fun e => h (Nat.eq_of_beq_eq_true e), cond_false]
    iintro H Hk
    iapply Hk; iexact H

theorem hp_waitO (X : Bool) (g : ℕ) (hg : g < 62) (O : CellTallies nD τ sig ℕ) (hO : Above 0 O) (k : Pr F) (Q : PUnit → sProp 𝕄) :
    iprop(Ctx y K Ks ∗ Last y c X g ∗ Ow F c O)
      ⊢ iprop((iprop(vT F c X ∗ NX y c X (g + 1) ∗ Out c (OutP y c X (g + 1)) X ∗ Ow F c O) -∗ wpK c k Q) -∗ wpK c (step E g (ix X 22 23) k) Q) := by
  have e : step E g (ix X 22 23) k = bif Nat.beq g 30 then tWaitT X (mS X) 1 (offE X E.v0) (offE_inb X E.v0 E.h3) k else k := by cases X <;> rfl
  unfold Last
  rw [e]
  by_cases h : g = 30
  · subst h
    rw [if_pos rfl]
    unfold NX
    rw [if_pos (by decide)]
    show _ ⊢ iprop(_ -∗ wpK c (tWaitT X (mS X) 1 (offE X E.v0) (offE_inb X E.v0 E.h3) k) Q)
    iintro ⟨#HC, ⟨%fo, %hfo, H⟩, HO⟩ Hk
    iapply (st_waitT y X (mS X) c 1 fullShare (snd y X 31 c) (sh X (posT c) 31) fo _ _ O hO (semT_lv c X) k Q) $$ [H HO]
    · isplitr; · iexact HC
      isplitl [H]; · iexact H
      iexact HO
    iintro ⟨H3, H2, H4, HO⟩
    iapply Hk
    isplitl [H3]; · iexact H3
    isplitl [H2]; · iexact H2
    isplitl [H4]
    · unfold Out
      iexists _
      isplitr
      rotate_left
      · iexact H4
      · ipureintro
        refine ⟨fun t ht => absurd ht (by omega), fun _ => ?_⟩
        rw [chunk_write]; exact snd_tot y X 0 c
    iexact HO
  · rw [if_neg h, show Nat.beq g 30 = false from Bool.eq_false_iff.mpr fun e => h (Nat.eq_of_beq_eq_true e), cond_false]
    have hP : OutE y c X g = OutP y c X (g + 1) := by
      funext fo
      unfold OutE
      by_cases h1 : g < 31
      · rw [if_pos h1]; unfold OutP
        rw [show g - 31 = 0 by omega, show g + 1 - 31 = 0 by omega]
        refine propext ⟨fun hh => ⟨fun t ht => absurd ht (Nat.not_lt_zero t), fun h2 => absurd h2 (by omega)⟩,
          fun hh => ⟨fun t ht => absurd ht (Nat.not_lt_zero t), fun h2 => absurd h2 (by omega)⟩⟩
      · rw [if_neg h1]
    rw [hP]
    iintro ⟨-, ⟨H1, H2, H3⟩, H4⟩ Hk
    iapply Hk
    isplitl [H1]; · iexact H1
    isplitl [H2]; · iexact H2
    isplitl [H3]; · iexact H3
    iexact H4

end Cert.KernelIdeal.Ring

end
-- ==== Proof.KernelIdeal.Hops.lean ====
/- One hop of both rings, and all of them. -/
module

public import proofs.«01_k».proof.Proof.KernelIdeal.HopSteps

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]
local notation "𝕄" => MT nD τ sig ℕ (Elt F) ℕ UU ℕ

variable (y : Dev nD → Whole F) {K : GSem nD τ sig → ℕ} {Ks : Key → ℕ} (E : Env) (c : Dev nD) (hE : Good E c)

variable (F) in
/-- What hop `h` of a ring spends. -/
def Tok (X : Bool) (h : ℕ) : sProp 𝕄 :=
  iprop((dutyTok ER (cS X (cur h) c) (h / 2) 0 ∗ dutyTok ER (cR X (cur h) (dnD X c)) (h / 2) 0 ∗ writeTok ES ((dnD X c, X, cur h) : Key) (h / 2 + 1))
    ∗ cred (tallyAt (cR X (cur h) c) h NN) ∗ dutyTok ER (cC X (upD X c)) 0 h)

/-- A ring of the device before hop `g`. -/
def RB (X : Bool) (g : ℕ) : sProp 𝕄 :=
  iprop((CrSt F X c g ∗ Known F X c g) ∗ bigSep (Finset.Ico g 62) (Tok F c X)
    ∗ (Idle F X c (cur g) (g / 2) ∗ NX y c X g ∗ SndNxt F c X g)
    ∗ (posR F X c (cur g) (g / 2) ∗ posR F X c (nxt g) ((g + 1) / 2) ∗ readerAt ES ((c, X, cur g) : Key) (g / 2 + 1) ∗ readerAt ES ((c, X, nxt g) : Key) ((g + 1) / 2 + 1))
    ∗ (Yh y X c ∗ vL F c X (cur g) ∗ vL F c X (nxt g) ∗ vT F c X ∗ Out c (OutP y c X g) X))

theorem nxt_succ (g : ℕ) : nxt (g + 1) = cur g := Fin.ext (by show (g + 1 + 1) % 2 = g % 2; omega)
theorem RB_succ (X : Bool) (g : ℕ) : RB y c X (g + 1) =
  iprop((CrSt F X c (g + 1) ∗ Known F X c (g + 1)) ∗ bigSep (Finset.Ico (g + 1) 62) (Tok F c X)
    ∗ (Idle F X c (nxt g) ((g + 1) / 2) ∗ NX y c X (g + 1) ∗ Fly F X c (cur g) (g / 2))
    ∗ (posR F X c (nxt g) ((g + 1) / 2) ∗ posR F X c (cur g) (g / 2 + 1) ∗ readerAt ES ((c, X, nxt g) : Key) ((g + 1) / 2 + 1) ∗ readerAt ES ((c, X, cur g) : Key) (g / 2 + 2))
    ∗ (Yh y X c ∗ vL F c X (nxt g) ∗ vL F c X (cur g) ∗ vT F c X ∗ Out c (OutP y c X (g + 1)) X)) := by
  unfold RB SndNxt
  rw [if_neg (Nat.succ_ne_zero g), nxt_succ, show (g + 1 + 1) / 2 = g / 2 + 1 by omega, show g + 1 - 1 = g from rfl]
theorem RB_hop (X : Bool) {g : ℕ} (hg : g < 62) : RB y c X g =
  iprop((CrSt F X c g ∗ Known F X c g) ∗ (((dutyTok ER (cS X (cur g) c) (g / 2) 0 ∗ dutyTok ER (cR X (cur g) (dnD X c)) (g / 2) 0 ∗ writeTok ES ((dnD X c, X, cur g) : Key) (g / 2 + 1))
    ∗ cred (tallyAt (cR X (cur g) c) g NN) ∗ dutyTok ER (cC X (upD X c)) 0 g) ∗ bigSep (Finset.Ico (g + 1) 62) (Tok F c X))
    ∗ (Idle F X c (cur g) (g / 2) ∗ NX y c X g ∗ SndNxt F c X g)
    ∗ (posR F X c (cur g) (g / 2) ∗ posR F X c (nxt g) ((g + 1) / 2) ∗ readerAt ES ((c, X, cur g) : Key) (g / 2 + 1) ∗ readerAt ES ((c, X, nxt g) : Key) ((g + 1) / 2 + 1))
    ∗ (Yh y X c ∗ vL F c X (cur g) ∗ vL F c X (nxt g) ∗ vT F c X ∗ Out c (OutP y c X g) X)) := by
  unfold RB
  rw [Ico_cons hg, bigSep_insert' (not_mem_Ico g 62)]
  rfl

variable (F) in
/-- What the neighbours have told. -/
def Hi : sProp 𝕄 := iprop(Hello F false (dnD false c) ∗ Hello F true (dnD true c))
instance : BI.Persistent (Hi F c) := by unfold Hi; infer_instance

/-- Hop `g`. -/
def hopP (g : ℕ) (k : Pr F) : Pr F :=
  step E g 0 (step E g 1 (step E g 2 (step E g 3 (step E g 4 (step E g 5 (step E g 6 (step E g 7 (step E g 8 (step E g 9 (step E g 10 (step E g 11 (step E g 12 (step E g 13 (step E g 14 (step E g 15 (step E g 16 (step E g 17 (step E g 18 (step E g 19 (step E g 20 (step E g 21 (step E g 22 (step E g 23 k)))))))))))))))))))))))

include hE

set_option maxHeartbeats 2000000 in
theorem hop (g : ℕ) (hg : g < 62) (k : Pr F) (Q : PUnit → sProp 𝕄) :
    iprop(Ctx y K Ks ∗ Hi F c ∗ RB y c false g ∗ RB y c true g ∗ Ow F c (owed c g))
      ⊢ iprop((iprop(RB y c false (g + 1) ∗ RB y c true (g + 1) ∗ Ow F c (owed c (g + 1))) -∗ wpK c k Q) -∗ wpK c (hopP E g k) Q) := by
  rw [RB_hop y c false hg, RB_hop y c true hg, RB_succ, RB_succ]
  unfold hopP Hi
  have hO1 : Above (2 * g + 2) (owed c (g + 1) + cT true c g + cT false c g) :=
    ((above_owed c (by omega)).add (above_cT true c hg (by omega))).add (above_cT false c hg (by omega))
  have hO0 : Above 0 (owed c (g + 1) + cT true c g + cT false c g) := hO1.mono (Nat.zero_le _)
  have hO2 : Above 0 (owed c (g + 1)) := above_owed c (by omega)
  have hOw : Ow F c (owed c g) ⊢ Ow F c (owed c (g + 1) + cT true c g + cT false c g + rT true c g + rT false c g) :=
    Entails.of_eq (by rw [owed_succ c hg])
  iintro ⟨#HC, ⟨#Hif, #Hit⟩, ⟨⟨HCrf, #HKnf⟩, ⟨⟨HtSf, Hcrf, HtCf⟩, HTokf⟩, ⟨HIdf, HNXf, HSnf⟩, ⟨Hpcf, Hpnf, Hrcf, Hrnf⟩, HYf, HLcf, HLnf, HTf, HOf⟩, ⟨⟨HCrt, #HKnt⟩, ⟨⟨HtSt, Hcrt, HtCt⟩, HTokt⟩, ⟨HIdt, HNXt, HSnt⟩, ⟨Hpct, Hpnt, Hrct, Hrnt⟩, HYt, HLct, HLnt, HTt, HOt⟩, HO⟩ Hk
  iapply (hp_cred (K := K) (Ks := Ks) y E c hE false g hg _ Q) $$ [HCrf HO]
  · isplitr; · iexact HC
    isplitl [HCrf]; · iexact HCrf
    iexact HO
  iintro ⟨HCrf, HO⟩
  iapply (hp_cred (K := K) (Ks := Ks) y E c hE true g hg _ Q) $$ [HCrt HO]
  · isplitr; · iexact HC
    isplitl [HCrt]; · iexact HCrt
    iexact HO
  iintro ⟨HCrt, HO⟩
  ihave HCrf' := (rdy false c g hg) $$ [HCrf]
  · isplitl [HCrf]; · iexact HCrf
    iexact Hif
  icases HCrf' with ⟨HCrf, #Hrdyf⟩
  ihave HCrt' := (rdy true c g hg) $$ [HCrt]
  · isplitl [HCrt]; · iexact HCrt
    iexact Hit
  icases HCrt' with ⟨HCrt, #Hrdyt⟩
  ihave HO := hOw $$ HO
  iapply (hp_send (K := K) (Ks := Ks) y E c hE false g hg (owed c (g + 1) + cT true c g + cT false c g + rT true c g) _ Q) $$ [HtSf HIdf HNXf HO]
  · isplitr; · iexact HC
    isplitr; · iexact Hrdyf
    isplitl [HtSf]; · iexact HtSf
    isplitl [HIdf]; · iexact HIdf
    isplitl [HNXf]; · iexact HNXf
    iexact HO
  iintro ⟨HFlf, HO⟩
  iapply (hp_send (K := K) (Ks := Ks) y E c hE true g hg (owed c (g + 1) + cT true c g + cT false c g) _ Q) $$ [HtSt HIdt HNXt HO]
  · isplitr; · iexact HC
    isplitr; · iexact Hrdyt
    isplitl [HtSt]; · iexact HtSt
    isplitl [HIdt]; · iexact HIdt
    isplitl [HNXt]; · iexact HNXt
    iexact HO
  iintro ⟨HFlt, HO⟩
  iapply (hp_waitS (K := K) (Ks := Ks) y E c hE false g hg _ hO0 _ Q) $$ [HSnf HO]
  · isplitr; · iexact HC
    isplitl [HSnf]; · iexact HSnf
    iexact HO
  iintro ⟨HIdf, HNXf, HO⟩
  iapply (hp_waitS (K := K) (Ks := Ks) y E c hE true g hg _ hO0 _ Q) $$ [HSnt HO]
  · isplitr; · iexact HC
    isplitl [HSnt]; · iexact HSnt
    iexact HO
  iintro ⟨HIdt, HNXt, HO⟩
  iapply (hp_load y E c hE false g hg _ Q) $$ [HLnf HNXf HYf]
  · isplitl [HLnf]; · iexact HLnf
    isplitl [HNXf]; · iexact HNXf
    iexact HYf
  iintro HLdf
  iapply (hp_load y E c hE true g hg _ Q) $$ [HLnt HNXt HYt]
  · isplitl [HLnt]; · iexact HLnt
    isplitl [HNXt]; · iexact HNXt
    iexact HYt
  iintro HLdt
  iapply (hp_waitL (K := K) (Ks := Ks) y E c hE false g hg _ hO0 _ Q) $$ [HLdf HO]
  · isplitr; · iexact HC
    isplitl [HLdf]; · iexact HLdf
    iexact HO
  iintro ⟨HLnf, HLdf, HYf, HO⟩
  iapply (hp_waitL (K := K) (Ks := Ks) y E c hE true g hg _ hO0 _ Q) $$ [HLdt HO]
  · isplitr; · iexact HC
    isplitl [HLdt]; · iexact HLdt
    iexact HO
  iintro ⟨HLnt, HLdt, HYt, HO⟩
  iapply (hp_waitR (K := K) (Ks := Ks) y E c hE false g hg _ hO1 _ Q) $$ [Hpcf Hcrf HO]
  · isplitr; · iexact HC
    isplitl [Hpcf]; · iexact Hpcf
    isplitl [Hcrf]; · iexact Hcrf
    iexact HO
  iintro ⟨⟨Hpcf, #Href⟩, HRf, HO⟩
  iapply (hp_use y E c hE false g hg _ Q) $$ [HLdf HRf HTf HOf]
  · isplitl [HLdf]; · iexact HLdf
    isplitl [HRf]; · iexact HRf
    isplitl [HTf]; · iexact HTf
    iexact HOf
  iintro HMf
  iapply (hp_copy y E c hE false g hg _ Q) $$ HMf
  iintro HMf
  iapply (hp_waitR (K := K) (Ks := Ks) y E c hE true g hg _ hO1 _ Q) $$ [Hpct Hcrt HO]
  · isplitr; · iexact HC
    isplitl [Hpct]; · iexact Hpct
    isplitl [Hcrt]; · iexact Hcrt
    iexact HO
  iintro ⟨⟨Hpct, #Hret⟩, HRt, HO⟩
  iapply (hp_use y E c hE true g hg _ Q) $$ [HLdt HRt HTt HOt]
  · isplitl [HLdt]; · iexact HLdt
    isplitl [HRt]; · iexact HRt
    isplitl [HTt]; · iexact HTt
    iexact HOt
  iintro HMt
  iapply (hp_copy y E c hE true g hg _ Q) $$ HMt
  iintro HMt
  iapply (hp_waitT (K := K) (Ks := Ks) y E c hE false g hg _ hO0 _ Q) $$ [HMf HO]
  · isplitr; · iexact HC
    isplitl [HMf]; · iexact HMf
    iexact HO
  iintro ⟨HNXf, HRf, HTf, HOf, HO⟩
  iapply (hp_waitT (K := K) (Ks := Ks) y E c hE true g hg _ hO0 _ Q) $$ [HMt HO]
  · isplitr; · iexact HC
    isplitl [HMt]; · iexact HMt
    iexact HO
  iintro ⟨HNXt, HRt, HTt, HOt, HO⟩
  iapply (hp_sig (K := K) (Ks := Ks) y E c hE false g hg _ (owed c (g + 1) + cT true c g) _ Q) $$ [HtCf Hrcf HRf HO]
  · isplitr; · iexact HC
    isplitr; · iexact Hit
    isplitl [HtCf]; · iexact HtCf
    isplitr; · iexact HKnf
    isplitr; · iexact Href
    isplitl [Hrcf]; · iexact Hrcf
    isplitl [HRf]; · iexact HRf
    iexact HO
  iintro ⟨#HKmf, Hrcf, HO⟩
  iapply (hp_sig (K := K) (Ks := Ks) y E c hE true g hg _ (owed c (g + 1)) _ Q) $$ [HtCt Hrct HRt HO]
  · isplitr; · iexact HC
    isplitr; · iexact Hif
    isplitl [HtCt]; · iexact HtCt
    isplitr; · iexact HKnt
    isplitr; · iexact Hret
    isplitl [Hrct]; · iexact Hrct
    isplitl [HRt]; · iexact HRt
    iexact HO
  iintro ⟨#HKmt, Hrct, HO⟩
  iapply (hp_out y E c hE false g hg _ Q) $$ [HTf HNXf HOf]
  · isplitl [HTf]; · iexact HTf
    isplitl [HNXf]; · iexact HNXf
    iexact HOf
  iintro HMf
  iapply (hp_out y E c hE true g hg _ Q) $$ [HTt HNXt HOt]
  · isplitl [HTt]; · iexact HTt
    isplitl [HNXt]; · iexact HNXt
    iexact HOt
  iintro HMt
  iapply (hp_waitO (K := K) (Ks := Ks) y E c hE false g hg _ hO2 _ Q) $$ [HMf HO]
  · isplitr; · iexact HC
    isplitl [HMf]; · iexact HMf
    iexact HO
  iintro ⟨HTf, HNXf, HOf, HO⟩
  iapply (hp_waitO (K := K) (Ks := Ks) y E c hE true g hg _ hO2 _ Q) $$ [HMt HO]
  · isplitr; · iexact HC
    isplitl [HMt]; · iexact HMt
    iexact HO
  iintro ⟨HTt, HNXt, HOt, HO⟩
  iapply Hk
  isplitl [HCrf HTokf HIdf HNXf HFlf Hpnf Hpcf Hrnf Hrcf HYf HLnf HLcf HTf HOf]
  · isplitl [HCrf]
    · isplitl [HCrf]; · iexact HCrf
      iexact HKmf
    isplitl [HTokf]; · iexact HTokf
    isplitl [HIdf HNXf HFlf]
    · isplitl [HIdf]; · iexact HIdf
      isplitl [HNXf]; · iexact HNXf
      iexact HFlf
    isplitl [Hpnf Hpcf Hrnf Hrcf]
    · isplitl [Hpnf]; · iexact Hpnf
      isplitl [Hpcf]; · iexact Hpcf
      isplitl [Hrnf]; · iexact Hrnf
      iexact Hrcf
    isplitl [HYf]; · iexact HYf
    isplitl [HLnf]; · iexact HLnf
    isplitl [HLcf]; · iexact HLcf
    isplitl [HTf]; · iexact HTf
    iexact HOf
  isplitl [HCrt HTokt HIdt HNXt HFlt Hpnt Hpct Hrnt Hrct HYt HLnt HLct HTt HOt]
  · isplitl [HCrt]
    · isplitl [HCrt]; · iexact HCrt
      iexact HKmt
    isplitl [HTokt]; · iexact HTokt
    isplitl [HIdt HNXt HFlt]
    · isplitl [HIdt]; · iexact HIdt
      isplitl [HNXt]; · iexact HNXt
      iexact HFlt
    isplitl [Hpnt Hpct Hrnt Hrct]
    · isplitl [Hpnt]; · iexact Hpnt
      isplitl [Hpct]; · iexact Hpct
      isplitl [Hrnt]; · iexact Hrnt
      iexact Hrct
    isplitl [HYt]; · iexact HYt
    isplitl [HLnt]; · iexact HLnt
    isplitl [HLct]; · iexact HLct
    isplitl [HTt]; · iexact HTt
    iexact HOt
  iexact HO

omit hE in
theorem stepAt_eq (g j : ℕ) (hj : j < 24) (k : Pr F) : stepAt E (24 * g + j) k = step E g j k := by
  unfold stepAt; rw [show (24 * g + j) / 24 = g by omega, show (24 * g + j) % 24 = j by omega]
omit hE in
theorem run_hop (g : ℕ) (k : Pr F) : run E (24 * g) 24 k = hopP E g k := by
  show stepAt E (24 * g + 0) (stepAt E (24 * g + 1) (stepAt E (24 * g + 2) (stepAt E (24 * g + 3) (stepAt E (24 * g + 4) (stepAt E (24 * g + 5) (stepAt E (24 * g + 6) (stepAt E (24 * g + 7) (stepAt E (24 * g + 8) (stepAt E (24 * g + 9) (stepAt E (24 * g + 10) (stepAt E (24 * g + 11) (stepAt E (24 * g + 12) (stepAt E (24 * g + 13) (stepAt E (24 * g + 14) (stepAt E (24 * g + 15) (stepAt E (24 * g + 16) (stepAt E (24 * g + 17) (stepAt E (24 * g + 18) (stepAt E (24 * g + 19) (stepAt E (24 * g + 20) (stepAt E (24 * g + 21) (stepAt E (24 * g + 22) (stepAt E (24 * g + 23) k))))))))))))))))))))))) = _
  rw [stepAt_eq E g 0 (by decide), stepAt_eq E g 1 (by decide), stepAt_eq E g 2 (by decide), stepAt_eq E g 3 (by decide), stepAt_eq E g 4 (by decide), stepAt_eq E g 5 (by decide), stepAt_eq E g 6 (by decide), stepAt_eq E g 7 (by decide), stepAt_eq E g 8 (by decide), stepAt_eq E g 9 (by decide), stepAt_eq E g 10 (by decide), stepAt_eq E g 11 (by decide), stepAt_eq E g 12 (by decide), stepAt_eq E g 13 (by decide), stepAt_eq E g 14 (by decide), stepAt_eq E g 15 (by decide), stepAt_eq E g 16 (by decide), stepAt_eq E g 17 (by decide), stepAt_eq E g 18 (by decide), stepAt_eq E g 19 (by decide), stepAt_eq E g 20 (by decide), stepAt_eq E g 21 (by decide), stepAt_eq E g 22 (by decide), stepAt_eq E g 23 (by decide)]
  rfl

theorem hops (n g : ℕ) (h : g + n ≤ 62) (k : Pr F) (Q : PUnit → sProp 𝕄) :
    iprop(Ctx y K Ks ∗ Hi F c ∗ RB y c false g ∗ RB y c true g ∗ Ow F c (owed c g))
      ⊢ iprop((iprop(RB y c false (g + n) ∗ RB y c true (g + n) ∗ Ow F c (owed c (g + n))) -∗ wpK c k Q) -∗ wpK c (run E (24 * g) (24 * n) k) Q) := by
  induction n generalizing g with
  | zero =>
    iintro ⟨-, -, H⟩ Hk
    iapply Hk; iexact H
  | succ n ih =>
    rw [show 24 * (n + 1) = 24 + 24 * n by omega, run_add, run_hop, show 24 * g + 24 = 24 * (g + 1) by omega, show g + (n + 1) = g + 1 + n by omega]
    iintro ⟨#HC, #HH, H⟩ Hk
    iapply (hop (K := K) (Ks := Ks) y E c hE g (by omega) _ Q) $$ [H]
    · isplitr; · iexact HC
      isplitr; · iexact HH
      iexact H
    iintro H
    iapply (ih (g + 1) (by omega)) $$ [H]
    · isplitr; · iexact HC
      isplitr; · iexact HH
      iexact H
    iexact Hk

end Cert.KernelIdeal.Ring

end
-- ==== Proof.KernelIdeal.Body.lean ====
/- The whole body, from what a device holds when the kernel starts to what it holds when it is done. -/
module

public import proofs.«01_k».proof.Proof.KernelIdeal.Hops

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]
local notation "𝕄" => MT nD τ sig ℕ (Elt F) ℕ UU ℕ

variable (y : Dev nD → Whole F) {K : GSem nD τ sig → ℕ} {Ks : Key → ℕ} (E : Env) (c : Dev nD) (hE : Good E c)

variable (F) in
abbrev posS (X : Bool) (s : Fin 2) (r : ℕ) : sProp 𝕄 := atPos ER (cS X s c) r ∅ 0

variable (F) in
/-- The counters of a ring at their first round. -/
def StC (X : Bool) : sProp 𝕄 :=
  iprop((Idle F X c 0 0 ∗ Idle F X c 1 0) ∗ ((posR F X c 0 0 ∗ reached ER (cR X 0 c) 0) ∗ (posR F X c 1 0 ∗ reached ER (cR X 1 c) 0))
    ∗ (atPos ER (cC X c) 0 ∅ 0 ∗ reached ER (cC X c) 0))
variable (F) in
/-- The tokens of a ring. -/
def StT (X : Bool) : sProp 𝕄 :=
  iprop(bigSep (Finset.Ico 0 62) (Tok F c X) ∗ bigSep (Finset.Ico 0 62) (fun d => cred (tallyAt (cC X c) d 1))
    ∗ (readerAt ES ((c, X, 0) : Key) 0 ∗ readerAt ES ((c, X, 1) : Key) 0) ∗ (writeTok ES ((c, X, 0) : Key) 32 ∗ writeTok ES ((c, X, 1) : Key) 32))
/-- The memory of a ring, when the kernel starts and when it is done. -/
def StM (X : Bool) (P : Whole F → Prop) : sProp 𝕄 :=
  iprop((sAny F (mS X) 0 c ∗ sAny F (mS X) 1 c) ∗ (sAny F (mR X) 0 c ∗ sAny F (mR X) 1 c)
    ∗ Yh y X c ∗ vL F c X 0 ∗ vL F c X 1 ∗ vT F c X ∗ Out c P X)
variable (F) in
/-- The device's part of the entry barrier. -/
def StB : sProp 𝕄 :=
  iprop(atPos ER (cB c) 0 ∅ 0 ∗ cred (tallyAt (cB c) 0 2)
    ∗ (dutyTok ER (cB (dnD true c)) 0 0 ∗ reached ER (cB (dnD true c)) 0) ∗ (dutyTok ER (cB (dnD false c)) 0 1 ∗ reached ER (cB (dnD false c)) 0))
variable (F) in
/-- The counters of a ring, back at zero. -/
def EnC (X : Bool) : sProp 𝕄 :=
  iprop((semVal (cS X 0 c) 0 ∗ semVal (cS X 1 c) 0) ∗ (semVal (cR X 0 c) 0 ∗ semVal (cR X 1 c) 0) ∗ semVal (cC X c) 0)

/-- What the device tells of a ring: it gives away both of the slots it receives into. -/
theorem tell (X : Bool) :
    iprop(Ctx y K Ks ∗ (readerAt ES ((c, X, 0) : Key) 0 ∗ readerAt ES ((c, X, 1) : Key) 0) ∗ (sAny F (mR X) 0 c ∗ sAny F (mR X) 1 c)
        ∗ reached ER (cR X 0 c) 0 ∗ reached ER (cR X 1 c) 0 ∗ reached ER (cC (!X) c) 0)
      ⊢ (|={Set.univ}=> ((readerAt ES ((c, X, 0) : Key) 1 ∗ readerAt ES ((c, X, 1) : Key) 1) ∗ Hello F X c) : sProp 𝕄) := by
  unfold Hello
  iintro ⟨#HC, ⟨Hr0, Hr1⟩, ⟨Hs0, Hs1⟩, #H0, #H1, #H2⟩
  ihave #HI0 := (ctx_slot y (c, X, 0)) $$ HC
  ihave #HI1 := (ctx_slot y (c, X, 1)) $$ HC
  imod (slot_release ES (k := ((c, X, 0) : Key)) (S := slotOf F (c, X, 0)) (Set.mem_univ (Ks (c, X, 0)))
    (slot_slot_false (slot_nonempty (mR X) 0)) 0) $$ [Hr0 Hs0] with ⟨Hr0, #Hl0⟩
  · isplitr; · iexact HI0
    isplitl [Hr0]; · iexact Hr0
    iexact Hs0
  imod (slot_release ES (k := ((c, X, 1) : Key)) (S := slotOf F (c, X, 1)) (Set.mem_univ (Ks (c, X, 1)))
    (slot_slot_false (slot_nonempty (mR X) 1)) 0) $$ [Hr1 Hs1] with ⟨Hr1, #Hl1⟩
  · isplitr; · iexact HI1
    isplitl [Hr1]; · iexact Hr1
    iexact Hs1
  imodintro
  isplitl [Hr0 Hr1]
  · isplitl [Hr0]; · iexact Hr0
    iexact Hr1
  isplitr
  · isplitr; · iexact Hl0
    iexact Hl1
  isplitr
  · isplitr; · iexact H0
    iexact H1
  iexact H2

theorem st_bar (X : Bool) (d : Dev nD) (hd : d = dnD X c) (n : ℕ) (hn : n = bif X then 0 else 1) (O : CellTallies nD τ sig ℕ) (k : Pr F) (Q : PUnit → sProp 𝕄) :
    iprop(Ctx y K Ks ∗ Hello F (!X) c ∗ (dutyTok ER (cB (dnD X c)) 0 n ∗ reached ER (cB (dnD X c)) 0) ∗ Ow F c (O + bT X c))
      ⊢ iprop((Ow F c O -∗ wpK c k Q) -∗ wpK c (tSignal d barrier0 k) Q) := by
  subst hd
  unfold tSignal Ow
  rw [one_int]
  iintro ⟨#HC, #HH, ⟨Htok, #Hr⟩, ⟨%W, HO⟩⟩ Hk
  iapply (Rounds.wp_signal 𝒱₀ ER (Rd y) (c : Thread nD τ) none (dst := (dnD X c : Thread nD τ)) (sem := barrier0) (r := 0) (d := n) (κ := K (cB (dnD X c)))
      (by rw [duties_B, hn]; cases X <;> decide) (amount_B y (dnD X c) 0 n) 0 O rfl (W := W)) $$ [HO Htok]
  · isplitr; · iapply (ctx_cell y (cB_mem (dnD X c))); iexact HC
    isplitl [HO]; · iexact HO
    isplitl [Htok]; · iexact Htok
    isplitr
    · have e : decide (n = 1) = !X := by rw [hn]; cases X <;> rfl
      rw [payload_B, e, dn_not, up_dn]; iexact HH
    iexact Hr
  iintro HO
  iapply Hk
  iexists W; iexact HO

theorem st_waitB (O : CellTallies nD τ sig ℕ) (hO : Above 1 O) (k : Pr F) (Q : PUnit → sProp 𝕄) :
    iprop(Ctx y K Ks ∗ (atPos ER (cB c) 0 ∅ 0 ∗ cred (tallyAt (cB c) 0 2)) ∗ Ow F c O)
      ⊢ iprop((iprop(atPos ER (cB c) 1 ∅ 0 ∗ Hi F c ∗ Ow F c O) -∗ wpK c k Q) -∗ wpK c (tWait barrier0 2#32 k) Q) := by
  unfold tWait Ow Hi
  rw [two_int]
  iintro ⟨#HC, ⟨Hat, Hc⟩, ⟨%W, HO⟩⟩ Hk
  iapply (Rounds.wp_wait_rest_token 𝒱₀ ER (Rd y) (c : Thread nD τ) none (κ := K (cB c)) (sm := .reg barrier0)
      (wpE_semWait_eq 𝒱₀ (c : Thread nD τ) none Set.univ) (Set.mem_univ _) 0 (O := O) (W := W) (R := 0) (m := 0) (T := ∅)
      (k' := 2) ((Nat.zero_add _).trans (expect_B y c).symm)) $$ [Hc HO Hat]
  · isplitr; · iapply (ctx_cell y (cB_mem c)); iexact HC
    isplitl [Hc]; · iexact Hc
    isplitl [HO]; · iexact HO
    isplitr; · iapply (ctx_wait y c (.reg barrier0) 0 1 (by decide) (by rw [lv_B]) hO); iexact HC
    iexact Hat
  iintro ⟨HO, Hat, -, Hpay⟩
  ihave Hp := (Entails.of_eq (rest_B y c)) $$ Hpay
  iapply Hk
  isplitl [Hat]; · iexact Hat
  isplitl [Hp]; · iexact Hp
  iexists _; iexact HO

/-- The last two credits. -/
theorem st_waitC (X : Bool) (k : Pr F) (Q : PUnit → sProp 𝕄) :
    iprop(Ctx y K Ks ∗ CrSt F X c 62 ∗ Ow F c 0)
      ⊢ iprop((iprop(atPos ER (cC X c) 1 ∅ 0 ∗ Ow F c 0) -∗ wpK c k Q) -∗ wpK c (tWait (semC X) 2#32 k) Q) := by
  unfold tWait Ow CrSt
  rw [two_int, show 62 - 2 = 60 from rfl, Ico_cons (show 60 < 62 by decide), bigSep_insert' (not_mem_Ico 60 62), Ico_cons (show 60 + 1 < 62 by decide),
    bigSep_insert' (not_mem_Ico (60 + 1) 62)]
  iintro ⟨#HC, ⟨⟨%S, %hS, Hat, -⟩, ⟨Hc, Hc', -⟩⟩, ⟨%W, HO⟩⟩ Hk
  ihave Hcc := (show iprop(cred (tallyAt (cC X c) 60 1) ∗ cred (tallyAt (cC X c) (60 + 1) 1)) ⊢ (cred (tallyOn (cC X c) (Finsupp.single 60 1 + Finsupp.single 61 1)) : sProp 𝕄) from
    (cred_add _ _).2.trans (Entails.of_eq (by rw [tallyOn_add]; rfl))) $$ [Hc Hc']
  · isplitl [Hc]; · iexact Hc
    iexact Hc'
  iapply (Rounds.wp_wait_rest 𝒱₀ ER (Rd y) (c : Thread nD τ) none (κ := K (cC X c)) (sm := .reg (semC X)) (k' := 2)
      (wpE_semWait_eq 𝒱₀ (c : Thread nD τ) none Set.univ) (Set.mem_univ _) (cr := Finsupp.single 60 1 + Finsupp.single 61 1) (O := 0) (W := W)
      (Finset.image (SemLoc.reg (semC X), ·) (Finsupp.single 60 1 + Finsupp.single 61 1 : ℕ →₀ ℕ).support) (R := 0) (m := 60) (T := S) (expect_C y X c).symm
      (by
        unfold Util.total
        rw [Finsupp.sum_add_index' (fun _ => rfl) (fun _ _ _ => rfl), Finsupp.sum_single_index rfl, Finsupp.sum_single_index rfl]) (Finset.Subset.refl _)) $$ [Hcc HO Hat]
  · isplitr; · iapply (ctx_cell y (cC_mem X c)); iexact HC
    isplitl [Hcc]; · iexact Hcc
    isplitl [HO]; · iexact HO
    isplitr; · rw [MayOwe_zero]; iempintro
    iexact Hat
  iintro ⟨HO, Hat, -, -⟩
  iapply Hk
  isplitl [Hat]; · iexact Hat
  iexists _; iexact HO

theorem ring_start (X : Bool) :
    iprop((Idle F X c 0 0 ∗ Idle F X c 1 0) ∗ (posR F X c 0 0 ∗ posR F X c 1 0) ∗ atPos ER (cC X c) 0 ∅ 0
      ∗ (bigSep (Finset.Ico 0 62) (Tok F c X) ∗ bigSep (Finset.Ico 0 62) (fun d => cred (tallyAt (cC X c) d 1)))
      ∗ (readerAt ES ((c, X, 0) : Key) 1 ∗ readerAt ES ((c, X, 1) : Key) 1)
      ∗ (sIs (mS X) 0 c fullShare (chunk (y c) X (posT c)) ∗ sAny F (mS X) 1 c)
      ∗ Yh y X c ∗ vL F c X 0 ∗ vL F c X 1 ∗ vT F c X ∗ Out c (fun _ => True) X)
      ⊢ (RB y c X 0 : sProp 𝕄) := by
  unfold RB CrSt SndNxt NX Known Out
  rw [if_pos rfl, if_pos (by decide), Finset.range_zero]
  iintro ⟨⟨Hi0, Hi1⟩, ⟨Hp0, Hp1⟩, Hat, ⟨HT, Hcs⟩, ⟨Hr0, Hr1⟩, ⟨Hs0, Hs1⟩, HY, HL0, HL1, HvT, ⟨%fo, -, HO⟩⟩
  isplitl [Hat Hcs]
  · isplitl [Hat Hcs]
    · isplitl [Hat]
      · iexists ∅
        isplitr; · ipureintro; exact ⟨Finset.empty_subset _, Nat.zero_le _⟩
        isplitl [Hat]; · iexact Hat
        rw [bigSep_empty]; iempintro
      iexact Hcs
    rw [bigSep_empty]; iempintro
  isplitl [HT]; · iexact HT
  isplitl [Hi0 Hi1 Hs0 Hs1]
  · isplitl [Hi0]; · iexact Hi0
    isplitl [Hs0]; · iexact Hs0
    isplitl [Hi1]; · iexact Hi1
    iexact Hs1
  isplitl [Hp0 Hp1 Hr0 Hr1]
  · isplitl [Hp0]; · iexact Hp0
    isplitl [Hp1]; · iexact Hp1
    isplitl [Hr0]; · iexact Hr0
    iexact Hr1
  isplitl [HY]; · iexact HY
  isplitl [HL0]; · iexact HL0
  isplitl [HL1]; · iexact HL1
  isplitl [HvT]; · iexact HvT
  iexists fo
  isplitr; · ipureintro; exact ⟨fun t ht => absurd ht (Nat.not_lt_zero t), fun h => absurd h (by decide)⟩
  iexact HO

theorem close_S (X s) : iprop(Ctx y K Ks ∗ posS F c X s 31) ⊢ (|={Set.univ}=> semVal (cS X s c) 0 : sProp 𝕄) := by
  iintro ⟨#HC, H⟩
  iapply (Rounds.cell_close ER (Rd y) (Set.mem_univ (K (cS X s c))) id (end_S y X s c))
  isplitr; · iapply (ctx_cell y (cS_mem X s c)); iexact HC
  iexact H
theorem close_R (X s) : iprop(Ctx y K Ks ∗ posR F X c s 31) ⊢ (|={Set.univ}=> semVal (cR X s c) 0 : sProp 𝕄) := by
  iintro ⟨#HC, H⟩
  iapply (Rounds.cell_close ER (Rd y) (Set.mem_univ (K (cR X s c))) id (end_R y X s c))
  isplitr; · iapply (ctx_cell y (cR_mem X s c)); iexact HC
  iexact H
theorem close_C (X) : iprop(Ctx y K Ks ∗ atPos ER (cC X c) 1 ∅ 0) ⊢ (|={Set.univ}=> semVal (cC X c) 0 : sProp 𝕄) := by
  iintro ⟨#HC, H⟩
  iapply (Rounds.cell_close ER (Rd y) (Set.mem_univ (K (cC X c))) id (end_C y X c))
  isplitr; · iapply (ctx_cell y (cC_mem X c)); iexact HC
  iexact H
theorem close_B : iprop(Ctx y K Ks ∗ atPos ER (cB c) 1 ∅ 0) ⊢ (|={Set.univ}=> semVal (cB c) 0 : sProp 𝕄) := by
  iintro ⟨#HC, H⟩
  iapply (Rounds.cell_close ER (Rd y) (Set.mem_univ (K (cB c))) id (end_B y c))
  isplitr; · iapply (ctx_cell y (cB_mem c)); iexact HC
  iexact H

/-- A ring when the hops, the last send and the last credits are over. -/
def RE (X : Bool) : sProp 𝕄 :=
  iprop(atPos ER (cC X c) 1 ∅ 0 ∗ Known F X c 62 ∗ (posS F c X 0 31 ∗ sAny F (mS X) 0 c) ∗ (posS F c X 1 31 ∗ sAny F (mS X) 1 c)
    ∗ (posR F X c 0 31 ∗ posR F X c 1 31) ∗ (writeTok ES ((c, X, 0) : Key) 32 ∗ writeTok ES ((c, X, 1) : Key) 32)
    ∗ Yh y X c ∗ vL F c X 0 ∗ vL F c X 1 ∗ vT F c X ∗ Out c (OutP y c X 62) X)

theorem ring_end (X : Bool) :
    iprop(Ctx y K Ks ∗ RE y c X) ⊢ (|={Set.univ}=> (EnC F c X ∗ StM y c X (OutP y c X 62)) : sProp 𝕄) := by
  unfold RE EnC StM
  iintro ⟨#HC, Hat, #HK, ⟨HpS0, Hs0⟩, ⟨HpS1, Hs1⟩, ⟨HpR0, HpR1⟩, ⟨Hw0, Hw1⟩, HY, HL0, HL1, HvT, HO⟩
  ihave #HI0 := (ctx_slot y (c, X, 0)) $$ HC
  ihave #HI1 := (ctx_slot y (c, X, 1)) $$ HC
  unfold Known
  ihave #HK0 := (bigSep_elim' (Φ := fun e => (iprop(released ES ((c, X, cur e) : Key) (e / 2 + 2) ∗ reached ER (cR X (cur e) c) (e / 2 + 1)) : sProp 𝕄))
      (Finset.mem_range.mpr (show 60 < 62 by decide))) $$ HK
  ihave #HK1 := (bigSep_elim' (Φ := fun e => (iprop(released ES ((c, X, cur e) : Key) (e / 2 + 2) ∗ reached ER (cR X (cur e) c) (e / 2 + 1)) : sProp 𝕄))
      (Finset.mem_range.mpr (show 61 < 62 by decide))) $$ HK
  icases HK0 with ⟨#Hl0, -⟩
  icases HK1 with ⟨#Hl1, -⟩
  imod (slot_take ES (k := ((c, X, 0) : Key)) (S := slotOf F (c, X, 0)) (Set.mem_univ (Ks (c, X, 0))) 32) $$ [Hw0] with Hd0
  · isplitr; · iexact HI0
    isplitr; · iexact Hl0
    iexact Hw0
  imod (slot_take ES (k := ((c, X, 1) : Key)) (S := slotOf F (c, X, 1)) (Set.mem_univ (Ks (c, X, 1))) 32) $$ [Hw1] with Hd1
  · isplitr; · iexact HI1
    isplitr; · iexact Hl1
    iexact Hw1
  imod (close_S (K := K) (Ks := Ks) y c X 0) $$ [HpS0] with H1
  · isplitr; · iexact HC
    iexact HpS0
  imod (close_S (K := K) (Ks := Ks) y c X 1) $$ [HpS1] with H2
  · isplitr; · iexact HC
    iexact HpS1
  imod (close_R (K := K) (Ks := Ks) y c X 0) $$ [HpR0] with H3
  · isplitr; · iexact HC
    iexact HpR0
  imod (close_R (K := K) (Ks := Ks) y c X 1) $$ [HpR1] with H4
  · isplitr; · iexact HC
    iexact HpR1
  imod (close_C (K := K) (Ks := Ks) y c X) $$ [Hat] with H5
  · isplitr; · iexact HC
    iexact Hat
  imodintro
  isplitl [H1 H2 H3 H4 H5]
  · isplitl [H1 H2]
    · isplitl [H1]; · iexact H1
      iexact H2
    isplitl [H3 H4]
    · isplitl [H3]; · iexact H3
      iexact H4
    iexact H5
  isplitl [Hs0 Hs1]
  · isplitl [Hs0]; · iexact Hs0
    iexact Hs1
  isplitl [Hd0 Hd1]
  · isplitl [Hd0]; · iexact Hd0
    iexact Hd1
  isplitl [HY]; · iexact HY
  isplitl [HL0]; · iexact HL0
  isplitl [HL1]; · iexact HL1
  isplitl [HvT]; · iexact HvT
  iexact HO

theorem RB_end (X : Bool) : RB y c X 62 ⊢ iprop((CrSt F X c 62 ∗ Known F X c 62 ∗ (posS F c X 0 31 ∗ sAny F (mS X) 0 c) ∗ (posR F X c 0 31 ∗ posR F X c 1 31)
      ∗ Yh y X c ∗ vL F c X 0 ∗ vL F c X 1 ∗ vT F c X ∗ Out c (OutP y c X 62) X) ∗ Fly F X c 1 30) := by
  unfold RB NX SndNxt Idle
  rw [if_neg (by decide), if_neg (by decide)]
  iintro ⟨⟨H1, H2⟩, -, ⟨⟨H3, -⟩, H4, H5⟩, ⟨H6, H7, -, -⟩, H8⟩
  isplitr [H5]
  · isplitl [H1]; · iexact H1
    isplitl [H2]; · iexact H2
    isplitl [H3 H4]
    · isplitl [H3]; · iexact H3
      iexact H4
    isplitl [H6 H7]
    · isplitl [H6]; · iexact H6
      iexact H7
    iexact H8
  iexact H5

include hE

set_option maxHeartbeats 2000000 in
theorem body_run (Q : PUnit → sProp 𝕄) :
    iprop(Ctx y K Ks ∗ StB F c ∗ (StC F c false ∗ StT F c false ∗ StM y c false (fun _ => True)) ∗ (StC F c true ∗ StT F c true ∗ StM y c true (fun _ => True)) ∗ Ow F c (O₀ c))
      ⊢ iprop((iprop(semVal (cB c) 0 ∗ (EnC F c false ∗ StM y c false (OutP y c false 62)) ∗ (EnC F c true ∗ StM y c true (OutP y c true 62)) ∗ Ow F c 0) -∗ Q ⟨⟩)
        -∗ wpK c (pro1 E (pro2 E (run E 0 1488 (epi (.ret ⟨⟩))))) Q) := by
  unfold StB StC StT StM pro1 pro2 epi
  have hA1 : Above 1 (owed c 0) := above_owed c (by decide)
  have hA0 : Above 0 (owed c 0) := above_owed c (by decide)
  iintro ⟨#HC, ⟨HB, HcB, ⟨Htt, #Hbt⟩, ⟨Htf, #Hbf⟩⟩, ⟨⟨⟨Hi0f, Hi1f⟩, ⟨⟨HR0f, #Hq0f⟩, ⟨HR1f, #Hq1f⟩⟩, ⟨HCf, #HcRf⟩⟩, ⟨HTf, Hcsf, ⟨Hr0f, Hr1f⟩, ⟨Hw0f, Hw1f⟩⟩, ⟨⟨Hs0f, Hs1f⟩, ⟨Hm0f, Hm1f⟩, HYf, HL0f, HL1f, HvTf, Hof⟩⟩, ⟨⟨⟨Hi0t, Hi1t⟩, ⟨⟨HR0t, #Hq0t⟩, ⟨HR1t, #Hq1t⟩⟩, ⟨HCt, #HcRt⟩⟩, ⟨HTt, Hcst, ⟨Hr0t, Hr1t⟩, ⟨Hw0t, Hw1t⟩⟩, ⟨⟨Hs0t, Hs1t⟩, ⟨Hm0t, Hm1t⟩, HYt, HL0t, HL1t, HvTt, Hot⟩⟩, HO⟩ Hk
  imod (tell (K := K) (Ks := Ks) y c false) $$ [Hr0f Hr1f Hm0f Hm1f] with ⟨⟨Hr0f, Hr1f⟩, #Hhf⟩
  · isplitr; · iexact HC
    isplitl [Hr0f Hr1f]
    · isplitl [Hr0f]; · iexact Hr0f
      iexact Hr1f
    isplitl [Hm0f Hm1f]
    · isplitl [Hm0f]; · iexact Hm0f
      iexact Hm1f
    isplitr; · iexact Hq0f
    isplitr; · iexact Hq1f
    iexact HcRt
  imod (tell (K := K) (Ks := Ks) y c true) $$ [Hr0t Hr1t Hm0t Hm1t] with ⟨⟨Hr0t, Hr1t⟩, #Hht⟩
  · isplitr; · iexact HC
    isplitl [Hr0t Hr1t]
    · isplitl [Hr0t]; · iexact Hr0t
      iexact Hr1t
    isplitl [Hm0t Hm1t]
    · isplitl [Hm0t]; · iexact Hm0t
      iexact Hm1t
    isplitr; · iexact Hq0t
    isplitr; · iexact Hq1t
    iexact HcRf
  iapply (st_bar (K := K) (Ks := Ks) y c true _ (hE.dn true) 0 rfl (owed c 0 + bT false c) _ Q) $$ [Htt HO]
  · isplitr; · iexact HC
    isplitr; · iexact Hhf
    isplitl [Htt]
    · isplitl [Htt]; · iexact Htt
      iexact Hbt
    iexact HO
  iintro HO
  iapply (st_bar (K := K) (Ks := Ks) y c false _ (hE.dn false) 1 rfl (owed c 0) _ Q) $$ [Htf HO]
  · isplitr; · iexact HC
    isplitr; · iexact Hht
    isplitl [Htf]
    · isplitl [Htf]; · iexact Htf
      iexact Hbf
    iexact HO
  iintro HO
  iapply (st_waitB (K := K) (Ks := Ks) y c (owed c 0) hA1 _ Q) $$ [HB HcB HO]
  · isplitr; · iexact HC
    isplitl [HB HcB]
    · isplitl [HB]; · iexact HB
      iexact HcB
    iexact HO
  iintro ⟨HB, #HH, HO⟩
  iapply (st_load y false c 0 (posT c) _ _ (hE.off0 false) _ Q) $$ [HL0f Hs0f HYf]
  · isplitl [HL0f]; · iexact HL0f
    isplitl [Hs0f]; · iexact Hs0f
    iexact HYf
  iintro HLdf
  iapply (st_waitL (K := K) (Ks := Ks) y false c 0 (posT c) _ _ (owed c 0) hA0 (sem_lv c false 0) _ Q) $$ [HLdf HO]
  · isplitr; · iexact HC
    isplitl [HLdf]; · iexact HLdf
    iexact HO
  iintro ⟨HL0f, Hs0f, HYf, HO⟩
  iapply (st_load y true c 0 (posT c) _ _ (hE.off0 true) _ Q) $$ [HL0t Hs0t HYt]
  · isplitl [HL0t]; · iexact HL0t
    isplitl [Hs0t]; · iexact Hs0t
    iexact HYt
  iintro HLdt
  iapply (st_waitL (K := K) (Ks := Ks) y true c 0 (posT c) _ _ (owed c 0) hA0 (sem_lv c true 0) _ Q) $$ [HLdt HO]
  · isplitr; · iexact HC
    isplitl [HLdt]; · iexact HLdt
    iexact HO
  iintro ⟨HL0t, Hs0t, HYt, HO⟩
  ihave HRBf := (ring_start y c false) $$ [Hi0f Hi1f HR0f HR1f HCf HTf Hcsf Hr0f Hr1f Hs0f Hs1f HYf HL0f HL1f HvTf Hof]
  · isplitl [Hi0f Hi1f]
    · isplitl [Hi0f]; · iexact Hi0f
      iexact Hi1f
    isplitl [HR0f HR1f]
    · isplitl [HR0f]; · iexact HR0f
      iexact HR1f
    isplitl [HCf]; · iexact HCf
    isplitl [HTf Hcsf]
    · isplitl [HTf]; · iexact HTf
      iexact Hcsf
    isplitl [Hr0f Hr1f]
    · isplitl [Hr0f]; · iexact Hr0f
      iexact Hr1f
    isplitl [Hs0f Hs1f]
    · isplitl [Hs0f]; · iexact Hs0f
      iexact Hs1f
    isplitl [HYf]; · iexact HYf
    isplitl [HL0f]; · iexact HL0f
    isplitl [HL1f]; · iexact HL1f
    isplitl [HvTf]; · iexact HvTf
    iexact Hof
  ihave HRBt := (ring_start y c true) $$ [Hi0t Hi1t HR0t HR1t HCt HTt Hcst Hr0t Hr1t Hs0t Hs1t HYt HL0t HL1t HvTt Hot]
  · isplitl [Hi0t Hi1t]
    · isplitl [Hi0t]; · iexact Hi0t
      iexact Hi1t
    isplitl [HR0t HR1t]
    · isplitl [HR0t]; · iexact HR0t
      iexact HR1t
    isplitl [HCt]; · iexact HCt
    isplitl [HTt Hcst]
    · isplitl [HTt]; · iexact HTt
      iexact Hcst
    isplitl [Hr0t Hr1t]
    · isplitl [Hr0t]; · iexact Hr0t
      iexact Hr1t
    isplitl [Hs0t Hs1t]
    · isplitl [Hs0t]; · iexact Hs0t
      iexact Hs1t
    isplitl [HYt]; · iexact HYt
    isplitl [HL0t]; · iexact HL0t
    isplitl [HL1t]; · iexact HL1t
    isplitl [HvTt]; · iexact HvTt
    iexact Hot
  iapply (hops (K := K) (Ks := Ks) y E c hE 62 0 (by decide) _ Q) $$ [HRBf HRBt HO]
  · isplitr; · iexact HC
    isplitr; · iexact HH
    isplitl [HRBf]; · iexact HRBf
    isplitl [HRBt]; · iexact HRBt
    iexact HO
  iintro ⟨HRBf, HRBt, HO⟩
  ihave HEf := (RB_end y c false) $$ HRBf
  icases HEf with ⟨⟨HCrf, HKf, HS0f, HPRf, HMf⟩, HFf⟩
  ihave HEt := (RB_end y c true) $$ HRBt
  icases HEt with ⟨⟨HCrt, HKt, HS0t, HPRt, HMt⟩, HFt⟩
  ihave HO := (show Ow F c (owed c (0 + 62)) ⊢ Ow F c 0 from Entails.of_eq (by rw [show 0 + 62 = 62 from rfl, owed_end])) $$ HO
  iapply (st_waitS (K := K) (Ks := Ks) y false c 1 30 (by decide) 0 (Above.zero 0) _ Q) $$ [HFf HO]
  · isplitr; · iexact HC
    isplitl [HFf]; · iexact HFf
    iexact HO
  iintro ⟨HS1f, Hs1f, HO⟩
  unfold Idle
  icases HS1f with ⟨HS1f, -⟩
  iapply (st_waitS (K := K) (Ks := Ks) y true c 1 30 (by decide) 0 (Above.zero 0) _ Q) $$ [HFt HO]
  · isplitr; · iexact HC
    isplitl [HFt]; · iexact HFt
    iexact HO
  iintro ⟨HS1t, Hs1t, HO⟩
  unfold Idle
  icases HS1t with ⟨HS1t, -⟩
  iapply (st_waitC (K := K) (Ks := Ks) y c false _ Q) $$ [HCrf HO]
  · isplitr; · iexact HC
    isplitl [HCrf]; · iexact HCrf
    iexact HO
  iintro ⟨HCf, HO⟩
  iapply (st_waitC (K := K) (Ks := Ks) y c true _ Q) $$ [HCrt HO]
  · isplitr; · iexact HC
    isplitl [HCrt]; · iexact HCrt
    iexact HO
  iintro ⟨HCt, HO⟩
  unfold wpK
  rw [wp_ret]
  imod (close_B (K := K) (Ks := Ks) y c) $$ [HB] with HB
  · isplitr; · iexact HC
    iexact HB
  imod (ring_end (K := K) (Ks := Ks) y c false) $$ [HCf HKf HS0f HS1f Hs1f HPRf Hw0f Hw1f HMf] with HEf
  · isplitr; · iexact HC
    unfold RE; isplitl [HCf]; · iexact HCf
    isplitl [HKf]; · iexact HKf
    isplitl [HS0f]; · iexact HS0f
    isplitl [HS1f Hs1f]
    · isplitl [HS1f]; · iexact HS1f
      iexact Hs1f
    isplitl [HPRf]; · iexact HPRf
    isplitl [Hw0f Hw1f]
    · isplitl [Hw0f]; · iexact Hw0f
      iexact Hw1f
    iexact HMf
  imod (ring_end (K := K) (Ks := Ks) y c true) $$ [HCt HKt HS0t HS1t Hs1t HPRt Hw0t Hw1t HMt] with HEt
  · isplitr; · iexact HC
    unfold RE; isplitl [HCt]; · iexact HCt
    isplitl [HKt]; · iexact HKt
    isplitl [HS0t]; · iexact HS0t
    isplitl [HS1t Hs1t]
    · isplitl [HS1t]; · iexact HS1t
      iexact Hs1t
    isplitl [HPRt]; · iexact HPRt
    isplitl [Hw0t Hw1t]
    · isplitl [Hw0t]; · iexact Hw0t
      iexact Hw1t
    iexact HMt
  imodintro
  iapply Hk
  isplitl [HB]; · iexact HB
  isplitl [HEf]; · iexact HEf
  isplitl [HEt]; · iexact HEt
  iexact HO

end Cert.KernelIdeal.Ring

end
-- ==== Proof.KernelIdeal.Windows0.lean ====
/- What it is for a program to be a run of steps followed by its continuation. -/
module

public import proofs.«01_k».proof.Proof.KernelIdeal.Atoms

@[expose] public section

set_option maxRecDepth 65536
set_option Elab.async false

noncomputable section

namespace Cert.KernelIdeal.Ring

open Idealize.ShloMosaic Idealize.SL.Sem Cert.KernelIdeal.Gen

variable {F : FTy → Type} [FloatOps F]

universe u
/-- The argument list of every window. -/
abbrev Ap (β : Sort u) := ∀ (arg0 : Memref sig .tc .smem S3 .i32) (harg0 : arg0.IsWhole) (arg1 : Memref sig .tc .hbm S4096x8192 .f32) (harg1 : arg1.IsWhole) (arg2 : Memref sig .tc .hbm S4096x8192 .f32) (harg2 : arg2.IsWhole) (arg3 : Memref sig .tc .vmem S2x64x8192 .f32) (harg3 : arg3.IsWhole) (arg4 : Memref sig .tc .vmem S2x64x8192 .f32) (harg4 : arg4.IsWhole) (arg5 : Memref sig .tc .vmem S2x64x8192 .f32) (harg5 : arg5.IsWhole) (arg6 : Memref sig .tc .vmem S2x64x8192 .f32) (harg6 : arg6.IsWhole) (arg7 : DmaSems sig S2) (arg8 : DmaSems sig S2) (arg9 : DmaSems sig S2) (arg10 : DmaSems sig S2) (arg11 : DmaSems sig S2) (arg12 : DmaSems sig S2) (arg13 : DmaSems sig S_) (arg14 : DmaSems sig S_) (arg15 : Sems sig S_) (arg16 : Sems sig S_), β
/-- A window on the buffers and semaphores of the call. -/
abbrev ap {β : Sort u} (A0 : Memref sig .tc .smem S3 .i32) (h0 : A0.IsWhole) (f : Ap β) : β :=
  f A0 h0 (Memref.whole main_v1) (Memref.isWhole_whole _) (Memref.whole main_v30) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13

/-- `p` is `φ` of its continuation. -/
def Is {α : Type} (φ : Pr F → Pr F) (p : Prog (TpuEff nD τ sig (Elt F) Λ₀ .tc) α) : Prop :=
  ∃ x, ∀ k : α → Pr F, Prog.bind p k = φ (k x)
/-- `p` followed by `q` of its result is `φ` of what follows. -/
def Is2 {α β : Type} (φ : Pr F → Pr F) (p : Prog (TpuEff nD τ sig (Elt F) Λ₀ .tc) α)
    (q : α → Prog (TpuEff nD τ sig (Elt F) Λ₀ .tc) β) : Prop :=
  ∃ x, ∀ k : β → Pr F, Prog.bind p (fun v => Prog.bind (q v) k) = φ (k x)
/-- `p` is `φ` of its continuation at the value `x`. -/
def IsV {α : Type} (φ : Pr F → Pr F) (p : Prog (TpuEff nD τ sig (Elt F) Λ₀ .tc) α) (x : α) : Prop :=
  ∀ k : α → Pr F, Prog.bind p k = φ (k x)

theorem bind_bind {α β γ : Type} (p : Prog (TpuEff nD τ sig (Elt F) Λ₀ .tc) α)
    (f : α → Prog (TpuEff nD τ sig (Elt F) Λ₀ .tc) β) (k : β → Prog (TpuEff nD τ sig (Elt F) Λ₀ .tc) γ) :
    Prog.bind (Prog.bind p f) k = Prog.bind p fun x => Prog.bind (f x) k := by
  induction p with
  | ret a => rfl
  | op e c ih => exact congrArg (Prog.op e) (funext fun x => ih x)

theorem IsV.is {α : Type} {φ : Pr F → Pr F} {p : Prog (TpuEff nD τ sig (Elt F) Λ₀ .tc) α} {x : α} (h : IsV φ p x) : Is φ p := ⟨x, h⟩
theorem IsV.pure {α : Type} {φ : Pr F → Pr F} (x : α) (h : ∀ k, φ k = k) :
    IsV φ (Pure.pure x : Prog (TpuEff nD τ sig (Elt F) Λ₀ .tc) α) x := fun k => (h _).symm
theorem Is.pure {α : Type} {φ : Pr F → Pr F} (x : α) (h : ∀ k, φ k = k) :
    Is φ (Pure.pure x : Prog (TpuEff nD τ sig (Elt F) Λ₀ .tc) α) := ⟨x, fun k => (h _).symm⟩
theorem Is.bind {α β : Type} {φ ψ χ : Pr F → Pr F} {p : Prog (TpuEff nD τ sig (Elt F) Λ₀ .tc) α}
    {f : α → Prog (TpuEff nD τ sig (Elt F) Λ₀ .tc) β} (hχ : ∀ k, χ k = φ (ψ k)) (h : Is φ p) (hf : ∀ x, Is ψ (f x)) :
    Is χ (p >>= f) := by
  obtain ⟨x, h⟩ := h
  obtain ⟨y, hy⟩ := hf x
  exact ⟨y, fun k => by rw [hχ, ← hy, ← h (fun b => Prog.bind (f b) k)]; exact bind_bind p f k⟩
theorem Is.bindV {α β : Type} {φ ψ χ : Pr F → Pr F} {p : Prog (TpuEff nD τ sig (Elt F) Λ₀ .tc) α}
    {f : α → Prog (TpuEff nD τ sig (Elt F) Λ₀ .tc) β} {y : β} (hχ : ∀ k, χ k = φ (ψ k)) (h : Is φ p) (hf : ∀ x, IsV ψ (f x) y) :
    IsV χ (p >>= f) y := by
  obtain ⟨x, h⟩ := h
  exact fun k => by rw [hχ, ← hf x, ← h (fun b => Prog.bind (f b) k)]; exact bind_bind p f k
theorem Is2.bind {α β γ : Type} {φ ψ χ : Pr F → Pr F} {p : Prog (TpuEff nD τ sig (Elt F) Λ₀ .tc) α}
    {q : α → Prog (TpuEff nD τ sig (Elt F) Λ₀ .tc) β} {g : β → Prog (TpuEff nD τ sig (Elt F) Λ₀ .tc) γ}
    (hχ : ∀ k, χ k = φ (ψ k)) (h : Is2 φ p q) (hf : ∀ x, Is ψ (g x)) :
    Is χ (p >>= fun v => q v >>= g) := by
  obtain ⟨x, h⟩ := h
  obtain ⟨y, hy⟩ := hf x
  refine ⟨y, fun k => ?_⟩
  rw [hχ, ← hy, ← h (fun b => Prog.bind (g b) k)]
  refine (bind_bind p _ k).trans (congrArg (Prog.bind p) (funext fun v => bind_bind (q v) g k))
theorem Is2.bindV {α β γ : Type} {φ ψ χ : Pr F → Pr F} {p : Prog (TpuEff nD τ sig (Elt F) Λ₀ .tc) α}
    {q : α → Prog (TpuEff nD τ sig (Elt F) Λ₀ .tc) β} {g : β → Prog (TpuEff nD τ sig (Elt F) Λ₀ .tc) γ} {y : γ}
    (hχ : ∀ k, χ k = φ (ψ k)) (h : Is2 φ p q) (hf : ∀ x, IsV ψ (g x) y) :
    IsV χ (p >>= fun v => q v >>= g) y := by
  obtain ⟨x, h⟩ := h
  intro k
  rw [hχ, ← hf x, ← h (fun b => Prog.bind (g b) k)]
  refine (bind_bind p _ k).trans (congrArg (Prog.bind p) (funext fun v => bind_bind (q v) g k))
end Cert.KernelIdeal.Ring

end
-- ==== Proof.KernelIdeal.Windows1.lean ====
/- The windows the kernel's body is printed in, as runs of steps. -/
module

public import proofs.«01_k».proof.Proof.KernelIdeal.Windows0

@[expose] public section

set_option maxRecDepth 65536
set_option Elab.async false

noncomputable section

namespace Cert.KernelIdeal.Ring

open Idealize.ShloMosaic Idealize.SL.Sem Cert.KernelIdeal.Gen

variable {F : FTy → Type} [FloatOps F]

theorem w2 (A0 : Memref sig .tc .smem S3 .i32) (h0 : A0.IsWhole) (E : Env)  : Is (fun k => pro2 E (run E 0 6 k)) (ap A0 h0 (k0_part2 (F := F)) E.v0 E.h3 E.v1 E.h1 E.v2 E.h2) := by
  rw [k0_part2_eq_skeleton]; exact ⟨_, fun _ => rfl⟩
theorem w3 (A0 : Memref sig .tc .smem S3 .i32) (h0 : A0.IsWhole) (E : Env) (v51 : BitVec 32) (c32_i32 : BitVec 32) : Is (run E 6 4) (ap A0 h0 (k0_part3 (F := F)) E.v0 E.h3 v51 c32_i32) := by
  rw [k0_part3_eq_skeleton]; exact ⟨_, fun _ => rfl⟩
theorem w4 (A0 : Memref sig .tc .smem S3 .i32) (h0 : A0.IsWhole) (E : Env)  : Is2 (run E 10 17) (ap A0 h0 (k0_part4 (F := F)) E.v1 E.v2) (fun x => ap A0 h0 (k0_part5 (F := F)) E.v1 E.h1 E.v2 E.h2 x) := by
  rw [k0_part4_eq_skeleton, k0_part5_eq_skeleton]; exact ⟨_, fun _ => rfl⟩
theorem w6 (A0 : Memref sig .tc .smem S3 .i32) (h0 : A0.IsWhole) (E : Env)  : Is (run E 27 3) (ap A0 h0 (k0_part6 (F := F)) E.v0 E.v1 E.h1) := by
  rw [k0_part6_eq_skeleton]; exact ⟨_, fun _ => rfl⟩
theorem w7 (A0 : Memref sig .tc .smem S3 .i32) (h0 : A0.IsWhole) (E : Env)  : Is2 (run E 30 13) (ap A0 h0 (k0_part7 (F := F)) E.v0 E.h3 E.v2) (fun x => ap A0 h0 (k0_part8 (F := F)) E.v1 E.h1 E.v2 x) := by
  rw [k0_part7_eq_skeleton, k0_part8_eq_skeleton]; exact ⟨_, fun _ => rfl⟩
theorem w9 (A0 : Memref sig .tc .smem S3 .i32) (h0 : A0.IsWhole) (E : Env) (v209 : BitVec 32) : Is (run E 43 9) (ap A0 h0 (k0_part9 (F := F)) E.v1 E.h1 E.v2 E.h2 v209) := by
  rw [k0_part9_eq_skeleton]; exact ⟨_, fun _ => rfl⟩
theorem w10 (A0 : Memref sig .tc .smem S3 .i32) (h0 : A0.IsWhole) (E : Env)  : Is (run E 52 3) (ap A0 h0 (k0_part10 (F := F)) E.v0 E.h3) := by
  rw [k0_part10_eq_skeleton]; exact ⟨_, fun _ => rfl⟩
theorem w11 (A0 : Memref sig .tc .smem S3 .i32) (h0 : A0.IsWhole) (E : Env)  : Is (run E 55 6) (ap A0 h0 (k0_part11 (F := F)) E.v0 E.h3 E.v2) := by
  rw [k0_part11_eq_skeleton]; exact ⟨_, fun _ => rfl⟩
theorem w12 (A0 : Memref sig .tc .smem S3 .i32) (h0 : A0.IsWhole) (E : Env)  : Is (run E 61 13) (ap A0 h0 (k0_part12 (F := F)) E.v1 E.h1 E.v2 E.h2) := by
  rw [k0_part12_eq_skeleton]; exact ⟨_, fun _ => rfl⟩
theorem w13 (A0 : Memref sig .tc .smem S3 .i32) (h0 : A0.IsWhole) (E : Env) (c1_i32_347 : BitVec 32) : Is (run E 74 3) (ap A0 h0 (k0_part13 (F := F)) E.v1 E.h1 E.v2 E.h2 c1_i32_347) := by
  rw [k0_part13_eq_skeleton]; exact ⟨_, fun _ => rfl⟩
theorem w14 (A0 : Memref sig .tc .smem S3 .i32) (h0 : A0.IsWhole) (E : Env)  : Is (run E 77 4) (ap A0 h0 (k0_part14 (F := F)) E.v0 E.h3) := by
  rw [k0_part14_eq_skeleton]; exact ⟨_, fun _ => rfl⟩
theorem w15 (A0 : Memref sig .tc .smem S3 .i32) (h0 : A0.IsWhole) (E : Env)  : Is (run E 81 4) (ap A0 h0 (k0_part15 (F := F)) E.v0 E.h3 E.v1 E.v2) := by
  rw [k0_part15_eq_skeleton]; exact ⟨_, fun _ => rfl⟩
theorem w16 (A0 : Memref sig .tc .smem S3 .i32) (h0 : A0.IsWhole) (E : Env)  : Is (run E 85 13) (ap A0 h0 (k0_part16 (F := F)) E.v1 E.h1 E.v2 E.h2) := by
  rw [k0_part16_eq_skeleton]; exact ⟨_, fun _ => rfl⟩
theorem w17 (A0 : Memref sig .tc .smem S3 .i32) (h0 : A0.IsWhole) (E : Env)  : Is (run E 98 4) (ap A0 h0 (k0_part17 (F := F)) E.v0 E.v1 E.h1 E.v2 E.h2) := by
  rw [k0_part17_eq_skeleton]; exact ⟨_, fun _ => rfl⟩
theorem w18 (A0 : Memref sig .tc .smem S3 .i32) (h0 : A0.IsWhole) (E : Env) (v436 : BitVec 32) (c32_i32_495 : BitVec 32) : Is (run E 102 4) (ap A0 h0 (k0_part18 (F := F)) E.v0 E.h3 v436 c32_i32_495) := by
  rw [k0_part18_eq_skeleton]; exact ⟨_, fun _ => rfl⟩
theorem w19 (A0 : Memref sig .tc .smem S3 .i32) (h0 : A0.IsWhole) (E : Env) (c1_i32_525 : BitVec 32) : Is2 (run E 106 17) (ap A0 h0 (k0_part19 (F := F)) E.v1 E.v2 c1_i32_525) (fun x => ap A0 h0 (k0_part20 (F := F)) E.v1 E.h1 E.v2 E.h2 x.1 x.2) := by
  rw [k0_part19_eq_skeleton, k0_part20_eq_skeleton]; exact ⟨_, fun _ => rfl⟩
theorem w21 (A0 : Memref sig .tc .smem S3 .i32) (h0 : A0.IsWhole) (E : Env)  : Is (run E 123 3) (ap A0 h0 (k0_part21 (F := F)) E.v0 E.v1 E.h1) := by
  rw [k0_part21_eq_skeleton]; exact ⟨_, fun _ => rfl⟩
theorem w22 (A0 : Memref sig .tc .smem S3 .i32) (h0 : A0.IsWhole) (E : Env)  : Is (run E 126 5) (ap A0 h0 (k0_part22 (F := F)) E.v0 E.h3 E.v2) := by
  rw [k0_part22_eq_skeleton]; exact ⟨_, fun _ => rfl⟩
theorem w23 (A0 : Memref sig .tc .smem S3 .i32) (h0 : A0.IsWhole) (E : Env)  : Is (run E 131 7) (ap A0 h0 (k0_part23 (F := F)) E.v1) := by
  rw [k0_part23_eq_skeleton]; exact ⟨_, fun _ => rfl⟩
theorem w24 (A0 : Memref sig .tc .smem S3 .i32) (h0 : A0.IsWhole) (E : Env)  : Is (run E 138 10) (ap A0 h0 (k0_part24 (F := F)) E.v1 E.h1 E.v2 E.h2) := by
  rw [k0_part24_eq_skeleton]; exact ⟨_, fun _ => rfl⟩
theorem w25 (A0 : Memref sig .tc .smem S3 .i32) (h0 : A0.IsWhole) (E : Env)  : Is (run E 148 3) (ap A0 h0 (k0_part25 (F := F)) E.v0 E.h3) := by
  rw [k0_part25_eq_skeleton]; exact ⟨_, fun _ => rfl⟩
theorem w26 (A0 : Memref sig .tc .smem S3 .i32) (h0 : A0.IsWhole) (E : Env)  : Is2 (run E 151 19) (ap A0 h0 (k0_part26 (F := F)) E.v0 E.h3 E.v2) (fun x => ap A0 h0 (k0_part27 (F := F)) E.v1 E.h1 E.v2 E.h2 x) := by
  rw [k0_part26_eq_skeleton, k0_part27_eq_skeleton]; exact ⟨_, fun _ => rfl⟩
theorem w28 (A0 : Memref sig .tc .smem S3 .i32) (h0 : A0.IsWhole) (E : Env)  : Is (run E 170 3) (ap A0 h0 (k0_part28 (F := F)) E.v1 E.h1 E.v2 E.h2) := by
  rw [k0_part28_eq_skeleton]; exact ⟨_, fun _ => rfl⟩
theorem w29 (A0 : Memref sig .tc .smem S3 .i32) (h0 : A0.IsWhole) (E : Env)  : Is (run E 173 3) (ap A0 h0 (k0_part29 (F := F)) E.v0 E.h3) := by
  rw [k0_part29_eq_skeleton]; exact ⟨_, fun _ => rfl⟩
theorem w30 (A0 : Memref sig .tc .smem S3 .i32) (h0 : A0.IsWhole) (E : Env)  : Is (run E 176 5) (ap A0 h0 (k0_part30 (F := F)) E.v0 E.h3 E.v1 E.v2) := by
  rw [k0_part30_eq_skeleton]; exact ⟨_, fun _ => rfl⟩
theorem w31 (A0 : Memref sig .tc .smem S3 .i32) (h0 : A0.IsWhole) (E : Env)  : Is (run E 181 13) (ap A0 h0 (k0_part31 (F := F)) E.v1 E.h1 E.v2 E.h2) := by
  rw [k0_part31_eq_skeleton]; exact ⟨_, fun _ => rfl⟩
theorem w32 (A0 : Memref sig .tc .smem S3 .i32) (h0 : A0.IsWhole) (E : Env)  : Is (run E 194 4) (ap A0 h0 (k0_part32 (F := F)) E.v1 E.h1 E.v2 E.h2) := by
  rw [k0_part32_eq_skeleton]; exact ⟨_, fun _ => rfl⟩
theorem w33 (A0 : Memref sig .tc .smem S3 .i32) (h0 : A0.IsWhole) (E : Env) (c9_i32 : BitVec 32) : Is (run E 198 4) (ap A0 h0 (k0_part33 (F := F)) E.v0 E.h3 c9_i32) := by
  rw [k0_part33_eq_skeleton]; exact ⟨_, fun _ => rfl⟩
theorem w34 (A0 : Memref sig .tc .smem S3 .i32) (h0 : A0.IsWhole) (E : Env)  : Is2 (run E 202 17) (ap A0 h0 (k0_part34 (F := F)) E.v1 E.v2) (fun x => ap A0 h0 (k0_part35 (F := F)) E.v1 E.h1 E.v2 E.h2 x) := by
  rw [k0_part34_eq_skeleton, k0_part35_eq_skeleton]; exact ⟨_, fun _ => rfl⟩
theorem w36 (A0 : Memref sig .tc .smem S3 .i32) (h0 : A0.IsWhole) (E : Env)  : Is (run E 219 3) (ap A0 h0 (k0_part36 (F := F)) E.v0 E.v1 E.h1) := by
  rw [k0_part36_eq_skeleton]; exact ⟨_, fun _ => rfl⟩
theorem w37 (A0 : Memref sig .tc .smem S3 .i32) (h0 : A0.IsWhole) (E : Env) (v921 : BitVec 32) (c2048_i32_1065 : BitVec 32) : Is (run E 222 4) (ap A0 h0 (k0_part37 (F := F)) E.v0 E.h3 E.v2 v921 c2048_i32_1065) := by
  rw [k0_part37_eq_skeleton]; exact ⟨_, fun _ => rfl⟩
theorem w38 (A0 : Memref sig .tc .smem S3 .i32) (h0 : A0.IsWhole) (E : Env)  : Is (run E 226 8) (ap A0 h0 (k0_part38 (F := F)) E.v1) := by
  rw [k0_part38_eq_skeleton]; exact ⟨_, fun _ => rfl⟩
theorem w39 (A0 : Memref sig .tc .smem S3 .i32) (h0 : A0.IsWhole) (E : Env)  : Is (run E 234 10) (ap A0 h0 (k0_part39 (F := F)) E.v1 E.h1 E.v2 E.h2) := by
  rw [k0_part39_eq_skeleton]; exact ⟨_, fun _ => rfl⟩
theorem w40 (A0 : Memref sig .tc .smem S3 .i32) (h0 : A0.IsWhole) (E : Env)  : Is (run E 244 3) (ap A0 h0 (k0_part40 (F := F)) E.v0 E.h3) := by
  rw [k0_part40_eq_skeleton]; exact ⟨_, fun _ => rfl⟩
theorem w41 (A0 : Memref sig .tc .smem S3 .i32) (h0 : A0.IsWhole) (E : Env)  : Is2 (run E 247 18) (ap A0 h0 (k0_part41 (F := F)) E.v0 E.h3 E.v2) (fun x => ap A0 h0 (k0_part42 (F := F)) E.v1 E.h1 E.v2 E.h2 x.1 x.2) := by
  rw [k0_part41_eq_skeleton, k0_part42_eq_skeleton]; exact ⟨_, fun _ => rfl⟩
theorem w43 (A0 : Memref sig .tc .smem S3 .i32) (h0 : A0.IsWhole) (E : Env)  : Is (run E 265 3) (ap A0 h0 (k0_part43 (F := F)) E.v1 E.h1 E.v2 E.h2) := by
  rw [k0_part43_eq_skeleton]; exact ⟨_, fun _ => rfl⟩
theorem w44 (A0 : Memref sig .tc .smem S3 .i32) (h0 : A0.IsWhole) (E : Env)  : Is (run E 268 4) (ap A0 h0 (k0_part44 (F := F)) E.v0 E.h3) := by
  rw [k0_part44_eq_skeleton]; exact ⟨_, fun _ => rfl⟩
theorem w45 (A0 : Memref sig .tc .smem S3 .i32) (h0 : A0.IsWhole) (E : Env)  : Is (run E 272 5) (ap A0 h0 (k0_part45 (F := F)) E.v0 E.h3 E.v1 E.v2) := by
  rw [k0_part45_eq_skeleton]; exact ⟨_, fun _ => rfl⟩
theorem w46 (A0 : Memref sig .tc .smem S3 .i32) (h0 : A0.IsWhole) (E : Env) (v1151 : BitVec 32) : Is (run E 277 13) (ap A0 h0 (k0_part46 (F := F)) E.v1 E.h1 E.v2 E.h2 v1151) := by
  rw [k0_part46_eq_skeleton]; exact ⟨_, fun _ => rfl⟩
theorem w47 (A0 : Memref sig .tc .smem S3 .i32) (h0 : A0.IsWhole) (E : Env)  : Is (run E 290 3) (ap A0 h0 (k0_part47 (F := F)) E.v1 E.h1 E.v2 E.h2) := by
  rw [k0_part47_eq_skeleton]; exact ⟨_, fun _ => rfl⟩
theorem w48 (A0 : Memref sig .tc .smem S3 .i32) (h0 : A0.IsWhole) (E : Env)  : Is (run E 293 4) (ap A0 h0 (k0_part48 (F := F)) E.v0 E.h3) := by
  rw [k0_part48_eq_skeleton]; exact ⟨_, fun _ => rfl⟩
theorem w49 (A0 : Memref sig .tc .smem S3 .i32) (h0 : A0.IsWhole) (E : Env)  : Is (run E 297 5) (ap A0 h0 (k0_part49 (F := F)) E.v0 E.h3 E.v1 E.v2) := by
  rw [k0_part49_eq_skeleton]; exact ⟨_, fun _ => rfl⟩
theorem w50 (A0 : Memref sig .tc .smem S3 .i32) (h0 : A0.IsWhole) (E : Env)  : Is (run E 302 13) (ap A0 h0 (k0_part50 (F := F)) E.v1 E.h1 E.v2 E.h2) := by
  rw [k0_part50_eq_skeleton]; exact ⟨_, fun _ => rfl⟩
theorem w51 (A0 : Memref sig .tc .smem S3 .i32) (h0 : A0.IsWhole) (E : Env)  : Is (run E 315 3) (ap A0 h0 (k0_part51 (F := F)) E.v0 E.v1 E.h1) := by
  rw [k0_part51_eq_skeleton]; exact ⟨_, fun _ => rfl⟩
theorem w52 (A0 : Memref sig .tc .smem S3 .i32) (h0 : A0.IsWhole) (E : Env) (v1301 : BitVec 32) (v1303 : BitVec 32) (c64_i32_1515 : BitVec 32) : Is (run E 318 4) (ap A0 h0 (k0_part52 (F := F)) E.v0 E.h3 E.v2 v1301 v1303 c64_i32_1515) := by
  rw [k0_part52_eq_skeleton]; exact ⟨_, fun _ => rfl⟩
theorem w53 (A0 : Memref sig .tc .smem S3 .i32) (h0 : A0.IsWhole) (E : Env)  : Is2 (run E 322 17) (ap A0 h0 (k0_part53 (F := F)) E.v1) (fun x => ap A0 h0 (k0_part54 (F := F)) E.v1 E.h1 E.v2 E.h2 x.1 x.2) := by
  rw [k0_part53_eq_skeleton, k0_part54_eq_skeleton]; exact ⟨_, fun _ => rfl⟩
theorem w55 (A0 : Memref sig .tc .smem S3 .i32) (h0 : A0.IsWhole) (E : Env)  : Is (run E 339 3) (ap A0 h0 (k0_part55 (F := F)) E.v0 E.v1 E.h1) := by
  rw [k0_part55_eq_skeleton]; exact ⟨_, fun _ => rfl⟩
theorem w56 (A0 : Memref sig .tc .smem S3 .i32) (h0 : A0.IsWhole) (E : Env)  : Is2 (run E 342 13) (ap A0 h0 (k0_part56 (F := F)) E.v0 E.h3 E.v2) (fun x => ap A0 h0 (k0_part57 (F := F)) E.v1 E.h1 E.v2 x) := by
  rw [k0_part56_eq_skeleton, k0_part57_eq_skeleton]; exact ⟨_, fun _ => rfl⟩
theorem w58 (A0 : Memref sig .tc .smem S3 .i32) (h0 : A0.IsWhole) (E : Env)  : Is (run E 355 9) (ap A0 h0 (k0_part58 (F := F)) E.v1 E.h1 E.v2 E.h2) := by
  rw [k0_part58_eq_skeleton]; exact ⟨_, fun _ => rfl⟩
theorem w59 (A0 : Memref sig .tc .smem S3 .i32) (h0 : A0.IsWhole) (E : Env)  : Is (run E 364 4) (ap A0 h0 (k0_part59 (F := F)) E.v0 E.h3) := by
  rw [k0_part59_eq_skeleton]; exact ⟨_, fun _ => rfl⟩

end Cert.KernelIdeal.Ring

end
-- ==== Proof.KernelIdeal.Windows2.lean ====
/- The windows the kernel's body is printed in, as runs of steps. -/
module

public import proofs.«01_k».proof.Proof.KernelIdeal.Windows0

@[expose] public section

set_option maxRecDepth 65536
set_option Elab.async false

noncomputable section

namespace Cert.KernelIdeal.Ring

open Idealize.ShloMosaic Idealize.SL.Sem Cert.KernelIdeal.Gen

variable {F : FTy → Type} [FloatOps F]

theorem w60 (A0 : Memref sig .tc .smem S3 .i32) (h0 : A0.IsWhole) (E : Env)  : Is (run E 368 5) (ap A0 h0 (k0_part60 (F := F)) E.v0 E.h3 E.v2) := by
  rw [k0_part60_eq_skeleton]; exact ⟨_, fun _ => rfl⟩
theorem w61 (A0 : Memref sig .tc .smem S3 .i32) (h0 : A0.IsWhole) (E : Env)  : Is (run E 373 13) (ap A0 h0 (k0_part61 (F := F)) E.v1 E.h1 E.v2 E.h2) := by
  rw [k0_part61_eq_skeleton]; exact ⟨_, fun _ => rfl⟩
theorem w62 (A0 : Memref sig .tc .smem S3 .i32) (h0 : A0.IsWhole) (E : Env) (v1555 : BitVec 32) (c0_i32_1817 : BitVec 32) : Is (run E 386 3) (ap A0 h0 (k0_part62 (F := F)) E.v1 E.h1 E.v2 E.h2 v1555 c0_i32_1817) := by
  rw [k0_part62_eq_skeleton]; exact ⟨_, fun _ => rfl⟩
theorem w63 (A0 : Memref sig .tc .smem S3 .i32) (h0 : A0.IsWhole) (E : Env)  : Is (run E 389 4) (ap A0 h0 (k0_part63 (F := F)) E.v0 E.h3) := by
  rw [k0_part63_eq_skeleton]; exact ⟨_, fun _ => rfl⟩
theorem w64 (A0 : Memref sig .tc .smem S3 .i32) (h0 : A0.IsWhole) (E : Env)  : Is (run E 393 4) (ap A0 h0 (k0_part64 (F := F)) E.v0 E.h3 E.v1 E.v2) := by
  rw [k0_part64_eq_skeleton]; exact ⟨_, fun _ => rfl⟩
theorem w65 (A0 : Memref sig .tc .smem S3 .i32) (h0 : A0.IsWhole) (E : Env)  : Is (run E 397 14) (ap A0 h0 (k0_part65 (F := F)) E.v1 E.h1 E.v2 E.h2) := by
  rw [k0_part65_eq_skeleton]; exact ⟨_, fun _ => rfl⟩
theorem w66 (A0 : Memref sig .tc .smem S3 .i32) (h0 : A0.IsWhole) (E : Env)  : Is (run E 411 3) (ap A0 h0 (k0_part66 (F := F)) E.v0 E.v1 E.h1) := by
  rw [k0_part66_eq_skeleton]; exact ⟨_, fun _ => rfl⟩
theorem w67 (A0 : Memref sig .tc .smem S3 .i32) (h0 : A0.IsWhole) (E : Env) (v1685 : BitVec 32) (c18_i32_1965 : BitVec 32) : Is (run E 414 4) (ap A0 h0 (k0_part67 (F := F)) E.v0 E.h3 E.v2 v1685 c18_i32_1965) := by
  rw [k0_part67_eq_skeleton]; exact ⟨_, fun _ => rfl⟩
theorem w68 (A0 : Memref sig .tc .smem S3 .i32) (h0 : A0.IsWhole) (E : Env) (v1711 : BitVec 32) (c0_i32_1995 : BitVec 32) : Is2 (run E 418 17) (ap A0 h0 (k0_part68 (F := F)) E.v1 v1711 c0_i32_1995) (fun x => ap A0 h0 (k0_part69 (F := F)) E.v1 E.h1 E.v2 E.h2 x) := by
  rw [k0_part68_eq_skeleton, k0_part69_eq_skeleton]; exact ⟨_, fun _ => rfl⟩
theorem w70 (A0 : Memref sig .tc .smem S3 .i32) (h0 : A0.IsWhole) (E : Env)  : Is (run E 435 3) (ap A0 h0 (k0_part70 (F := F)) E.v0 E.v1 E.h1) := by
  rw [k0_part70_eq_skeleton]; exact ⟨_, fun _ => rfl⟩
theorem w71 (A0 : Memref sig .tc .smem S3 .i32) (h0 : A0.IsWhole) (E : Env)  : Is (run E 438 5) (ap A0 h0 (k0_part71 (F := F)) E.v0 E.h3 E.v2) := by
  rw [k0_part71_eq_skeleton]; exact ⟨_, fun _ => rfl⟩
theorem w72 (A0 : Memref sig .tc .smem S3 .i32) (h0 : A0.IsWhole) (E : Env)  : Is (run E 443 8) (ap A0 h0 (k0_part72 (F := F)) E.v1 E.h1) := by
  rw [k0_part72_eq_skeleton]; exact ⟨_, fun _ => rfl⟩
theorem w73 (A0 : Memref sig .tc .smem S3 .i32) (h0 : A0.IsWhole) (E : Env)  : Is (run E 451 9) (ap A0 h0 (k0_part73 (F := F)) E.v1 E.h1 E.v2 E.h2) := by
  rw [k0_part73_eq_skeleton]; exact ⟨_, fun _ => rfl⟩
theorem w74 (A0 : Memref sig .tc .smem S3 .i32) (h0 : A0.IsWhole) (E : Env)  : Is (run E 460 3) (ap A0 h0 (k0_part74 (F := F)) E.v0 E.h3) := by
  rw [k0_part74_eq_skeleton]; exact ⟨_, fun _ => rfl⟩
theorem w75 (A0 : Memref sig .tc .smem S3 .i32) (h0 : A0.IsWhole) (E : Env)  : Is2 (run E 463 19) (ap A0 h0 (k0_part75 (F := F)) E.v0 E.h3 E.v2) (fun x => ap A0 h0 (k0_part76 (F := F)) E.v1 E.h1 E.v2 E.h2 x) := by
  rw [k0_part75_eq_skeleton, k0_part76_eq_skeleton]; exact ⟨_, fun _ => rfl⟩
theorem w77 (A0 : Memref sig .tc .smem S3 .i32) (h0 : A0.IsWhole) (E : Env)  : Is (run E 482 3) (ap A0 h0 (k0_part77 (F := F)) E.v1 E.h1 E.v2 E.h2) := by
  rw [k0_part77_eq_skeleton]; exact ⟨_, fun _ => rfl⟩
theorem w78 (A0 : Memref sig .tc .smem S3 .i32) (h0 : A0.IsWhole) (E : Env)  : Is (run E 485 4) (ap A0 h0 (k0_part78 (F := F)) E.v0 E.h3) := by
  rw [k0_part78_eq_skeleton]; exact ⟨_, fun _ => rfl⟩
theorem w79 (A0 : Memref sig .tc .smem S3 .i32) (h0 : A0.IsWhole) (E : Env)  : Is (run E 489 4) (ap A0 h0 (k0_part79 (F := F)) E.v0 E.h3 E.v1 E.v2) := by
  rw [k0_part79_eq_skeleton]; exact ⟨_, fun _ => rfl⟩
theorem w80 (A0 : Memref sig .tc .smem S3 .i32) (h0 : A0.IsWhole) (E : Env)  : Is (run E 493 13) (ap A0 h0 (k0_part80 (F := F)) E.v1 E.h1 E.v2 E.h2) := by
  rw [k0_part80_eq_skeleton]; exact ⟨_, fun _ => rfl⟩
theorem w81 (A0 : Memref sig .tc .smem S3 .i32) (h0 : A0.IsWhole) (E : Env)  : Is (run E 506 4) (ap A0 h0 (k0_part81 (F := F)) E.v0 E.v1 E.h1 E.v2 E.h2) := by
  rw [k0_part81_eq_skeleton]; exact ⟨_, fun _ => rfl⟩
theorem w82 (A0 : Memref sig .tc .smem S3 .i32) (h0 : A0.IsWhole) (E : Env) (v2067 : BitVec 32) (c32_i32_2415 : BitVec 32) : Is (run E 510 4) (ap A0 h0 (k0_part82 (F := F)) E.v0 E.h3 v2067 c32_i32_2415) := by
  rw [k0_part82_eq_skeleton]; exact ⟨_, fun _ => rfl⟩
theorem w83 (A0 : Memref sig .tc .smem S3 .i32) (h0 : A0.IsWhole) (E : Env)  : Is2 (run E 514 17) (ap A0 h0 (k0_part83 (F := F)) E.v1 E.v2) (fun x => ap A0 h0 (k0_part84 (F := F)) E.v1 E.h1 E.v2 E.h2 x) := by
  rw [k0_part83_eq_skeleton, k0_part84_eq_skeleton]; exact ⟨_, fun _ => rfl⟩
theorem w85 (A0 : Memref sig .tc .smem S3 .i32) (h0 : A0.IsWhole) (E : Env)  : Is (run E 531 3) (ap A0 h0 (k0_part85 (F := F)) E.v0 E.v1 E.h1) := by
  rw [k0_part85_eq_skeleton]; exact ⟨_, fun _ => rfl⟩
theorem w86 (A0 : Memref sig .tc .smem S3 .i32) (h0 : A0.IsWhole) (E : Env)  : Is (run E 534 4) (ap A0 h0 (k0_part86 (F := F)) E.v0 E.h3 E.v2) := by
  rw [k0_part86_eq_skeleton]; exact ⟨_, fun _ => rfl⟩
theorem w87 (A0 : Memref sig .tc .smem S3 .i32) (h0 : A0.IsWhole) (E : Env)  : Is (run E 538 8) (ap A0 h0 (k0_part87 (F := F)) E.v1) := by
  rw [k0_part87_eq_skeleton]; exact ⟨_, fun _ => rfl⟩
theorem w88 (A0 : Memref sig .tc .smem S3 .i32) (h0 : A0.IsWhole) (E : Env) (v2223 : BitVec 32) : Is (run E 546 10) (ap A0 h0 (k0_part88 (F := F)) E.v1 E.h1 E.v2 E.h2 v2223) := by
  rw [k0_part88_eq_skeleton]; exact ⟨_, fun _ => rfl⟩
theorem w89 (A0 : Memref sig .tc .smem S3 .i32) (h0 : A0.IsWhole) (E : Env)  : Is (run E 556 3) (ap A0 h0 (k0_part89 (F := F)) E.v0 E.h3) := by
  rw [k0_part89_eq_skeleton]; exact ⟨_, fun _ => rfl⟩
theorem w90 (A0 : Memref sig .tc .smem S3 .i32) (h0 : A0.IsWhole) (E : Env)  : Is2 (run E 559 18) (ap A0 h0 (k0_part90 (F := F)) E.v0 E.h3 E.v2) (fun x => ap A0 h0 (k0_part91 (F := F)) E.v1 E.h1 E.v2 E.h2 x) := by
  rw [k0_part90_eq_skeleton, k0_part91_eq_skeleton]; exact ⟨_, fun _ => rfl⟩
theorem w92 (A0 : Memref sig .tc .smem S3 .i32) (h0 : A0.IsWhole) (E : Env)  : Is (run E 577 4) (ap A0 h0 (k0_part92 (F := F)) E.v1 E.h1 E.v2 E.h2) := by
  rw [k0_part92_eq_skeleton]; exact ⟨_, fun _ => rfl⟩
theorem w93 (A0 : Memref sig .tc .smem S3 .i32) (h0 : A0.IsWhole) (E : Env)  : Is (run E 581 3) (ap A0 h0 (k0_part93 (F := F)) E.v0 E.h3) := by
  rw [k0_part93_eq_skeleton]; exact ⟨_, fun _ => rfl⟩
theorem w94 (A0 : Memref sig .tc .smem S3 .i32) (h0 : A0.IsWhole) (E : Env)  : Is (run E 584 5) (ap A0 h0 (k0_part94 (F := F)) E.v0 E.h3 E.v1 E.v2) := by
  rw [k0_part94_eq_skeleton]; exact ⟨_, fun _ => rfl⟩
theorem w95 (A0 : Memref sig .tc .smem S3 .i32) (h0 : A0.IsWhole) (E : Env)  : Is (run E 589 13) (ap A0 h0 (k0_part95 (F := F)) E.v1 E.h1 E.v2 E.h2) := by
  rw [k0_part95_eq_skeleton]; exact ⟨_, fun _ => rfl⟩
theorem w96 (A0 : Memref sig .tc .smem S3 .i32) (h0 : A0.IsWhole) (E : Env)  : Is (run E 602 3) (ap A0 h0 (k0_part96 (F := F)) E.v1 E.h1 E.v2 E.h2) := by
  rw [k0_part96_eq_skeleton]; exact ⟨_, fun _ => rfl⟩
theorem w97 (A0 : Memref sig .tc .smem S3 .i32) (h0 : A0.IsWhole) (E : Env)  : Is (run E 605 4) (ap A0 h0 (k0_part97 (F := F)) E.v0 E.h3) := by
  rw [k0_part97_eq_skeleton]; exact ⟨_, fun _ => rfl⟩
theorem w98 (A0 : Memref sig .tc .smem S3 .i32) (h0 : A0.IsWhole) (E : Env)  : Is (run E 609 5) (ap A0 h0 (k0_part98 (F := F)) E.v0 E.h3 E.v1 E.v2) := by
  rw [k0_part98_eq_skeleton]; exact ⟨_, fun _ => rfl⟩
theorem w99 (A0 : Memref sig .tc .smem S3 .i32) (h0 : A0.IsWhole) (E : Env)  : Is (run E 614 13) (ap A0 h0 (k0_part99 (F := F)) E.v1 E.h1 E.v2 E.h2) := by
  rw [k0_part99_eq_skeleton]; exact ⟨_, fun _ => rfl⟩
theorem w100 (A0 : Memref sig .tc .smem S3 .i32) (h0 : A0.IsWhole) (E : Env) (v2525 : BitVec 32) : Is (run E 627 3) (ap A0 h0 (k0_part100 (F := F)) E.v0 E.v1 E.h1 v2525) := by
  rw [k0_part100_eq_skeleton]; exact ⟨_, fun _ => rfl⟩
theorem w101 (A0 : Memref sig .tc .smem S3 .i32) (h0 : A0.IsWhole) (E : Env) (v2551 : BitVec 32) (c64_i32_2985 : BitVec 32) : Is (run E 630 4) (ap A0 h0 (k0_part101 (F := F)) E.v0 E.h3 E.v2 v2551 c64_i32_2985) := by
  rw [k0_part101_eq_skeleton]; exact ⟨_, fun _ => rfl⟩
theorem w102 (A0 : Memref sig .tc .smem S3 .i32) (h0 : A0.IsWhole) (E : Env)  : Is2 (run E 634 17) (ap A0 h0 (k0_part102 (F := F)) E.v1) (fun x => ap A0 h0 (k0_part103 (F := F)) E.v1 E.h1 E.v2 E.h2 x) := by
  rw [k0_part102_eq_skeleton, k0_part103_eq_skeleton]; exact ⟨_, fun _ => rfl⟩
theorem w104 (A0 : Memref sig .tc .smem S3 .i32) (h0 : A0.IsWhole) (E : Env)  : Is (run E 651 4) (ap A0 h0 (k0_part104 (F := F)) E.v0 E.h3 E.v1 E.h1) := by
  rw [k0_part104_eq_skeleton]; exact ⟨_, fun _ => rfl⟩
theorem w105 (A0 : Memref sig .tc .smem S3 .i32) (h0 : A0.IsWhole) (E : Env)  : Is2 (run E 655 17) (ap A0 h0 (k0_part105 (F := F)) E.v0 E.h3 E.v2) (fun x => ap A0 h0 (k0_part106 (F := F)) E.v1 E.h1 E.v2 E.h2 x) := by
  rw [k0_part105_eq_skeleton, k0_part106_eq_skeleton]; exact ⟨_, fun _ => rfl⟩
theorem w107 (A0 : Memref sig .tc .smem S3 .i32) (h0 : A0.IsWhole) (E : Env)  : Is (run E 672 4) (ap A0 h0 (k0_part107 (F := F)) E.v1 E.h1 E.v2 E.h2) := by
  rw [k0_part107_eq_skeleton]; exact ⟨_, fun _ => rfl⟩
theorem w108 (A0 : Memref sig .tc .smem S3 .i32) (h0 : A0.IsWhole) (E : Env)  : Is (run E 676 4) (ap A0 h0 (k0_part108 (F := F)) E.v0 E.h3) := by
  rw [k0_part108_eq_skeleton]; exact ⟨_, fun _ => rfl⟩
theorem w109 (A0 : Memref sig .tc .smem S3 .i32) (h0 : A0.IsWhole) (E : Env)  : Is (run E 680 5) (ap A0 h0 (k0_part109 (F := F)) E.v0 E.h3 E.v2) := by
  rw [k0_part109_eq_skeleton]; exact ⟨_, fun _ => rfl⟩
theorem w110 (A0 : Memref sig .tc .smem S3 .i32) (h0 : A0.IsWhole) (E : Env)  : Is (run E 685 13) (ap A0 h0 (k0_part110 (F := F)) E.v1 E.h1 E.v2 E.h2) := by
  rw [k0_part110_eq_skeleton]; exact ⟨_, fun _ => rfl⟩
theorem w111 (A0 : Memref sig .tc .smem S3 .i32) (h0 : A0.IsWhole) (E : Env)  : Is (run E 698 3) (ap A0 h0 (k0_part111 (F := F)) E.v1 E.h1 E.v2 E.h2) := by
  rw [k0_part111_eq_skeleton]; exact ⟨_, fun _ => rfl⟩
theorem w112 (A0 : Memref sig .tc .smem S3 .i32) (h0 : A0.IsWhole) (E : Env)  : Is (run E 701 4) (ap A0 h0 (k0_part112 (F := F)) E.v0 E.h3) := by
  rw [k0_part112_eq_skeleton]; exact ⟨_, fun _ => rfl⟩
theorem w113 (A0 : Memref sig .tc .smem S3 .i32) (h0 : A0.IsWhole) (E : Env)  : Is (run E 705 4) (ap A0 h0 (k0_part113 (F := F)) E.v0 E.h3 E.v1 E.v2) := by
  rw [k0_part113_eq_skeleton]; exact ⟨_, fun _ => rfl⟩
theorem w114 (A0 : Memref sig .tc .smem S3 .i32) (h0 : A0.IsWhole) (E : Env)  : Is (run E 709 14) (ap A0 h0 (k0_part114 (F := F)) E.v1 E.h1 E.v2 E.h2) := by
  rw [k0_part114_eq_skeleton]; exact ⟨_, fun _ => rfl⟩
theorem w115 (A0 : Memref sig .tc .smem S3 .i32) (h0 : A0.IsWhole) (E : Env)  : Is (run E 723 3) (ap A0 h0 (k0_part115 (F := F)) E.v0 E.v1 E.h1) := by
  rw [k0_part115_eq_skeleton]; exact ⟨_, fun _ => rfl⟩

end Cert.KernelIdeal.Ring

end
-- ==== Proof.KernelIdeal.Windows3.lean ====
/- The windows the kernel's body is printed in, as runs of steps. -/
module

public import proofs.«01_k».proof.Proof.KernelIdeal.Windows0

@[expose] public section

set_option maxRecDepth 65536
set_option Elab.async false

noncomputable section

namespace Cert.KernelIdeal.Ring

open Idealize.ShloMosaic Idealize.SL.Sem Cert.KernelIdeal.Gen

variable {F : FTy → Type} [FloatOps F]

theorem w116 (A0 : Memref sig .tc .smem S3 .i32) (h0 : A0.IsWhole) (E : Env) (v2933 : BitVec 32) (v2934 : BitVec 32) (c32_i32_3435 : BitVec 32) : Is (run E 726 4) (ap A0 h0 (k0_part116 (F := F)) E.v0 E.h3 E.v2 v2933 v2934 c32_i32_3435) := by
  rw [k0_part116_eq_skeleton]; exact ⟨_, fun _ => rfl⟩
theorem w117 (A0 : Memref sig .tc .smem S3 .i32) (h0 : A0.IsWhole) (E : Env)  : Is2 (run E 730 13) (ap A0 h0 (k0_part117 (F := F)) E.v1) (fun x => ap A0 h0 (k0_part118 (F := F)) E.v0 E.h3 E.v1 E.h1 E.v2 E.h2 x) := by
  rw [k0_part117_eq_skeleton, k0_part118_eq_skeleton]; exact ⟨_, fun _ => rfl⟩
theorem w119 (A0 : Memref sig .tc .smem S3 .i32) (h0 : A0.IsWhole) (E : Env)  : Is (run E 743 5) (ap A0 h0 (k0_part119 (F := F)) E.v0 E.h3 E.v1 E.h1 E.v2 E.h2) := by
  rw [k0_part119_eq_skeleton]; exact ⟨_, fun _ => rfl⟩
theorem w120 (A0 : Memref sig .tc .smem S3 .i32) (h0 : A0.IsWhole) (E : Env)  : Is (run E 748 7) (ap A0 h0 (k0_part120 (F := F)) E.v0 E.h3 E.v2) := by
  rw [k0_part120_eq_skeleton]; exact ⟨_, fun _ => rfl⟩
theorem w121 (A0 : Memref sig .tc .smem S3 .i32) (h0 : A0.IsWhole) (E : Env) (v3051 : BitVec 32) : Is (run E 755 5) (ap A0 h0 (k0_part121 (F := F)) E.v0 E.h3 E.v1 v3051) := by
  rw [k0_part121_eq_skeleton]; exact ⟨_, fun _ => rfl⟩
theorem w122 (A0 : Memref sig .tc .smem S3 .i32) (h0 : A0.IsWhole) (E : Env)  : Is (run E 760 11) (ap A0 h0 (k0_part122 (F := F)) E.v0 E.h3 E.v1 E.h1 E.v2 E.h2) := by
  rw [k0_part122_eq_skeleton]; exact ⟨_, fun _ => rfl⟩
theorem w123 (A0 : Memref sig .tc .smem S3 .i32) (h0 : A0.IsWhole) (E : Env) (v3107 : BitVec 32) : Is (run E 771 7) (ap A0 h0 (k0_part123 (F := F)) E.v0 E.v1 E.h1 v3107) := by
  rw [k0_part123_eq_skeleton]; exact ⟨_, fun _ => rfl⟩
theorem w124 (A0 : Memref sig .tc .smem S3 .i32) (h0 : A0.IsWhole) (E : Env) (v3131 : BitVec 32) (v3133 : BitVec 32) : Is (run E 778 4) (ap A0 h0 (k0_part124 (F := F)) E.v0 E.h3 E.v1 E.v2 v3131 v3133) := by
  rw [k0_part124_eq_skeleton]; exact ⟨_, fun _ => rfl⟩
theorem w125 (A0 : Memref sig .tc .smem S3 .i32) (h0 : A0.IsWhole) (E : Env) (v3159 : BitVec 32) (c2048_i32_3710 : BitVec 32) : Is (run E 782 12) (ap A0 h0 (k0_part125 (F := F)) E.v0 E.h3 E.v1 E.h1 E.v2 E.h2 v3159 c2048_i32_3710) := by
  rw [k0_part125_eq_skeleton]; exact ⟨_, fun _ => rfl⟩
theorem w126 (A0 : Memref sig .tc .smem S3 .i32) (h0 : A0.IsWhole) (E : Env) (c1_i32_3743 : BitVec 32) : Is (run E 794 3) (ap A0 h0 (k0_part126 (F := F)) E.v1 E.h1 E.v2 E.h2 c1_i32_3743) := by
  rw [k0_part126_eq_skeleton]; exact ⟨_, fun _ => rfl⟩
theorem w127 (A0 : Memref sig .tc .smem S3 .i32) (h0 : A0.IsWhole) (E : Env)  : Is (run E 797 8) (ap A0 h0 (k0_part127 (F := F)) E.v0 E.h3 E.v2) := by
  rw [k0_part127_eq_skeleton]; exact ⟨_, fun _ => rfl⟩
theorem w128 (A0 : Memref sig .tc .smem S3 .i32) (h0 : A0.IsWhole) (E : Env) (v3215 : BitVec 32) : Is (run E 805 5) (ap A0 h0 (k0_part128 (F := F)) E.v0 E.h3 E.v1 v3215) := by
  rw [k0_part128_eq_skeleton]; exact ⟨_, fun _ => rfl⟩
theorem w129 (A0 : Memref sig .tc .smem S3 .i32) (h0 : A0.IsWhole) (E : Env)  : Is (run E 810 10) (ap A0 h0 (k0_part129 (F := F)) E.v1 E.h1 E.v2 E.h2) := by
  rw [k0_part129_eq_skeleton]; exact ⟨_, fun _ => rfl⟩
theorem w130 (A0 : Memref sig .tc .smem S3 .i32) (h0 : A0.IsWhole) (E : Env)  : Is (run E 820 7) (ap A0 h0 (k0_part130 (F := F)) E.v0 E.v2) := by
  rw [k0_part130_eq_skeleton]; exact ⟨_, fun _ => rfl⟩
theorem w131 (A0 : Memref sig .tc .smem S3 .i32) (h0 : A0.IsWhole) (E : Env) (v3295 : BitVec 32) (v3297 : BitVec 32) : Is2 (run E 827 16) (ap A0 h0 (k0_part131 (F := F)) E.v0 E.h3 E.v1 v3295 v3297) (fun x => ap A0 h0 (k0_part132 (F := F)) E.v0 E.h3 E.v1 E.h1 E.v2 E.h2 x) := by
  rw [k0_part131_eq_skeleton, k0_part132_eq_skeleton]; exact ⟨_, fun _ => rfl⟩
theorem w133 (A0 : Memref sig .tc .smem S3 .i32) (h0 : A0.IsWhole) (E : Env)  : Is (run E 843 7) (ap A0 h0 (k0_part133 (F := F)) E.v0 E.v1 E.h1) := by
  rw [k0_part133_eq_skeleton]; exact ⟨_, fun _ => rfl⟩
theorem w134 (A0 : Memref sig .tc .smem S3 .i32) (h0 : A0.IsWhole) (E : Env) (v3377 : BitVec 32) (c4_i32_3988 : BitVec 32) : Is (run E 850 3) (ap A0 h0 (k0_part134 (F := F)) E.v0 E.h3 E.v1 E.v2 v3377 c4_i32_3988) := by
  rw [k0_part134_eq_skeleton]; exact ⟨_, fun _ => rfl⟩
theorem w135 (A0 : Memref sig .tc .smem S3 .i32) (h0 : A0.IsWhole) (E : Env) (v3379 : BitVec 32) : Is (run E 853 12) (ap A0 h0 (k0_part135 (F := F)) E.v0 E.h3 E.v1 E.h1 E.v2 E.h2 v3379) := by
  rw [k0_part135_eq_skeleton]; exact ⟨_, fun _ => rfl⟩
theorem w136 (A0 : Memref sig .tc .smem S3 .i32) (h0 : A0.IsWhole) (E : Env)  : Is (run E 865 4) (ap A0 h0 (k0_part136 (F := F)) E.v1 E.h1 E.v2 E.h2) := by
  rw [k0_part136_eq_skeleton]; exact ⟨_, fun _ => rfl⟩
theorem w137 (A0 : Memref sig .tc .smem S3 .i32) (h0 : A0.IsWhole) (E : Env)  : Is2 (run E 869 12) (ap A0 h0 (k0_part137 (F := F)) E.v0 E.h3 E.v2) (fun x => ap A0 h0 (k0_part138 (F := F)) E.v0 E.h3 E.v1 x.1 x.2) := by
  rw [k0_part137_eq_skeleton, k0_part138_eq_skeleton]; exact ⟨_, fun _ => rfl⟩
theorem w139 (A0 : Memref sig .tc .smem S3 .i32) (h0 : A0.IsWhole) (E : Env)  : Is (run E 881 10) (ap A0 h0 (k0_part139 (F := F)) E.v0 E.h3 E.v1 E.h1 E.v2 E.h2) := by
  rw [k0_part139_eq_skeleton]; exact ⟨_, fun _ => rfl⟩
theorem w140 (A0 : Memref sig .tc .smem S3 .i32) (h0 : A0.IsWhole) (E : Env)  : Is (run E 891 7) (ap A0 h0 (k0_part140 (F := F)) E.v0 E.v1 E.h1 E.v2) := by
  rw [k0_part140_eq_skeleton]; exact ⟨_, fun _ => rfl⟩
theorem w141 (A0 : Memref sig .tc .smem S3 .i32) (h0 : A0.IsWhole) (E : Env) (v3541 : BitVec 32) (v3543 : BitVec 32) : Is (run E 898 5) (ap A0 h0 (k0_part141 (F := F)) E.v0 E.h3 E.v1 v3541 v3543) := by
  rw [k0_part141_eq_skeleton]; exact ⟨_, fun _ => rfl⟩
theorem w142 (A0 : Memref sig .tc .smem S3 .i32) (h0 : A0.IsWhole) (E : Env)  : Is (run E 903 11) (ap A0 h0 (k0_part142 (F := F)) E.v0 E.h3 E.v1 E.h1 E.v2 E.h2) := by
  rw [k0_part142_eq_skeleton]; exact ⟨_, fun _ => rfl⟩
theorem w143 (A0 : Memref sig .tc .smem S3 .i32) (h0 : A0.IsWhole) (E : Env)  : Is (run E 914 8) (ap A0 h0 (k0_part143 (F := F)) E.v1 E.h1 E.v2 E.h2) := by
  rw [k0_part143_eq_skeleton]; exact ⟨_, fun _ => rfl⟩
theorem w144 (A0 : Memref sig .tc .smem S3 .i32) (h0 : A0.IsWhole) (E : Env) (c7_i32_4297 : BitVec 32) : Is (run E 922 3) (ap A0 h0 (k0_part144 (F := F)) E.v0 E.h3 E.v1 E.v2 c7_i32_4297) := by
  rw [k0_part144_eq_skeleton]; exact ⟨_, fun _ => rfl⟩
theorem w145 (A0 : Memref sig .tc .smem S3 .i32) (h0 : A0.IsWhole) (E : Env) (v3625 : BitVec 32) : Is (run E 925 6) (ap A0 h0 (k0_part145 (F := F)) E.v0 E.h3 E.v1 E.h1 E.v2 v3625) := by
  rw [k0_part145_eq_skeleton]; exact ⟨_, fun _ => rfl⟩
theorem w146 (A0 : Memref sig .tc .smem S3 .i32) (h0 : A0.IsWhole) (E : Env)  : Is (run E 931 9) (ap A0 h0 (k0_part146 (F := F)) E.v1 E.h1 E.v2 E.h2) := by
  rw [k0_part146_eq_skeleton]; exact ⟨_, fun _ => rfl⟩
theorem w147 (A0 : Memref sig .tc .smem S3 .i32) (h0 : A0.IsWhole) (E : Env)  : Is (run E 940 8) (ap A0 h0 (k0_part147 (F := F)) E.v0 E.h3 E.v2) := by
  rw [k0_part147_eq_skeleton]; exact ⟨_, fun _ => rfl⟩
theorem w148 (A0 : Memref sig .tc .smem S3 .i32) (h0 : A0.IsWhole) (E : Env) (v3707 : BitVec 32) : Is (run E 948 4) (ap A0 h0 (k0_part148 (F := F)) E.v0 E.h3 E.v1 v3707) := by
  rw [k0_part148_eq_skeleton]; exact ⟨_, fun _ => rfl⟩
theorem w149 (A0 : Memref sig .tc .smem S3 .i32) (h0 : A0.IsWhole) (E : Env)  : Is (run E 952 11) (ap A0 h0 (k0_part149 (F := F)) E.v0 E.h3 E.v1 E.h1 E.v2 E.h2) := by
  rw [k0_part149_eq_skeleton]; exact ⟨_, fun _ => rfl⟩
theorem w150 (A0 : Memref sig .tc .smem S3 .i32) (h0 : A0.IsWhole) (E : Env)  : Is (run E 963 7) (ap A0 h0 (k0_part150 (F := F)) E.v0 E.v1 E.h1 E.v2) := by
  rw [k0_part150_eq_skeleton]; exact ⟨_, fun _ => rfl⟩
theorem w151 (A0 : Memref sig .tc .smem S3 .i32) (h0 : A0.IsWhole) (E : Env) (v3787 : BitVec 32) (v3789 : BitVec 32) (v3790 : BitVec 32) (c0_i32_4515 : BitVec 32) : Is (run E 970 4) (ap A0 h0 (k0_part151 (F := F)) E.v0 E.h3 E.v1 v3787 v3789 v3790 c0_i32_4515) := by
  rw [k0_part151_eq_skeleton]; exact ⟨_, fun _ => rfl⟩
theorem w152 (A0 : Memref sig .tc .smem S3 .i32) (h0 : A0.IsWhole) (E : Env)  : Is (run E 974 12) (ap A0 h0 (k0_part152 (F := F)) E.v0 E.h3 E.v1 E.h1 E.v2 E.h2) := by
  rw [k0_part152_eq_skeleton]; exact ⟨_, fun _ => rfl⟩
theorem w153 (A0 : Memref sig .tc .smem S3 .i32) (h0 : A0.IsWhole) (E : Env)  : Is (run E 986 3) (ap A0 h0 (k0_part153 (F := F)) E.v1 E.h1 E.v2 E.h2) := by
  rw [k0_part153_eq_skeleton]; exact ⟨_, fun _ => rfl⟩
theorem w154 (A0 : Memref sig .tc .smem S3 .i32) (h0 : A0.IsWhole) (E : Env)  : Is (run E 989 8) (ap A0 h0 (k0_part154 (F := F)) E.v0 E.h3 E.v2) := by
  rw [k0_part154_eq_skeleton]; exact ⟨_, fun _ => rfl⟩
theorem w155 (A0 : Memref sig .tc .smem S3 .i32) (h0 : A0.IsWhole) (E : Env) (v3871 : BitVec 32) : Is (run E 997 5) (ap A0 h0 (k0_part155 (F := F)) E.v0 E.h3 E.v1 v3871) := by
  rw [k0_part155_eq_skeleton]; exact ⟨_, fun _ => rfl⟩
theorem w156 (A0 : Memref sig .tc .smem S3 .i32) (h0 : A0.IsWhole) (E : Env)  : Is (run E 1002 10) (ap A0 h0 (k0_part156 (F := F)) E.v1 E.h1 E.v2 E.h2) := by
  rw [k0_part156_eq_skeleton]; exact ⟨_, fun _ => rfl⟩
theorem w157 (A0 : Memref sig .tc .smem S3 .i32) (h0 : A0.IsWhole) (E : Env)  : Is (run E 1012 7) (ap A0 h0 (k0_part157 (F := F)) E.v0 E.v2) := by
  rw [k0_part157_eq_skeleton]; exact ⟨_, fun _ => rfl⟩
theorem w158 (A0 : Memref sig .tc .smem S3 .i32) (h0 : A0.IsWhole) (E : Env) (v3953 : BitVec 32) : Is2 (run E 1019 16) (ap A0 h0 (k0_part158 (F := F)) E.v0 E.h3 E.v1 v3953) (fun x => ap A0 h0 (k0_part159 (F := F)) E.v0 E.h3 E.v1 E.h1 E.v2 E.h2 x) := by
  rw [k0_part158_eq_skeleton, k0_part159_eq_skeleton]; exact ⟨_, fun _ => rfl⟩
theorem w160 (A0 : Memref sig .tc .smem S3 .i32) (h0 : A0.IsWhole) (E : Env)  : Is (run E 1035 7) (ap A0 h0 (k0_part160 (F := F)) E.v0 E.v1 E.h1) := by
  rw [k0_part160_eq_skeleton]; exact ⟨_, fun _ => rfl⟩
theorem w161 (A0 : Memref sig .tc .smem S3 .i32) (h0 : A0.IsWhole) (E : Env) (v4033 : BitVec 32) : Is (run E 1042 4) (ap A0 h0 (k0_part161 (F := F)) E.v0 E.h3 E.v1 E.v2 v4033) := by
  rw [k0_part161_eq_skeleton]; exact ⟨_, fun _ => rfl⟩
theorem w162 (A0 : Memref sig .tc .smem S3 .i32) (h0 : A0.IsWhole) (E : Env) (v4035 : BitVec 32) (c64_i32_4853 : BitVec 32) : Is (run E 1046 12) (ap A0 h0 (k0_part162 (F := F)) E.v0 E.h3 E.v1 E.h1 E.v2 E.h2 v4035 c64_i32_4853) := by
  rw [k0_part162_eq_skeleton]; exact ⟨_, fun _ => rfl⟩
theorem w163 (A0 : Memref sig .tc .smem S3 .i32) (h0 : A0.IsWhole) (E : Env)  : Is (run E 1058 3) (ap A0 h0 (k0_part163 (F := F)) E.v1 E.h1 E.v2 E.h2) := by
  rw [k0_part163_eq_skeleton]; exact ⟨_, fun _ => rfl⟩
theorem w164 (A0 : Memref sig .tc .smem S3 .i32) (h0 : A0.IsWhole) (E : Env)  : Is2 (run E 1061 12) (ap A0 h0 (k0_part164 (F := F)) E.v0 E.h3 E.v2) (fun x => ap A0 h0 (k0_part165 (F := F)) E.v0 E.h3 E.v1 x.1 x.2) := by
  rw [k0_part164_eq_skeleton, k0_part165_eq_skeleton]; exact ⟨_, fun _ => rfl⟩
theorem w166 (A0 : Memref sig .tc .smem S3 .i32) (h0 : A0.IsWhole) (E : Env)  : Is (run E 1073 10) (ap A0 h0 (k0_part166 (F := F)) E.v0 E.h3 E.v1 E.h1 E.v2 E.h2) := by
  rw [k0_part166_eq_skeleton]; exact ⟨_, fun _ => rfl⟩
theorem w167 (A0 : Memref sig .tc .smem S3 .i32) (h0 : A0.IsWhole) (E : Env)  : Is (run E 1083 7) (ap A0 h0 (k0_part167 (F := F)) E.v0 E.v1 E.h1 E.v2) := by
  rw [k0_part167_eq_skeleton]; exact ⟨_, fun _ => rfl⟩
theorem w168 (A0 : Memref sig .tc .smem S3 .i32) (h0 : A0.IsWhole) (E : Env) (v4197 : BitVec 32) (v4199 : BitVec 32) : Is2 (run E 1090 16) (ap A0 h0 (k0_part168 (F := F)) E.v0 E.h3 E.v1 v4197 v4199) (fun x => ap A0 h0 (k0_part169 (F := F)) E.v0 E.h3 E.v1 E.h1 E.v2 E.h2 x) := by
  rw [k0_part168_eq_skeleton, k0_part169_eq_skeleton]; exact ⟨_, fun _ => rfl⟩
theorem w170 (A0 : Memref sig .tc .smem S3 .i32) (h0 : A0.IsWhole) (E : Env)  : Is (run E 1106 8) (ap A0 h0 (k0_part170 (F := F)) E.v0 E.v1 E.h1 E.v2 E.h2) := by
  rw [k0_part170_eq_skeleton]; exact ⟨_, fun _ => rfl⟩
theorem w171 (A0 : Memref sig .tc .smem S3 .i32) (h0 : A0.IsWhole) (E : Env) (v4278 : BitVec 32) (c32_i32_5131 : BitVec 32) : Is (run E 1114 3) (ap A0 h0 (k0_part171 (F := F)) E.v0 E.h3 E.v1 E.v2 v4278 c32_i32_5131) := by
  rw [k0_part171_eq_skeleton]; exact ⟨_, fun _ => rfl⟩

end Cert.KernelIdeal.Ring

end
-- ==== Proof.KernelIdeal.Windows4.lean ====
/- The windows the kernel's body is printed in, as runs of steps. -/
module

public import proofs.«01_k».proof.Proof.KernelIdeal.Windows0

@[expose] public section

set_option maxRecDepth 65536
set_option Elab.async false

noncomputable section

namespace Cert.KernelIdeal.Ring

open Idealize.ShloMosaic Idealize.SL.Sem Cert.KernelIdeal.Gen

variable {F : FTy → Type} [FloatOps F]

theorem w172 (A0 : Memref sig .tc .smem S3 .i32) (h0 : A0.IsWhole) (E : Env) (v4281 : BitVec 32) : Is (run E 1117 12) (ap A0 h0 (k0_part172 (F := F)) E.v0 E.h3 E.v1 E.h1 E.v2 E.h2 v4281) := by
  rw [k0_part172_eq_skeleton]; exact ⟨_, fun _ => rfl⟩
theorem w173 (A0 : Memref sig .tc .smem S3 .i32) (h0 : A0.IsWhole) (E : Env)  : Is (run E 1129 3) (ap A0 h0 (k0_part173 (F := F)) E.v1 E.h1 E.v2 E.h2) := by
  rw [k0_part173_eq_skeleton]; exact ⟨_, fun _ => rfl⟩
theorem w174 (A0 : Memref sig .tc .smem S3 .i32) (h0 : A0.IsWhole) (E : Env)  : Is2 (run E 1132 13) (ap A0 h0 (k0_part174 (F := F)) E.v0 E.h3 E.v2) (fun x => ap A0 h0 (k0_part175 (F := F)) E.v0 E.h3 E.v1 x.1 x.2) := by
  rw [k0_part174_eq_skeleton, k0_part175_eq_skeleton]; exact ⟨_, fun _ => rfl⟩
theorem w176 (A0 : Memref sig .tc .smem S3 .i32) (h0 : A0.IsWhole) (E : Env)  : Is (run E 1145 10) (ap A0 h0 (k0_part176 (F := F)) E.v0 E.h3 E.v1 E.h1 E.v2 E.h2) := by
  rw [k0_part176_eq_skeleton]; exact ⟨_, fun _ => rfl⟩
theorem w177 (A0 : Memref sig .tc .smem S3 .i32) (h0 : A0.IsWhole) (E : Env)  : Is (run E 1155 7) (ap A0 h0 (k0_part177 (F := F)) E.v0 E.v1 E.h1 E.v2) := by
  rw [k0_part177_eq_skeleton]; exact ⟨_, fun _ => rfl⟩
theorem w178 (A0 : Memref sig .tc .smem S3 .i32) (h0 : A0.IsWhole) (E : Env) (v4443 : BitVec 32) (v4445 : BitVec 32) : Is (run E 1162 4) (ap A0 h0 (k0_part178 (F := F)) E.v0 E.h3 E.v1 v4443 v4445) := by
  rw [k0_part178_eq_skeleton]; exact ⟨_, fun _ => rfl⟩
theorem w179 (A0 : Memref sig .tc .smem S3 .i32) (h0 : A0.IsWhole) (E : Env)  : Is (run E 1166 12) (ap A0 h0 (k0_part179 (F := F)) E.v0 E.h3 E.v1 E.h1 E.v2 E.h2) := by
  rw [k0_part179_eq_skeleton]; exact ⟨_, fun _ => rfl⟩
theorem w180 (A0 : Memref sig .tc .smem S3 .i32) (h0 : A0.IsWhole) (E : Env)  : Is (run E 1178 3) (ap A0 h0 (k0_part180 (F := F)) E.v1 E.h1 E.v2 E.h2) := by
  rw [k0_part180_eq_skeleton]; exact ⟨_, fun _ => rfl⟩
theorem w181 (A0 : Memref sig .tc .smem S3 .i32) (h0 : A0.IsWhole) (E : Env)  : Is (run E 1181 8) (ap A0 h0 (k0_part181 (F := F)) E.v0 E.h3 E.v1 E.v2) := by
  rw [k0_part181_eq_skeleton]; exact ⟨_, fun _ => rfl⟩
theorem w182 (A0 : Memref sig .tc .smem S3 .i32) (h0 : A0.IsWhole) (E : Env) (v4527 : BitVec 32) : Is (run E 1189 6) (ap A0 h0 (k0_part182 (F := F)) E.v0 E.h3 E.v1 E.h1 E.v2 v4527) := by
  rw [k0_part182_eq_skeleton]; exact ⟨_, fun _ => rfl⟩
theorem w183 (A0 : Memref sig .tc .smem S3 .i32) (h0 : A0.IsWhole) (E : Env) (v4571 : BitVec 32) : Is (run E 1195 9) (ap A0 h0 (k0_part183 (F := F)) E.v1 E.h1 E.v2 E.h2 v4571) := by
  rw [k0_part183_eq_skeleton]; exact ⟨_, fun _ => rfl⟩
theorem w184 (A0 : Memref sig .tc .smem S3 .i32) (h0 : A0.IsWhole) (E : Env)  : Is (run E 1204 7) (ap A0 h0 (k0_part184 (F := F)) E.v0 E.h3 E.v2) := by
  rw [k0_part184_eq_skeleton]; exact ⟨_, fun _ => rfl⟩
theorem w185 (A0 : Memref sig .tc .smem S3 .i32) (h0 : A0.IsWhole) (E : Env) (v4609 : BitVec 32) : Is (run E 1211 5) (ap A0 h0 (k0_part185 (F := F)) E.v0 E.h3 E.v1 v4609) := by
  rw [k0_part185_eq_skeleton]; exact ⟨_, fun _ => rfl⟩
theorem w186 (A0 : Memref sig .tc .smem S3 .i32) (h0 : A0.IsWhole) (E : Env)  : Is (run E 1216 11) (ap A0 h0 (k0_part186 (F := F)) E.v0 E.h3 E.v1 E.h1 E.v2 E.h2) := by
  rw [k0_part186_eq_skeleton]; exact ⟨_, fun _ => rfl⟩
theorem w187 (A0 : Memref sig .tc .smem S3 .i32) (h0 : A0.IsWhole) (E : Env)  : Is (run E 1227 7) (ap A0 h0 (k0_part187 (F := F)) E.v0 E.v1 E.h1) := by
  rw [k0_part187_eq_skeleton]; exact ⟨_, fun _ => rfl⟩
theorem w188 (A0 : Memref sig .tc .smem S3 .i32) (h0 : A0.IsWhole) (E : Env) (v4689 : BitVec 32) (v4691 : BitVec 32) (c1_i32_5658 : BitVec 32) : Is (run E 1234 4) (ap A0 h0 (k0_part188 (F := F)) E.v0 E.h3 E.v1 E.v2 v4689 v4691 c1_i32_5658) := by
  rw [k0_part188_eq_skeleton]; exact ⟨_, fun _ => rfl⟩
theorem w189 (A0 : Memref sig .tc .smem S3 .i32) (h0 : A0.IsWhole) (E : Env)  : Is (run E 1238 12) (ap A0 h0 (k0_part189 (F := F)) E.v0 E.h3 E.v1 E.h1 E.v2 E.h2) := by
  rw [k0_part189_eq_skeleton]; exact ⟨_, fun _ => rfl⟩
theorem w190 (A0 : Memref sig .tc .smem S3 .i32) (h0 : A0.IsWhole) (E : Env) (v4737 : BitVec 32) (c0_i32_5720 : BitVec 32) : Is (run E 1250 3) (ap A0 h0 (k0_part190 (F := F)) E.v1 E.h1 E.v2 E.h2 v4737 c0_i32_5720) := by
  rw [k0_part190_eq_skeleton]; exact ⟨_, fun _ => rfl⟩
theorem w191 (A0 : Memref sig .tc .smem S3 .i32) (h0 : A0.IsWhole) (E : Env)  : Is (run E 1253 8) (ap A0 h0 (k0_part191 (F := F)) E.v0 E.h3 E.v2) := by
  rw [k0_part191_eq_skeleton]; exact ⟨_, fun _ => rfl⟩
theorem w192 (A0 : Memref sig .tc .smem S3 .i32) (h0 : A0.IsWhole) (E : Env) (v4773 : BitVec 32) : Is (run E 1261 5) (ap A0 h0 (k0_part192 (F := F)) E.v0 E.h3 E.v1 v4773) := by
  rw [k0_part192_eq_skeleton]; exact ⟨_, fun _ => rfl⟩
theorem w193 (A0 : Memref sig .tc .smem S3 .i32) (h0 : A0.IsWhole) (E : Env) (v4815 : BitVec 32) : Is (run E 1266 10) (ap A0 h0 (k0_part193 (F := F)) E.v1 E.h1 E.v2 E.h2 v4815) := by
  rw [k0_part193_eq_skeleton]; exact ⟨_, fun _ => rfl⟩
theorem w194 (A0 : Memref sig .tc .smem S3 .i32) (h0 : A0.IsWhole) (E : Env)  : Is (run E 1276 7) (ap A0 h0 (k0_part194 (F := F)) E.v0 E.v2) := by
  rw [k0_part194_eq_skeleton]; exact ⟨_, fun _ => rfl⟩
theorem w195 (A0 : Memref sig .tc .smem S3 .i32) (h0 : A0.IsWhole) (E : Env) (v4855 : BitVec 32) : Is2 (run E 1283 16) (ap A0 h0 (k0_part195 (F := F)) E.v0 E.h3 E.v1 v4855) (fun x => ap A0 h0 (k0_part196 (F := F)) E.v0 E.h3 E.v1 E.h1 E.v2 E.h2 x.1 x.2) := by
  rw [k0_part195_eq_skeleton, k0_part196_eq_skeleton]; exact ⟨_, fun _ => rfl⟩
theorem w197 (A0 : Memref sig .tc .smem S3 .i32) (h0 : A0.IsWhole) (E : Env)  : Is (run E 1299 7) (ap A0 h0 (k0_part197 (F := F)) E.v0 E.v1 E.h1) := by
  rw [k0_part197_eq_skeleton]; exact ⟨_, fun _ => rfl⟩
theorem w198 (A0 : Memref sig .tc .smem S3 .i32) (h0 : A0.IsWhole) (E : Env) (v4935 : BitVec 32) (v4936 : BitVec 32) (c32_i32_5965 : BitVec 32) : Is (run E 1306 3) (ap A0 h0 (k0_part198 (F := F)) E.v0 E.h3 E.v1 E.v2 v4935 v4936 c32_i32_5965) := by
  rw [k0_part198_eq_skeleton]; exact ⟨_, fun _ => rfl⟩
theorem w199 (A0 : Memref sig .tc .smem S3 .i32) (h0 : A0.IsWhole) (E : Env) (v4937 : BitVec 32) : Is (run E 1309 13) (ap A0 h0 (k0_part199 (F := F)) E.v0 E.h3 E.v1 E.h1 E.v2 E.h2 v4937) := by
  rw [k0_part199_eq_skeleton]; exact ⟨_, fun _ => rfl⟩
theorem w200 (A0 : Memref sig .tc .smem S3 .i32) (h0 : A0.IsWhole) (E : Env)  : Is (run E 1322 3) (ap A0 h0 (k0_part200 (F := F)) E.v1 E.h1 E.v2 E.h2) := by
  rw [k0_part200_eq_skeleton]; exact ⟨_, fun _ => rfl⟩
theorem w201 (A0 : Memref sig .tc .smem S3 .i32) (h0 : A0.IsWhole) (E : Env)  : Is2 (run E 1325 12) (ap A0 h0 (k0_part201 (F := F)) E.v0 E.h3 E.v2) (fun x => ap A0 h0 (k0_part202 (F := F)) E.v0 E.h3 E.v1 x.1 x.2) := by
  rw [k0_part201_eq_skeleton, k0_part202_eq_skeleton]; exact ⟨_, fun _ => rfl⟩
theorem w203 (A0 : Memref sig .tc .smem S3 .i32) (h0 : A0.IsWhole) (E : Env)  : Is (run E 1337 10) (ap A0 h0 (k0_part203 (F := F)) E.v0 E.h3 E.v1 E.h1 E.v2 E.h2) := by
  rw [k0_part203_eq_skeleton]; exact ⟨_, fun _ => rfl⟩
theorem w204 (A0 : Memref sig .tc .smem S3 .i32) (h0 : A0.IsWhole) (E : Env)  : Is (run E 1347 7) (ap A0 h0 (k0_part204 (F := F)) E.v0 E.v1 E.h1 E.v2) := by
  rw [k0_part204_eq_skeleton]; exact ⟨_, fun _ => rfl⟩
theorem w205 (A0 : Memref sig .tc .smem S3 .i32) (h0 : A0.IsWhole) (E : Env) (v5099 : BitVec 32) (v5101 : BitVec 32) : Is (run E 1354 5) (ap A0 h0 (k0_part205 (F := F)) E.v0 E.h3 E.v1 v5099 v5101) := by
  rw [k0_part205_eq_skeleton]; exact ⟨_, fun _ => rfl⟩
theorem w206 (A0 : Memref sig .tc .smem S3 .i32) (h0 : A0.IsWhole) (E : Env)  : Is (run E 1359 11) (ap A0 h0 (k0_part206 (F := F)) E.v0 E.h3 E.v1 E.h1 E.v2 E.h2) := by
  rw [k0_part206_eq_skeleton]; exact ⟨_, fun _ => rfl⟩
theorem w207 (A0 : Memref sig .tc .smem S3 .i32) (h0 : A0.IsWhole) (E : Env)  : Is (run E 1370 8) (ap A0 h0 (k0_part207 (F := F)) E.v0 E.v1 E.h1 E.v2 E.h2) := by
  rw [k0_part207_eq_skeleton]; exact ⟨_, fun _ => rfl⟩
theorem w208 (A0 : Memref sig .tc .smem S3 .i32) (h0 : A0.IsWhole) (E : Env) (v5179 : BitVec 32) (c32_i32_6274 : BitVec 32) : Is (run E 1378 3) (ap A0 h0 (k0_part208 (F := F)) E.v0 E.h3 E.v1 E.v2 v5179 c32_i32_6274) := by
  rw [k0_part208_eq_skeleton]; exact ⟨_, fun _ => rfl⟩
theorem w209 (A0 : Memref sig .tc .smem S3 .i32) (h0 : A0.IsWhole) (E : Env) (v5183 : BitVec 32) : Is (run E 1381 11) (ap A0 h0 (k0_part209 (F := F)) E.v0 E.h3 E.v1 E.h1 E.v2 E.h2 v5183) := by
  rw [k0_part209_eq_skeleton]; exact ⟨_, fun _ => rfl⟩
theorem w210 (A0 : Memref sig .tc .smem S3 .i32) (h0 : A0.IsWhole) (E : Env)  : Is (run E 1392 4) (ap A0 h0 (k0_part210 (F := F)) E.v1 E.h1 E.v2 E.h2) := by
  rw [k0_part210_eq_skeleton]; exact ⟨_, fun _ => rfl⟩
theorem w211 (A0 : Memref sig .tc .smem S3 .i32) (h0 : A0.IsWhole) (E : Env)  : Is (run E 1396 8) (ap A0 h0 (k0_part211 (F := F)) E.v0 E.h3 E.v2) := by
  rw [k0_part211_eq_skeleton]; exact ⟨_, fun _ => rfl⟩
theorem w212 (A0 : Memref sig .tc .smem S3 .i32) (h0 : A0.IsWhole) (E : Env) (v5265 : BitVec 32) : Is (run E 1404 4) (ap A0 h0 (k0_part212 (F := F)) E.v0 E.h3 E.v1 v5265) := by
  rw [k0_part212_eq_skeleton]; exact ⟨_, fun _ => rfl⟩
theorem w213 (A0 : Memref sig .tc .smem S3 .i32) (h0 : A0.IsWhole) (E : Env)  : Is (run E 1408 11) (ap A0 h0 (k0_part213 (F := F)) E.v0 E.h3 E.v1 E.h1 E.v2 E.h2) := by
  rw [k0_part213_eq_skeleton]; exact ⟨_, fun _ => rfl⟩
theorem w214 (A0 : Memref sig .tc .smem S3 .i32) (h0 : A0.IsWhole) (E : Env)  : Is (run E 1419 7) (ap A0 h0 (k0_part214 (F := F)) E.v0 E.v1 E.h1 E.v2) := by
  rw [k0_part214_eq_skeleton]; exact ⟨_, fun _ => rfl⟩
theorem w215 (A0 : Memref sig .tc .smem S3 .i32) (h0 : A0.IsWhole) (E : Env) (v5345 : BitVec 32) (v5347 : BitVec 32) : Is (run E 1426 4) (ap A0 h0 (k0_part215 (F := F)) E.v0 E.h3 E.v1 v5345 v5347) := by
  rw [k0_part215_eq_skeleton]; exact ⟨_, fun _ => rfl⟩
theorem w216 (A0 : Memref sig .tc .smem S3 .i32) (h0 : A0.IsWhole) (E : Env)  : Is (run E 1430 12) (ap A0 h0 (k0_part216 (F := F)) E.v0 E.h3 E.v1 E.h1 E.v2 E.h2) := by
  rw [k0_part216_eq_skeleton]; exact ⟨_, fun _ => rfl⟩
theorem w217 (A0 : Memref sig .tc .smem S3 .i32) (h0 : A0.IsWhole) (E : Env)  : Is (run E 1442 3) (ap A0 h0 (k0_part217 (F := F)) E.v1 E.h1 E.v2 E.h2) := by
  rw [k0_part217_eq_skeleton]; exact ⟨_, fun _ => rfl⟩
theorem w218 (A0 : Memref sig .tc .smem S3 .i32) (h0 : A0.IsWhole) (E : Env)  : Is (run E 1445 8) (ap A0 h0 (k0_part218 (F := F)) E.v0 E.h3 E.v1 E.v2) := by
  rw [k0_part218_eq_skeleton]; exact ⟨_, fun _ => rfl⟩
theorem w219 (A0 : Memref sig .tc .smem S3 .i32) (h0 : A0.IsWhole) (E : Env) (v5429 : BitVec 32) (v5447 : BitVec 32) : Is (run E 1453 6) (ap A0 h0 (k0_part219 (F := F)) E.v0 E.h3 E.v1 E.h1 v5429 v5447) := by
  rw [k0_part219_eq_skeleton]; exact ⟨_, fun _ => rfl⟩
theorem w220 (A0 : Memref sig .tc .smem S3 .i32) (h0 : A0.IsWhole) (E : Env)  : Is (run E 1459 9) (ap A0 h0 (k0_part220 (F := F)) E.v1 E.h1 E.v2 E.h2) := by
  rw [k0_part220_eq_skeleton]; exact ⟨_, fun _ => rfl⟩
theorem w221 (A0 : Memref sig .tc .smem S3 .i32) (h0 : A0.IsWhole) (E : Env)  : Is (run E 1468 7) (ap A0 h0 (k0_part221 (F := F)) E.v0 E.h3 E.v2) := by
  rw [k0_part221_eq_skeleton]; exact ⟨_, fun _ => rfl⟩
theorem w222 (A0 : Memref sig .tc .smem S3 .i32) (h0 : A0.IsWhole) (E : Env) (v5511 : BitVec 32) : Is (run E 1475 8) (ap A0 h0 (k0_part222 (F := F)) E.v0 E.h3 E.v1 E.h1 E.v2 v5511) := by
  rw [k0_part222_eq_skeleton]; exact ⟨_, fun _ => rfl⟩

end Cert.KernelIdeal.Ring

end
-- ==== Proof.KernelIdeal.Windows5.lean ====
/- The windows the kernel's body is printed in, as runs of steps. -/
module

public import proofs.«01_k».proof.Proof.KernelIdeal.Windows1
public import proofs.«01_k».proof.Proof.KernelIdeal.Windows2
public import proofs.«01_k».proof.Proof.KernelIdeal.Windows3
public import proofs.«01_k».proof.Proof.KernelIdeal.Windows4

@[expose] public section

set_option maxRecDepth 65536
set_option Elab.async false

noncomputable section

namespace Cert.KernelIdeal.Ring

open Idealize.ShloMosaic Idealize.SL.Sem Cert.KernelIdeal.Gen

variable {F : FTy → Type} [FloatOps F]

theorem sigLast (E : Env) : Is (run E 1483 1)
    (semSignalWord (⟨k0_dev250 E.v2, k0_dev250_lt E.v2 E.h2⟩ : Dev nD) (cc0_scratch13).sem 1#32 : Pr F) := ⟨⟨⟩, fun _ => rfl⟩

theorem w224 (A0 : Memref sig .tc .smem S3 .i32) (h0 : A0.IsWhole) (E : Env)  : Is (run E 373 382) (ap A0 h0 (k0_part224 (F := F)) E.v0 E.h3 E.v1 E.h1 E.v2 E.h2 ) := by
  rw [k0_part224_eq_skeleton]; unfold k0_part224_skel
  exact (Is.bind (φ := fun k => run E 373 13 k) (ψ := run E 386 369) (χ := fun k => run E 373 382 k) (fun k => run_add E 373 13 369 k) (w61 A0 h0 E ) fun x0 =>
  (Is.bind (φ := fun k => run E 386 3 k) (ψ := run E 389 366) (χ := fun k => run E 386 369 k) (fun k => run_add E 386 3 366 k) (w62 A0 h0 E (x0.1) (x0.2)) fun x1 =>
  (Is.bind (φ := fun k => run E 389 4 k) (ψ := run E 393 362) (χ := fun k => run E 389 366 k) (fun k => run_add E 389 4 362 k) (w63 A0 h0 E ) fun x2 =>
  (Is.bind (φ := fun k => run E 393 4 k) (ψ := run E 397 358) (χ := fun k => run E 393 362 k) (fun k => run_add E 393 4 358 k) (w64 A0 h0 E ) fun x3 =>
  (Is.bind (φ := fun k => run E 397 14 k) (ψ := run E 411 344) (χ := fun k => run E 397 358 k) (fun k => run_add E 397 14 344 k) (w65 A0 h0 E ) fun x4 =>
  (Is.bind (φ := fun k => run E 411 3 k) (ψ := run E 414 341) (χ := fun k => run E 411 344 k) (fun k => run_add E 411 3 341 k) (w66 A0 h0 E ) fun x5 =>
  (Is.bind (φ := fun k => run E 414 4 k) (ψ := run E 418 337) (χ := fun k => run E 414 341 k) (fun k => run_add E 414 4 337 k) (w67 A0 h0 E (x5.1) (x5.2)) fun x6 =>
  (Is2.bind (φ := fun k => run E 418 17 k) (ψ := run E 435 320) (χ := fun k => run E 418 337 k) (fun k => run_add E 418 17 320 k) (w68 A0 h0 E (x6.1) (x6.2)) fun x7 =>
  (Is.bind (φ := fun k => run E 435 3 k) (ψ := run E 438 317) (χ := fun k => run E 435 320 k) (fun k => run_add E 435 3 317 k) (w70 A0 h0 E ) fun x8 =>
  (Is.bind (φ := fun k => run E 438 5 k) (ψ := run E 443 312) (χ := fun k => run E 438 317 k) (fun k => run_add E 438 5 312 k) (w71 A0 h0 E ) fun x9 =>
  (Is.bind (φ := fun k => run E 443 8 k) (ψ := run E 451 304) (χ := fun k => run E 443 312 k) (fun k => run_add E 443 8 304 k) (w72 A0 h0 E ) fun x10 =>
  (Is.bind (φ := fun k => run E 451 9 k) (ψ := run E 460 295) (χ := fun k => run E 451 304 k) (fun k => run_add E 451 9 295 k) (w73 A0 h0 E ) fun x11 =>
  (Is.bind (φ := fun k => run E 460 3 k) (ψ := run E 463 292) (χ := fun k => run E 460 295 k) (fun k => run_add E 460 3 292 k) (w74 A0 h0 E ) fun x12 =>
  (Is2.bind (φ := fun k => run E 463 19 k) (ψ := run E 482 273) (χ := fun k => run E 463 292 k) (fun k => run_add E 463 19 273 k) (w75 A0 h0 E ) fun x13 =>
  (Is.bind (φ := fun k => run E 482 3 k) (ψ := run E 485 270) (χ := fun k => run E 482 273 k) (fun k => run_add E 482 3 270 k) (w77 A0 h0 E ) fun x14 =>
  (Is.bind (φ := fun k => run E 485 4 k) (ψ := run E 489 266) (χ := fun k => run E 485 270 k) (fun k => run_add E 485 4 266 k) (w78 A0 h0 E ) fun x15 =>
  (Is.bind (φ := fun k => run E 489 4 k) (ψ := run E 493 262) (χ := fun k => run E 489 266 k) (fun k => run_add E 489 4 262 k) (w79 A0 h0 E ) fun x16 =>
  (Is.bind (φ := fun k => run E 493 13 k) (ψ := run E 506 249) (χ := fun k => run E 493 262 k) (fun k => run_add E 493 13 249 k) (w80 A0 h0 E ) fun x17 =>
  (Is.bind (φ := fun k => run E 506 4 k) (ψ := run E 510 245) (χ := fun k => run E 506 249 k) (fun k => run_add E 506 4 245 k) (w81 A0 h0 E ) fun x18 =>
  (Is.bind (φ := fun k => run E 510 4 k) (ψ := run E 514 241) (χ := fun k => run E 510 245 k) (fun k => run_add E 510 4 241 k) (w82 A0 h0 E (x18.1) (x18.2)) fun x19 =>
  (Is2.bind (φ := fun k => run E 514 17 k) (ψ := run E 531 224) (χ := fun k => run E 514 241 k) (fun k => run_add E 514 17 224 k) (w83 A0 h0 E ) fun x20 =>
  (Is.bind (φ := fun k => run E 531 3 k) (ψ := run E 534 221) (χ := fun k => run E 531 224 k) (fun k => run_add E 531 3 221 k) (w85 A0 h0 E ) fun x21 =>
  (Is.bind (φ := fun k => run E 534 4 k) (ψ := run E 538 217) (χ := fun k => run E 534 221 k) (fun k => run_add E 534 4 217 k) (w86 A0 h0 E ) fun x22 =>
  (Is.bind (φ := fun k => run E 538 8 k) (ψ := run E 546 209) (χ := fun k => run E 538 217 k) (fun k => run_add E 538 8 209 k) (w87 A0 h0 E ) fun x23 =>
  (Is.bind (φ := fun k => run E 546 10 k) (ψ := run E 556 199) (χ := fun k => run E 546 209 k) (fun k => run_add E 546 10 199 k) (w88 A0 h0 E (x23)) fun x24 =>
  (Is.bind (φ := fun k => run E 556 3 k) (ψ := run E 559 196) (χ := fun k => run E 556 199 k) (fun k => run_add E 556 3 196 k) (w89 A0 h0 E ) fun x25 =>
  (Is2.bind (φ := fun k => run E 559 18 k) (ψ := run E 577 178) (χ := fun k => run E 559 196 k) (fun k => run_add E 559 18 178 k) (w90 A0 h0 E ) fun x26 =>
  (Is.bind (φ := fun k => run E 577 4 k) (ψ := run E 581 174) (χ := fun k => run E 577 178 k) (fun k => run_add E 577 4 174 k) (w92 A0 h0 E ) fun x27 =>
  (Is.bind (φ := fun k => run E 581 3 k) (ψ := run E 584 171) (χ := fun k => run E 581 174 k) (fun k => run_add E 581 3 171 k) (w93 A0 h0 E ) fun x28 =>
  (Is.bind (φ := fun k => run E 584 5 k) (ψ := run E 589 166) (χ := fun k => run E 584 171 k) (fun k => run_add E 584 5 166 k) (w94 A0 h0 E ) fun x29 =>
  (Is.bind (φ := fun k => run E 589 13 k) (ψ := run E 602 153) (χ := fun k => run E 589 166 k) (fun k => run_add E 589 13 153 k) (w95 A0 h0 E ) fun x30 =>
  (Is.bind (φ := fun k => run E 602 3 k) (ψ := run E 605 150) (χ := fun k => run E 602 153 k) (fun k => run_add E 602 3 150 k) (w96 A0 h0 E ) fun x31 =>
  (Is.bind (φ := fun k => run E 605 4 k) (ψ := run E 609 146) (χ := fun k => run E 605 150 k) (fun k => run_add E 605 4 146 k) (w97 A0 h0 E ) fun x32 =>
  (Is.bind (φ := fun k => run E 609 5 k) (ψ := run E 614 141) (χ := fun k => run E 609 146 k) (fun k => run_add E 609 5 141 k) (w98 A0 h0 E ) fun x33 =>
  (Is.bind (φ := fun k => run E 614 13 k) (ψ := run E 627 128) (χ := fun k => run E 614 141 k) (fun k => run_add E 614 13 128 k) (w99 A0 h0 E ) fun x34 =>
  (Is.bind (φ := fun k => run E 627 3 k) (ψ := run E 630 125) (χ := fun k => run E 627 128 k) (fun k => run_add E 627 3 125 k) (w100 A0 h0 E (x34)) fun x35 =>
  (Is.bind (φ := fun k => run E 630 4 k) (ψ := run E 634 121) (χ := fun k => run E 630 125 k) (fun k => run_add E 630 4 121 k) (w101 A0 h0 E (x35.1) (x35.2)) fun x36 =>
  (Is2.bind (φ := fun k => run E 634 17 k) (ψ := run E 651 104) (χ := fun k => run E 634 121 k) (fun k => run_add E 634 17 104 k) (w102 A0 h0 E ) fun x37 =>
  (Is.bind (φ := fun k => run E 651 4 k) (ψ := run E 655 100) (χ := fun k => run E 651 104 k) (fun k => run_add E 651 4 100 k) (w104 A0 h0 E ) fun x38 =>
  (Is2.bind (φ := fun k => run E 655 17 k) (ψ := run E 672 83) (χ := fun k => run E 655 100 k) (fun k => run_add E 655 17 83 k) (w105 A0 h0 E ) fun x39 =>
  (Is.bind (φ := fun k => run E 672 4 k) (ψ := run E 676 79) (χ := fun k => run E 672 83 k) (fun k => run_add E 672 4 79 k) (w107 A0 h0 E ) fun x40 =>
  (Is.bind (φ := fun k => run E 676 4 k) (ψ := run E 680 75) (χ := fun k => run E 676 79 k) (fun k => run_add E 676 4 75 k) (w108 A0 h0 E ) fun x41 =>
  (Is.bind (φ := fun k => run E 680 5 k) (ψ := run E 685 70) (χ := fun k => run E 680 75 k) (fun k => run_add E 680 5 70 k) (w109 A0 h0 E ) fun x42 =>
  (Is.bind (φ := fun k => run E 685 13 k) (ψ := run E 698 57) (χ := fun k => run E 685 70 k) (fun k => run_add E 685 13 57 k) (w110 A0 h0 E ) fun x43 =>
  (Is.bind (φ := fun k => run E 698 3 k) (ψ := run E 701 54) (χ := fun k => run E 698 57 k) (fun k => run_add E 698 3 54 k) (w111 A0 h0 E ) fun x44 =>
  (Is.bind (φ := fun k => run E 701 4 k) (ψ := run E 705 50) (χ := fun k => run E 701 54 k) (fun k => run_add E 701 4 50 k) (w112 A0 h0 E ) fun x45 =>
  (Is.bind (φ := fun k => run E 705 4 k) (ψ := run E 709 46) (χ := fun k => run E 705 50 k) (fun k => run_add E 705 4 46 k) (w113 A0 h0 E ) fun x46 =>
  (Is.bind (φ := fun k => run E 709 14 k) (ψ := run E 723 32) (χ := fun k => run E 709 46 k) (fun k => run_add E 709 14 32 k) (w114 A0 h0 E ) fun x47 =>
  (Is.bind (φ := fun k => run E 723 3 k) (ψ := run E 726 29) (χ := fun k => run E 723 32 k) (fun k => run_add E 723 3 29 k) (w115 A0 h0 E ) fun x48 =>
  (Is.bind (φ := fun k => run E 726 4 k) (ψ := run E 730 25) (χ := fun k => run E 726 29 k) (fun k => run_add E 726 4 25 k) (w116 A0 h0 E (x48.1) (x48.2.1) (x48.2.2)) fun x49 =>
  (Is2.bind (φ := fun k => run E 730 13 k) (ψ := run E 743 12) (χ := fun k => run E 730 25 k) (fun k => run_add E 730 13 12 k) (w117 A0 h0 E ) fun x50 =>
  (Is.bind (φ := fun k => run E 743 5 k) (ψ := run E 748 7) (χ := fun k => run E 743 12 k) (fun k => run_add E 743 5 7 k) (w119 A0 h0 E ) fun x51 =>
  (w120 A0 h0 E )))))))))))))))))))))))))))))))))))))))))))))))))))))

theorem w225 (A0 : Memref sig .tc .smem S3 .i32) (h0 : A0.IsWhole) (E : Env) (v3051 : BitVec 32) : Is (run E 755 426) (ap A0 h0 (k0_part225 (F := F)) E.v0 E.h3 E.v1 E.h1 E.v2 E.h2 v3051) := by
  rw [k0_part225_eq_skeleton]; unfold k0_part225_skel
  exact (Is.bind (φ := fun k => run E 755 5 k) (ψ := run E 760 421) (χ := fun k => run E 755 426 k) (fun k => run_add E 755 5 421 k) (w121 A0 h0 E (v3051)) fun x0 =>
  (Is.bind (φ := fun k => run E 760 11 k) (ψ := run E 771 410) (χ := fun k => run E 760 421 k) (fun k => run_add E 760 11 410 k) (w122 A0 h0 E ) fun x1 =>
  (Is.bind (φ := fun k => run E 771 7 k) (ψ := run E 778 403) (χ := fun k => run E 771 410 k) (fun k => run_add E 771 7 403 k) (w123 A0 h0 E (x1)) fun x2 =>
  (Is.bind (φ := fun k => run E 778 4 k) (ψ := run E 782 399) (χ := fun k => run E 778 403 k) (fun k => run_add E 778 4 399 k) (w124 A0 h0 E (x2.1) (x2.2)) fun x3 =>
  (Is.bind (φ := fun k => run E 782 12 k) (ψ := run E 794 387) (χ := fun k => run E 782 399 k) (fun k => run_add E 782 12 387 k) (w125 A0 h0 E (x3.1) (x3.2)) fun x4 =>
  (Is.bind (φ := fun k => run E 794 3 k) (ψ := run E 797 384) (χ := fun k => run E 794 387 k) (fun k => run_add E 794 3 384 k) (w126 A0 h0 E (x4)) fun x5 =>
  (Is.bind (φ := fun k => run E 797 8 k) (ψ := run E 805 376) (χ := fun k => run E 797 384 k) (fun k => run_add E 797 8 376 k) (w127 A0 h0 E ) fun x6 =>
  (Is.bind (φ := fun k => run E 805 5 k) (ψ := run E 810 371) (χ := fun k => run E 805 376 k) (fun k => run_add E 805 5 371 k) (w128 A0 h0 E (x6)) fun x7 =>
  (Is.bind (φ := fun k => run E 810 10 k) (ψ := run E 820 361) (χ := fun k => run E 810 371 k) (fun k => run_add E 810 10 361 k) (w129 A0 h0 E ) fun x8 =>
  (Is.bind (φ := fun k => run E 820 7 k) (ψ := run E 827 354) (χ := fun k => run E 820 361 k) (fun k => run_add E 820 7 354 k) (w130 A0 h0 E ) fun x9 =>
  (Is2.bind (φ := fun k => run E 827 16 k) (ψ := run E 843 338) (χ := fun k => run E 827 354 k) (fun k => run_add E 827 16 338 k) (w131 A0 h0 E (x9.1) (x9.2)) fun x10 =>
  (Is.bind (φ := fun k => run E 843 7 k) (ψ := run E 850 331) (χ := fun k => run E 843 338 k) (fun k => run_add E 843 7 331 k) (w133 A0 h0 E ) fun x11 =>
  (Is.bind (φ := fun k => run E 850 3 k) (ψ := run E 853 328) (χ := fun k => run E 850 331 k) (fun k => run_add E 850 3 328 k) (w134 A0 h0 E (x11.1) (x11.2)) fun x12 =>
  (Is.bind (φ := fun k => run E 853 12 k) (ψ := run E 865 316) (χ := fun k => run E 853 328 k) (fun k => run_add E 853 12 316 k) (w135 A0 h0 E (x12)) fun x13 =>
  (Is.bind (φ := fun k => run E 865 4 k) (ψ := run E 869 312) (χ := fun k => run E 865 316 k) (fun k => run_add E 865 4 312 k) (w136 A0 h0 E ) fun x14 =>
  (Is2.bind (φ := fun k => run E 869 12 k) (ψ := run E 881 300) (χ := fun k => run E 869 312 k) (fun k => run_add E 869 12 300 k) (w137 A0 h0 E ) fun x15 =>
  (Is.bind (φ := fun k => run E 881 10 k) (ψ := run E 891 290) (χ := fun k => run E 881 300 k) (fun k => run_add E 881 10 290 k) (w139 A0 h0 E ) fun x16 =>
  (Is.bind (φ := fun k => run E 891 7 k) (ψ := run E 898 283) (χ := fun k => run E 891 290 k) (fun k => run_add E 891 7 283 k) (w140 A0 h0 E ) fun x17 =>
  (Is.bind (φ := fun k => run E 898 5 k) (ψ := run E 903 278) (χ := fun k => run E 898 283 k) (fun k => run_add E 898 5 278 k) (w141 A0 h0 E (x17.1) (x17.2)) fun x18 =>
  (Is.bind (φ := fun k => run E 903 11 k) (ψ := run E 914 267) (χ := fun k => run E 903 278 k) (fun k => run_add E 903 11 267 k) (w142 A0 h0 E ) fun x19 =>
  (Is.bind (φ := fun k => run E 914 8 k) (ψ := run E 922 259) (χ := fun k => run E 914 267 k) (fun k => run_add E 914 8 259 k) (w143 A0 h0 E ) fun x20 =>
  (Is.bind (φ := fun k => run E 922 3 k) (ψ := run E 925 256) (χ := fun k => run E 922 259 k) (fun k => run_add E 922 3 256 k) (w144 A0 h0 E (x20)) fun x21 =>
  (Is.bind (φ := fun k => run E 925 6 k) (ψ := run E 931 250) (χ := fun k => run E 925 256 k) (fun k => run_add E 925 6 250 k) (w145 A0 h0 E (x21)) fun x22 =>
  (Is.bind (φ := fun k => run E 931 9 k) (ψ := run E 940 241) (χ := fun k => run E 931 250 k) (fun k => run_add E 931 9 241 k) (w146 A0 h0 E ) fun x23 =>
  (Is.bind (φ := fun k => run E 940 8 k) (ψ := run E 948 233) (χ := fun k => run E 940 241 k) (fun k => run_add E 940 8 233 k) (w147 A0 h0 E ) fun x24 =>
  (Is.bind (φ := fun k => run E 948 4 k) (ψ := run E 952 229) (χ := fun k => run E 948 233 k) (fun k => run_add E 948 4 229 k) (w148 A0 h0 E (x24)) fun x25 =>
  (Is.bind (φ := fun k => run E 952 11 k) (ψ := run E 963 218) (χ := fun k => run E 952 229 k) (fun k => run_add E 952 11 218 k) (w149 A0 h0 E ) fun x26 =>
  (Is.bind (φ := fun k => run E 963 7 k) (ψ := run E 970 211) (χ := fun k => run E 963 218 k) (fun k => run_add E 963 7 211 k) (w150 A0 h0 E ) fun x27 =>
  (Is.bind (φ := fun k => run E 970 4 k) (ψ := run E 974 207) (χ := fun k => run E 970 211 k) (fun k => run_add E 970 4 207 k) (w151 A0 h0 E (x27.1) (x27.2.1) (x27.2.2.1) (x27.2.2.2)) fun x28 =>
  (Is.bind (φ := fun k => run E 974 12 k) (ψ := run E 986 195) (χ := fun k => run E 974 207 k) (fun k => run_add E 974 12 195 k) (w152 A0 h0 E ) fun x29 =>
  (Is.bind (φ := fun k => run E 986 3 k) (ψ := run E 989 192) (χ := fun k => run E 986 195 k) (fun k => run_add E 986 3 192 k) (w153 A0 h0 E ) fun x30 =>
  (Is.bind (φ := fun k => run E 989 8 k) (ψ := run E 997 184) (χ := fun k => run E 989 192 k) (fun k => run_add E 989 8 184 k) (w154 A0 h0 E ) fun x31 =>
  (Is.bind (φ := fun k => run E 997 5 k) (ψ := run E 1002 179) (χ := fun k => run E 997 184 k) (fun k => run_add E 997 5 179 k) (w155 A0 h0 E (x31)) fun x32 =>
  (Is.bind (φ := fun k => run E 1002 10 k) (ψ := run E 1012 169) (χ := fun k => run E 1002 179 k) (fun k => run_add E 1002 10 169 k) (w156 A0 h0 E ) fun x33 =>
  (Is.bind (φ := fun k => run E 1012 7 k) (ψ := run E 1019 162) (χ := fun k => run E 1012 169 k) (fun k => run_add E 1012 7 162 k) (w157 A0 h0 E ) fun x34 =>
  (Is2.bind (φ := fun k => run E 1019 16 k) (ψ := run E 1035 146) (χ := fun k => run E 1019 162 k) (fun k => run_add E 1019 16 146 k) (w158 A0 h0 E (x34)) fun x35 =>
  (Is.bind (φ := fun k => run E 1035 7 k) (ψ := run E 1042 139) (χ := fun k => run E 1035 146 k) (fun k => run_add E 1035 7 139 k) (w160 A0 h0 E ) fun x36 =>
  (Is.bind (φ := fun k => run E 1042 4 k) (ψ := run E 1046 135) (χ := fun k => run E 1042 139 k) (fun k => run_add E 1042 4 135 k) (w161 A0 h0 E (x36.1)) fun x37 =>
  (Is.bind (φ := fun k => run E 1046 12 k) (ψ := run E 1058 123) (χ := fun k => run E 1046 135 k) (fun k => run_add E 1046 12 123 k) (w162 A0 h0 E (x36.2) (x37)) fun x38 =>
  (Is.bind (φ := fun k => run E 1058 3 k) (ψ := run E 1061 120) (χ := fun k => run E 1058 123 k) (fun k => run_add E 1058 3 120 k) (w163 A0 h0 E ) fun x39 =>
  (Is2.bind (φ := fun k => run E 1061 12 k) (ψ := run E 1073 108) (χ := fun k => run E 1061 120 k) (fun k => run_add E 1061 12 108 k) (w164 A0 h0 E ) fun x40 =>
  (Is.bind (φ := fun k => run E 1073 10 k) (ψ := run E 1083 98) (χ := fun k => run E 1073 108 k) (fun k => run_add E 1073 10 98 k) (w166 A0 h0 E ) fun x41 =>
  (Is.bind (φ := fun k => run E 1083 7 k) (ψ := run E 1090 91) (χ := fun k => run E 1083 98 k) (fun k => run_add E 1083 7 91 k) (w167 A0 h0 E ) fun x42 =>
  (Is2.bind (φ := fun k => run E 1090 16 k) (ψ := run E 1106 75) (χ := fun k => run E 1090 91 k) (fun k => run_add E 1090 16 75 k) (w168 A0 h0 E (x42.1) (x42.2)) fun x43 =>
  (Is.bind (φ := fun k => run E 1106 8 k) (ψ := run E 1114 67) (χ := fun k => run E 1106 75 k) (fun k => run_add E 1106 8 67 k) (w170 A0 h0 E ) fun x44 =>
  (Is.bind (φ := fun k => run E 1114 3 k) (ψ := run E 1117 64) (χ := fun k => run E 1114 67 k) (fun k => run_add E 1114 3 64 k) (w171 A0 h0 E (x44.1) (x44.2)) fun x45 =>
  (Is.bind (φ := fun k => run E 1117 12 k) (ψ := run E 1129 52) (χ := fun k => run E 1117 64 k) (fun k => run_add E 1117 12 52 k) (w172 A0 h0 E (x45)) fun x46 =>
  (Is.bind (φ := fun k => run E 1129 3 k) (ψ := run E 1132 49) (χ := fun k => run E 1129 52 k) (fun k => run_add E 1129 3 49 k) (w173 A0 h0 E ) fun x47 =>
  (Is2.bind (φ := fun k => run E 1132 13 k) (ψ := run E 1145 36) (χ := fun k => run E 1132 49 k) (fun k => run_add E 1132 13 36 k) (w174 A0 h0 E ) fun x48 =>
  (Is.bind (φ := fun k => run E 1145 10 k) (ψ := run E 1155 26) (χ := fun k => run E 1145 36 k) (fun k => run_add E 1145 10 26 k) (w176 A0 h0 E ) fun x49 =>
  (Is.bind (φ := fun k => run E 1155 7 k) (ψ := run E 1162 19) (χ := fun k => run E 1155 26 k) (fun k => run_add E 1155 7 19 k) (w177 A0 h0 E ) fun x50 =>
  (Is.bind (φ := fun k => run E 1162 4 k) (ψ := run E 1166 15) (χ := fun k => run E 1162 19 k) (fun k => run_add E 1162 4 15 k) (w178 A0 h0 E (x50.1) (x50.2)) fun x51 =>
  (Is.bind (φ := fun k => run E 1166 12 k) (ψ := run E 1178 3) (χ := fun k => run E 1166 15 k) (fun k => run_add E 1166 12 3 k) (w179 A0 h0 E ) fun x52 =>
  (Is.bind (φ := fun k => run E 1178 3 k) (ψ := run E 1181 0) (χ := fun k => run E 1178 3 k) (fun k => run_add E 1178 3 0 k) (w180 A0 h0 E ) fun x53 =>
  (Is.pure _ fun _ => rfl)))))))))))))))))))))))))))))))))))))))))))))))))))))))

theorem w226 (A0 : Memref sig .tc .smem S3 .i32) (h0 : A0.IsWhole) (E : Env)  : Is (run E 1181 303) (ap A0 h0 (k0_part226 (F := F)) E.v0 E.h3 E.v1 E.h1 E.v2 E.h2 ) := by
  rw [k0_part226_eq_skeleton]; unfold k0_part226_skel
  exact (Is.bind (φ := fun k => run E 1181 8 k) (ψ := run E 1189 295) (χ := fun k => run E 1181 303 k) (fun k => run_add E 1181 8 295 k) (w181 A0 h0 E ) fun x0 =>
  (Is.bind (φ := fun k => run E 1189 6 k) (ψ := run E 1195 289) (χ := fun k => run E 1189 295 k) (fun k => run_add E 1189 6 289 k) (w182 A0 h0 E (x0)) fun x1 =>
  (Is.bind (φ := fun k => run E 1195 9 k) (ψ := run E 1204 280) (χ := fun k => run E 1195 289 k) (fun k => run_add E 1195 9 280 k) (w183 A0 h0 E (x1)) fun x2 =>
  (Is.bind (φ := fun k => run E 1204 7 k) (ψ := run E 1211 273) (χ := fun k => run E 1204 280 k) (fun k => run_add E 1204 7 273 k) (w184 A0 h0 E ) fun x3 =>
  (Is.bind (φ := fun k => run E 1211 5 k) (ψ := run E 1216 268) (χ := fun k => run E 1211 273 k) (fun k => run_add E 1211 5 268 k) (w185 A0 h0 E (x3)) fun x4 =>
  (Is.bind (φ := fun k => run E 1216 11 k) (ψ := run E 1227 257) (χ := fun k => run E 1216 268 k) (fun k => run_add E 1216 11 257 k) (w186 A0 h0 E ) fun x5 =>
  (Is.bind (φ := fun k => run E 1227 7 k) (ψ := run E 1234 250) (χ := fun k => run E 1227 257 k) (fun k => run_add E 1227 7 250 k) (w187 A0 h0 E ) fun x6 =>
  (Is.bind (φ := fun k => run E 1234 4 k) (ψ := run E 1238 246) (χ := fun k => run E 1234 250 k) (fun k => run_add E 1234 4 246 k) (w188 A0 h0 E (x6.1) (x6.2.1) (x6.2.2)) fun x7 =>
  (Is.bind (φ := fun k => run E 1238 12 k) (ψ := run E 1250 234) (χ := fun k => run E 1238 246 k) (fun k => run_add E 1238 12 234 k) (w189 A0 h0 E ) fun x8 =>
  (Is.bind (φ := fun k => run E 1250 3 k) (ψ := run E 1253 231) (χ := fun k => run E 1250 234 k) (fun k => run_add E 1250 3 231 k) (w190 A0 h0 E (x8.1) (x8.2)) fun x9 =>
  (Is.bind (φ := fun k => run E 1253 8 k) (ψ := run E 1261 223) (χ := fun k => run E 1253 231 k) (fun k => run_add E 1253 8 223 k) (w191 A0 h0 E ) fun x10 =>
  (Is.bind (φ := fun k => run E 1261 5 k) (ψ := run E 1266 218) (χ := fun k => run E 1261 223 k) (fun k => run_add E 1261 5 218 k) (w192 A0 h0 E (x10)) fun x11 =>
  (Is.bind (φ := fun k => run E 1266 10 k) (ψ := run E 1276 208) (χ := fun k => run E 1266 218 k) (fun k => run_add E 1266 10 208 k) (w193 A0 h0 E (x11)) fun x12 =>
  (Is.bind (φ := fun k => run E 1276 7 k) (ψ := run E 1283 201) (χ := fun k => run E 1276 208 k) (fun k => run_add E 1276 7 201 k) (w194 A0 h0 E ) fun x13 =>
  (Is2.bind (φ := fun k => run E 1283 16 k) (ψ := run E 1299 185) (χ := fun k => run E 1283 201 k) (fun k => run_add E 1283 16 185 k) (w195 A0 h0 E (x13)) fun x14 =>
  (Is.bind (φ := fun k => run E 1299 7 k) (ψ := run E 1306 178) (χ := fun k => run E 1299 185 k) (fun k => run_add E 1299 7 178 k) (w197 A0 h0 E ) fun x15 =>
  (Is.bind (φ := fun k => run E 1306 3 k) (ψ := run E 1309 175) (χ := fun k => run E 1306 178 k) (fun k => run_add E 1306 3 175 k) (w198 A0 h0 E (x15.1) (x15.2.1) (x15.2.2)) fun x16 =>
  (Is.bind (φ := fun k => run E 1309 13 k) (ψ := run E 1322 162) (χ := fun k => run E 1309 175 k) (fun k => run_add E 1309 13 162 k) (w199 A0 h0 E (x16)) fun x17 =>
  (Is.bind (φ := fun k => run E 1322 3 k) (ψ := run E 1325 159) (χ := fun k => run E 1322 162 k) (fun k => run_add E 1322 3 159 k) (w200 A0 h0 E ) fun x18 =>
  (Is2.bind (φ := fun k => run E 1325 12 k) (ψ := run E 1337 147) (χ := fun k => run E 1325 159 k) (fun k => run_add E 1325 12 147 k) (w201 A0 h0 E ) fun x19 =>
  (Is.bind (φ := fun k => run E 1337 10 k) (ψ := run E 1347 137) (χ := fun k => run E 1337 147 k) (fun k => run_add E 1337 10 137 k) (w203 A0 h0 E ) fun x20 =>
  (Is.bind (φ := fun k => run E 1347 7 k) (ψ := run E 1354 130) (χ := fun k => run E 1347 137 k) (fun k => run_add E 1347 7 130 k) (w204 A0 h0 E ) fun x21 =>
  (Is.bind (φ := fun k => run E 1354 5 k) (ψ := run E 1359 125) (χ := fun k => run E 1354 130 k) (fun k => run_add E 1354 5 125 k) (w205 A0 h0 E (x21.1) (x21.2)) fun x22 =>
  (Is.bind (φ := fun k => run E 1359 11 k) (ψ := run E 1370 114) (χ := fun k => run E 1359 125 k) (fun k => run_add E 1359 11 114 k) (w206 A0 h0 E ) fun x23 =>
  (Is.bind (φ := fun k => run E 1370 8 k) (ψ := run E 1378 106) (χ := fun k => run E 1370 114 k) (fun k => run_add E 1370 8 106 k) (w207 A0 h0 E ) fun x24 =>
  (Is.bind (φ := fun k => run E 1378 3 k) (ψ := run E 1381 103) (χ := fun k => run E 1378 106 k) (fun k => run_add E 1378 3 103 k) (w208 A0 h0 E (x24.1) (x24.2)) fun x25 =>
  (Is.bind (φ := fun k => run E 1381 11 k) (ψ := run E 1392 92) (χ := fun k => run E 1381 103 k) (fun k => run_add E 1381 11 92 k) (w209 A0 h0 E (x25)) fun x26 =>
  (Is.bind (φ := fun k => run E 1392 4 k) (ψ := run E 1396 88) (χ := fun k => run E 1392 92 k) (fun k => run_add E 1392 4 88 k) (w210 A0 h0 E ) fun x27 =>
  (Is.bind (φ := fun k => run E 1396 8 k) (ψ := run E 1404 80) (χ := fun k => run E 1396 88 k) (fun k => run_add E 1396 8 80 k) (w211 A0 h0 E ) fun x28 =>
  (Is.bind (φ := fun k => run E 1404 4 k) (ψ := run E 1408 76) (χ := fun k => run E 1404 80 k) (fun k => run_add E 1404 4 76 k) (w212 A0 h0 E (x28)) fun x29 =>
  (Is.bind (φ := fun k => run E 1408 11 k) (ψ := run E 1419 65) (χ := fun k => run E 1408 76 k) (fun k => run_add E 1408 11 65 k) (w213 A0 h0 E ) fun x30 =>
  (Is.bind (φ := fun k => run E 1419 7 k) (ψ := run E 1426 58) (χ := fun k => run E 1419 65 k) (fun k => run_add E 1419 7 58 k) (w214 A0 h0 E ) fun x31 =>
  (Is.bind (φ := fun k => run E 1426 4 k) (ψ := run E 1430 54) (χ := fun k => run E 1426 58 k) (fun k => run_add E 1426 4 54 k) (w215 A0 h0 E (x31.1) (x31.2)) fun x32 =>
  (Is.bind (φ := fun k => run E 1430 12 k) (ψ := run E 1442 42) (χ := fun k => run E 1430 54 k) (fun k => run_add E 1430 12 42 k) (w216 A0 h0 E ) fun x33 =>
  (Is.bind (φ := fun k => run E 1442 3 k) (ψ := run E 1445 39) (χ := fun k => run E 1442 42 k) (fun k => run_add E 1442 3 39 k) (w217 A0 h0 E ) fun x34 =>
  (Is.bind (φ := fun k => run E 1445 8 k) (ψ := run E 1453 31) (χ := fun k => run E 1445 39 k) (fun k => run_add E 1445 8 31 k) (w218 A0 h0 E ) fun x35 =>
  (Is.bind (φ := fun k => run E 1453 6 k) (ψ := run E 1459 25) (χ := fun k => run E 1453 31 k) (fun k => run_add E 1453 6 25 k) (w219 A0 h0 E (x35.1) (x35.2)) fun x36 =>
  (Is.bind (φ := fun k => run E 1459 9 k) (ψ := run E 1468 16) (χ := fun k => run E 1459 25 k) (fun k => run_add E 1459 9 16 k) (w220 A0 h0 E ) fun x37 =>
  (Is.bind (φ := fun k => run E 1468 7 k) (ψ := run E 1475 9) (χ := fun k => run E 1468 16 k) (fun k => run_add E 1468 7 9 k) (w221 A0 h0 E ) fun x38 =>
  (Is.bind (φ := fun k => run E 1475 8 k) (ψ := run E 1483 1) (χ := fun k => run E 1475 9 k) (fun k => run_add E 1475 8 1 k) (w222 A0 h0 E (x38)) fun x39 =>
  (Is.bind (φ := fun k => run E 1483 1 k) (ψ := run E 1484 0) (χ := fun k => run E 1483 1 k) (fun k => run_add E 1483 1 0 k) (sigLast E) fun x40 =>
  (Is.pure _ fun _ => rfl))))))))))))))))))))))))))))))))))))))))))

/-- The three words are loaded, and what is assumed of them. -/
def entry (A0 : Memref sig .tc .smem S3 .i32) (k : Env → Pr F) : Pr F :=
  Prog.bind (smemLoad A0 (Rect.unit (s := S3) ![0] S1.size inb_S3_S1_0) numel1_S1 rfl) fun v0 =>
  Prog.op (TpuEff.assume (k0_chk3 v0) (k0_chk3.dec v0)) fun h3 =>
  Prog.bind (smemLoad A0 (Rect.unit (s := S3) ![1] S1.size inb_S3_S1_1) numel1_S1 rfl) fun v1 =>
  Prog.op (TpuEff.assume (k0_chk1 v1) (k0_chk1.dec v1)) fun h1 =>
  Prog.bind (smemLoad A0 (Rect.unit (s := S3) ![2] S1.size inb_S3_S1_2) numel1_S1 rfl) fun v2 =>
  Prog.op (TpuEff.assume (k0_chk2 v2) (k0_chk2.dec v2)) fun h2 => k ⟨v0, h3.down, v1, h1.down, v2, h2.down⟩

theorem w1 (A0 : Memref sig .tc .smem S3 .i32) (h0 : A0.IsWhole) (k) :
    Prog.bind (ap A0 h0 (k0_part1 (F := F))) k = entry A0 fun E => pro1 E (k ⟨E.v0, E.h3, E.v1, E.h1, E.v2, E.h2⟩) := by
  rw [k0_part1_eq_skeleton]; rfl

theorem w223 (A0 : Memref sig .tc .smem S3 .i32) (h0 : A0.IsWhole) (k) :
    Prog.bind (ap A0 h0 (k0_part223 (F := F))) k
      = entry A0 fun E => pro1 E (pro2 E (run E 0 373 (k ⟨E.v0, E.h3, E.v1, E.h1, E.v2, E.h2⟩))) := by
  rw [k0_part223_eq_skeleton]; unfold k0_part223_skel
  refine (bind_bind _ _ k).trans ((w1 A0 h0 _).trans (congrArg (entry A0) (funext fun E => congrArg (pro1 E) ?_)))
  exact (Is.bindV (φ := fun k => pro2 E (run E 0 6 k)) (ψ := run E 6 367) (χ := fun k => pro2 E (run E 0 373 k)) (fun k => congrArg (pro2 E) (run_add E 0 6 367 k)) (w2 A0 h0 E ) fun x0 =>
  (Is.bindV (φ := fun k => run E 6 4 k) (ψ := run E 10 363) (χ := fun k => run E 6 367 k) (fun k => run_add E 6 4 363 k) (w3 A0 h0 E (x0.1) (x0.2)) fun x1 =>
  (Is2.bindV (φ := fun k => run E 10 17 k) (ψ := run E 27 346) (χ := fun k => run E 10 363 k) (fun k => run_add E 10 17 346 k) (w4 A0 h0 E ) fun x2 =>
  (Is.bindV (φ := fun k => run E 27 3 k) (ψ := run E 30 343) (χ := fun k => run E 27 346 k) (fun k => run_add E 27 3 343 k) (w6 A0 h0 E ) fun x3 =>
  (Is2.bindV (φ := fun k => run E 30 13 k) (ψ := run E 43 330) (χ := fun k => run E 30 343 k) (fun k => run_add E 30 13 330 k) (w7 A0 h0 E ) fun x4 =>
  (Is.bindV (φ := fun k => run E 43 9 k) (ψ := run E 52 321) (χ := fun k => run E 43 330 k) (fun k => run_add E 43 9 321 k) (w9 A0 h0 E (x4)) fun x5 =>
  (Is.bindV (φ := fun k => run E 52 3 k) (ψ := run E 55 318) (χ := fun k => run E 52 321 k) (fun k => run_add E 52 3 318 k) (w10 A0 h0 E ) fun x6 =>
  (Is.bindV (φ := fun k => run E 55 6 k) (ψ := run E 61 312) (χ := fun k => run E 55 318 k) (fun k => run_add E 55 6 312 k) (w11 A0 h0 E ) fun x7 =>
  (Is.bindV (φ := fun k => run E 61 13 k) (ψ := run E 74 299) (χ := fun k => run E 61 312 k) (fun k => run_add E 61 13 299 k) (w12 A0 h0 E ) fun x8 =>
  (Is.bindV (φ := fun k => run E 74 3 k) (ψ := run E 77 296) (χ := fun k => run E 74 299 k) (fun k => run_add E 74 3 296 k) (w13 A0 h0 E (x8)) fun x9 =>
  (Is.bindV (φ := fun k => run E 77 4 k) (ψ := run E 81 292) (χ := fun k => run E 77 296 k) (fun k => run_add E 77 4 292 k) (w14 A0 h0 E ) fun x10 =>
  (Is.bindV (φ := fun k => run E 81 4 k) (ψ := run E 85 288) (χ := fun k => run E 81 292 k) (fun k => run_add E 81 4 288 k) (w15 A0 h0 E ) fun x11 =>
  (Is.bindV (φ := fun k => run E 85 13 k) (ψ := run E 98 275) (χ := fun k => run E 85 288 k) (fun k => run_add E 85 13 275 k) (w16 A0 h0 E ) fun x12 =>
  (Is.bindV (φ := fun k => run E 98 4 k) (ψ := run E 102 271) (χ := fun k => run E 98 275 k) (fun k => run_add E 98 4 271 k) (w17 A0 h0 E ) fun x13 =>
  (Is.bindV (φ := fun k => run E 102 4 k) (ψ := run E 106 267) (χ := fun k => run E 102 271 k) (fun k => run_add E 102 4 267 k) (w18 A0 h0 E (x13.1) (x13.2)) fun x14 =>
  (Is2.bindV (φ := fun k => run E 106 17 k) (ψ := run E 123 250) (χ := fun k => run E 106 267 k) (fun k => run_add E 106 17 250 k) (w19 A0 h0 E (x14)) fun x15 =>
  (Is.bindV (φ := fun k => run E 123 3 k) (ψ := run E 126 247) (χ := fun k => run E 123 250 k) (fun k => run_add E 123 3 247 k) (w21 A0 h0 E ) fun x16 =>
  (Is.bindV (φ := fun k => run E 126 5 k) (ψ := run E 131 242) (χ := fun k => run E 126 247 k) (fun k => run_add E 126 5 242 k) (w22 A0 h0 E ) fun x17 =>
  (Is.bindV (φ := fun k => run E 131 7 k) (ψ := run E 138 235) (χ := fun k => run E 131 242 k) (fun k => run_add E 131 7 235 k) (w23 A0 h0 E ) fun x18 =>
  (Is.bindV (φ := fun k => run E 138 10 k) (ψ := run E 148 225) (χ := fun k => run E 138 235 k) (fun k => run_add E 138 10 225 k) (w24 A0 h0 E ) fun x19 =>
  (Is.bindV (φ := fun k => run E 148 3 k) (ψ := run E 151 222) (χ := fun k => run E 148 225 k) (fun k => run_add E 148 3 222 k) (w25 A0 h0 E ) fun x20 =>
  (Is2.bindV (φ := fun k => run E 151 19 k) (ψ := run E 170 203) (χ := fun k => run E 151 222 k) (fun k => run_add E 151 19 203 k) (w26 A0 h0 E ) fun x21 =>
  (Is.bindV (φ := fun k => run E 170 3 k) (ψ := run E 173 200) (χ := fun k => run E 170 203 k) (fun k => run_add E 170 3 200 k) (w28 A0 h0 E ) fun x22 =>
  (Is.bindV (φ := fun k => run E 173 3 k) (ψ := run E 176 197) (χ := fun k => run E 173 200 k) (fun k => run_add E 173 3 197 k) (w29 A0 h0 E ) fun x23 =>
  (Is.bindV (φ := fun k => run E 176 5 k) (ψ := run E 181 192) (χ := fun k => run E 176 197 k) (fun k => run_add E 176 5 192 k) (w30 A0 h0 E ) fun x24 =>
  (Is.bindV (φ := fun k => run E 181 13 k) (ψ := run E 194 179) (χ := fun k => run E 181 192 k) (fun k => run_add E 181 13 179 k) (w31 A0 h0 E ) fun x25 =>
  (Is.bindV (φ := fun k => run E 194 4 k) (ψ := run E 198 175) (χ := fun k => run E 194 179 k) (fun k => run_add E 194 4 175 k) (w32 A0 h0 E ) fun x26 =>
  (Is.bindV (φ := fun k => run E 198 4 k) (ψ := run E 202 171) (χ := fun k => run E 198 175 k) (fun k => run_add E 198 4 171 k) (w33 A0 h0 E (x26)) fun x27 =>
  (Is2.bindV (φ := fun k => run E 202 17 k) (ψ := run E 219 154) (χ := fun k => run E 202 171 k) (fun k => run_add E 202 17 154 k) (w34 A0 h0 E ) fun x28 =>
  (Is.bindV (φ := fun k => run E 219 3 k) (ψ := run E 222 151) (χ := fun k => run E 219 154 k) (fun k => run_add E 219 3 151 k) (w36 A0 h0 E ) fun x29 =>
  (Is.bindV (φ := fun k => run E 222 4 k) (ψ := run E 226 147) (χ := fun k => run E 222 151 k) (fun k => run_add E 222 4 147 k) (w37 A0 h0 E (x29.1) (x29.2)) fun x30 =>
  (Is.bindV (φ := fun k => run E 226 8 k) (ψ := run E 234 139) (χ := fun k => run E 226 147 k) (fun k => run_add E 226 8 139 k) (w38 A0 h0 E ) fun x31 =>
  (Is.bindV (φ := fun k => run E 234 10 k) (ψ := run E 244 129) (χ := fun k => run E 234 139 k) (fun k => run_add E 234 10 129 k) (w39 A0 h0 E ) fun x32 =>
  (Is.bindV (φ := fun k => run E 244 3 k) (ψ := run E 247 126) (χ := fun k => run E 244 129 k) (fun k => run_add E 244 3 126 k) (w40 A0 h0 E ) fun x33 =>
  (Is2.bindV (φ := fun k => run E 247 18 k) (ψ := run E 265 108) (χ := fun k => run E 247 126 k) (fun k => run_add E 247 18 108 k) (w41 A0 h0 E ) fun x34 =>
  (Is.bindV (φ := fun k => run E 265 3 k) (ψ := run E 268 105) (χ := fun k => run E 265 108 k) (fun k => run_add E 265 3 105 k) (w43 A0 h0 E ) fun x35 =>
  (Is.bindV (φ := fun k => run E 268 4 k) (ψ := run E 272 101) (χ := fun k => run E 268 105 k) (fun k => run_add E 268 4 101 k) (w44 A0 h0 E ) fun x36 =>
  (Is.bindV (φ := fun k => run E 272 5 k) (ψ := run E 277 96) (χ := fun k => run E 272 101 k) (fun k => run_add E 272 5 96 k) (w45 A0 h0 E ) fun x37 =>
  (Is.bindV (φ := fun k => run E 277 13 k) (ψ := run E 290 83) (χ := fun k => run E 277 96 k) (fun k => run_add E 277 13 83 k) (w46 A0 h0 E (x37)) fun x38 =>
  (Is.bindV (φ := fun k => run E 290 3 k) (ψ := run E 293 80) (χ := fun k => run E 290 83 k) (fun k => run_add E 290 3 80 k) (w47 A0 h0 E ) fun x39 =>
  (Is.bindV (φ := fun k => run E 293 4 k) (ψ := run E 297 76) (χ := fun k => run E 293 80 k) (fun k => run_add E 293 4 76 k) (w48 A0 h0 E ) fun x40 =>
  (Is.bindV (φ := fun k => run E 297 5 k) (ψ := run E 302 71) (χ := fun k => run E 297 76 k) (fun k => run_add E 297 5 71 k) (w49 A0 h0 E ) fun x41 =>
  (Is.bindV (φ := fun k => run E 302 13 k) (ψ := run E 315 58) (χ := fun k => run E 302 71 k) (fun k => run_add E 302 13 58 k) (w50 A0 h0 E ) fun x42 =>
  (Is.bindV (φ := fun k => run E 315 3 k) (ψ := run E 318 55) (χ := fun k => run E 315 58 k) (fun k => run_add E 315 3 55 k) (w51 A0 h0 E ) fun x43 =>
  (Is.bindV (φ := fun k => run E 318 4 k) (ψ := run E 322 51) (χ := fun k => run E 318 55 k) (fun k => run_add E 318 4 51 k) (w52 A0 h0 E (x43.1) (x43.2.1) (x43.2.2)) fun x44 =>
  (Is2.bindV (φ := fun k => run E 322 17 k) (ψ := run E 339 34) (χ := fun k => run E 322 51 k) (fun k => run_add E 322 17 34 k) (w53 A0 h0 E ) fun x45 =>
  (Is.bindV (φ := fun k => run E 339 3 k) (ψ := run E 342 31) (χ := fun k => run E 339 34 k) (fun k => run_add E 339 3 31 k) (w55 A0 h0 E ) fun x46 =>
  (Is2.bindV (φ := fun k => run E 342 13 k) (ψ := run E 355 18) (χ := fun k => run E 342 31 k) (fun k => run_add E 342 13 18 k) (w56 A0 h0 E ) fun x47 =>
  (Is.bindV (φ := fun k => run E 355 9 k) (ψ := run E 364 9) (χ := fun k => run E 355 18 k) (fun k => run_add E 355 9 9 k) (w58 A0 h0 E ) fun x48 =>
  (Is.bindV (φ := fun k => run E 364 4 k) (ψ := run E 368 5) (χ := fun k => run E 364 9 k) (fun k => run_add E 364 4 5 k) (w59 A0 h0 E ) fun x49 =>
  (Is.bindV (φ := fun k => run E 368 5 k) (ψ := run E 373 0) (χ := fun k => run E 368 5 k) (fun k => run_add E 368 5 0 k) (w60 A0 h0 E ) fun x50 =>
  (IsV.pure _ fun _ => rfl)))))))))))))))))))))))))))))))))))))))))))))))))))) k

theorem tail_is (E : Env) (k : Pr F) : run E 0 1488 k = run E 0 373 (run E 373 382 (run E 755 426 (run E 1181 303 k))) := by
  rw [← run_add E 755 426 303, ← run_add E 373 382 729, ← run_add E 0 373 1111]
  exact (run_add E 0 1484 4 k).trans (congrArg (run E 0 1484) rfl)

theorem body_eq (A0 : Memref sig .tc .smem S3 .i32) (h0 : A0.IsWhole) :
    ap A0 h0 (cc0_body (F := F)) = entry A0 fun E => pro1 E (pro2 E (run E 0 1488 (epi (.ret ⟨⟩)))) := by
  rw [cc0_body_eq_skeleton]; unfold cc0_body_skel
  refine (w223 A0 h0 _).trans (congrArg (entry A0) (funext fun E => congrArg (pro1 E) (congrArg (pro2 E) ?_)))
  rw [tail_is]
  refine congrArg (run E 0 373) ?_
  obtain ⟨x4, h4⟩ := w224 (F := F) A0 h0 E
  obtain ⟨x5, h5⟩ := w225 (F := F) A0 h0 E x4
  obtain ⟨x6, h6⟩ := w226 (F := F) A0 h0 E
  refine (h4 _).trans (congrArg (run E 373 382) ?_)
  refine (h5 _).trans (congrArg (run E 755 426) ?_)
  refine (h6 _).trans (congrArg (run E 1181 303) ?_)
  rfl

end Cert.KernelIdeal.Ring

end
-- ==== Proof.KernelIdeal.Host.lean ====
/- What the host computes for the kernel: the place of the device in the ring and its two neighbours. -/
module

public import proofs.«01_k».proof.Proof.KernelIdeal.Sched
public import proofs.«01_k».proof.Proof.Gen.KernelIdeal.Regions
public import Idealize.ShloMosaic.Lib.StableHlo.Run

@[expose] public section

noncomputable section

namespace Cert.KernelIdeal.Ring

open Idealize.ShloMosaic Idealize.ShloMosaic.TcCoe Cert.KernelIdeal.Gen
open Idealize.ShloMosaic.StableHlo

variable {F : FTy → Type} [FloatOps F]
variable (m : (ℓ : Loc nD τ sig) → Buf (Elt F) ℓ)

def wd (c : Dev nD) : Fin 3 → BitVec 32 := ![BitVec.ofNat 32 (posT c).val, BitVec.ofNat 32 (dnD true c).val, BitVec.ofNat 32 (dnD false c).val]
def words (c : Dev nD) : IVec S3 32 := fun i => wd c (i 0)

/-! ## The words of the arithmetic -/

abbrev k_ (w : BitVec 32) : IVec S_ 32 := fun _ => w
abbrev wrap (a : IVec S_ 32) : IVec S_ 32 := select (cmpi .slt a (constantI S_ 32 0#32)) (addi a (constantI S_ 32 32#32)) a
abbrev up1 (w : BitVec 32) : IVec S_ 32 := wrap (Host.remsi (addi (k_ w) (constantI S_ 32 1#32)) (constantI S_ 32 32#32))
abbrev dn1 (w : BitVec 32) : IVec S_ 32 := wrap (Host.remsi (addi (subi (k_ w) (constantI S_ 32 1#32)) (constantI S_ 32 32#32)) (constantI S_ 32 32#32))
abbrev own (w : BitVec 32) : IVec S_ 32 := wrap (Host.remui (Host.divui (k_ w) (constantI S_ 32 1#32)) (constantI S_ 32 32#32))
abbrev ofN (n : ℕ) : BitVec 32 := BitVec.ofNat 32 n

theorem own_eq : ∀ c : Dev nD, own (Dev.word c) (Shape.Idx.first h_S_) = ofN c.val := by decide +kernel
theorem up1_eq : ∀ p : Fin 32, up1 (ofN p.val) (Shape.Idx.first h_S_) = ofN (p + 1 : Fin 32).val := by decide +kernel
theorem dn1_eq : ∀ p : Fin 32, dn1 (ofN p.val) (Shape.Idx.first h_S_) = ofN (p - 1 : Fin 32).val := by decide +kernel

abbrev tab0 : IVec S32 32 := fun i => lit0 (S32.rowMajor i)
abbrev tab1 : IVec S32 32 := fun i => lit1 (S32.rowMajor i)
abbrev at_ (t : IVec S32 32) (w : BitVec 32) : IVec S1 32 := Host.dynamicSlice S1 t (fun _ => w.toInt) sliceFits_S32_S1
theorem first1 (i : S1.Idx) : i = Shape.Idx.first (numel1_S1.symm ▸ Nat.one_pos) := by
  funext a; obtain rfl : a = 0 := Subsingleton.elim _ _
  exact Fin.ext (by have := (i 0).isLt; have h : S1.size 0 = 1 := rfl; have h2 := (Shape.Idx.first (s := S1) (numel1_S1.symm ▸ Nat.one_pos) 0).isLt; omega)
theorem first0 (i : S_.Idx) : i = Shape.Idx.first h_S_ := funext fun a => a.elim0
theorem at0_eq : ∀ p : Fin 32, at_ tab0 (ofN p.val) (Shape.Idx.first (numel1_S1.symm ▸ Nat.one_pos)) = ofN (devT p).val := by decide +kernel
theorem at1_eq : ∀ c : Dev nD, at_ tab1 (ofN c.val) (Shape.Idx.first (numel1_S1.symm ▸ Nat.one_pos)) = ofN (posT c).val := by decide +kernel
theorem own_c (c : Dev nD) : own (Dev.word c) = k_ (ofN c.val) := funext fun i => by rw [first0 i]; exact own_eq c
theorem up1_c (p : Fin 32) : up1 (ofN p.val) = k_ (ofN (p + 1 : Fin 32).val) := funext fun i => by rw [first0 i]; exact up1_eq p
theorem dn1_c (p : Fin 32) : dn1 (ofN p.val) = k_ (ofN (p - 1 : Fin 32).val) := funext fun i => by rw [first0 i]; exact dn1_eq p
theorem at0_c (p : Fin 32) : at_ tab0 (ofN p.val) = fun _ => ofN (devT p).val := funext fun i => by rw [first1 i]; exact at0_eq p
theorem at1_c (c : Dev nD) : at_ tab1 (ofN c.val) = fun _ => ofN (posT c).val := funext fun i => by rw [first1 i]; exact at1_eq c

theorem dn_t (c : Dev nD) : devT (posT c - 1) = dnD true c := by revert c; decide +kernel
theorem dn_f (c : Dev nD) : devT (posT c + 1) = dnD false c := by revert c; decide +kernel

/-! ## The stretch, part by part -/

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons a l ih => exact ih _

abbrev part (c : Dev nD) (a n : ℕ) (W : Valuation τ sig (Elt F)) : Valuation τ sig (Elt F) := StableHlo.after (((hostOps0 c).drop a).take n) W
theorem part_add (c : Dev nD) (a n k : ℕ) (W : Valuation τ sig (Elt F)) : part c a (n + k) W = part c (a + n) k (part c a n W) := by
  unfold part
  rw [List.take_add, after_app, List.drop_drop]

variable (c : Dev nD) (W : Valuation τ sig (Elt F))

theorem p1 : (part c 0 14 W main_v8 : IVec S_ 32) = k_ (ofN c.val) ∧ (part c 0 14 W main_c : IVec S32 32) = tab0 ∧ (part c 0 14 W main_c_0 : IVec S32 32) = tab1 := by
  simp only [part, hostOps0, List.take_succ_cons, List.take_zero, List.drop_succ_cons, List.drop_zero]
  refine ⟨?_, ?_, ?_⟩
  · after_results; exact own_c c
  · after_results; rfl
  · after_results; rfl
theorem p2 (h : (W main_v8 : IVec S_ 32) = k_ (ofN c.val)) (h1 : (W main_c_0 : IVec S32 32) = tab1) :
    (part c 14 1 W main_v9 : IVec S1 32) = (fun _ => ofN (posT c).val) ∧ part c 14 1 W main_c = W main_c := by
  simp only [part, hostOps0, List.take_succ_cons, List.take_zero, List.drop_succ_cons, List.drop_zero]
  refine ⟨?_, ?_⟩
  · rw [StableHlo.after_cons, StableHlo.after_nil, StableHlo.unaryIndexed_result]
    refine Eq.trans ?_ (at1_c c)
    show Host.dynamicSlice S1 (W main_c_0 : IVec S32 32) (fun k : Fin 1 => ((_ : IVec S_ 32) (Shape.Idx.first h_S_)).toInt) sliceFits_S32_S1 = _
    rw [h1]
    exact congrArg (fun g => Host.dynamicSlice S1 tab1 g sliceFits_S32_S1) (funext fun k => by
      obtain rfl : k = 0 := Subsingleton.elim _ _
      exact congrArg (fun v : IVec S_ 32 => (v (Shape.Idx.first h_S_)).toInt) h)
  · after_results
theorem p3 (p : Fin 32) (h : (W main_v9 : IVec S1 32) = fun _ => ofN p.val) :
    (part c 15 10 W main_v10 : IVec S_ 32) = k_ (ofN p.val) ∧ (part c 15 10 W main_v15 : IVec S_ 32) = k_ (ofN (p + 1 : Fin 32).val) ∧ part c 15 10 W main_c = W main_c := by
  simp only [part, hostOps0, List.take_succ_cons, List.take_zero, List.drop_succ_cons, List.drop_zero]
  have e : (shapeCast S_ (W main_v9 : IVec S1 32) shapeCasts_S1_S_ : IVec S_ 32) = k_ (ofN p.val) := by rw [h]; rfl
  refine ⟨?_, ?_, ?_⟩
  · after_results; exact e
  · after_results
    show wrap (Host.remsi (addi (shapeCast S_ (W main_v9 : IVec S1 32) shapeCasts_S1_S_) (constantI S_ 32 1#32)) (constantI S_ 32 32#32)) = _
    rw [e]; exact up1_c p
  · after_results
theorem p4 (p : Fin 32) (h : (W main_v15 : IVec S_ 32) = k_ (ofN p.val)) (h1 : (W main_c : IVec S32 32) = tab0) :
    (part c 25 1 W main_v16 : IVec S1 32) = (fun _ => ofN (devT p).val) ∧ part c 25 1 W main_c = W main_c ∧ part c 25 1 W main_v10 = W main_v10 := by
  simp only [part, hostOps0, List.take_succ_cons, List.take_zero, List.drop_succ_cons, List.drop_zero]
  refine ⟨?_, ?_, ?_⟩
  · rw [StableHlo.after_cons, StableHlo.after_nil, StableHlo.unaryIndexed_result]
    refine Eq.trans ?_ (at0_c p)
    show Host.dynamicSlice S1 (W main_c : IVec S32 32) (fun k : Fin 1 => ((_ : IVec S_ 32) (Shape.Idx.first h_S_)).toInt) sliceFits_S32_S1 = _
    rw [h1]
    exact congrArg (fun g => Host.dynamicSlice S1 tab0 g sliceFits_S32_S1) (funext fun k => by
      obtain rfl : k = 0 := Subsingleton.elim _ _
      exact congrArg (fun v : IVec S_ 32 => (v (Shape.Idx.first h_S_)).toInt) h)
  · after_results
  · after_results
theorem p5 (p q : Fin 32) (h : (W main_v16 : IVec S1 32) = fun _ => ofN q.val) (h1 : (W main_v10 : IVec S_ 32) = k_ (ofN p.val)) :
    (part c 26 12 W main_v17 : IVec S_ 32) = k_ (ofN q.val) ∧ (part c 26 12 W main_v23 : IVec S_ 32) = k_ (ofN (p - 1 : Fin 32).val)
      ∧ part c 26 12 W main_c = W main_c ∧ part c 26 12 W main_v10 = W main_v10 := by
  simp only [part, hostOps0, List.take_succ_cons, List.take_zero, List.drop_succ_cons, List.drop_zero]
  refine ⟨?_, ?_, ?_, ?_⟩
  · after_results
    show (shapeCast S_ (W main_v16 : IVec S1 32) shapeCasts_S1_S_ : IVec S_ 32) = _
    rw [h]; rfl
  · after_results
    show wrap (Host.remsi (addi (subi (W main_v10 : IVec S_ 32) (constantI S_ 32 1#32)) (constantI S_ 32 32#32)) (constantI S_ 32 32#32)) = _
    rw [h1]; exact dn1_c p
  · after_results
  · after_results
theorem p6 (p : Fin 32) (h : (W main_v23 : IVec S_ 32) = k_ (ofN p.val)) (h1 : (W main_c : IVec S32 32) = tab0) :
    (part c 38 1 W main_v24 : IVec S1 32) = (fun _ => ofN (devT p).val) ∧ part c 38 1 W main_v17 = W main_v17 ∧ part c 38 1 W main_v10 = W main_v10 := by
  simp only [part, hostOps0, List.take_succ_cons, List.take_zero, List.drop_succ_cons, List.drop_zero]
  refine ⟨?_, ?_, ?_⟩
  · rw [StableHlo.after_cons, StableHlo.after_nil, StableHlo.unaryIndexed_result]
    refine Eq.trans ?_ (at0_c p)
    show Host.dynamicSlice S1 (W main_c : IVec S32 32) (fun k : Fin 1 => ((_ : IVec S_ 32) (Shape.Idx.first h_S_)).toInt) sliceFits_S32_S1 = _
    rw [h1]
    exact congrArg (fun g => Host.dynamicSlice S1 tab0 g sliceFits_S32_S1) (funext fun k => by
      obtain rfl : k = 0 := Subsingleton.elim _ _
      exact congrArg (fun v : IVec S_ 32 => (v (Shape.Idx.first h_S_)).toInt) h)
  · after_results
  · after_results
theorem p7 (a b d : BitVec 32) (h : (W main_v24 : IVec S1 32) = fun _ => b) (h1 : (W main_v10 : IVec S_ 32) = k_ a) (h2 : (W main_v17 : IVec S_ 32) = k_ d) :
    (part c 39 4 W main_v26 : IVec S1 32) = (fun _ => a) ∧ (part c 39 4 W main_v27 : IVec S1 32) = (fun _ => b) ∧ (part c 39 4 W main_v28 : IVec S1 32) = (fun _ => d) := by
  simp only [part, hostOps0, List.take_succ_cons, List.take_zero, List.drop_succ_cons, List.drop_zero]
  refine ⟨?_, ?_, ?_⟩
  · after_results
    show (broadcastInDim S1 ![] bcast_S_S1 (W main_v10 : IVec S_ 32) : IVec S1 32) = _
    rw [h1]; rfl
  · after_results
    show (broadcastInDim S1 ![] bcast_S_S1 (shapeCast S_ (W main_v24 : IVec S1 32) shapeCasts_S1_S_ : IVec S_ 32) : IVec S1 32) = _
    rw [h]; rfl
  · after_results
    show (broadcastInDim S1 ![] bcast_S_S1 (W main_v17 : IVec S_ 32) : IVec S1 32) = _
    rw [h2]; rfl
theorem p8 (a b d : BitVec 32) (h0 : (W main_v26 : IVec S1 32) = fun _ => a) (h1 : (W main_v27 : IVec S1 32) = fun _ => b) (h2 : (W main_v28 : IVec S1 32) = fun _ => d) :
    (part c 43 1 W main_v29 : IVec S3 32) = fun i => (![a, b, d] : Fin 3 → BitVec 32) (i 0) := by
  simp only [part, hostOps0, List.take_succ_cons, List.take_zero, List.drop_succ_cons, List.drop_zero]
  rw [StableHlo.after_cons, StableHlo.after_nil, StableHlo.nary_result]
  show concatenate S3 0 [⟨S1, (W main_v26 : IVec S1 32)⟩, ⟨S1, (W main_v27 : IVec S1 32)⟩, ⟨S1, (W main_v28 : IVec S1 32)⟩] _ = _
  rw [h0, h1, h2]
  funext i
  obtain ⟨k, rfl⟩ : ∃ k : Fin 3, i = fun a => ⟨k.val, by fin_cases a; exact k.isLt⟩ := ⟨i 0, funext fun a => by fin_cases a; rfl⟩
  fin_cases k <;> rfl

theorem scal_eq : V1 m c main_v29 = words c := by
  have e : V1 m c = part c 43 1 (part c 39 4 (part c 38 1 (part c 26 12 (part c 25 1 (part c 15 10 (part c 14 1 (part c 0 14 (V0 m c)))))))) := by
    rw [← part_add c 0 14 1, ← part_add c 0 15 10, ← part_add c 0 25 1, ← part_add c 0 26 12, ← part_add c 0 38 1, ← part_add c 0 39 4, ← part_add c 0 43 1]
    rfl
  rw [e]
  obtain ⟨a1, a2, a3⟩ := p1 c (V0 m c)
  obtain ⟨b1, b2⟩ := p2 c _ a1 a3
  obtain ⟨c1, c2, c3⟩ := p3 c _ (posT c) b1
  have c4 := (c3.trans b2).trans a2
  obtain ⟨d1, d2, d3⟩ := p4 c _ _ c2 c4
  obtain ⟨e1, e2, e3, e4⟩ := p5 c _ (posT c) (devT (posT c + 1)) d1 (d3.trans c1)
  obtain ⟨f1, f2, f3⟩ := p6 c _ _ e2 ((e3.trans d2).trans c4)
  obtain ⟨g1, g2, g3⟩ := p7 c _ _ _ _ f1 (f3.trans (e4.trans (d3.trans c1))) (f2.trans e1)
  refine (p8 c _ _ _ _ g1 g2 g3).trans ?_
  unfold words wd
  rw [← dn_t, ← dn_f]; rfl

omit [FloatOps F] in
theorem chk3 : ∀ p : Fin 32, k0_chk3 (ofN p.val) := by decide +kernel
omit [FloatOps F] in
theorem chk1 : ∀ c : Dev nD, k0_chk1 (ofN c.val) := by decide +kernel
omit [FloatOps F] in
theorem chk2 : ∀ c : Dev nD, k0_chk2 (ofN c.val) := by decide +kernel

end Cert.KernelIdeal.Ring

end
-- ==== Proof.KernelIdeal.Entry.lean ====
/- The kernel on a device, from its words and its memory whole to its memory whole again. -/
module

public import proofs.«01_k».proof.Proof.KernelIdeal.Body
public import proofs.«01_k».proof.Proof.KernelIdeal.Windows5
public import proofs.«01_k».proof.Proof.KernelIdeal.Host

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]
local notation "𝕄" => MT nD τ sig ℕ (Elt F) ℕ UU ℕ

variable (y : Dev nD → Whole F) {K : GSem nD τ sig → ℕ} {Ks : Key → ℕ} (c : Dev nD)

/-! ## The words -/

theorem dev1 : ∀ c : Dev nD, k0_dev1 (ofN c.val) = c.val := by decide +kernel
theorem dev2 : ∀ c : Dev nD, k0_dev2 (ofN c.val) = c.val := by decide +kernel

def env : Env := ⟨ofN (posT c).val, chk3 (posT c), ofN (dnD true c).val, chk1 (dnD true c), ofN (dnD false c).val, chk2 (dnD false c)⟩
theorem env_good : Good (env c) c where
  v0 := rfl
  dn X := by
    cases X
    · exact Fin.ext (dev2 (dnD false c))
    · exact Fin.ext (dev1 (dnD true c))

abbrev tM : Memref sig .tc .smem S3 .i32 := Memref.whole cc0_stg0_0
variable (F) in
abbrev tPt : sProp 𝕄 := (c : Thread nD τ).loc cc0_stg0_0 ↦{fullShare} (words c : Buf (Elt F) ((c : Thread nD τ).loc cc0_stg0_0))

theorem entry_run (k : Env → Pr F) (Q : PUnit → sProp 𝕄) :
    tPt F c ⊢ iprop((tPt F c -∗ wpK c (k (env c)) Q) -∗ wpK c (entry tM k) Q) := by
  unfold entry wpK
  simp only [smemLoad, smemLoadElt, Prog.lift, Prog.bind_op, Prog.bind_ret, Prog.pure_eq_ret, Prog.bind_assoc]
  iintro Ht Hk
  iapply (wp_load_rect 𝒱₀ (c : Thread nD τ) none Set.univ (m := tM) (r := Rect.unit (s := S3) ![0] S1.size inb_S3_S1_0) (Finset.subset_univ _)) $$ Ht; iintro Ht
  iapply (wp_assume 𝒱₀ (c : Thread nD τ) none Set.univ (chk3 (posT c)))
  iapply (wp_load_rect 𝒱₀ (c : Thread nD τ) none Set.univ (m := tM) (r := Rect.unit (s := S3) ![1] S1.size inb_S3_S1_1) (Finset.subset_univ _)) $$ Ht; iintro Ht
  iapply (wp_assume 𝒱₀ (c : Thread nD τ) none Set.univ (chk1 (dnD true c)))
  iapply (wp_load_rect 𝒱₀ (c : Thread nD τ) none Set.univ (m := tM) (r := Rect.unit (s := S3) ![2] S1.size inb_S3_S1_2) (Finset.subset_univ _)) $$ Ht; iintro Ht
  iapply (wp_assume 𝒱₀ (c : Thread nD τ) none Set.univ (chk2 (dnD false c)))
  iapply Hk
  iexact Ht

/-! ## The memory -/

variable (F) in
abbrev anyB (b : Ref sig .tc) : sProp 𝕄 := iprop(∃ f : Buf (Elt F) ((c : Thread nD τ).loc b), (c : Thread nD τ).loc b ↦{fullShare} f)

theorem slots_split (M : Memref sig .tc .vmem S2x64x8192 .f32) :
    iprop(∃ f, M.view.loc (c : Thread nD τ) ↦[M.view.set]{fullShare} f) ⊢ (iprop(sAny F M 0 c ∗ sAny F M 1 c) : sProp 𝕄) := by
  iintro ⟨%f, H⟩
  ihave H' := (Entails.of_eq (congrArg (fun S => (M.view.loc (c : Thread nD τ) ↦[S]{fullShare} f : sProp 𝕄)) (slots_union M).symm)) $$ H
  ihave H'' := (pointsTo_union (slots_disj M)).1 $$ H'
  icases H'' with ⟨H0, H1⟩
  unfold sAny slot
  isplitl [H0]
  · iexists f; iexact H0
  · iexists f; iexact H1
theorem slots_join (M : Memref sig .tc .vmem S2x64x8192 .f32) :
    iprop(sAny F M 0 c ∗ sAny F M 1 c) ⊢ (iprop(∃ f, M.view.loc (c : Thread nD τ) ↦[M.view.set]{fullShare} f) : sProp 𝕄) := by
  unfold sAny slot
  iintro ⟨⟨%f, H0⟩, ⟨%g, H1⟩⟩
  ihave H := (pointsTo_join (ℓ := M.view.loc (c : Thread nD τ)) (f := f) (g := g) (slots_disj M)) $$ [H0 H1]
  · isplitl [H0]
    · iexact H0
    · iexact H1
  iexists _
  iapply (Entails.of_eq (congrArg (fun S => (M.view.loc (c : Thread nD τ) ↦[S]{fullShare} _ : sProp 𝕄)) (slots_union M))) $$ H

/-- What the rings leave in the result. -/
def outV : Whole F := fun i =>
  tot y (decide (2048 ≤ (i 0).val)) ⟨(i 0).val % 2048 / 64, by omega⟩
    (fun a => match a with
      | ⟨0, _⟩ => ⟨(i 0).val % 64, Nat.mod_lt _ (by decide)⟩
      | ⟨1, _⟩ => i 1)

theorem out_half (X : Bool) (fo : Whole F) (h : ∀ i, chunk fo X i = tot y X i) : ∀ j ∈ half X, fo j = outV y j := by
  intro j hj
  have hX := (Finset.mem_filter.mp hj).2
  unfold outV
  rw [hX, ← h]
  have hl : (j 0).val < 4096 := (j 0).isLt
  refine congrArg fo (funext fun a => Fin.ext ?_)
  symm
  refine (ov_emb (rowOff X _) (rowOff_inb X _) _ a).trans ?_
  match a with
  | ⟨0, _⟩ =>
    show (bif X then 2048 else 0) + (j 0).val % 2048 / 64 * 64 + (j 0).val % 64 = (j 0).val
    cases X
    · have := of_decide_eq_false hX; simp only [cond_false]; omega
    · have := of_decide_eq_true hX; simp only [cond_true]; omega
  | ⟨1, _⟩ => show 0 + (j 1).val = (j 1).val; omega

theorem outP_all (X : Bool) (fo : Whole F) (h : OutP y c X 62 fo) (i : Fin 32) : chunk fo X i = tot y X i := by
  obtain ⟨h1, h2⟩ := h
  have h2 := h2 (by decide)
  have hs : ∀ (X : Bool) (p i : Fin 32), ∃ t : Fin 32, sh X p t.val = i := by decide +kernel
  obtain ⟨t, rfl⟩ := hs X (posT c) i
  rcases Nat.lt_or_ge t.val 31 with ht | ht
  · exact h1 t.val ht
  · have := t.isLt; rw [show t.val = 31 from by omega]; exact h2

theorem out_split : anyB F c main_v30 ⊢ (iprop(Out c (fun _ : Whole F => True) false ∗ Out c (fun _ : Whole F => True) true) : sProp 𝕄) := by
  iintro ⟨%f, H⟩
  ihave H' := (Entails.of_eq (congrArg (fun S => (oM.view.loc (c : Thread nD τ) ↦[S]{fullShare} f : sProp 𝕄)) half_union.symm)) $$ H
  ihave H'' := (pointsTo_union half_disj).1 $$ H'
  icases H'' with ⟨H0, H1⟩
  unfold Out
  isplitl [H0]
  · iexists f; isplitr
    · ipureintro; trivial
    iexact H0
  · iexists f; isplitr
    · ipureintro; trivial
    iexact H1
theorem out_join : iprop(Out c (OutP y c false 62) false ∗ Out c (OutP y c true 62) true)
    ⊢ ((c : Thread nD τ).loc main_v30 ↦{fullShare} (outV y : Buf (Elt F) ((c : Thread nD τ).loc main_v30)) : sProp 𝕄) := by
  unfold Out
  iintro ⟨⟨%f, %hf, H0⟩, ⟨%g, %hg, H1⟩⟩
  ihave H0' := (Entails.of_eq (pointsTo_congr (ℓ := oM.view.loc (c : Thread nD τ)) (q := fullShare) (out_half y false f fun i => outP_all y c false f hf i))) $$ H0
  ihave H1' := (Entails.of_eq (pointsTo_congr (ℓ := oM.view.loc (c : Thread nD τ)) (q := fullShare) (out_half y true g fun i => outP_all y c true g hg i))) $$ H1
  ihave H := (pointsTo_union (ℓ := oM.view.loc (c : Thread nD τ)) (q := fullShare) (f := outV y) half_disj).2 $$ [H0' H1']
  · isplitl [H0']
    · iexact H0'
    · iexact H1'
  iapply (Entails.of_eq (congrArg (fun S => (oM.view.loc (c : Thread nD τ) ↦[S]{fullShare} (outV y) : sProp 𝕄)) half_union)) $$ H

abbrev yPt : sProp 𝕄 := (c : Thread nD τ).loc main_v1 ↦{fullShare} (y c : Buf (Elt F) ((c : Thread nD τ).loc main_v1))
theorem y_split : yPt y c ⊢ (iprop(Yh y false c ∗ Yh y true c) : sProp 𝕄) := by
  unfold Yh; exact (pointsTo_share (PosShare.mem_left_op_right fullShare)).1
theorem y_join : iprop(Yh y false c ∗ Yh y true c) ⊢ (yPt y c : sProp 𝕄) := by
  unfold Yh; exact (pointsTo_share (PosShare.mem_left_op_right fullShare)).2

variable (F) in
def Scr : sProp 𝕄 := iprop(anyB F c cc0_scratch0 ∗ anyB F c cc0_scratch1 ∗ anyB F c cc0_scratch2 ∗ anyB F c cc0_scratch3)
variable (F) in
def Vs : sProp 𝕄 := iprop((vL F c false 0 ∗ vL F c false 1 ∗ vT F c false) ∗ (vL F c true 0 ∗ vL F c true 1 ∗ vT F c true))

theorem any_split (M : Memref sig .tc .vmem S2x64x8192 .f32) (b : Ref sig .tc) (h : (iprop(∃ f, M.view.loc (c : Thread nD τ) ↦[M.view.set]{fullShare} f) : sProp 𝕄) = anyB F c b) :
    anyB F c b ⊢ (iprop(sAny F M 0 c ∗ sAny F M 1 c) : sProp 𝕄) := h ▸ slots_split c M
theorem any_join (M : Memref sig .tc .vmem S2x64x8192 .f32) (b : Ref sig .tc) (h : (iprop(∃ f, M.view.loc (c : Thread nD τ) ↦[M.view.set]{fullShare} f) : sProp 𝕄) = anyB F c b) :
    (iprop(sAny F M 0 c ∗ sAny F M 1 c) : sProp 𝕄) ⊢ anyB F c b := h ▸ slots_join c M
theorem w0 : (iprop(∃ f, (mS false).view.loc (c : Thread nD τ) ↦[(mS false).view.set]{fullShare} f) : sProp 𝕄) = anyB F c cc0_scratch0 := by
  simp only [Memref.view_whole, View.set_whole]
theorem w1' : (iprop(∃ f, (mR false).view.loc (c : Thread nD τ) ↦[(mR false).view.set]{fullShare} f) : sProp 𝕄) = anyB F c cc0_scratch1 := by
  simp only [Memref.view_whole, View.set_whole]
theorem w2' : (iprop(∃ f, (mS true).view.loc (c : Thread nD τ) ↦[(mS true).view.set]{fullShare} f) : sProp 𝕄) = anyB F c cc0_scratch2 := by
  simp only [Memref.view_whole, View.set_whole]
theorem w3' : (iprop(∃ f, (mR true).view.loc (c : Thread nD τ) ↦[(mR true).view.set]{fullShare} f) : sProp 𝕄) = anyB F c cc0_scratch3 := by
  simp only [Memref.view_whole, View.set_whole]

def Ghost (K : GSem nD τ sig → ℕ) (Ks : Key → ℕ) : sProp 𝕄 :=
  iprop(Ctx y K Ks ∗ StB F c ∗ (StC F c false ∗ StT F c false) ∗ (StC F c true ∗ StT F c true))

set_option maxHeartbeats 1000000 in
theorem kernel_run (Q : PUnit → sProp 𝕄) :
    iprop(Ghost y c K Ks ∗ Vs F c ∗ Scr F c ∗ yPt y c ∗ anyB F c main_v30 ∗ Ow F c (O₀ c) ∗ tPt F c)
      ⊢ iprop((iprop(semVal (cB c) 0 ∗ (EnC F c false ∗ EnC F c true) ∗ Vs F c ∗ Scr F c ∗ yPt y c
            ∗ ((c : Thread nD τ).loc main_v30 ↦{fullShare} (outV y : Buf (Elt F) ((c : Thread nD τ).loc main_v30))) ∗ Ow F c 0 ∗ tPt F c) -∗ Q ⟨⟩)
        -∗ wpK c (ap tM (Memref.isWhole_whole _) (cc0_body (F := F))) Q) := by
  rw [body_eq]
  unfold Ghost Scr
  iintro ⟨⟨#HC, HB, ⟨HCf, HTf⟩, ⟨HCt, HTt⟩⟩, HV, ⟨H0, H1, H2, H3⟩, Hy, Ho, HO, Ht⟩ Hk
  iapply (entry_run c _ Q) $$ Ht; iintro Ht
  ihave Hy := (y_split y c) $$ Hy
  icases Hy with ⟨Hyf, Hyt⟩
  ihave Ho := (out_split c) $$ Ho
  icases Ho with ⟨Hof, Hot⟩
  ihave H0 := (any_split c (mS false) cc0_scratch0 (w0 c)) $$ H0
  ihave H1 := (any_split c (mR false) cc0_scratch1 (w1' c)) $$ H1
  ihave H2 := (any_split c (mS true) cc0_scratch2 (w2' c)) $$ H2
  ihave H3 := (any_split c (mR true) cc0_scratch3 (w3' c)) $$ H3
  unfold Vs
  icases HV with ⟨⟨Vf0, Vf1, Vft⟩, ⟨Vt0, Vt1, Vtt⟩⟩
  iapply (body_run y (env c) c (env_good c) Q) $$ [HB HCf HTf HCt HTt H0 H1 H2 H3 Hyf Hyt Hof Hot HO Vf0 Vf1 Vft Vt0 Vt1 Vtt]
  · isplitr; · iexact HC
    isplitl [HB]; · iexact HB
    unfold StM
    isplitl [HCf HTf H0 H1 Hyf Hof Vf0 Vf1 Vft]
    · isplitl [HCf]; · iexact HCf
      isplitl [HTf]; · iexact HTf
      isplitl [H0]; · iexact H0
      isplitl [H1]; · iexact H1
      isplitl [Hyf]; · iexact Hyf
      isplitl [Vf0]; · iexact Vf0
      isplitl [Vf1]; · iexact Vf1
      isplitl [Vft]; · iexact Vft
      iexact Hof
    isplitr [HO]
    · isplitl [HCt]; · iexact HCt
      isplitl [HTt]; · iexact HTt
      isplitl [H2]; · iexact H2
      isplitl [H3]; · iexact H3
      isplitl [Hyt]; · iexact Hyt
      isplitl [Vt0]; · iexact Vt0
      isplitl [Vt1]; · iexact Vt1
      isplitl [Vtt]; · iexact Vtt
      iexact Hot
    iexact HO
  unfold StM
  iintro ⟨HB, ⟨HEf, H0, H1, Hyf, Vf0, Vf1, Vft, Hof⟩, ⟨HEt, H2, H3, Hyt, Vt0, Vt1, Vtt, Hot⟩, HO⟩
  iapply Hk
  isplitl [HB]; · iexact HB
  isplitl [HEf HEt]
  · isplitl [HEf]; · iexact HEf
    iexact HEt
  isplitl [Vf0 Vf1 Vft Vt0 Vt1 Vtt]
  · isplitl [Vf0 Vf1 Vft]
    · isplitl [Vf0]; · iexact Vf0
      isplitl [Vf1]; · iexact Vf1
      iexact Vft
    · isplitl [Vt0]; · iexact Vt0
      isplitl [Vt1]; · iexact Vt1
      iexact Vtt
  isplitl [H0 H1 H2 H3]
  · isplitl [H0]; · iapply (any_join c (mS false) cc0_scratch0 (w0 c)) $$ H0
    isplitl [H1]; · iapply (any_join c (mR false) cc0_scratch1 (w1' c)) $$ H1
    isplitl [H2]; · iapply (any_join c (mS true) cc0_scratch2 (w2' c)) $$ H2
    iapply (any_join c (mR true) cc0_scratch3 (w3' c)) $$ H3
  isplitl [Hyf Hyt]
  · iapply (y_join y c); isplitl [Hyf] <;> iassumption
  isplitl [Hof Hot]
  · iapply (out_join y c); isplitl [Hof] <;> iassumption
  isplitl [HO]; · iexact HO
  iexact Ht

end Cert.KernelIdeal.Ring

end
-- ==== Proof.KernelIdeal.Region.lean ====
/- The kernel's region: the counters opened at its entry, the kernel run, the counters closed at its exit. -/
module

public import proofs.«01_k».proof.Proof.KernelIdeal.Entry
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.RegionTalk

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Idealize.ShloMosaic.StableHlo
open Idealize.ShloMosaic.Pipeline (Dat BodyObligation)

variable {F : FTy → Type} [FloatOps F]
local notation "𝕄" => MT nD τ sig ℕ (Elt F) ℕ UU ℕ

variable (m : (ℓ : Loc nD τ sig) → Buf (Elt F) ℓ)

/-- The partial sums the host leaves on each device. -/
def ym (c : Dev nD) : Whole F := V1 m c main_v1

/-! ## The counters of the kernel's own -/

def osem : Fin 16 → SemLoc sig := ![
  .dma (semS false 0), .dma (semS false 1), .dma (semS true 0), .dma (semS true 1),
  .dma (semR false 0), .dma (semR false 1), .dma (semR true 0), .dma (semR true 1),
  .reg (semC false), .reg (semC true),
  .dma (semL false 0), .dma (semL false 1), .dma (semL true 0), .dma (semL true 1),
  .dma (semT false), .dma (semT true)]

variable (F) in
theorem ownSems_eq (c : Dev nD) : (Pipeline.ownSems0 osem c : sProp 𝕄) =
    iprop(semVal (cS false 0 c) 0 ∗ semVal (cS false 1 c) 0 ∗ semVal (cS true 0 c) 0 ∗ semVal (cS true 1 c) 0
      ∗ semVal (cR false 0 c) 0 ∗ semVal (cR false 1 c) 0 ∗ semVal (cR true 0 c) 0 ∗ semVal (cR true 1 c) 0
      ∗ semVal (cC false c) 0 ∗ semVal (cC true c) 0
      ∗ vL F c false 0 ∗ vL F c false 1 ∗ vL F c true 0 ∗ vL F c true 1 ∗ vT F c false ∗ vT F c true) :=
  bigSep_univ_eq_bigSepL [(0 : Fin 16), 1, 2, 3, 4, 5, 6, 7, 8, 9, 10, 11, 12, 13, 14, 15] (by decide) (by decide)
    (fun k : Fin 16 => (semVal ((c : Thread nD τ), osem k) 0 : sProp 𝕄))

variable (F) in
/-- The rights to open the ten counters of the rings. -/
def Opens (c : Dev nD) : sProp 𝕄 :=
  iprop(openTok ER (cS false 0 c) ∗ openTok ER (cS false 1 c) ∗ openTok ER (cS true 0 c) ∗ openTok ER (cS true 1 c)
    ∗ openTok ER (cR false 0 c) ∗ openTok ER (cR false 1 c) ∗ openTok ER (cR true 0 c) ∗ openTok ER (cR true 1 c)
    ∗ openTok ER (cC false c) ∗ openTok ER (cC true c))

variable (y : Dev nD → Whole F) (K : GSem nD τ sig → ℕ) (Ks : Key → ℕ)

def Invs : sProp 𝕄 :=
  iprop(bigSep cells (fun g => cellInv ER (Rd y) (K g) g) ∗ bigSep Finset.univ (fun k => slotInv ES (Ks k) k (slotOf F k)))
instance : BI.Persistent (Invs y K Ks) := by unfold Invs; infer_instance

/-- What the launch keeps for the kernel on device `c`, and what the kernel starts from. -/
def Tk (c : Dev nD) : sProp 𝕄 := iprop(∃ K Ks, Invs y K Ks ∗ StB F c ∗ Opens F c ∗ StT F c false ∗ StT F c true)
def Xk (c : Dev nD) : sProp 𝕄 := iprop((∃ K Ks, Ghost y c K Ks) ∗ Vs F c)
variable (F) in
def Yk (c : Dev nD) : sProp 𝕄 := semVal (cB c) 0

theorem open_one {c : Dev nD} {g : GSem nD τ sig} (hg : g ∈ cells) :
    iprop(Invs y K Ks ∗ openTok ER g ∗ semVal g 0) ⊢ (|={Set.univ}=> iprop(atPos ER g 0 ∅ 0 ∗ reached ER g 0) : sProp 𝕄) := by
  unfold Invs
  iintro ⟨⟨#HI, -⟩, Ho, Hv⟩
  ihave #Hg := (bigSep_elim' (Φ := fun g => (cellInv ER (Rd y) (K g) g : sProp 𝕄)) hg) $$ HI
  iapply (cell_open ER (Rd y) (g := g) (Set.mem_univ (K g)))
  isplitr; · iexact Hg
  isplitl [Ho] <;> iassumption

theorem hopen (c : Dev nD) : iprop(Tk y c ∗ Pipeline.ownSems0 osem c ∗ levAts L lv) ⊢ (|={Set.univ}=> Xk y c : sProp 𝕄) := by
  rw [ownSems_eq]
  unfold Tk Xk Opens
  iintro ⟨⟨%K, %Ks, #HI, HB, ⟨O0, O1, O2, O3, O4, O5, O6, O7, O8, O9⟩, HTf, HTt⟩, ⟨S0, S1, S2, S3, S4, S5, S6, S7, S8, S9, L0, L1, L2, L3, T0, T1⟩, #Hlev⟩
  imod (open_one y K Ks (c := c) (g := cS false 0 c) (mem_cells (by simp [cellsOf] : _ ∈ cellsOf c))) $$ [O0 S0] with ⟨A0, #R0⟩
  · isplitr; · iexact HI
    isplitl [O0] <;> iassumption
  imod (open_one y K Ks (c := c) (g := cS false 1 c) (mem_cells (by simp [cellsOf] : _ ∈ cellsOf c))) $$ [O1 S1] with ⟨A1, #R1⟩
  · isplitr; · iexact HI
    isplitl [O1] <;> iassumption
  imod (open_one y K Ks (c := c) (g := cS true 0 c) (mem_cells (by simp [cellsOf] : _ ∈ cellsOf c))) $$ [O2 S2] with ⟨A2, #R2⟩
  · isplitr; · iexact HI
    isplitl [O2] <;> iassumption
  imod (open_one y K Ks (c := c) (g := cS true 1 c) (mem_cells (by simp [cellsOf] : _ ∈ cellsOf c))) $$ [O3 S3] with ⟨A3, #R3⟩
  · isplitr; · iexact HI
    isplitl [O3] <;> iassumption
  imod (open_one y K Ks (c := c) (g := cR false 0 c) (mem_cells (by simp [cellsOf] : _ ∈ cellsOf c))) $$ [O4 S4] with ⟨A4, #R4⟩
  · isplitr; · iexact HI
    isplitl [O4] <;> iassumption
  imod (open_one y K Ks (c := c) (g := cR false 1 c) (mem_cells (by simp [cellsOf] : _ ∈ cellsOf c))) $$ [O5 S5] with ⟨A5, #R5⟩
  · isplitr; · iexact HI
    isplitl [O5] <;> iassumption
  imod (open_one y K Ks (c := c) (g := cR true 0 c) (mem_cells (by simp [cellsOf] : _ ∈ cellsOf c))) $$ [O6 S6] with ⟨A6, #R6⟩
  · isplitr; · iexact HI
    isplitl [O6] <;> iassumption
  imod (open_one y K Ks (c := c) (g := cR true 1 c) (mem_cells (by simp [cellsOf] : _ ∈ cellsOf c))) $$ [O7 S7] with ⟨A7, #R7⟩
  · isplitr; · iexact HI
    isplitl [O7] <;> iassumption
  imod (open_one y K Ks (c := c) (g := cC false c) (mem_cells (by simp [cellsOf] : _ ∈ cellsOf c))) $$ [O8 S8] with ⟨A8, #R8⟩
  · isplitr; · iexact HI
    isplitl [O8] <;> iassumption
  imod (open_one y K Ks (c := c) (g := cC true c) (mem_cells (by simp [cellsOf] : _ ∈ cellsOf c))) $$ [O9 S9] with ⟨A9, #R9⟩
  · isplitr; · iexact HI
    isplitl [O9] <;> iassumption
  imodintro
  isplitr [L0 L1 L2 L3 T0 T1]
  · iexists K; iexists Ks
    unfold Ghost Ctx StC Idle Invs
    icases HI with ⟨#HI1, #HI2⟩
    isplitr
    · isplitr; · iexact HI1
      isplitr; · iexact HI2
      iexact Hlev
    isplitl [HB]; · iexact HB
    isplitl [HTf A0 A1 A4 A5 A8]
    · isplitr [HTf]
      · isplitl [A0 A1]
        · isplitl [A0]
          · isplitl [A0]; · iexact A0
            iexact R0
          · isplitl [A1]; · iexact A1
            iexact R1
        isplitl [A4 A5]
        · isplitl [A4]
          · isplitl [A4]; · iexact A4
            iexact R4
          · isplitl [A5]; · iexact A5
            iexact R5
        isplitl [A8]; · iexact A8
        iexact R8
      · iexact HTf
    · isplitr [HTt]
      · isplitl [A2 A3]
        · isplitl [A2]
          · isplitl [A2]; · iexact A2
            iexact R2
          · isplitl [A3]; · iexact A3
            iexact R3
        isplitl [A6 A7]
        · isplitl [A6]
          · isplitl [A6]; · iexact A6
            iexact R6
          · isplitl [A7]; · iexact A7
            iexact R7
        isplitl [A9]; · iexact A9
        iexact R9
      · iexact HTt
  unfold Vs
  isplitl [L0 L1 T0]
  · isplitl [L0]; · iexact L0
    isplitl [L1]; · iexact L1
    iexact T0
  · isplitl [L2]; · iexact L2
    isplitl [L3]; · iexact L3
    iexact T1

theorem sems_back (c : Dev nD) : iprop((EnC F c false ∗ EnC F c true) ∗ Vs F c) ⊢ (Pipeline.ownSems0 osem c : sProp 𝕄) := by
  rw [ownSems_eq]
  unfold EnC Vs
  iintro ⟨⟨⟨⟨S0, S1⟩, ⟨S4, S5⟩, S8⟩, ⟨⟨S2, S3⟩, ⟨S6, S7⟩, S9⟩⟩, ⟨⟨L0, L1, T0⟩, ⟨L2, L3, T1⟩⟩⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [L0]; · iexact L0
  isplitl [L1]; · iexact L1
  isplitl [L2]; · iexact L2
  isplitl [L3]; · iexact L3
  isplitl [T0]; · iexact T0
  iexact T1

/-! ## The proof data -/

variable (F) in
abbrev Pg (c : Dev nD) : sProp 𝕄 := iprop(∃ r, prngReg c r)
abbrev oPt (c : Dev nD) : sProp 𝕄 := (c : Thread nD τ).loc main_v30 ↦{fullShare} (outV y : Buf (Elt F) ((c : Thread nD τ).loc main_v30))
def Phi0 (c : Dev nD) : sProp 𝕄 := iprop(Xk y c ∗ Scr F c ∗ yPt y c ∗ anyB F c main_v30 ∗ Pg F c)
def Phi1 (c : Dev nD) : sProp 𝕄 := iprop(Yk F c ∗ (EnC F c false ∗ EnC F c true) ∗ Vs F c ∗ Scr F c ∗ yPt y c ∗ oPt y c ∗ Pg F c)

def phiAt (c : Dev nD) : ℕ → sProp 𝕄
  | 0 => Phi0 (ym m) c
  | _ + 1 => Phi1 (ym m) c
def owedAt (c : Dev nD) : ℕ → CellTallies nD τ sig ℕ
  | 0 => O₀ c
  | _ + 1 => 0

def dat (c : Dev nD) : Dat τ (Elt F) ℕ ℕ UU ℕ cfg0 c where
  A w := V1 m c (Proc.devRef .tc (Pipeline.arrRef spec0 w))
  after w _ := match w with
    | ⟨0, _⟩ => words c
  Φ t := phiAt m c t.val
  q _ := fullShare
  owed t := owedAt c t.val

def pdats : (p : Fin 1) → (c : Dev nD) → Dat τ (Elt F) ℕ ℕ UU ℕ (Pipeline.pin (pcfgs (F := F)) adm p) c
  | 0 => dat m

theorem owes_intro (c : Dev nD) (t : Fin (cfg0.N + 1)) (O : CellTallies nD τ sig ℕ) (h0 : (dat m c).owed t = O) :
    Ow F c O ⊢ ((dat m c).owesAt 0 t : sProp 𝕄) := by
  unfold Ow Dat.owesAt Pipeline.owesWithin Dat.bound; rw [h0]
  iintro ⟨%W, HO⟩; iexists W; isplitr; · ipureintro; exact fun _ _ => Or.inl trivial
  iexact HO
theorem owes_elim (c : Dev nD) (t : Fin (cfg0.N + 1)) (O : CellTallies nD τ sig ℕ) (h0 : (dat m c).owed t = O) :
    ((dat m c).owesAt 0 t : sProp 𝕄) ⊢ Ow F c O := by
  unfold Ow Dat.owesAt Pipeline.owesWithin; rw [h0]
  iintro ⟨%W, -, HO⟩; iexists W; iexact HO

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem blk_eq (f : IVec S3 32) : (win0_0.blk (0 : Fin 1)).view.read (Elt F) f = f := by
  funext i
  refine congrArg f (funext fun a => Fin.ext ?_)
  fin_cases a
  show 0 + 1 * (i 0).val = (i 0).val
  omega

theorem owed_first (c : Dev nD) : (dat m c).owed t0_0.castSucc = O₀ c := rfl
theorem owed_last (c : Dev nD) : (dat m c).owed t0_0.succ = 0 := rfl

theorem before_eq (c : Dev nD) (d) : (dat m c).before (0 : Fin 1) t0_0 d = words c := by
  unfold Dat.before; rw [if_pos (fetch0_0 t0_0)]
  unfold Dat.fetched
  exact (blk_eq (F := F) (V1 m c main_v29)).trans (scal_eq m c)

theorem st_eq : ∀ s : Fin 1, (win0_0.stage s) = tM := fun s => by obtain rfl : s = 0 := Subsingleton.elim _ _; rfl
theorem call_eq (s : (w : Fin cfg0.W) → Fin (cfg0.win w).nbuf) :
    defs₀ (F := F) .tc cfg0.body (cfg0.bodyArgs t0_0 s) = ap tM (Memref.isWhole_whole _) (cc0_body (F := F)) := by
  have h : ∀ (A0 : Memref sig .tc .smem S3 .i32) (h0 : A0.IsWhole), win0_0.stage (s 0) = A0 →
      defs₀ (F := F) .tc cfg0.body (cfg0.bodyArgs t0_0 s) = ap A0 h0 (cc0_body (F := F)) := fun A0 h0 e => by subst e; rfl
  exact h tM _ (st_eq (s 0))

set_option maxRecDepth 20000 in
theorem body_ob (c : Dev nD) : BodyObligation (dat m c) (defs₀ (F := F)) 𝒱₀ 0 Set.univ := fun t => by
  obtain rfl := fin_N0 t
  rw [bigSep_W0, bigSep_W0]
  rw [show (dat m c).Φ t0_0.castSucc = Phi0 (ym m) c from rfl, show (dat m c).Φ t0_0.succ = Phi1 (ym m) c from rfl]
  rw [call_eq]
  have hi : cfg0.idle (0 : Fin 1) (cfg0.grid.coords t0_0) = false := rfl
  rw [hi]
  dsimp only
  rw [show (dat m c).after (0 : Fin 1) t0_0 = words c from rfl, show stage0_0 0 = tM from rfl]
  simp only [before_eq, owns_whole]
  unfold Phi0 Xk
  iintro ⟨⟨⟨⟨%K, %Ks, HG⟩, HV⟩, HS, Hy, Ho, Hp⟩, HO, ⟨%d, %f, %hf, Ht⟩⟩
  subst hf
  ihave HO' := (owes_elim m c _ (O₀ c) (owed_first m c)) $$ HO
  iapply (kernel_run (K := K) (Ks := Ks) (ym m) c _) $$ [HG HV HS Hy Ho HO' Ht]
  · isplitl [HG]; · iexact HG
    isplitl [HV]; · iexact HV
    isplitl [HS]; · iexact HS
    isplitl [Hy]; · iexact Hy
    isplitl [Ho]; · iexact Ho
    isplitl [HO']; · iexact HO'
    iexact Ht
  iintro ⟨HB, HE, HV, HS, Hy, Ho, HO, Ht⟩
  isplitr [HO Ht]
  · unfold Phi1 Yk
    isplitl [HB]; · iexact HB
    isplitl [HE]; · iexact HE
    isplitl [HV]; · iexact HV
    isplitl [HS]; · iexact HS
    isplitl [Hy]; · iexact Hy
    isplitl [Ho]; · iexact Ho
    iexact Hp
  isplitl [HO]
  · iapply (owes_intro m c _ 0 (owed_last m c)) $$ HO
  iexists _; isplitr; rotate_left
  · iexact Ht
  · ipureintro; rfl

/-! ## The region -/

/-- What the kernel leaves, as the host sees it. -/
def outs : Outs (F := F) := fun _ r c => Function.update (V1 m c) (Proc.devRef .tc main_v30) (outV (ym m) : Whole F) r

def Hs : Finset (DevRef τ sig) := {Proc.devRef .tc main_v1, Proc.devRef .tc main_v30}
def Sr : Finset (DevRef τ sig) := Pipeline.ucRefs τ sig \ Pipeline.arrRefs (τ := τ) spec0

theorem v2_v30 (c : Dev nD) : V2 m (outs m) c main_v30 = outV (ym m) := by
  unfold V2 outs
  rw [Function.update_self, Function.update_self]
theorem v2_v1 (c : Dev nD) : V2 m (outs m) c main_v1 = ym m c := by
  unfold V2 outs
  rw [Function.update_of_ne (by decide), Function.update_self, Function.update_of_ne (by decide)]; rfl
theorem v2_of (c : Dev nD) (b : DevRef τ sig) (h1 : b ≠ Proc.devRef .tc main_v1) (h2 : b ≠ Proc.devRef .tc main_v30) : V2 m (outs m) c b = V1 m c b := by
  unfold V2
  rw [Function.update_of_ne h2, Function.update_of_ne h1]

theorem held_Hs (c : Dev nD) (W : Valuation τ sig (Elt F)) : (StableHlo.held (c : Thread nD τ) Hs W : sProp 𝕄)
    = iprop(((c : Thread nD τ).loc main_v1 ↦{fullShare} (W main_v1 : Buf (Elt F) ((c : Thread nD τ).loc main_v1)))
      ∗ ((c : Thread nD τ).loc main_v30 ↦{fullShare} (W main_v30 : Buf (Elt F) ((c : Thread nD τ).loc main_v30)))) := by
  unfold StableHlo.held
  rw [bigSep_eq_bigSepL_of_eq [Proc.devRef .tc main_v1, Proc.devRef .tc main_v30] (by decide) (by decide)]
  rfl

theorem hin (c : Dev nD) : iprop(Pipeline.scopedRest (Pipeline.pin (pcfgs (F := F)) adm 0).spec c ∗ (∃ r, prngReg c r) ∗ StableHlo.held (c.tc : Thread nD τ) Hs (V1 m c) ∗ Xk (ym m) c)
    ⊢ (pdats m 0 c).Φ 0 := by
  rw [show (pdats m 0 c).Φ 0 = Phi0 (ym m) c from rfl, scopedRest0_eq, held_Hs]
  unfold Phi0 Scr
  iintro ⟨HS, Hp, ⟨Hy, Ho⟩, HX⟩
  isplitl [HX]; · iexact HX
  isplitl [HS]; · iexact HS
  isplitl [Hy]; · iexact Hy
  isplitl [Ho]; · iexists _; iexact Ho
  iexact Hp

theorem phi_last (c : Dev nD) : (pdats m 0 c).Φ (Fin.last (Pipeline.pin (pcfgs (F := F)) adm 0).N) = Phi1 (ym m) c := by
  show phiAt m c (Fin.last cfg0.N).val = _
  rw [Fin.val_last, show cfg0.N = 1 from N_0]; rfl
theorem owed_end0 (c : Dev nD) : (pdats m 0 c).owed (Fin.last _) = 0 := by
  show owedAt c (Fin.last cfg0.N).val = 0
  rw [Fin.val_last, show cfg0.N = 1 from N_0]; rfl

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V2 m (outs m) c) ∗ Pipeline.ownSems0 osem c ∗ Yk F c) := by
  rw [phi_last, scopedRest0_eq, held_Hs, v2_v30, v2_v1]
  unfold Phi1 Scr
  iintro ⟨HB, HE, HV, HS, Hy, Ho, Hp⟩
  isplitl [HS]; · iexact HS
  isplitl [Hp]; · iexact Hp
  isplitl [Hy Ho]
  · isplitl [Hy]; · iexact Hy
    iexact Ho
  isplitr [HB]
  · iapply (sems_back c); isplitl [HE] <;> iassumption
  iexact HB

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share0 (c : Dev nD) (w) : (pdats m 0 c).share w = fullShare := by unfold Dat.share; split <;> rfl

theorem uc_mem (b : Ref sig .tc) (h : b.isScoped = false) : (Proc.devRef .tc b : DevRef τ sig) ∈ Pipeline.ucRefs τ sig :=
  Finset.mem_filter.mpr ⟨StableHlo.devRef_mem_tcRefs b, by rw [show (Proc.devRef .tc b : DevRef τ sig).isScoped = b.isScoped from rfl, h]; decide⟩
theorem arr_eq : Pipeline.arrRefs (τ := τ) spec0 = {Proc.devRef .tc main_v29} := by decide
theorem Hs_sub : Hs ⊆ Sr := by
  intro b hb
  unfold Sr
  rw [arr_eq]
  rcases Finset.mem_insert.mp hb with rfl | hb
  · exact Finset.mem_sdiff.mpr ⟨uc_mem main_v1 (by decide), by decide⟩
  · rw [Finset.mem_singleton.mp hb]
    exact Finset.mem_sdiff.mpr ⟨uc_mem main_v30 (by decide), by decide⟩

theorem cut0 : Pipeline.LevelCutOwed (pcfgs (F := F)) adm (pdats m) 0 L lv 0 (fun _ => 0) where
  hι c w s := by rw [L_tc]; decide
  hιb c w s := by
    have : role (.dma (((Pipeline.pin (pcfgs (F := F)) adm 0).win w).sem s)) = .other := by
      obtain rfl : w = (0 : Fin 1) := Subsingleton.elim _ _
      exact (by decide : ∀ s : Fin (win0_0.nbuf), role (.dma (win0_0.sem s)) = .other) s
    dsimp only [lv]; rw [this]
  hD c t g i h := by
    have h : 0 < owedAt c t.val g i := h
    match hn : t.val with
    | 0 => rw [hn] at h; exact above_O₀ c g i h
    | _ + 1 => rw [hn] at h; exact absurd h (Nat.lt_irrefl 0)

theorem arr_in (c : Dev nD) (w) (k : ℕ) : (pdats m 0 c).arrAt w k = V1 m c (Proc.devRef .tc (Pipeline.arrRef spec0 w)) := by
  obtain rfl : w = (0 : Fin 1) := Subsingleton.elim _ _
  exact (dat m c).arrAt_in (0 : Fin 1) rfl k

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    Hs Sr Hs_sub kit0 rfl (fun c => (body_ob m c).loose)
    (fun _ => 0) O₀ (fun c => (rfl : (pdats m 0 c).owed 0 = O₀ c).trans (zero_add _).symm) (owed_end0 m) (fun _ => rfl) (share0 m)
    (V1 m) (V2 m (outs m))
    (fun c b hb => v2_of m c b (fun h => (Finset.mem_sdiff.mp hb).2 (by rw [h]; decide)) (fun h => (Finset.mem_sdiff.mp hb).2 (by rw [h]; decide)))
    (Tk (ym m)) (Yk F) (Xk (ym m)) (Yk F) (hopen (ym m)) (hin m) (hout m)
    (fun c => by iintro H; imodintro; iexact H)
    (fun _ => 0) (cut0 m)
    (fun _ => iprop(emp))
    (fun c w => arr_in m c w 0)
    (fun c w => (arr_in m c w _).trans (by
      obtain rfl : w = (0 : Fin 1) := Subsingleton.elim _ _
      exact (v2_of m c _ (by decide) (by decide)).symm))

/-! ## The region between the host's stretches -/

/-- What rides beside the buffers up to the kernel, and what is left after. -/
def E0 (c : Dev nD) : sProp 𝕄 := iprop(Pg F c ∗ Tk (ym m) c ∗ Ow F c (O₀ c))
variable (F) in
def E1 (c : Dev nD) : sProp 𝕄 := iprop(Yk F c ∗ Ow F c 0)

theorem arr_sub : Pipeline.arrRefs (τ := τ) spec0 ⊆ Pipeline.ucRefs τ sig := by
  rw [arr_eq]; exact Finset.singleton_subset_iff.mpr (uc_mem main_v29 (by decide))

theorem reg0_pre (c : Dev nD) : iprop(StableHlo.held (c : Thread nD τ) (Pipeline.ucRefs τ sig) (V1 m c) ∗ E0 m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk (ym m) c ∗ ∃ Wd, owes (c : Thread nD τ) (0 + O₀ c) Wd)
  rw [StableHlo.held_sub_split (c.tc : Thread nD τ) arr_sub (V1 m c), zero_add]
  unfold E0 Ow Sr
  iintro ⟨⟨Ha, Hh⟩, Hp, HT, HO⟩
  isplitl [Ha]; · iexact Ha
  isplitl [Hp]; · iexact Hp
  isplitl [Hh]
  · isplitl [Hh]; · iexact Hh
    iempintro
  isplitl [HT]; · iexact HT
  iexact HO

theorem reg0_post (c : Dev nD) : (reg0 m).post c ⊢ iprop(StableHlo.held (c : Thread nD τ) (Pipeline.ucRefs τ sig) (V2 m (outs m) c) ∗ E1 F c) := by
  show iprop(StableHlo.held (c.tc : Thread nD τ) (Pipeline.arrRefs (τ := τ) spec0) (V2 m (outs m) c) ∗ (∃ r, prngReg c r)
    ∗ (StableHlo.held (c.tc : Thread nD τ) Sr (V2 m (outs m) c) ∗ emp) ∗ Yk F c ∗ ∃ Wd, owes (c : Thread nD τ) (0 : CellTallies nD τ sig ℕ) Wd) ⊢ _
  rw [StableHlo.held_sub_split (c.tc : Thread nD τ) arr_sub (V2 m (outs m) c)]
  unfold E1 Ow Sr
  iintro ⟨Ha, -, ⟨Hh, -⟩, HB, HO⟩
  isplitl [Ha Hh]
  · isplitl [Ha]; · iexact Ha
    iexact Hh
  isplitl [HB]; · iexact HB
  iexact HO

end Cert.KernelIdeal.Ring

end
-- ==== Proof.KernelIdeal.Launch.lean ====
/- What every device holds when the program starts: the tokens, the slots and the credits dealt out, and the run of the whole program. -/
module

public import proofs.«01_k».proof.Proof.KernelIdeal.Region
public import Idealize.ShloMosaic.Lib.StableHlo.RunHlo
public import proofs.«01_k».proof.Proof.Gen.KernelIdeal.Regions

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Idealize.ShloMosaic.StableHlo
open Idealize.ShloMosaic.Pipeline (Dat BodyObligation Seg)

variable {F : FTy → Type} [FloatOps F]
local notation "𝕄" => MT nD τ sig ℕ (Elt F) ℕ UU ℕ

/-! ## Families over devices, rings and hops -/

theorem bigSep_prod' {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product]; rfl
  | insert a s ha ih =>
    have hd : Disjoint (({a} : Finset I) ×ˢ t) (s ×ˢ t) := Finset.disjoint_product.mpr (.inl (Finset.disjoint_singleton_left.mpr ha))
    rw [bigSep_insert' ha, Finset.insert_eq, Finset.union_product, bigSep_union' hd, ih, Finset.singleton_product, bigSep_map]
    rfl

theorem bigSep_bool (Φ : Bool → sProp 𝕄) : bigSep Finset.univ Φ = iprop(Φ false ∗ Φ true) := by
  rw [show (Finset.univ : Finset Bool) = insert false {true} from by decide, bigSep_insert' (by decide), bigSep_singleton]

omit [FloatOps F] in
theorem ent {M : Type} [URA M] {P Q : sProp M} (h : P ⊢ Q) : Idealize.SL.BI.Entails P Q := h
theorem fin2 (Φ : Fin 2 → sProp 𝕄) : bigSep Finset.univ Φ = iprop(Φ 0 ∗ Φ 1) := BI.bigSep_fin_two Φ

theorem bigSep_pair {I : Type} [DecidableEq I] {s : Finset I} {Φ Ψ : I → sProp 𝕄} :
    iprop(bigSep s Φ ∗ bigSep s Ψ) ⊢ bigSep s fun i => iprop(Φ i ∗ Ψ i) := Entails.of_eq (bigSep_sep' s Φ Ψ).symm
theorem bigSep_unpair {I : Type} [DecidableEq I] {s : Finset I} {Φ Ψ : I → sProp 𝕄} :
    bigSep s (fun i => iprop(Φ i ∗ Ψ i)) ⊢ iprop(bigSep s Φ ∗ bigSep s Ψ) := Entails.of_eq (bigSep_sep' s Φ Ψ)

theorem sassoc (A B C : sProp 𝕄) : iprop((A ∗ B) ∗ C) = iprop(A ∗ B ∗ C) :=
  BI.equiv_iff.mp ⟨ent (by
    iintro ⟨⟨HA, HB⟩, HC⟩
    isplitl [HA]; · iexact HA
    isplitl [HB] <;> iassumption), ent (by
    iintro ⟨HA, HB, HC⟩
    isplitr [HC]
    · isplitl [HA] <;> iassumption
    · iexact HC)⟩

def eqD (X : Bool) : Dev nD ≃ Dev nD := ⟨dnD X, upD X, up_dn X, dn_up X⟩
def eqU (X : Bool) : Dev nD ≃ Dev nD := ⟨upD X, dnD X, dn_up X, up_dn X⟩
theorem rot_dn (X : Bool) (Φ : Dev nD → sProp 𝕄) : bigSep Finset.univ (fun c => Φ (dnD X c)) = bigSep Finset.univ Φ :=
  (bigSep_univ_equiv (eqD X) Φ).symm
theorem rot_up (X : Bool) (Φ : Dev nD → sProp 𝕄) : bigSep Finset.univ (fun c => Φ (upD X c)) = bigSep Finset.univ Φ :=
  (bigSep_univ_equiv (eqU X) Φ).symm

theorem range_top (k : ℕ) (A : ℕ → sProp 𝕄) : bigSep (Finset.range (k + 1)) A = iprop(A k ∗ bigSep (Finset.range k) A) := by
  rw [Finset.range_add_one, bigSep_insert' Finset.notMem_range_self]

/-- The hops, even and odd. -/
theorem two_slots (Φ : Fin 2 → ℕ → sProp 𝕄) (n k : ℕ) (hk : k = 2 * n) :
    bigSep (Finset.Ico 0 k) (fun h => Φ (cur h) (h / 2)) = iprop(bigSep (Finset.range n) (Φ 0) ∗ bigSep (Finset.range n) (Φ 1)) := by
  subst hk
  rw [← Finset.range_eq_Ico]
  induction n with
  | zero =>
    rw [Nat.mul_zero, Finset.range_zero, BI.bigSep_empty, BI.bigSep_empty, BI.bigSep_empty]
    exact (BI.equiv_iff.mp sep_emp).symm
  | succ n ih =>
    rw [show 2 * (n + 1) = 2 * n + 1 + 1 from rfl, range_top, range_top, ih,
      range_top, range_top, show (2 * n + 1) / 2 = n by omega, show 2 * n / 2 = n by omega,
      show cur (2 * n) = 0 from Fin.ext (by show (2 * n) % 2 = 0; omega), show cur (2 * n + 1) = 1 from Fin.ext (by show (2 * n + 1) % 2 = 1; omega)]
    exact BI.equiv_iff.mp ⟨ent (by
      iintro ⟨H1, H0, G0, G1⟩
      isplitl [H0 G0]
      · isplitl [H0] <;> iassumption
      isplitl [H1] <;> iassumption), ent (by
      iintro ⟨⟨H0, G0⟩, H1, G1⟩
      isplitl [H1]; · iexact H1
      isplitl [H0]; · iexact H0
      isplitl [G0] <;> iassumption)⟩

theorem cur_inj {a b : ℕ} (h : cur a = cur b) (h' : a / 2 = b / 2) : a = b := by
  have := congrArg Fin.val h
  change a % 2 = b % 2 at this
  omega

/-! ## The tokens of the signals -/

abbrev Tag : Type := GSem nD τ sig × ℕ × ℕ
abbrev Hop : Type := Dev nD × Bool × ℕ
abbrev hopSet : Finset Hop := Finset.univ ×ˢ (Finset.univ ×ˢ Finset.Ico 0 62)

theorem dev_of {a b : Tag} (h : a = b) : a.1.1.1 = b.1.1.1 := by rw [h]
theorem role_of {a b : Tag} (h : a = b) : role a.1.2 = role b.1.2 := by rw [h]
theorem rnd_of {a b : Tag} (h : a = b) : a.2.1 = b.2.1 := by rw [h]
theorem dty_of {a b : Tag} (h : a = b) : a.2.2 = b.2.2 := by rw [h]

def tS : Hop ↪ Tag := ⟨fun x => (cS x.2.1 (cur x.2.2) x.1, x.2.2 / 2, 0), fun x x' h => by
  obtain ⟨c, X, k⟩ := x; obtain ⟨c', X', k'⟩ := x'
  have h1 := dev_of h; have h2 := role_of h; have h3 := rnd_of h
  dsimp only at h1 h2 h3
  rw [role_S, role_S] at h2
  injection h2 with h2 h4
  obtain rfl := h1; obtain rfl := h2; obtain rfl := cur_inj h4 h3; rfl⟩
def tR : Hop ↪ Tag := ⟨fun x => (cR x.2.1 (cur x.2.2) (dnD x.2.1 x.1), x.2.2 / 2, 0), fun x x' h => by
  obtain ⟨c, X, k⟩ := x; obtain ⟨c', X', k'⟩ := x'
  have h1 := dev_of h; have h2 := role_of h; have h3 := rnd_of h
  dsimp only at h1 h2 h3
  rw [role_R, role_R] at h2
  injection h2 with h2 h4
  obtain rfl := h2; obtain rfl := dn_inj _ h1; obtain rfl := cur_inj h4 h3; rfl⟩
def tC : Hop ↪ Tag := ⟨fun x => (cC x.2.1 (upD x.2.1 x.1), 0, x.2.2), fun x x' h => by
  obtain ⟨c, X, k⟩ := x; obtain ⟨c', X', k'⟩ := x'
  have h1 := dev_of h; have h2 := role_of h; have h3 := dty_of h
  dsimp only at h1 h2 h3
  rw [role_C, role_C] at h2
  injection h2 with h2
  obtain rfl := h2; obtain rfl := up_inj _ h1; obtain rfl := h3; rfl⟩
def tB : Dev nD × Bool ↪ Tag := ⟨fun x => (cB (dnD x.2 x.1), 0, bif x.2 then 0 else 1), fun x x' h => by
  obtain ⟨c, X⟩ := x; obtain ⟨c', X'⟩ := x'
  have h1 := dev_of h; have h3 := dty_of h
  dsimp only at h1 h3
  have h2 : X = X' := by revert h3; cases X <;> cases X' <;> decide
  obtain rfl := h2; obtain rfl := dn_inj _ h1; rfl⟩

def toks : Finset Tag := hopSet.map tS ∪ (hopSet.map tR ∪ (hopSet.map tC ∪ Finset.univ.map tB))

theorem apart {A B : Finset Tag} (hA : ∀ a ∈ A, ∀ b ∈ B, role a.1.2 ≠ role b.1.2) : Disjoint A B := by
  rw [Finset.disjoint_left]; exact fun a ha hb => hA a ha a hb rfl
theorem rl_S {a : Tag} (h : a ∈ hopSet.map tS) : ∃ X s, role a.1.2 = .send X s := by
  obtain ⟨x, -, rfl⟩ := Finset.mem_map.mp h; exact ⟨_, _, role_S _ _⟩
theorem rl_R {a : Tag} (h : a ∈ hopSet.map tR) : ∃ X s, role a.1.2 = .recv X s := by
  obtain ⟨x, -, rfl⟩ := Finset.mem_map.mp h; exact ⟨_, _, role_R _ _⟩
theorem rl_C {a : Tag} (h : a ∈ hopSet.map tC) : ∃ X, role a.1.2 = .cred X := by
  obtain ⟨x, -, rfl⟩ := Finset.mem_map.mp h; exact ⟨_, role_C _⟩
theorem rl_B {a : Tag} (h : a ∈ Finset.univ.map tB) : role a.1.2 = .bar := by
  obtain ⟨x, -, rfl⟩ := Finset.mem_map.mp h; exact role_B
theorem apart_S : Disjoint (hopSet.map tS) (hopSet.map tR ∪ (hopSet.map tC ∪ Finset.univ.map tB)) := apart fun a ha b hb => by
  obtain ⟨X, s, h⟩ := rl_S ha
  rw [h]
  rcases Finset.mem_union.mp hb with hb | hb
  · obtain ⟨X', s', h'⟩ := rl_R hb; rw [h']; exact fun e => by cases e
  rcases Finset.mem_union.mp hb with hb | hb
  · obtain ⟨X', h'⟩ := rl_C hb; rw [h']; exact fun e => by cases e
  · rw [rl_B hb]; exact fun e => by cases e
theorem apart_R : Disjoint (hopSet.map tR) (hopSet.map tC ∪ Finset.univ.map tB) := apart fun a ha b hb => by
  obtain ⟨X, s, h⟩ := rl_R ha
  rw [h]
  rcases Finset.mem_union.mp hb with hb | hb
  · obtain ⟨X', h'⟩ := rl_C hb; rw [h']; exact fun e => by cases e
  · rw [rl_B hb]; exact fun e => by cases e
theorem apart_C : Disjoint (hopSet.map tC) (Finset.univ.map tB) := apart fun a ha b hb => by
  obtain ⟨X, h⟩ := rl_C ha
  rw [h, rl_B hb]; exact fun e => by cases e

section Deal
variable (F)
def dS (c : Dev nD) (X : Bool) : sProp 𝕄 := bigSep (Finset.Ico 0 62) fun h => dutyTok ER (cS X (cur h) c) (h / 2) 0
def dR (c : Dev nD) (X : Bool) : sProp 𝕄 := bigSep (Finset.Ico 0 62) fun h => dutyTok ER (cR X (cur h) (dnD X c)) (h / 2) 0
def dC (c : Dev nD) (X : Bool) : sProp 𝕄 := bigSep (Finset.Ico 0 62) fun h => dutyTok ER (cC X (upD X c)) 0 h
def dB (c : Dev nD) (X : Bool) : sProp 𝕄 := dutyTok ER (cB (dnD X c)) 0 (bif X then 0 else 1)
def dW (c : Dev nD) (X : Bool) : sProp 𝕄 := bigSep (Finset.Ico 0 62) fun h => writeTok ES ((dnD X c, X, cur h) : Key) (h / 2 + 1)
def dL (c : Dev nD) (X : Bool) : sProp 𝕄 :=
  iprop((readerAt ES ((c, X, 0) : Key) 0 ∗ readerAt ES ((c, X, 1) : Key) 0) ∗ (writeTok ES ((c, X, 0) : Key) 32 ∗ writeTok ES ((c, X, 1) : Key) 32))
def eR (c : Dev nD) (X : Bool) : sProp 𝕄 := bigSep (Finset.Ico 0 62) fun h => cred (tallyAt (cR X (cur h) c) h NN)
def eC (c : Dev nD) (X : Bool) : sProp 𝕄 := bigSep (Finset.Ico 0 62) fun d => cred (tallyAt (cC X c) d 1)

theorem bigSep_two (Φ : Dev nD → Bool → sProp 𝕄) :
    bigSep Finset.univ (fun c => bigSep Finset.univ fun X => Φ c X) = bigSep Finset.univ fun c => iprop(Φ c false ∗ Φ c true) := by
  exact bigSep_congr fun c _ => bigSep_bool _

theorem toks_eq : bigSep toks (fun x => (dutyTok ER x.1 x.2.1 x.2.2 : sProp 𝕄))
    = iprop(bigSep Finset.univ (fun c => iprop(dS F c false ∗ dS F c true)) ∗ bigSep Finset.univ (fun c => iprop(dR F c false ∗ dR F c true))
      ∗ bigSep Finset.univ (fun c => iprop(dC F c false ∗ dC F c true)) ∗ bigSep Finset.univ (fun c => iprop(dB F c false ∗ dB F c true))) := by
  unfold toks
  rw [bigSep_union' apart_S, bigSep_union' apart_R, bigSep_union' apart_C, bigSep_map, bigSep_map, bigSep_map, bigSep_map,
    bigSep_prod', bigSep_prod', bigSep_prod', bigSep_univ_prod, ← bigSep_two F (dS F), ← bigSep_two F (dR F), ← bigSep_two F (dC F), ← bigSep_two F (dB F)]
  congr 1
  · exact bigSep_congr fun c _ => by rw [bigSep_prod']; rfl
  congr 1
  · exact bigSep_congr fun c _ => by rw [bigSep_prod']; rfl
  congr 1
  exact bigSep_congr fun c _ => by rw [bigSep_prod']; rfl

/-- The slots: what each reader keeps, and what its writer gets. -/
theorem slots_eq : iprop(bigSep Finset.univ (fun k : Key => (readerAt ES k 0 : sProp 𝕄))
      ∗ bigSep (Finset.univ ×ˢ Finset.range 32) (fun x : Key × ℕ => (writeTok ES x.1 (x.2 + 1) : sProp 𝕄)))
    ⊢ iprop(bigSep Finset.univ (fun c => iprop(dL F c false ∗ dL F c true)) ∗ bigSep Finset.univ (fun c => iprop(dW F c false ∗ dW F c true))) := by
  have hW (X : Bool) : bigSep Finset.univ (fun c => dW F c X)
      = bigSep Finset.univ (fun c => iprop(bigSep (Finset.range 31) (fun n => (writeTok ES ((c, X, 0) : Key) (n + 1) : sProp 𝕄))
          ∗ bigSep (Finset.range 31) (fun n => (writeTok ES ((c, X, 1) : Key) (n + 1) : sProp 𝕄)))) := by
    refine Eq.trans ?_ (rot_dn X _)
    exact bigSep_congr fun c _ => two_slots (fun s n => (writeTok ES ((dnD X c, X, s) : Key) (n + 1) : sProp 𝕄)) 31 62 rfl
  rw [bigSep_sep' Finset.univ (fun c => dW F c false), hW, hW, bigSep_prod', bigSep_univ_prod, bigSep_univ_prod, ← bigSep_sep', ← bigSep_sep', ← bigSep_sep']
  refine bigSep_mono fun c _ => ent ?_
  rw [bigSep_univ_prod, bigSep_univ_prod, bigSep_bool, bigSep_bool]
  simp only [fin2, range_top 31]
  unfold dL
  iintro ⟨⟨⟨A0, A1⟩, B0, B1⟩, ⟨⟨W0, w0⟩, W1, w1⟩, ⟨V0, v0⟩, V1, v1⟩
  isplitl [A0 A1 B0 B1 W0 W1 V0 V1]
  · isplitl [A0 A1 W0 W1]
    · isplitl [A0 A1]
      · isplitl [A0] <;> iassumption
      · isplitl [W0] <;> iassumption
    · isplitl [B0 B1]
      · isplitl [B0] <;> iassumption
      · isplitl [V0] <;> iassumption
  isplitl [w0 w1]
  · isplitl [w0] <;> iassumption
  · isplitl [v0] <;> iassumption

theorem cred_add' (S T : CellTallies nD τ sig ℕ) : (cred (S + T) : sProp 𝕄) = iprop(cred S ∗ cred T) := BI.Entails.antisymm (cred_add _ _).1 (cred_add _ _).2
theorem cred_sum' {s : Finset ℕ} (T : ℕ → CellTallies nD τ sig ℕ) : (cred (∑ i ∈ s, T i) : sProp 𝕄) = bigSep s fun i => cred (T i) := by
  induction s using Finset.induction_on with
  | empty => rw [Finset.sum_empty, cred_zero, BI.bigSep_empty]; rfl
  | insert c S hc ih => rw [Finset.sum_insert hc, bigSep_insert' hc, cred_add', ih]

/-- What every device owes is what every device waits for. -/
theorem creds_eq : bigSep Finset.univ (fun c => (cred (O₀ c) : sProp 𝕄))
    ⊢ iprop(bigSep Finset.univ (fun c => iprop(eR F c false ∗ eR F c true)) ∗ bigSep Finset.univ (fun c => iprop(eC F c false ∗ eC F c true))
      ∗ bigSep Finset.univ (fun c => (cred (tallyAt (cB c) 0 2) : sProp 𝕄))) := by
  have hR (X : Bool) : bigSep Finset.univ (fun c => bigSep (Finset.Ico 0 62) fun h => (cred (rT X c h) : sProp 𝕄)) = bigSep Finset.univ (fun c => eR F c X) :=
    rot_dn X (fun c => eR F c X)
  have hC (X : Bool) : bigSep Finset.univ (fun c => bigSep (Finset.Ico 0 62) fun h => (cred (cT X c h) : sProp 𝕄)) = bigSep Finset.univ (fun c => eC F c X) :=
    rot_up X (fun c => eC F c X)
  have hB (X : Bool) : bigSep Finset.univ (fun c => (cred (bT X c) : sProp 𝕄)) = bigSep Finset.univ (fun c => (cred (tallyAt (cB c) 0 1) : sProp 𝕄)) :=
    rot_dn X (fun c => (cred (tallyAt (cB c) 0 1) : sProp 𝕄))
  have hO (c : Dev nD) : (cred (O₀ c) : sProp 𝕄) = iprop((bigSep (Finset.Ico 0 62) (fun h => (cred (cT true c h) : sProp 𝕄))
      ∗ bigSep (Finset.Ico 0 62) (fun h => (cred (cT false c h) : sProp 𝕄)) ∗ bigSep (Finset.Ico 0 62) (fun h => (cred (rT true c h) : sProp 𝕄))
      ∗ bigSep (Finset.Ico 0 62) (fun h => (cred (rT false c h) : sProp 𝕄))) ∗ cred (bT false c) ∗ cred (bT true c)) := by
    unfold O₀ owed
    rw [cred_add', cred_add', cred_sum', ← bigSep_sep', ← bigSep_sep', ← bigSep_sep']
    rw [show (fun h => (cred (hopT c h) : sProp 𝕄)) = fun h => iprop(cred (cT true c h) ∗ cred (cT false c h) ∗ cred (rT true c h) ∗ cred (rT false c h)) from
      funext fun h => by
        unfold hopT
        rw [cred_add', cred_add', cred_add']
        rw [sassoc, sassoc], sassoc]
  rw [bigSep_congr fun c _ => hO c, bigSep_sep', bigSep_sep', bigSep_sep', bigSep_sep', bigSep_sep', hR, hR, hC, hC, hB, hB, bigSep_sep', bigSep_sep']
  iintro ⟨⟨Ct, Cf, Rt, Rf⟩, Bf, Bt⟩
  isplitl [Rt Rf]
  · isplitl [Rf] <;> iassumption
  isplitl [Ct Cf]
  · isplitl [Cf] <;> iassumption
  iapply (show iprop(bigSep Finset.univ (fun c => (cred (tallyAt (cB c) 0 1) : sProp 𝕄)) ∗ bigSep Finset.univ (fun c => (cred (tallyAt (cB c) 0 1) : sProp 𝕄)))
      ⊢ bigSep Finset.univ (fun c => (cred (tallyAt (cB c) 0 2) : sProp 𝕄)) from by
    rw [← bigSep_sep']
    exact bigSep_mono fun c _ => by rw [← cred_add', tallyAt_add]; exact BI.Entails.refl _)
  isplitl [Bf] <;> iassumption

theorem stT (c : Dev nD) (X : Bool) : iprop(dS F c X ∗ dR F c X ∗ dC F c X ∗ dW F c X ∗ dL F c X ∗ eR F c X ∗ eC F c X) ⊢ StT F c X := by
  unfold StT dS dR dC dW dL eR eC
  rw [show (Tok F c X) = fun h => iprop((dutyTok ER (cS X (cur h) c) (h / 2) 0 ∗ dutyTok ER (cR X (cur h) (dnD X c)) (h / 2) 0 ∗ writeTok ES ((dnD X c, X, cur h) : Key) (h / 2 + 1))
    ∗ cred (tallyAt (cR X (cur h) c) h NN) ∗ dutyTok ER (cC X (upD X c)) 0 h) from rfl, bigSep_sep', bigSep_sep', bigSep_sep', bigSep_sep']
  iintro ⟨S, R, C, W, ⟨L1, L2⟩, HR, HC⟩
  isplitl [S R C W HR]
  · isplitl [S R W]
    · isplitl [S]; · iexact S
      isplitl [R] <;> iassumption
    · isplitl [HR] <;> iassumption
  isplitl [HC]; · iexact HC
  isplitl [L1] <;> iassumption

end Deal

/-! ## The counters -/

def scS : Fin 10 → SemLoc sig := ![
  .dma (semS false 0), .dma (semS false 1), .dma (semS true 0), .dma (semS true 1),
  .dma (semR false 0), .dma (semR false 1), .dma (semR true 0), .dma (semR true 1),
  .reg (semC false), .reg (semC true)]
def scEmb : Dev nD × Fin 10 ↪ GSem nD τ sig :=
  ⟨fun x => ((x.1 : Thread nD τ), scS x.2), fun x x' h => Prod.ext
    (congrArg (fun g : GSem nD τ sig => g.1.1) h)
    ((by decide : Function.Injective scS) (congrArg Prod.snd h))⟩
def bcEmb : Dev nD ↪ GSem nD τ sig := ⟨fun c => cB c, fun _ _ h => congrArg (fun g : GSem nD τ sig => g.1.1) h⟩
abbrev barCells : Finset (GSem nD τ sig) := Finset.univ.map bcEmb
abbrev scCells : Finset (GSem nD τ sig) := Finset.univ.map scEmb

theorem cells_disj : Disjoint barCells scCells := by
  rw [Finset.disjoint_left]
  intro g h h'
  obtain ⟨c, -, rfl⟩ := Finset.mem_map.mp h
  obtain ⟨x, -, h⟩ := Finset.mem_map.mp h'
  exact (by decide : ∀ k : Fin 10, scS k ≠ .reg barrier0) x.2 (congrArg Prod.snd h)

theorem sc_mem (c : Dev nD) (k : Fin 10) : ((c : Thread nD τ), scS k) ∈ scCells :=
  Finset.mem_map_of_mem scEmb (Finset.mem_univ (c, k))
theorem cells_sub : cells ⊆ barCells ∪ scCells := by
  intro g hg
  obtain ⟨c, -, h⟩ := Finset.mem_biUnion.mp hg
  unfold cellsOf at h
  simp only [Finset.mem_insert, Finset.mem_singleton] at h
  rcases h with rfl | rfl | rfl | rfl | rfl | rfl | rfl | rfl | rfl | rfl | rfl
  · exact Finset.mem_union_right _ (sc_mem c 0)
  · exact Finset.mem_union_right _ (sc_mem c 1)
  · exact Finset.mem_union_right _ (sc_mem c 2)
  · exact Finset.mem_union_right _ (sc_mem c 3)
  · exact Finset.mem_union_right _ (sc_mem c 4)
  · exact Finset.mem_union_right _ (sc_mem c 5)
  · exact Finset.mem_union_right _ (sc_mem c 6)
  · exact Finset.mem_union_right _ (sc_mem c 7)
  · exact Finset.mem_union_right _ (sc_mem c 8)
  · exact Finset.mem_union_right _ (sc_mem c 9)
  · exact Finset.mem_union_left _ (Finset.mem_map_of_mem bcEmb (Finset.mem_univ c))

variable (F) in
theorem opens_one (c : Dev nD) : bigSep Finset.univ (fun k : Fin 10 => (openTok ER ((c : Thread nD τ), scS k) : sProp 𝕄)) = Opens F c :=
  bigSep_univ_eq_bigSepL [(0 : Fin 10), 1, 2, 3, 4, 5, 6, 7, 8, 9] (by decide) (by decide)
    (fun k : Fin 10 => (openTok ER ((c : Thread nD τ), scS k) : sProp 𝕄))
variable (F) in
theorem opens_eq : bigSep scCells (fun g => (openTok ER g : sProp 𝕄)) = bigSep Finset.univ (Opens F) := by
  rw [bigSep_map, bigSep_univ_prod]
  exact bigSep_congr fun c _ => opens_one F c

variable (F) in
theorem unscopedSems0_eq (c : Dev nD) : (unscopedSems0 c : sProp 𝕄) = semVal (cB c) 0 := by
  unfold unscopedSems0
  rw [show (Finset.univ.filter fun sm : SemLoc sig => ¬ sm.isScoped .tc) = {SemLoc.reg barrier0} from by decide, BI.bigSep_singleton]

/-! ## The start -/

def u₀ : UU :=
  (initOf (Pipeline.cells (Pipeline.pin (pcfgs (F := F)) adm) cellOf_inj) (Pipeline.launchToks (Pipeline.pin (pcfgs (F := F)) adm) cellOf_inj),
    (launchOf barCells scCells toks, (initSlots Finset.univ 32, 1)))

/-- All of a resource put with device 0. -/
def on0 (X : sProp 𝕄) (c : Dev nD) : sProp 𝕄 := if c = 0 then X else iprop(emp)
theorem on0_eq (X : sProp 𝕄) : bigSep Finset.univ (on0 X) = X := by
  rw [bigSep_univ_at _ (0 : Dev nD), bigSep_congr (s := Finset.univ.erase (0 : Dev nD)) (Ψ := fun _ => (BI.emp : sProp 𝕄))
      fun c hc => by unfold on0; rw [if_neg (Finset.ne_of_mem_erase hc)]; rfl, BI.bigSep_emp_const]
  unfold on0; rw [if_pos rfl]
  exact BI.equiv_iff.mp sep_emp

variable (F) in
def G : Dev nD → sProp 𝕄 := on0 iprop(BI.own (ER (launchOf barCells scCells toks)) ∗ BI.own (ES (initSlots (Finset.univ : Finset Key) 32)))

variable (F) in
theorem hu₀ : (ownU (u₀ (F := F)) : sProp 𝕄) ⊢ |={Set.univ}=> iprop(BI.own (EP (initOf (Pipeline.cells (Pipeline.pin (pcfgs (F := F)) adm) cellOf_inj)
      (Pipeline.launchToks (Pipeline.pin (pcfgs (F := F)) adm) cellOf_inj))) ∗ bigSep Finset.univ (G F)) := by
  unfold u₀ G
  rw [on0_eq]
  iintro Hu
  ihave H := (ownU_pair _ _) $$ Hu
  icases H with ⟨HP, HX⟩
  ihave H := (own_pair_emb (embR (nD := nD) (τ := τ) (sig := sig)) (launchOf barCells scCells toks) ((initSlots (Finset.univ : Finset Key) 32, 1) : USlots Key × Counters)) $$ HX
  icases H with ⟨HR, HY⟩
  ihave H := (own_pair_emb ((Emb.inr : Emb _ (URounds (GSem nD τ sig) ℕ × (USlots Key × Counters))).trans (embR (nD := nD) (τ := τ) (sig := sig)))
    (initSlots (Finset.univ : Finset Key) 32) (1 : Counters)) $$ HY
  icases H with ⟨HS, -⟩
  imodintro
  isplitl [HP]; · iexact HP
  isplitl [HR]; · iexact HR
  iexact HS

variable (m : (ℓ : Loc nD τ sig) → Buf (Elt F) ℓ) (ρ : Dev nD → PrngReg)

/-- What every device may consult. -/
def Recs (K : GSem nD τ sig → ℕ) (Ks : Key → ℕ) : sProp 𝕄 := iprop(Invs (ym m) K Ks ∗ bigSep Finset.univ fun c => reached ER (cB c) 0)
instance (K Ks) : BI.Persistent (Recs m K Ks) := by unfold Recs; infer_instance

variable (F) in
/-- What is one device's alone. -/
def Lin (c : Dev nD) : sProp 𝕄 :=
  iprop((atPos ER (cB c) 0 ∅ 0 ∗ cred (tallyAt (cB c) 0 2) ∗ (dB F c false ∗ dB F c true)) ∗ Opens F c
    ∗ (dS F c false ∗ dS F c true) ∗ (dR F c false ∗ dR F c true) ∗ (dC F c false ∗ dC F c true)
    ∗ (dL F c false ∗ dL F c true) ∗ (dW F c false ∗ dW F c true) ∗ (eR F c false ∗ eR F c true) ∗ (eC F c false ∗ eC F c true))

theorem tk_intro (K : GSem nD τ sig → ℕ) (Ks : Key → ℕ) (c : Dev nD) : iprop(Recs m K Ks ∗ Lin F c) ⊢ Tk (ym m) c := by
  unfold Recs Lin Tk
  iintro ⟨⟨#HI, #HR⟩, ⟨Ha, Hc, Hbf, Hbt⟩, Ho, ⟨Sf, St⟩, ⟨Rf, Rt⟩, ⟨Cf, Ct⟩, ⟨Lf, Lt⟩, ⟨Wf, Wt⟩, ⟨Ef, Et⟩, Gf, Gt⟩
  iexists K; iexists Ks
  isplitr; · iexact HI
  isplitl [Ha Hc Hbf Hbt]
  · unfold StB dB
    isplitl [Ha]; · iexact Ha
    isplitl [Hc]; · iexact Hc
    isplitl [Hbt]
    · isplitl [Hbt]; · iexact Hbt
      iapply (bigSep_elim' (F := F) (Finset.mem_univ (dnD true c)) (Φ := fun c => (reached ER (cB c) 0 : sProp 𝕄))); iexact HR
    · isplitl [Hbf]; · iexact Hbf
      iapply (bigSep_elim' (F := F) (Finset.mem_univ (dnD false c)) (Φ := fun c => (reached ER (cB c) 0 : sProp 𝕄))); iexact HR
  isplitl [Ho]; · iexact Ho
  isplitl [Sf Rf Cf Lf Wf Ef Gf]
  · iapply (stT F c false)
    isplitl [Sf]; · iexact Sf
    isplitl [Rf]; · iexact Rf
    isplitl [Cf]; · iexact Cf
    isplitl [Wf]; · iexact Wf
    isplitl [Lf]; · iexact Lf
    isplitl [Ef] <;> iassumption
  · iapply (stT F c true)
    isplitl [St]; · iexact St
    isplitl [Rt]; · iexact Rt
    isplitl [Ct]; · iexact Ct
    isplitl [Wt]; · iexact Wt
    isplitl [Lt]; · iexact Lt
    isplitl [Et] <;> iassumption

/-- Each device takes on what it is going to signal. -/
theorem take_on (c : Dev nD) : (owes (c : Thread nD τ) (0 : CellTallies nD τ sig ℕ) ∅ : sProp 𝕄) ⊢ |={Set.univ}=> iprop(Ow F c (O₀ c) ∗ cred (O₀ c)) := by
  iintro H
  imod (new_credit (E := Set.univ) (c := (c : Thread nD τ)) (O := 0) (D := O₀ c) (W := ∅)) $$ [H] with ⟨H, Hc⟩
  · isplitl [H]; · iexact H
    rw [MayOwe_empty]; iempintro
  imodintro
  rw [zero_add]
  unfold Ow
  isplitl [H]
  · iexists _; iexact H
  iexact Hc

theorem hinit : iprop((bigSep Finset.univ fun c : Dev nD => iprop(unscopedBufs c (fun b => m ((c.tc : Thread nD τ).loc b)) ∗ unscopedSems0 c
          ∗ owes (c.tc : Thread nD τ) (0 : CellTallies nD τ sig ℕ) ∅ ∗ Pipeline.launchCred (fun _ => 0) c ∗ prngReg c (ρ c) ∗ G F c)) ∗ levAts L lv)
      ⊢ (|={Set.univ}=> bigSep Finset.univ (fun c : Dev nD => iprop(StableHlo.held (c : Thread nD τ) (Pipeline.ucRefs τ sig) (V0 m c) ∗ E0 m c)) : sProp 𝕄) := by
  have hsplit : (bigSep Finset.univ fun c : Dev nD => iprop(unscopedBufs c (fun b => m ((c.tc : Thread nD τ).loc b)) ∗ unscopedSems0 c
          ∗ owes (c.tc : Thread nD τ) (0 : CellTallies nD τ sig ℕ) ∅ ∗ Pipeline.launchCred (fun _ => 0) c ∗ prngReg c (ρ c) ∗ G F c))
        ⊢ (iprop((bigSep Finset.univ fun c : Dev nD => iprop(StableHlo.held (c : Thread nD τ) (Pipeline.ucRefs τ sig) (V0 m c) ∗ Pg F c))
            ∗ (bigSep Finset.univ fun c : Dev nD => semVal (cB c) 0)
            ∗ (bigSep Finset.univ fun c : Dev nD => owes (c.tc : Thread nD τ) (0 : CellTallies nD τ sig ℕ) ∅) ∗ bigSep Finset.univ (G F)) : sProp 𝕄) := by
    rw [← bigSep_sep', ← bigSep_sep', ← bigSep_sep']
    refine bigSep_mono fun c _ => ent ?_
    rw [← Pipeline.unscopedBufs_held (Ix := ℕ) (Name := ℕ) (U := UU) (Lvl := ℕ) c (V0 m c), unscopedSems0_eq]
    iintro ⟨Hh, Hv, HO, -, Hp, HG⟩
    isplitl [Hh Hp]
    · isplitl [Hh]; · iexact Hh
      iexists _; iexact Hp
    isplitl [Hv]; · iexact Hv
    isplitl [HO] <;> iassumption
  have hv : bigSep Finset.univ (fun c : Dev nD => (semVal (cB c) 0 : sProp 𝕄)) ⊢ bigSep barCells (fun g => (semVal g 0 : sProp 𝕄)) :=
    Entails.of_eq (bigSep_map (s := Finset.univ) bcEmb (Φ := fun g : GSem nD τ sig => (semVal g 0 : sProp 𝕄))).symm
  have hat : bigSep barCells (fun g => (atPos ER g 0 ∅ 0 : sProp 𝕄)) ⊢ bigSep Finset.univ (fun c : Dev nD => (atPos ER (cB c) 0 ∅ 0 : sProp 𝕄)) :=
    Entails.of_eq (bigSep_map (s := Finset.univ) bcEmb (Φ := fun g : GSem nD τ sig => (atPos ER g 0 ∅ 0 : sProp 𝕄)))
  have hrc : bigSep barCells (fun g => (reached ER g 0 : sProp 𝕄)) ⊢ bigSep Finset.univ (fun c : Dev nD => (reached ER (cB c) 0 : sProp 𝕄)) :=
    Entails.of_eq (bigSep_map (s := Finset.univ) bcEmb (Φ := fun g : GSem nD τ sig => (reached ER g 0 : sProp 𝕄)))
  iintro ⟨H, -⟩
  ihave H' := hsplit $$ H
  icases H' with ⟨HB, Hv, HO, HG⟩
  ihave Hu := (show bigSep Finset.univ (G F) ⊢ iprop(BI.own (ER (launchOf barCells scCells toks)) ∗ BI.own (ES (initSlots (Finset.univ : Finset Key) 32))) from
    Entails.of_eq (on0_eq _)) $$ HG
  icases Hu with ⟨Hu, Hs⟩
  imod (Rounds.fund_launch ER (Rd (ym m)) cells_disj (fun g _ h => h) toks) $$ [Hv Hu] with ⟨%K, -, #Hinv, #Hr, Hat, Hopen, Htok⟩
  · isplitl [Hv]
    · iapply hv $$ Hv
    · iexact Hu
  imod (slots_init ES (Finset.univ : Finset Key) 32 (slotOf F)) $$ Hs with ⟨%Ks, -, #Hsl, Hrd, Hwr⟩
  imod (show bigSep Finset.univ (fun c : Dev nD => (owes (c.tc : Thread nD τ) (0 : CellTallies nD τ sig ℕ) ∅ : sProp 𝕄))
      ⊢ |={Set.univ}=> bigSep Finset.univ (fun c => iprop(Ow F c (O₀ c) ∗ cred (O₀ c))) from
    (bigSep_mono fun c _ => take_on c).trans (bigSep_fupd _ _)) $$ HO with HO
  imodintro
  ihave HO := bigSep_unpair $$ HO
  icases HO with ⟨HO, Hcr⟩
  ihave Hcr := (creds_eq F) $$ Hcr
  icases Hcr with ⟨HeR, HeC, HeB⟩
  ihave Hsw := (slots_eq F) $$ [Hrd Hwr]
  · isplitl [Hrd] <;> iassumption
  icases Hsw with ⟨HdL, HdW⟩
  ihave Htok := (Entails.of_eq (toks_eq F)) $$ Htok
  icases Htok with ⟨HdS, HdR, HdC, HdB⟩
  iapply (bigSep_with_persistent (R := Recs m K Ks)
    (Φ := fun c => iprop(Lin F c ∗ (StableHlo.held (c : Thread nD τ) (Pipeline.ucRefs τ sig) (V0 m c) ∗ Pg F c) ∗ Ow F c (O₀ c))) fun c _ => ent (by
      unfold E0
      iintro ⟨#HR, HL, ⟨Hh, Hp⟩, HO⟩
      isplitl [Hh]; · iexact Hh
      isplitl [Hp]; · iexact Hp
      isplitl [HL]
      · iapply (tk_intro m K Ks c)
        isplitr; · iexact HR
        iexact HL
      iexact HO))
  isplitr
  · unfold Recs Invs
    isplitr
    · isplitr
      · iapply (show (bigSep (barCells ∪ scCells) fun g => (cellInv ER (Rd (ym m)) (K g) g : sProp 𝕄)) ⊢ bigSep cells fun g => cellInv ER (Rd (ym m)) (K g) g from
          bigSep_subset cells_sub)
        iexact Hinv
      · iexact Hsl
    · iapply hrc; iexact Hr
  iapply bigSep_pair
  isplitr [HB HO]
  · unfold Lin
    iapply bigSep_pair
    isplitl [Hat HeB HdB]
    · iapply bigSep_pair; isplitl [Hat]; · iapply hat $$ Hat
      iapply bigSep_pair; isplitl [HeB] <;> iassumption
    iapply bigSep_pair; isplitl [Hopen]; · iapply (Entails.of_eq (opens_eq F)) $$ Hopen
    iapply bigSep_pair; isplitl [HdS]; · iexact HdS
    iapply bigSep_pair; isplitl [HdR]; · iexact HdR
    iapply bigSep_pair; isplitl [HdC]; · iexact HdC
    iapply bigSep_pair; isplitl [HdL]; · iexact HdL
    iapply bigSep_pair; isplitl [HdW]; · iexact HdW
    iapply bigSep_pair; isplitl [HeR] <;> iassumption
  · iapply bigSep_pair; isplitl [HB] <;> iassumption

/-! ## The run -/

def Es (k : Fin 2) (c : Dev nD) : sProp 𝕄 := match k with
  | 0 => E0 m c
  | 1 => E1 F c

theorem unscoped_eq : ∀ sm : SemLoc sig, sm.isScoped .tc = false → sm = .reg barrier0 := by decide

set_option backward.isDefEq.respectTransparency.types false in
/-- Every run ends, with the arguments as they were, every counter at zero, and the result what the host computes of the kernel's. -/
theorem run_main : θ_run defs (onTc (τ := τ) (main (F := F))) ⟨m, fun _ => 0, ρ⟩ (fun r => (∀ c : Dev nD,
      r.2.mem ((c.tc : Thread nD τ).loc main_v105) = V7 m (outs m) c main_v105
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (pdats m) 0 cellOf_inj EP defs₀ 𝒱₀ L lv m ρ main
    (segs m (outs m) 𝒱₀ L lv (Es m) 0 (pdats m) (reg0 m))
    (fun c Q => by
      rewrite [main_chain c, Seg.run_eq_chain,
        show (segs m (outs m) 𝒱₀ L lv (Es m) 0 (pdats m) (reg0 m) c).map Seg.prog = [
          StableHlo.seq (hostOps0 c),
          Prog.lift (.customCall (Pipeline.entry 0) ()),
          StableHlo.seq hostOps1,
          StableHlo.seq hostOps1_1,
          StableHlo.seq hostOps1_2,
          StableHlo.seq hostOps1_3,
          StableHlo.seq hostOps1_4 ] from rfl]
      dsimp (config := { failIfUnchanged := false }) only
      exact .rfl)
    (fun c => by simp only [segs, Seg.pipes_host, Seg.pipes_region, Seg.pipes_nil]; decide) (fun _ => 0) L_of_ne (G F) (u₀ (F := F)) (hu₀ F)
    (T₀ := fun c => iprop(StableHlo.held (c : Thread nD τ) (Pipeline.ucRefs τ sig) (V0 m c) ∗ E0 m c))
    (Tₙ := fun c => iprop(StableHlo.held (c : Thread nD τ) (Pipeline.ucRefs τ sig) (V7 m (outs m) c) ∗ semVal (cB c) 0))
    (hch := fun c => ⟨.rfl, reg0_pre m c, reg0_post m c, .rfl, .rfl, .rfl, .rfl, ?_⟩)
    (hinit := hinit m ρ)
    (QY := fun c s => (s.mem ((c.tc : Thread nD τ).loc main_v105) = V7 m (outs m) c main_v105
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (cB c) = 0)
    (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V7 m (outs m) c) ∗ E1 F c) ⊢ _
    unfold E1 Yk Ow
    iintro ⟨Hh, Hb, HO⟩
    isplitr [HO]
    · isplitl [Hh] <;> iassumption
    · iexact HO
  · unfold StableHlo.held
    iintro ⟨⟨Hh, Hb⟩, HSI⟩
    icombine HSI Hb gives %hb
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨⟨h (Proc.devRef .tc main_v105) (uc_mem main_v105 (by decide)),
        (h (Proc.devRef .tc main_arg0) (uc_mem main_arg0 (by decide))).trans (V7_main_arg0 m (outs m) c),
        (h (Proc.devRef .tc main_arg1) (uc_mem main_arg1 (by decide))).trans (V7_main_arg1 m (outs m) c)⟩, by simpa using hb⟩
    · iexact HSI

theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_mono (run_main m ρ) fun _ h => ⟨fun c => (h.1 c).2, h.2⟩

end Cert.KernelIdeal.Ring

end
-- ==== Proof.Kernel.Frame.lean ====
/- The program as printed runs as its reading at the ideal values does: the two are one text. -/
module

public import proofs.«01_k».proof.Kernel
public import proofs.«01_k».proof.Proof.Gen.Kernel
public import proofs.«01_k».proof.Proof.Kernel.Same
public import proofs.«01_k».proof.Proof.KernelIdeal.Launch

@[expose] public section

namespace Cert.Kernel.Ring
open Idealize.ShloMosaic Idealize.SL.Sem Cert.Kernel.Gen

set_option maxHeartbeats 0 in
theorem run_frame {F : FTy → Type} [FloatOps F] (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  have key : ∀ d mm, d = Cert.KernelIdeal.defs (F := F) → mm = Cert.KernelIdeal.main (F := F) → θ_run d (onTc (τ := Cert.KernelIdeal.τ) mm) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) := by
    intro d mm hd hm
    rw [hd, hm]
    exact Cert.KernelIdeal.Ring.run_frame (F := F) m ρ
  exact key _ _ defs_eq main_eq

end Cert.Kernel.Ring

end
-- ==== Proof.Reference.Run.lean ====
/- The reference: one product, one scale for the whole array, and the rounding of each entry to the grid of the scale. -/
module

public import proofs.«01_k».proof.Proof.Gen.ReferenceIdeal
public import Idealize.ShloMosaic.Lib.StableHlo.Run
public import Idealize.ShloMosaic.Lib.StableHlo.RunHlo
public import Idealize.ShloMosaic.Lib.Quiescent

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

abbrev Arr := (⟨S4096x8192, .f32⟩ : BufTy).Contents (Elt F)
abbrev Sc := (⟨S_, .f32⟩ : BufTy).Contents (Elt F)
abbrev Msk := (⟨S4096x8192, .i1⟩ : BufTy).Contents (Elt F)

/-! ## What is computed of the product -/

/-- One number everywhere. -/
abbrev bs (s : Sc (F := F)) : Arr (F := F) := broadcastInDim S4096x8192 ![] bcast_S_S4096x8192 s
abbrev bc (w : BitVec 32) : Arr (F := F) := bs (constant S_ .f32 w)
/-- The largest magnitude over 448. -/
abbrev scl (y : Arr (F := F)) : Sc (F := F) :=
  Host.divf (Host.reduce FloatOps.maximumf (Host.absf y) (constant S_ .f32 0xFF800000#32) reducesTo_S4096x8192_S_d0_1 h_S_) (constant S_ .f32 0x43E00000#32)
abbrev val (y : Arr (F := F)) : Arr (F := F) := Host.divf y (bs (scl y))
/-- One rung of the ladder of spacings: `p` where the magnitude is at least `t`. -/
abbrev rung (t p : BitVec 32) (a q : Arr (F := F)) : Arr (F := F) := select (cmpf .oge a (bc t) : Msk (F := F)) (bc p) q
/-- The rounding at spacing `q`, no further than 448, and back to the scale. -/
abbrev fin (s : Sc (F := F)) (v a q : Arr (F := F)) : Arr (F := F) :=
  mulf (mulf (Host.sign v) (minimumf (mulf (Host.roundeven (Host.divf a q)) q) (bc 0x43E00000#32))) (bs s)
/-- The spacing, the rungs below the `n`th climbed. -/
abbrev l0 (a : Arr (F := F)) : Arr (F := F) := bc 0x3B000000#32
abbrev l1 (a : Arr (F := F)) : Arr (F := F) := rung 0x3D000000#32 0x3B800000#32 a (l0 a)
abbrev l2 (a : Arr (F := F)) : Arr (F := F) := rung 0x3D800000#32 0x3C000000#32 a (l1 a)
abbrev l3 (a : Arr (F := F)) : Arr (F := F) := rung 0x3E000000#32 0x3C800000#32 a (l2 a)
abbrev l4 (a : Arr (F := F)) : Arr (F := F) := rung 0x3E800000#32 0x3D000000#32 a (l3 a)
abbrev l5 (a : Arr (F := F)) : Arr (F := F) := rung 0x3F000000#32 0x3D800000#32 a (l4 a)
abbrev l6 (a : Arr (F := F)) : Arr (F := F) := rung 0x3F800000#32 0x3E000000#32 a (l5 a)
abbrev l7 (a : Arr (F := F)) : Arr (F := F) := rung 0x40000000#32 0x3E800000#32 a (l6 a)
abbrev l8 (a : Arr (F := F)) : Arr (F := F) := rung 0x40800000#32 0x3F000000#32 a (l7 a)
abbrev l9 (a : Arr (F := F)) : Arr (F := F) := rung 0x41000000#32 0x3F800000#32 a (l8 a)
abbrev l10 (a : Arr (F := F)) : Arr (F := F) := rung 0x41800000#32 0x40000000#32 a (l9 a)
abbrev l11 (a : Arr (F := F)) : Arr (F := F) := rung 0x42000000#32 0x40800000#32 a (l10 a)
abbrev l12 (a : Arr (F := F)) : Arr (F := F) := rung 0x42800000#32 0x41000000#32 a (l11 a)
abbrev l13 (a : Arr (F := F)) : Arr (F := F) := rung 0x43000000#32 0x41800000#32 a (l12 a)
abbrev l14 (a : Arr (F := F)) : Arr (F := F) := rung 0x43800000#32 0x42000000#32 a (l13 a)
/-- What the reference makes of the product. -/
def snap (y : Arr (F := F)) : Arr (F := F) := fin (scl y) (val y) (Host.absf (val y)) (l14 (Host.absf (val y)))

/-! ## The operations, in parts -/

theorem after_app {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons a l ih => exact ih _

abbrev o0 : List (HloOp τ sig (Elt F)) :=
  [ binary main_arg0 main_arg1 main_v0 ((fun l r => Host.dotGeneral dot_S4096x4096_S4096x8192_S4096x8192_1_0_0_1_n_n (some .fp32) l r) : (⟨S4096x4096, .f32⟩ : BufTy).Contents (Elt F) → Arr (F := F) → Arr (F := F)),
    unary main_v0 main_v1 (Host.absf : Arr (F := F) → Arr (F := F)),
    nullary main_cst (constant S_ .f32 0xFF800000#32),
    binary main_v1 main_cst main_v2 ((fun x v => Host.reduce FloatOps.maximumf x v reducesTo_S4096x8192_S_d0_1 h_S_) : Arr (F := F) → Sc (F := F) → Sc (F := F)),
    nullary main_cst_0 (constant S_ .f32 0x43E00000#32),
    binary main_v2 main_cst_0 main_v3 (Host.divf : Sc (F := F) → Sc (F := F) → Sc (F := F)),
    unary main_v3 main_v4 (broadcastInDim S4096x8192 ![] bcast_S_S4096x8192 : Sc (F := F) → Arr (F := F)),
    binary main_v0 main_v4 main_v5 (Host.divf : Arr (F := F) → Arr (F := F) → Arr (F := F)),
    unary main_v5 main_v6 (Host.absf : Arr (F := F) → Arr (F := F)),
    nullary main_cst_1 (constant S_ .f32 0x3B000000#32),
    unary main_cst_1 main_v7 (broadcastInDim S4096x8192 ![] bcast_S_S4096x8192 : Sc (F := F) → Arr (F := F)) ]
abbrev o1 : List (HloOp τ sig (Elt F)) :=
  [ nullary main_cst_2 (constant S_ .f32 0x3D000000#32),
    unary main_cst_2 main_v8 (broadcastInDim S4096x8192 ![] bcast_S_S4096x8192 : Sc (F := F) → Arr (F := F)),
    binary main_v6 main_v8 main_v9 (cmpf .oge : Arr (F := F) → Arr (F := F) → Msk (F := F)),
    nullary main_cst_3 (constant S_ .f32 0x3B800000#32),
    unary main_cst_3 main_v10 (broadcastInDim S4096x8192 ![] bcast_S_S4096x8192 : Sc (F := F) → Arr (F := F)),
    ternary main_v9 main_v10 main_v7 main_v11 (select : Msk (F := F) → Arr (F := F) → Arr (F := F) → Arr (F := F)) ]
abbrev o2 : List (HloOp τ sig (Elt F)) :=
  [ nullary main_cst_4 (constant S_ .f32 0x3D800000#32),
    unary main_cst_4 main_v12 (broadcastInDim S4096x8192 ![] bcast_S_S4096x8192 : Sc (F := F) → Arr (F := F)),
    binary main_v6 main_v12 main_v13 (cmpf .oge : Arr (F := F) → Arr (F := F) → Msk (F := F)),
    nullary main_cst_5 (constant S_ .f32 0x3C000000#32),
    unary main_cst_5 main_v14 (broadcastInDim S4096x8192 ![] bcast_S_S4096x8192 : Sc (F := F) → Arr (F := F)),
    ternary main_v13 main_v14 main_v11 main_v15 (select : Msk (F := F) → Arr (F := F) → Arr (F := F) → Arr (F := F)) ]
abbrev o3 : List (HloOp τ sig (Elt F)) :=
  [ nullary main_cst_6 (constant S_ .f32 0x3E000000#32),
    unary main_cst_6 main_v16 (broadcastInDim S4096x8192 ![] bcast_S_S4096x8192 : Sc (F := F) → Arr (F := F)),
    binary main_v6 main_v16 main_v17 (cmpf .oge : Arr (F := F) → Arr (F := F) → Msk (F := F)),
    nullary main_cst_7 (constant S_ .f32 0x3C800000#32),
    unary main_cst_7 main_v18 (broadcastInDim S4096x8192 ![] bcast_S_S4096x8192 : Sc (F := F) → Arr (F := F)),
    ternary main_v17 main_v18 main_v15 main_v19 (select : Msk (F := F) → Arr (F := F) → Arr (F := F) → Arr (F := F)) ]
abbrev o4 : List (HloOp τ sig (Elt F)) :=
  [ nullary main_cst_8 (constant S_ .f32 0x3E800000#32),
    unary main_cst_8 main_v20 (broadcastInDim S4096x8192 ![] bcast_S_S4096x8192 : Sc (F := F) → Arr (F := F)),
    binary main_v6 main_v20 main_v21 (cmpf .oge : Arr (F := F) → Arr (F := F) → Msk (F := F)),
    nullary main_cst_9 (constant S_ .f32 0x3D000000#32),
    unary main_cst_9 main_v22 (broadcastInDim S4096x8192 ![] bcast_S_S4096x8192 : Sc (F := F) → Arr (F := F)),
    ternary main_v21 main_v22 main_v19 main_v23 (select : Msk (F := F) → Arr (F := F) → Arr (F := F) → Arr (F := F)) ]
abbrev o5 : List (HloOp τ sig (Elt F)) :=
  [ nullary main_cst_10 (constant S_ .f32 0x3F000000#32),
    unary main_cst_10 main_v24 (broadcastInDim S4096x8192 ![] bcast_S_S4096x8192 : Sc (F := F) → Arr (F := F)),
    binary main_v6 main_v24 main_v25 (cmpf .oge : Arr (F := F) → Arr (F := F) → Msk (F := F)),
    nullary main_cst_11 (constant S_ .f32 0x3D800000#32),
    unary main_cst_11 main_v26 (broadcastInDim S4096x8192 ![] bcast_S_S4096x8192 : Sc (F := F) → Arr (F := F)),
    ternary main_v25 main_v26 main_v23 main_v27 (select : Msk (F := F) → Arr (F := F) → Arr (F := F) → Arr (F := F)) ]
abbrev o6 : List (HloOp τ sig (Elt F)) :=
  [ nullary main_cst_12 (constant S_ .f32 0x3F800000#32),
    unary main_cst_12 main_v28 (broadcastInDim S4096x8192 ![] bcast_S_S4096x8192 : Sc (F := F) → Arr (F := F)),
    binary main_v6 main_v28 main_v29 (cmpf .oge : Arr (F := F) → Arr (F := F) → Msk (F := F)),
    nullary main_cst_13 (constant S_ .f32 0x3E000000#32),
    unary main_cst_13 main_v30 (broadcastInDim S4096x8192 ![] bcast_S_S4096x8192 : Sc (F := F) → Arr (F := F)),
    ternary main_v29 main_v30 main_v27 main_v31 (select : Msk (F := F) → Arr (F := F) → Arr (F := F) → Arr (F := F)) ]
abbrev o7 : List (HloOp τ sig (Elt F)) :=
  [ nullary main_cst_14 (constant S_ .f32 0x40000000#32),
    unary main_cst_14 main_v32 (broadcastInDim S4096x8192 ![] bcast_S_S4096x8192 : Sc (F := F) → Arr (F := F)),
    binary main_v6 main_v32 main_v33 (cmpf .oge : Arr (F := F) → Arr (F := F) → Msk (F := F)),
    nullary main_cst_15 (constant S_ .f32 0x3E800000#32),
    unary main_cst_15 main_v34 (broadcastInDim S4096x8192 ![] bcast_S_S4096x8192 : Sc (F := F) → Arr (F := F)),
    ternary main_v33 main_v34 main_v31 main_v35 (select : Msk (F := F) → Arr (F := F) → Arr (F := F) → Arr (F := F)) ]
abbrev o8 : List (HloOp τ sig (Elt F)) :=
  [ nullary main_cst_16 (constant S_ .f32 0x40800000#32),
    unary main_cst_16 main_v36 (broadcastInDim S4096x8192 ![] bcast_S_S4096x8192 : Sc (F := F) → Arr (F := F)),
    binary main_v6 main_v36 main_v37 (cmpf .oge : Arr (F := F) → Arr (F := F) → Msk (F := F)),
    nullary main_cst_17 (constant S_ .f32 0x3F000000#32),
    unary main_cst_17 main_v38 (broadcastInDim S4096x8192 ![] bcast_S_S4096x8192 : Sc (F := F) → Arr (F := F)),
    ternary main_v37 main_v38 main_v35 main_v39 (select : Msk (F := F) → Arr (F := F) → Arr (F := F) → Arr (F := F)) ]
abbrev o9 : List (HloOp τ sig (Elt F)) :=
  [ nullary main_cst_18 (constant S_ .f32 0x41000000#32),
    unary main_cst_18 main_v40 (broadcastInDim S4096x8192 ![] bcast_S_S4096x8192 : Sc (F := F) → Arr (F := F)),
    binary main_v6 main_v40 main_v41 (cmpf .oge : Arr (F := F) → Arr (F := F) → Msk (F := F)),
    nullary main_cst_19 (constant S_ .f32 0x3F800000#32),
    unary main_cst_19 main_v42 (broadcastInDim S4096x8192 ![] bcast_S_S4096x8192 : Sc (F := F) → Arr (F := F)),
    ternary main_v41 main_v42 main_v39 main_v43 (select : Msk (F := F) → Arr (F := F) → Arr (F := F) → Arr (F := F)) ]
abbrev o10 : List (HloOp τ sig (Elt F)) :=
  [ nullary main_cst_20 (constant S_ .f32 0x41800000#32),
    unary main_cst_20 main_v44 (broadcastInDim S4096x8192 ![] bcast_S_S4096x8192 : Sc (F := F) → Arr (F := F)),
    binary main_v6 main_v44 main_v45 (cmpf .oge : Arr (F := F) → Arr (F := F) → Msk (F := F)),
    nullary main_cst_21 (constant S_ .f32 0x40000000#32),
    unary main_cst_21 main_v46 (broadcastInDim S4096x8192 ![] bcast_S_S4096x8192 : Sc (F := F) → Arr (F := F)),
    ternary main_v45 main_v46 main_v43 main_v47 (select : Msk (F := F) → Arr (F := F) → Arr (F := F) → Arr (F := F)) ]
abbrev o11 : List (HloOp τ sig (Elt F)) :=
  [ nullary main_cst_22 (constant S_ .f32 0x42000000#32),
    unary main_cst_22 main_v48 (broadcastInDim S4096x8192 ![] bcast_S_S4096x8192 : Sc (F := F) → Arr (F := F)),
    binary main_v6 main_v48 main_v49 (cmpf .oge : Arr (F := F) → Arr (F := F) → Msk (F := F)),
    nullary main_cst_23 (constant S_ .f32 0x40800000#32),
    unary main_cst_23 main_v50 (broadcastInDim S4096x8192 ![] bcast_S_S4096x8192 : Sc (F := F) → Arr (F := F)),
    ternary main_v49 main_v50 main_v47 main_v51 (select : Msk (F := F) → Arr (F := F) → Arr (F := F) → Arr (F := F)) ]
abbrev o12 : List (HloOp τ sig (Elt F)) :=
  [ nullary main_cst_24 (constant S_ .f32 0x42800000#32),
    unary main_cst_24 main_v52 (broadcastInDim S4096x8192 ![] bcast_S_S4096x8192 : Sc (F := F) → Arr (F := F)),
    binary main_v6 main_v52 main_v53 (cmpf .oge : Arr (F := F) → Arr (F := F) → Msk (F := F)),
    nullary main_cst_25 (constant S_ .f32 0x41000000#32),
    unary main_cst_25 main_v54 (broadcastInDim S4096x8192 ![] bcast_S_S4096x8192 : Sc (F := F) → Arr (F := F)),
    ternary main_v53 main_v54 main_v51 main_v55 (select : Msk (F := F) → Arr (F := F) → Arr (F := F) → Arr (F := F)) ]
abbrev o13 : List (HloOp τ sig (Elt F)) :=
  [ nullary main_cst_26 (constant S_ .f32 0x43000000#32),
    unary main_cst_26 main_v56 (broadcastInDim S4096x8192 ![] bcast_S_S4096x8192 : Sc (F := F) → Arr (F := F)),
    binary main_v6 main_v56 main_v57 (cmpf .oge : Arr (F := F) → Arr (F := F) → Msk (F := F)),
    nullary main_cst_27 (constant S_ .f32 0x41800000#32),
    unary main_cst_27 main_v58 (broadcastInDim S4096x8192 ![] bcast_S_S4096x8192 : Sc (F := F) → Arr (F := F)),
    ternary main_v57 main_v58 main_v55 main_v59 (select : Msk (F := F) → Arr (F := F) → Arr (F := F) → Arr (F := F)) ]
abbrev o14 : List (HloOp τ sig (Elt F)) :=
  [ nullary main_cst_28 (constant S_ .f32 0x43800000#32),
    unary main_cst_28 main_v60 (broadcastInDim S4096x8192 ![] bcast_S_S4096x8192 : Sc (F := F) → Arr (F := F)),
    binary main_v6 main_v60 main_v61 (cmpf .oge : Arr (F := F) → Arr (F := F) → Msk (F := F)),
    nullary main_cst_29 (constant S_ .f32 0x42000000#32),
    unary main_cst_29 main_v62 (broadcastInDim S4096x8192 ![] bcast_S_S4096x8192 : Sc (F := F) → Arr (F := F)),
    ternary main_v61 main_v62 main_v59 main_v63 (select : Msk (F := F) → Arr (F := F) → Arr (F := F) → Arr (F := F)) ]
abbrev o15 : List (HloOp τ sig (Elt F)) :=
  [ binary main_v6 main_v63 main_v64 (Host.divf : Arr (F := F) → Arr (F := F) → Arr (F := F)),
    TRef.unary (.of main_v64 : TRef sig ⟨S4096x8192, .f32⟩) (.of main_v65 : TRef sig ⟨S4096x8192, .f32⟩) Host.roundeven,
    binary main_v65 main_v63 main_v66 (mulf : Arr (F := F) → Arr (F := F) → Arr (F := F)),
    nullary main_cst_30 (constant S_ .f32 0x43E00000#32),
    unary main_cst_30 main_v67 (broadcastInDim S4096x8192 ![] bcast_S_S4096x8192 : Sc (F := F) → Arr (F := F)),
    binary main_v66 main_v67 main_v68 (minimumf : Arr (F := F) → Arr (F := F) → Arr (F := F)),
    unary main_v5 main_v69 (Host.sign : Arr (F := F) → Arr (F := F)),
    binary main_v69 main_v68 main_v70 (mulf : Arr (F := F) → Arr (F := F) → Arr (F := F)),
    unary main_v3 main_v71 (broadcastInDim S4096x8192 ![] bcast_S_S4096x8192 : Sc (F := F) → Arr (F := F)),
    binary main_v70 main_v71 main_v72 (mulf : Arr (F := F) → Arr (F := F) → Arr (F := F)) ]
abbrev ops : List (HloOp τ sig (Elt F)) := o0 ++ (o1 ++ (o2 ++ (o3 ++ (o4 ++ (o5 ++ (o6 ++ (o7 ++ (o8 ++ (o9 ++ (o10 ++ (o11 ++ (o12 ++ (o13 ++ (o14 ++ (o15)))))))))))))))

set_option maxHeartbeats 4000000 in
set_option maxRecDepth 10000 in
theorem main_eq (c : Dev nD) : main (F := F) c = seq ops := rfl

variable (W : Valuation τ sig (Elt F))

/-- The product. -/
abbrev prod (x : (⟨S4096x4096, .f32⟩ : BufTy).Contents (Elt F)) (w : Arr (F := F)) : Arr (F := F) :=
  Host.dotGeneral dot_S4096x4096_S4096x8192_S4096x8192_1_0_0_1_n_n (some .fp32) x w

theorem r0 : (after o0 W main_v3 : Sc (F := F)) = scl (prod (W main_arg0) (W main_arg1)) ∧ (after o0 W main_v5 : Arr (F := F)) = val (prod (W main_arg0) (W main_arg1))
    ∧ (after o0 W main_v6 : Arr (F := F)) = Host.absf (val (prod (W main_arg0) (W main_arg1))) ∧ after o0 W main_arg0 = W main_arg0 ∧ after o0 W main_arg1 = W main_arg1
    ∧ (after o0 W main_v7 : Arr (F := F)) = bc 0x3B000000#32 := by
  refine ⟨?_, ?_, ?_, ?_, ?_, ?_⟩ <;> after_results <;> rfl
theorem r1 : after o1 W main_v3 = W main_v3 ∧ after o1 W main_v5 = W main_v5 ∧ after o1 W main_v6 = W main_v6 ∧ after o1 W main_arg0 = W main_arg0 ∧ after o1 W main_arg1 = W main_arg1
    ∧ (after o1 W main_v11 : Arr (F := F)) = rung 0x3D000000#32 0x3B800000#32 (W main_v6) (W main_v7) := by
  refine ⟨?_, ?_, ?_, ?_, ?_, ?_⟩ <;> after_results
theorem r2 : after o2 W main_v3 = W main_v3 ∧ after o2 W main_v5 = W main_v5 ∧ after o2 W main_v6 = W main_v6 ∧ after o2 W main_arg0 = W main_arg0 ∧ after o2 W main_arg1 = W main_arg1
    ∧ (after o2 W main_v15 : Arr (F := F)) = rung 0x3D800000#32 0x3C000000#32 (W main_v6) (W main_v11) := by
  refine ⟨?_, ?_, ?_, ?_, ?_, ?_⟩ <;> after_results
theorem r3 : after o3 W main_v3 = W main_v3 ∧ after o3 W main_v5 = W main_v5 ∧ after o3 W main_v6 = W main_v6 ∧ after o3 W main_arg0 = W main_arg0 ∧ after o3 W main_arg1 = W main_arg1
    ∧ (after o3 W main_v19 : Arr (F := F)) = rung 0x3E000000#32 0x3C800000#32 (W main_v6) (W main_v15) := by
  refine ⟨?_, ?_, ?_, ?_, ?_, ?_⟩ <;> after_results
theorem r4 : after o4 W main_v3 = W main_v3 ∧ after o4 W main_v5 = W main_v5 ∧ after o4 W main_v6 = W main_v6 ∧ after o4 W main_arg0 = W main_arg0 ∧ after o4 W main_arg1 = W main_arg1
    ∧ (after o4 W main_v23 : Arr (F := F)) = rung 0x3E800000#32 0x3D000000#32 (W main_v6) (W main_v19) := by
  refine ⟨?_, ?_, ?_, ?_, ?_, ?_⟩ <;> after_results
theorem r5 : after o5 W main_v3 = W main_v3 ∧ after o5 W main_v5 = W main_v5 ∧ after o5 W main_v6 = W main_v6 ∧ after o5 W main_arg0 = W main_arg0 ∧ after o5 W main_arg1 = W main_arg1
    ∧ (after o5 W main_v27 : Arr (F := F)) = rung 0x3F000000#32 0x3D800000#32 (W main_v6) (W main_v23) := by
  refine ⟨?_, ?_, ?_, ?_, ?_, ?_⟩ <;> after_results
theorem r6 : after o6 W main_v3 = W main_v3 ∧ after o6 W main_v5 = W main_v5 ∧ after o6 W main_v6 = W main_v6 ∧ after o6 W main_arg0 = W main_arg0 ∧ after o6 W main_arg1 = W main_arg1
    ∧ (after o6 W main_v31 : Arr (F := F)) = rung 0x3F800000#32 0x3E000000#32 (W main_v6) (W main_v27) := by
  refine ⟨?_, ?_, ?_, ?_, ?_, ?_⟩ <;> after_results
theorem r7 : after o7 W main_v3 = W main_v3 ∧ after o7 W main_v5 = W main_v5 ∧ after o7 W main_v6 = W main_v6 ∧ after o7 W main_arg0 = W main_arg0 ∧ after o7 W main_arg1 = W main_arg1
    ∧ (after o7 W main_v35 : Arr (F := F)) = rung 0x40000000#32 0x3E800000#32 (W main_v6) (W main_v31) := by
  refine ⟨?_, ?_, ?_, ?_, ?_, ?_⟩ <;> after_results
theorem r8 : after o8 W main_v3 = W main_v3 ∧ after o8 W main_v5 = W main_v5 ∧ after o8 W main_v6 = W main_v6 ∧ after o8 W main_arg0 = W main_arg0 ∧ after o8 W main_arg1 = W main_arg1
    ∧ (after o8 W main_v39 : Arr (F := F)) = rung 0x40800000#32 0x3F000000#32 (W main_v6) (W main_v35) := by
  refine ⟨?_, ?_, ?_, ?_, ?_, ?_⟩ <;> after_results
theorem r9 : after o9 W main_v3 = W main_v3 ∧ after o9 W main_v5 = W main_v5 ∧ after o9 W main_v6 = W main_v6 ∧ after o9 W main_arg0 = W main_arg0 ∧ after o9 W main_arg1 = W main_arg1
    ∧ (after o9 W main_v43 : Arr (F := F)) = rung 0x41000000#32 0x3F800000#32 (W main_v6) (W main_v39) := by
  refine ⟨?_, ?_, ?_, ?_, ?_, ?_⟩ <;> after_results
theorem r10 : after o10 W main_v3 = W main_v3 ∧ after o10 W main_v5 = W main_v5 ∧ after o10 W main_v6 = W main_v6 ∧ after o10 W main_arg0 = W main_arg0 ∧ after o10 W main_arg1 = W main_arg1
    ∧ (after o10 W main_v47 : Arr (F := F)) = rung 0x41800000#32 0x40000000#32 (W main_v6) (W main_v43) := by
  refine ⟨?_, ?_, ?_, ?_, ?_, ?_⟩ <;> after_results
theorem r11 : after o11 W main_v3 = W main_v3 ∧ after o11 W main_v5 = W main_v5 ∧ after o11 W main_v6 = W main_v6 ∧ after o11 W main_arg0 = W main_arg0 ∧ after o11 W main_arg1 = W main_arg1
    ∧ (after o11 W main_v51 : Arr (F := F)) = rung 0x42000000#32 0x40800000#32 (W main_v6) (W main_v47) := by
  refine ⟨?_, ?_, ?_, ?_, ?_, ?_⟩ <;> after_results
theorem r12 : after o12 W main_v3 = W main_v3 ∧ after o12 W main_v5 = W main_v5 ∧ after o12 W main_v6 = W main_v6 ∧ after o12 W main_arg0 = W main_arg0 ∧ after o12 W main_arg1 = W main_arg1
    ∧ (after o12 W main_v55 : Arr (F := F)) = rung 0x42800000#32 0x41000000#32 (W main_v6) (W main_v51) := by
  refine ⟨?_, ?_, ?_, ?_, ?_, ?_⟩ <;> after_results
theorem r13 : after o13 W main_v3 = W main_v3 ∧ after o13 W main_v5 = W main_v5 ∧ after o13 W main_v6 = W main_v6 ∧ after o13 W main_arg0 = W main_arg0 ∧ after o13 W main_arg1 = W main_arg1
    ∧ (after o13 W main_v59 : Arr (F := F)) = rung 0x43000000#32 0x41800000#32 (W main_v6) (W main_v55) := by
  refine ⟨?_, ?_, ?_, ?_, ?_, ?_⟩ <;> after_results
theorem r14 : after o14 W main_v3 = W main_v3 ∧ after o14 W main_v5 = W main_v5 ∧ after o14 W main_v6 = W main_v6 ∧ after o14 W main_arg0 = W main_arg0 ∧ after o14 W main_arg1 = W main_arg1
    ∧ (after o14 W main_v63 : Arr (F := F)) = rung 0x43800000#32 0x42000000#32 (W main_v6) (W main_v59) := by
  refine ⟨?_, ?_, ?_, ?_, ?_, ?_⟩ <;> after_results
theorem r15 : after o15 W main_arg0 = W main_arg0 ∧ after o15 W main_arg1 = W main_arg1
    ∧ (after o15 W main_v72 : Arr (F := F)) = fin (W main_v3) (W main_v5) (W main_v6) (W main_v63) := by
  refine ⟨?_, ?_, ?_⟩ <;> after_results
  rfl

abbrev w0 : Valuation τ sig (Elt F) := after o0 W
abbrev w1 : Valuation τ sig (Elt F) := after o1 (w0 W)
abbrev w2 : Valuation τ sig (Elt F) := after o2 (w1 W)
abbrev w3 : Valuation τ sig (Elt F) := after o3 (w2 W)
abbrev w4 : Valuation τ sig (Elt F) := after o4 (w3 W)
abbrev w5 : Valuation τ sig (Elt F) := after o5 (w4 W)
abbrev w6 : Valuation τ sig (Elt F) := after o6 (w5 W)
abbrev w7 : Valuation τ sig (Elt F) := after o7 (w6 W)
abbrev w8 : Valuation τ sig (Elt F) := after o8 (w7 W)
abbrev w9 : Valuation τ sig (Elt F) := after o9 (w8 W)
abbrev w10 : Valuation τ sig (Elt F) := after o10 (w9 W)
abbrev w11 : Valuation τ sig (Elt F) := after o11 (w10 W)
abbrev w12 : Valuation τ sig (Elt F) := after o12 (w11 W)
abbrev w13 : Valuation τ sig (Elt F) := after o13 (w12 W)
abbrev w14 : Valuation τ sig (Elt F) := after o14 (w13 W)
abbrev w15 : Valuation τ sig (Elt F) := after o15 (w14 W)
abbrev P (V : Valuation τ sig (Elt F)) : Prop := (V main_v3 : Sc (F := F)) = scl (prod (W main_arg0) (W main_arg1)) ∧ (V main_v5 : Arr (F := F)) = val (prod (W main_arg0) (W main_arg1))
    ∧ (V main_v6 : Arr (F := F)) = Host.absf (val (prod (W main_arg0) (W main_arg1))) ∧ V main_arg0 = W main_arg0 ∧ V main_arg1 = W main_arg1
abbrev A : Arr (F := F) := Host.absf (val (prod (W main_arg0) (W main_arg1)))
theorem s0 : P W (w0 W) ∧ (w0 W main_v7 : Arr (F := F)) = l0 (A W) := by
  obtain ⟨a, b, c, d, e, f⟩ := r0 W
  exact ⟨⟨a, b, c, d, e⟩, f⟩
theorem s1 : P W (w1 W) ∧ (w1 W main_v11 : Arr (F := F)) = l1 (A W) := by
  obtain ⟨⟨h3, h5, h6, ha, hb⟩, hq⟩ := s0 W
  obtain ⟨a, b, c, d, e, f⟩ := r1 (w0 W)
  exact ⟨⟨a.trans h3, b.trans h5, c.trans h6, d.trans ha, e.trans hb⟩, f.trans (congrArg₂ (fun a q => rung 0x3D000000#32 0x3B800000#32 a q) h6 hq)⟩
theorem s2 : P W (w2 W) ∧ (w2 W main_v15 : Arr (F := F)) = l2 (A W) := by
  obtain ⟨⟨h3, h5, h6, ha, hb⟩, hq⟩ := s1 W
  obtain ⟨a, b, c, d, e, f⟩ := r2 (w1 W)
  exact ⟨⟨a.trans h3, b.trans h5, c.trans h6, d.trans ha, e.trans hb⟩, f.trans (congrArg₂ (fun a q => rung 0x3D800000#32 0x3C000000#32 a q) h6 hq)⟩
theorem s3 : P W (w3 W) ∧ (w3 W main_v19 : Arr (F := F)) = l3 (A W) := by
  obtain ⟨⟨h3, h5, h6, ha, hb⟩, hq⟩ := s2 W
  obtain ⟨a, b, c, d, e, f⟩ := r3 (w2 W)
  exact ⟨⟨a.trans h3, b.trans h5, c.trans h6, d.trans ha, e.trans hb⟩, f.trans (congrArg₂ (fun a q => rung 0x3E000000#32 0x3C800000#32 a q) h6 hq)⟩
theorem s4 : P W (w4 W) ∧ (w4 W main_v23 : Arr (F := F)) = l4 (A W) := by
  obtain ⟨⟨h3, h5, h6, ha, hb⟩, hq⟩ := s3 W
  obtain ⟨a, b, c, d, e, f⟩ := r4 (w3 W)
  exact ⟨⟨a.trans h3, b.trans h5, c.trans h6, d.trans ha, e.trans hb⟩, f.trans (congrArg₂ (fun a q => rung 0x3E800000#32 0x3D000000#32 a q) h6 hq)⟩
theorem s5 : P W (w5 W) ∧ (w5 W main_v27 : Arr (F := F)) = l5 (A W) := by
  obtain ⟨⟨h3, h5, h6, ha, hb⟩, hq⟩ := s4 W
  obtain ⟨a, b, c, d, e, f⟩ := r5 (w4 W)
  exact ⟨⟨a.trans h3, b.trans h5, c.trans h6, d.trans ha, e.trans hb⟩, f.trans (congrArg₂ (fun a q => rung 0x3F000000#32 0x3D800000#32 a q) h6 hq)⟩
theorem s6 : P W (w6 W) ∧ (w6 W main_v31 : Arr (F := F)) = l6 (A W) := by
  obtain ⟨⟨h3, h5, h6, ha, hb⟩, hq⟩ := s5 W
  obtain ⟨a, b, c, d, e, f⟩ := r6 (w5 W)
  exact ⟨⟨a.trans h3, b.trans h5, c.trans h6, d.trans ha, e.trans hb⟩, f.trans (congrArg₂ (fun a q => rung 0x3F800000#32 0x3E000000#32 a q) h6 hq)⟩
theorem s7 : P W (w7 W) ∧ (w7 W main_v35 : Arr (F := F)) = l7 (A W) := by
  obtain ⟨⟨h3, h5, h6, ha, hb⟩, hq⟩ := s6 W
  obtain ⟨a, b, c, d, e, f⟩ := r7 (w6 W)
  exact ⟨⟨a.trans h3, b.trans h5, c.trans h6, d.trans ha, e.trans hb⟩, f.trans (congrArg₂ (fun a q => rung 0x40000000#32 0x3E800000#32 a q) h6 hq)⟩
theorem s8 : P W (w8 W) ∧ (w8 W main_v39 : Arr (F := F)) = l8 (A W) := by
  obtain ⟨⟨h3, h5, h6, ha, hb⟩, hq⟩ := s7 W
  obtain ⟨a, b, c, d, e, f⟩ := r8 (w7 W)
  exact ⟨⟨a.trans h3, b.trans h5, c.trans h6, d.trans ha, e.trans hb⟩, f.trans (congrArg₂ (fun a q => rung 0x40800000#32 0x3F000000#32 a q) h6 hq)⟩
theorem s9 : P W (w9 W) ∧ (w9 W main_v43 : Arr (F := F)) = l9 (A W) := by
  obtain ⟨⟨h3, h5, h6, ha, hb⟩, hq⟩ := s8 W
  obtain ⟨a, b, c, d, e, f⟩ := r9 (w8 W)
  exact ⟨⟨a.trans h3, b.trans h5, c.trans h6, d.trans ha, e.trans hb⟩, f.trans (congrArg₂ (fun a q => rung 0x41000000#32 0x3F800000#32 a q) h6 hq)⟩
theorem s10 : P W (w10 W) ∧ (w10 W main_v47 : Arr (F := F)) = l10 (A W) := by
  obtain ⟨⟨h3, h5, h6, ha, hb⟩, hq⟩ := s9 W
  obtain ⟨a, b, c, d, e, f⟩ := r10 (w9 W)
  exact ⟨⟨a.trans h3, b.trans h5, c.trans h6, d.trans ha, e.trans hb⟩, f.trans (congrArg₂ (fun a q => rung 0x41800000#32 0x40000000#32 a q) h6 hq)⟩
theorem s11 : P W (w11 W) ∧ (w11 W main_v51 : Arr (F := F)) = l11 (A W) := by
  obtain ⟨⟨h3, h5, h6, ha, hb⟩, hq⟩ := s10 W
  obtain ⟨a, b, c, d, e, f⟩ := r11 (w10 W)
  exact ⟨⟨a.trans h3, b.trans h5, c.trans h6, d.trans ha, e.trans hb⟩, f.trans (congrArg₂ (fun a q => rung 0x42000000#32 0x40800000#32 a q) h6 hq)⟩
theorem s12 : P W (w12 W) ∧ (w12 W main_v55 : Arr (F := F)) = l12 (A W) := by
  obtain ⟨⟨h3, h5, h6, ha, hb⟩, hq⟩ := s11 W
  obtain ⟨a, b, c, d, e, f⟩ := r12 (w11 W)
  exact ⟨⟨a.trans h3, b.trans h5, c.trans h6, d.trans ha, e.trans hb⟩, f.trans (congrArg₂ (fun a q => rung 0x42800000#32 0x41000000#32 a q) h6 hq)⟩
theorem s13 : P W (w13 W) ∧ (w13 W main_v59 : Arr (F := F)) = l13 (A W) := by
  obtain ⟨⟨h3, h5, h6, ha, hb⟩, hq⟩ := s12 W
  obtain ⟨a, b, c, d, e, f⟩ := r13 (w12 W)
  exact ⟨⟨a.trans h3, b.trans h5, c.trans h6, d.trans ha, e.trans hb⟩, f.trans (congrArg₂ (fun a q => rung 0x43000000#32 0x41800000#32 a q) h6 hq)⟩
theorem s14 : P W (w14 W) ∧ (w14 W main_v63 : Arr (F := F)) = l14 (A W) := by
  obtain ⟨⟨h3, h5, h6, ha, hb⟩, hq⟩ := s13 W
  obtain ⟨a, b, c, d, e, f⟩ := r14 (w13 W)
  exact ⟨⟨a.trans h3, b.trans h5, c.trans h6, d.trans ha, e.trans hb⟩, f.trans (congrArg₂ (fun a q => rung 0x43800000#32 0x42000000#32 a q) h6 hq)⟩
theorem after_eq : after ops W = w15 W := by
  unfold ops; simp only [after_app]
theorem s15 : (after ops W main_v72 : Arr (F := F)) = snap (prod (W main_arg0) (W main_arg1)) ∧ after ops W main_arg0 = W main_arg0 ∧ after ops W main_arg1 = W main_arg1 := by
  obtain ⟨⟨h3, h5, h6, ha, hb⟩, hq⟩ := s14 W
  obtain ⟨d, e, f⟩ := r15 (w14 W)
  rw [after_eq]
  refine ⟨?_, d.trans ha, e.trans hb⟩
  refine f.trans ?_
  rw [h3, h5, h6, hq]
  rfl

/-! ## The run -/

theorem scopedRefs_eq : (Finset.univ.filter fun b : Ref sig .tc => b.isScoped) = ∅ := by decide +kernel
theorem scopedSems_eq : (Finset.univ.filter fun sm : SemLoc sig => sm.isScoped .tc) = ∅ := by decide +kernel
theorem o0_sub : (o0 : List (HloOp τ sig (Elt F))).Forall fun op => op.bufs ⊆ tcRefs τ sig := ⟨binary_bufs_sub .., unary_bufs_sub .., nullary_bufs_sub .., binary_bufs_sub .., nullary_bufs_sub .., binary_bufs_sub .., unary_bufs_sub .., binary_bufs_sub .., unary_bufs_sub .., nullary_bufs_sub .., unary_bufs_sub ..⟩
theorem o1_sub : (o1 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o2_sub : (o2 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o3_sub : (o3 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o4_sub : (o4 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o5_sub : (o5 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o6_sub : (o6 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o7_sub : (o7 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o8_sub : (o8 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o9_sub : (o9 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o10_sub : (o10 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o11_sub : (o11 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o12_sub : (o12 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o13_sub : (o13 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o14_sub : (o14 : List (HloOp τ sig (Elt F))).Forall fun op => op.bufs ⊆ tcRefs τ sig := ⟨nullary_bufs_sub .., unary_bufs_sub .., binary_bufs_sub .., nullary_bufs_sub .., unary_bufs_sub .., ternary_bufs_sub ..⟩
theorem o15_sub : (o15 : List (HloOp τ sig (Elt F))).Forall fun op => op.bufs ⊆ tcRefs τ sig := ⟨binary_bufs_sub .., unary_bufs_sub .., binary_bufs_sub .., nullary_bufs_sub .., unary_bufs_sub .., binary_bufs_sub .., unary_bufs_sub .., binary_bufs_sub .., unary_bufs_sub .., binary_bufs_sub ..⟩
theorem ops_sub : (ops : List (HloOp τ sig (Elt F))).Forall fun op => op.bufs ⊆ tcRefs τ sig := by
  unfold ops; simp only [List.forall_append]
  exact ⟨o0_sub, o1_sub, o2_sub, o3_sub, o4_sub, o5_sub, o6_sub, o7_sub, o8_sub, o9_sub, o10_sub, o11_sub, o12_sub, o13_sub, o14_sub, o15_sub⟩

/-- The run: the result is the reference's function of the product, the arguments keep what they held, and no semaphore is declared. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v72) = snap (prod (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  θ_run_mono (run_seq scopedRefs_eq scopedSems_eq defs main (fun _ => ops) main_eq (fun _ => ops_sub) m ρ) fun r h =>
    ⟨fun c => ⟨(h c main_v72).trans (s15 _).1, (h c main_arg0).trans (s15 _).2.1, (h c main_arg1).trans (s15 _).2.2⟩, sem_eq_zero_of_no_sems (by decide) r.2⟩

end Cert.ReferenceIdeal.Run

end
-- ==== Proof.KernelIdeal.Tail.lean ====
/- What the host makes of the sum the kernel brings to every device: the scale, the spacings, the rounding. -/
module

public import proofs.«01_k».proof.Proof.Gen.KernelIdeal.Regions
public import proofs.«01_k».proof.Proof.Reference.Run

@[expose] public section

noncomputable section

namespace Cert.KernelIdeal.Tail

open Cert.KernelIdeal Cert.KernelIdeal.Gen
open Idealize.ShloMosaic Idealize.ShloMosaic.TcCoe Idealize.ShloMosaic.StableHlo Idealize.SL.Sem
open Cert.ReferenceIdeal.Run (after_app bs bc scl val rung fin l0 l1 l2 l3 l4 l5 l6 l7 l8 l9 l10 l11 l12 l13 l14)

variable {F : FTy → Type} [FloatOps F]

abbrev Arr := (⟨S4096x8192, .f32⟩ : BufTy).Contents (Elt F)
abbrev Sc := (⟨S_, .f32⟩ : BufTy).Contents (Elt F)
abbrev Msk := (⟨S4096x8192, .i1⟩ : BufTy).Contents (Elt F)

/-! ## The operations, in parts -/

abbrev o0 : List (HloOp τ sig (Elt F)) :=
  [ unary main_v30 main_v31 (Host.absf : Arr (F := F) → Arr (F := F)),
    nullary main_cst (constant S_ .f32 0xFF800000#32),
    binary main_v31 main_cst main_v32 ((fun x v => Host.reduce FloatOps.maximumf x v reducesTo_S4096x8192_S_d0_1 h_S_) : Arr (F := F) → Sc (F := F) → Sc (F := F)),
    nullary main_cst_14 (constant S_ .f32 0x43E00000#32),
    binary main_v32 main_cst_14 main_v33 (Host.divf : Sc (F := F) → Sc (F := F) → Sc (F := F)),
    unary main_v33 main_v34 (broadcastInDim S4096x8192 ![] bcast_S_S4096x8192 : Sc (F := F) → Arr (F := F)),
    binary main_v30 main_v34 main_v35 (Host.divf : Arr (F := F) → Arr (F := F) → Arr (F := F)),
    unary main_v35 main_v36 (Host.absf : Arr (F := F) → Arr (F := F)),
    nullary main_cst_15 (constant S_ .f32 0x3C800000#32),
    unary main_cst_15 main_v37 (broadcastInDim S4096x8192 ![] bcast_S_S4096x8192 : Sc (F := F) → Arr (F := F)),
    binary main_v36 main_v37 main_v38 (cmpf .oge : Arr (F := F) → Arr (F := F) → Msk (F := F)),
    nullary main_cst_16 (constant S_ .f32 0x3B000000#32),
    unary main_cst_16 main_v39 (broadcastInDim S4096x8192 ![] bcast_S_S4096x8192 : Sc (F := F) → Arr (F := F)) ]
abbrev o1 : List (HloOp τ sig (Elt F)) :=
  [ nullary main_cst_17 (constant S_ .f32 0x3D000000#32),
    unary main_cst_17 main_v40 (broadcastInDim S4096x8192 ![] bcast_S_S4096x8192 : Sc (F := F) → Arr (F := F)),
    binary main_v36 main_v40 main_v41 (cmpf .oge : Arr (F := F) → Arr (F := F) → Msk (F := F)),
    nullary main_cst_18 (constant S_ .f32 0x3B800000#32),
    unary main_cst_18 main_v42 (broadcastInDim S4096x8192 ![] bcast_S_S4096x8192 : Sc (F := F) → Arr (F := F)),
    ternary main_v41 main_v42 main_v39 main_v43 (select : Msk (F := F) → Arr (F := F) → Arr (F := F) → Arr (F := F)) ]
abbrev o2 : List (HloOp τ sig (Elt F)) :=
  [ nullary main_cst_19 (constant S_ .f32 0x3D800000#32),
    unary main_cst_19 main_v44 (broadcastInDim S4096x8192 ![] bcast_S_S4096x8192 : Sc (F := F) → Arr (F := F)),
    binary main_v36 main_v44 main_v45 (cmpf .oge : Arr (F := F) → Arr (F := F) → Msk (F := F)),
    nullary main_cst_20 (constant S_ .f32 0x3C000000#32),
    unary main_cst_20 main_v46 (broadcastInDim S4096x8192 ![] bcast_S_S4096x8192 : Sc (F := F) → Arr (F := F)),
    ternary main_v45 main_v46 main_v43 main_v47 (select : Msk (F := F) → Arr (F := F) → Arr (F := F) → Arr (F := F)) ]
abbrev o3 : List (HloOp τ sig (Elt F)) :=
  [ nullary main_cst_21 (constant S_ .f32 0x3E000000#32),
    unary main_cst_21 main_v48 (broadcastInDim S4096x8192 ![] bcast_S_S4096x8192 : Sc (F := F) → Arr (F := F)),
    binary main_v36 main_v48 main_v49 (cmpf .oge : Arr (F := F) → Arr (F := F) → Msk (F := F)),
    nullary main_cst_22 (constant S_ .f32 0x3C800000#32),
    unary main_cst_22 main_v50 (broadcastInDim S4096x8192 ![] bcast_S_S4096x8192 : Sc (F := F) → Arr (F := F)),
    ternary main_v49 main_v50 main_v47 main_v51 (select : Msk (F := F) → Arr (F := F) → Arr (F := F) → Arr (F := F)) ]
abbrev o4 : List (HloOp τ sig (Elt F)) :=
  [ nullary main_cst_23 (constant S_ .f32 0x3E800000#32),
    unary main_cst_23 main_v52 (broadcastInDim S4096x8192 ![] bcast_S_S4096x8192 : Sc (F := F) → Arr (F := F)),
    binary main_v36 main_v52 main_v53 (cmpf .oge : Arr (F := F) → Arr (F := F) → Msk (F := F)),
    nullary main_cst_24 (constant S_ .f32 0x3D000000#32),
    unary main_cst_24 main_v54 (broadcastInDim S4096x8192 ![] bcast_S_S4096x8192 : Sc (F := F) → Arr (F := F)),
    ternary main_v53 main_v54 main_v51 main_v55 (select : Msk (F := F) → Arr (F := F) → Arr (F := F) → Arr (F := F)) ]
abbrev o5 : List (HloOp τ sig (Elt F)) :=
  [ nullary main_cst_25 (constant S_ .f32 0x3F000000#32),
    unary main_cst_25 main_v56 (broadcastInDim S4096x8192 ![] bcast_S_S4096x8192 : Sc (F := F) → Arr (F := F)),
    binary main_v36 main_v56 main_v57 (cmpf .oge : Arr (F := F) → Arr (F := F) → Msk (F := F)),
    nullary main_cst_26 (constant S_ .f32 0x3D800000#32),
    unary main_cst_26 main_v58 (broadcastInDim S4096x8192 ![] bcast_S_S4096x8192 : Sc (F := F) → Arr (F := F)),
    ternary main_v57 main_v58 main_v55 main_v59 (select : Msk (F := F) → Arr (F := F) → Arr (F := F) → Arr (F := F)) ]
abbrev o6 : List (HloOp τ sig (Elt F)) :=
  [ nullary main_cst_27 (constant S_ .f32 0x3F800000#32),
    unary main_cst_27 main_v60 (broadcastInDim S4096x8192 ![] bcast_S_S4096x8192 : Sc (F := F) → Arr (F := F)),
    binary main_v36 main_v60 main_v61 (cmpf .oge : Arr (F := F) → Arr (F := F) → Msk (F := F)),
    nullary main_cst_28 (constant S_ .f32 0x3E000000#32),
    unary main_cst_28 main_v62 (broadcastInDim S4096x8192 ![] bcast_S_S4096x8192 : Sc (F := F) → Arr (F := F)),
    ternary main_v61 main_v62 main_v59 main_v63 (select : Msk (F := F) → Arr (F := F) → Arr (F := F) → Arr (F := F)) ]
abbrev o7 : List (HloOp τ sig (Elt F)) :=
  [ nullary main_cst_29 (constant S_ .f32 0x40000000#32),
    unary main_cst_29 main_v64 (broadcastInDim S4096x8192 ![] bcast_S_S4096x8192 : Sc (F := F) → Arr (F := F)),
    binary main_v36 main_v64 main_v65 (cmpf .oge : Arr (F := F) → Arr (F := F) → Msk (F := F)),
    nullary main_cst_30 (constant S_ .f32 0x3E800000#32),
    unary main_cst_30 main_v66 (broadcastInDim S4096x8192 ![] bcast_S_S4096x8192 : Sc (F := F) → Arr (F := F)),
    ternary main_v65 main_v66 main_v63 main_v67 (select : Msk (F := F) → Arr (F := F) → Arr (F := F) → Arr (F := F)) ]
abbrev o8 : List (HloOp τ sig (Elt F)) :=
  [ nullary main_cst_31 (constant S_ .f32 0x40800000#32),
    unary main_cst_31 main_v68 (broadcastInDim S4096x8192 ![] bcast_S_S4096x8192 : Sc (F := F) → Arr (F := F)),
    binary main_v36 main_v68 main_v69 (cmpf .oge : Arr (F := F) → Arr (F := F) → Msk (F := F)),
    nullary main_cst_32 (constant S_ .f32 0x3F000000#32),
    unary main_cst_32 main_v70 (broadcastInDim S4096x8192 ![] bcast_S_S4096x8192 : Sc (F := F) → Arr (F := F)),
    ternary main_v69 main_v70 main_v67 main_v71 (select : Msk (F := F) → Arr (F := F) → Arr (F := F) → Arr (F := F)) ]
abbrev o9 : List (HloOp τ sig (Elt F)) :=
  [ nullary main_cst_33 (constant S_ .f32 0x41000000#32),
    unary main_cst_33 main_v72 (broadcastInDim S4096x8192 ![] bcast_S_S4096x8192 : Sc (F := F) → Arr (F := F)),
    binary main_v36 main_v72 main_v73 (cmpf .oge : Arr (F := F) → Arr (F := F) → Msk (F := F)),
    nullary main_cst_34 (constant S_ .f32 0x3F800000#32),
    unary main_cst_34 main_v74 (broadcastInDim S4096x8192 ![] bcast_S_S4096x8192 : Sc (F := F) → Arr (F := F)),
    ternary main_v73 main_v74 main_v71 main_v75 (select : Msk (F := F) → Arr (F := F) → Arr (F := F) → Arr (F := F)) ]
abbrev o10 : List (HloOp τ sig (Elt F)) :=
  [ nullary main_cst_35 (constant S_ .f32 0x41800000#32),
    unary main_cst_35 main_v76 (broadcastInDim S4096x8192 ![] bcast_S_S4096x8192 : Sc (F := F) → Arr (F := F)),
    binary main_v36 main_v76 main_v77 (cmpf .oge : Arr (F := F) → Arr (F := F) → Msk (F := F)),
    nullary main_cst_36 (constant S_ .f32 0x40000000#32),
    unary main_cst_36 main_v78 (broadcastInDim S4096x8192 ![] bcast_S_S4096x8192 : Sc (F := F) → Arr (F := F)),
    ternary main_v77 main_v78 main_v75 main_v79 (select : Msk (F := F) → Arr (F := F) → Arr (F := F) → Arr (F := F)) ]
abbrev o11 : List (HloOp τ sig (Elt F)) :=
  [ nullary main_cst_37 (constant S_ .f32 0x42000000#32),
    unary main_cst_37 main_v80 (broadcastInDim S4096x8192 ![] bcast_S_S4096x8192 : Sc (F := F) → Arr (F := F)),
    binary main_v36 main_v80 main_v81 (cmpf .oge : Arr (F := F) → Arr (F := F) → Msk (F := F)),
    nullary main_cst_38 (constant S_ .f32 0x40800000#32),
    unary main_cst_38 main_v82 (broadcastInDim S4096x8192 ![] bcast_S_S4096x8192 : Sc (F := F) → Arr (F := F)),
    ternary main_v81 main_v82 main_v79 main_v83 (select : Msk (F := F) → Arr (F := F) → Arr (F := F) → Arr (F := F)) ]
abbrev o12 : List (HloOp τ sig (Elt F)) :=
  [ nullary main_cst_39 (constant S_ .f32 0x42800000#32),
    unary main_cst_39 main_v84 (broadcastInDim S4096x8192 ![] bcast_S_S4096x8192 : Sc (F := F) → Arr (F := F)),
    binary main_v36 main_v84 main_v85 (cmpf .oge : Arr (F := F) → Arr (F := F) → Msk (F := F)),
    nullary main_cst_40 (constant S_ .f32 0x41000000#32),
    unary main_cst_40 main_v86 (broadcastInDim S4096x8192 ![] bcast_S_S4096x8192 : Sc (F := F) → Arr (F := F)),
    ternary main_v85 main_v86 main_v83 main_v87 (select : Msk (F := F) → Arr (F := F) → Arr (F := F) → Arr (F := F)) ]
abbrev o13 : List (HloOp τ sig (Elt F)) :=
  [ nullary main_cst_41 (constant S_ .f32 0x43000000#32),
    unary main_cst_41 main_v88 (broadcastInDim S4096x8192 ![] bcast_S_S4096x8192 : Sc (F := F) → Arr (F := F)),
    binary main_v36 main_v88 main_v89 (cmpf .oge : Arr (F := F) → Arr (F := F) → Msk (F := F)),
    nullary main_cst_42 (constant S_ .f32 0x41800000#32),
    unary main_cst_42 main_v90 (broadcastInDim S4096x8192 ![] bcast_S_S4096x8192 : Sc (F := F) → Arr (F := F)),
    ternary main_v89 main_v90 main_v87 main_v91 (select : Msk (F := F) → Arr (F := F) → Arr (F := F) → Arr (F := F)) ]
abbrev o14 : List (HloOp τ sig (Elt F)) :=
  [ nullary main_cst_43 (constant S_ .f32 0x43800000#32),
    unary main_cst_43 main_v92 (broadcastInDim S4096x8192 ![] bcast_S_S4096x8192 : Sc (F := F) → Arr (F := F)),
    binary main_v36 main_v92 main_v93 (cmpf .oge : Arr (F := F) → Arr (F := F) → Msk (F := F)),
    nullary main_cst_44 (constant S_ .f32 0x42000000#32),
    unary main_cst_44 main_v94 (broadcastInDim S4096x8192 ![] bcast_S_S4096x8192 : Sc (F := F) → Arr (F := F)),
    ternary main_v93 main_v94 main_v91 main_v95 (select : Msk (F := F) → Arr (F := F) → Arr (F := F) → Arr (F := F)) ]
abbrev o15 : List (HloOp τ sig (Elt F)) :=
  [ nullary main_cst_45 (constant S_ .f32 0x3B000000#32) ]

set_option maxHeartbeats 4000000 in
set_option maxRecDepth 10000 in
theorem ops_eq : (hostOps1 : List (HloOp τ sig (Elt F))) = o0 ++ (o1 ++ (o2 ++ (o3 ++ (o4 ++ (o5 ++ (o6 ++ (o7 ++ (o8 ++ (o9 ++ (o10 ++ (o11 ++ (o12 ++ (o13 ++ (o14 ++ (o15))))))))))))))) := rfl

variable (W : Valuation τ sig (Elt F))

theorem r0 : (after o0 W main_v33 : Sc (F := F)) = scl (W main_v30) ∧ (after o0 W main_v35 : Arr (F := F)) = val (W main_v30)
    ∧ (after o0 W main_v36 : Arr (F := F)) = Host.absf (val (W main_v30)) ∧ (after o0 W main_v38 : Msk (F := F)) = (cmpf .oge (Host.absf (val (W main_v30)) : Arr (F := F)) (bc 0x3C800000#32) : Msk (F := F))
    ∧ (after o0 W main_v39 : Arr (F := F)) = bc 0x3B000000#32 := by
  refine ⟨?_, ?_, ?_, ?_, ?_⟩ <;> after_results <;> rfl
theorem r1 : after o1 W main_v33 = W main_v33 ∧ after o1 W main_v35 = W main_v35 ∧ after o1 W main_v36 = W main_v36 ∧ after o1 W main_v38 = W main_v38
    ∧ (after o1 W main_v43 : Arr (F := F)) = rung 0x3D000000#32 0x3B800000#32 (W main_v36 : Arr (F := F)) (W main_v39 : Arr (F := F)) := by
  refine ⟨?_, ?_, ?_, ?_, ?_⟩ <;> after_results <;> rfl
theorem r2 : after o2 W main_v33 = W main_v33 ∧ after o2 W main_v35 = W main_v35 ∧ after o2 W main_v36 = W main_v36 ∧ after o2 W main_v38 = W main_v38
    ∧ (after o2 W main_v47 : Arr (F := F)) = rung 0x3D800000#32 0x3C000000#32 (W main_v36 : Arr (F := F)) (W main_v43 : Arr (F := F)) := by
  refine ⟨?_, ?_, ?_, ?_, ?_⟩ <;> after_results <;> rfl
theorem r3 : after o3 W main_v33 = W main_v33 ∧ after o3 W main_v35 = W main_v35 ∧ after o3 W main_v36 = W main_v36 ∧ after o3 W main_v38 = W main_v38
    ∧ (after o3 W main_v51 : Arr (F := F)) = rung 0x3E000000#32 0x3C800000#32 (W main_v36 : Arr (F := F)) (W main_v47 : Arr (F := F)) := by
  refine ⟨?_, ?_, ?_, ?_, ?_⟩ <;> after_results <;> rfl
theorem r4 : after o4 W main_v33 = W main_v33 ∧ after o4 W main_v35 = W main_v35 ∧ after o4 W main_v36 = W main_v36 ∧ after o4 W main_v38 = W main_v38
    ∧ (after o4 W main_v55 : Arr (F := F)) = rung 0x3E800000#32 0x3D000000#32 (W main_v36 : Arr (F := F)) (W main_v51 : Arr (F := F)) := by
  refine ⟨?_, ?_, ?_, ?_, ?_⟩ <;> after_results <;> rfl
theorem r5 : after o5 W main_v33 = W main_v33 ∧ after o5 W main_v35 = W main_v35 ∧ after o5 W main_v36 = W main_v36 ∧ after o5 W main_v38 = W main_v38
    ∧ (after o5 W main_v59 : Arr (F := F)) = rung 0x3F000000#32 0x3D800000#32 (W main_v36 : Arr (F := F)) (W main_v55 : Arr (F := F)) := by
  refine ⟨?_, ?_, ?_, ?_, ?_⟩ <;> after_results <;> rfl
theorem r6 : after o6 W main_v33 = W main_v33 ∧ after o6 W main_v35 = W main_v35 ∧ after o6 W main_v36 = W main_v36 ∧ after o6 W main_v38 = W main_v38
    ∧ (after o6 W main_v63 : Arr (F := F)) = rung 0x3F800000#32 0x3E000000#32 (W main_v36 : Arr (F := F)) (W main_v59 : Arr (F := F)) := by
  refine ⟨?_, ?_, ?_, ?_, ?_⟩ <;> after_results <;> rfl
theorem r7 : after o7 W main_v33 = W main_v33 ∧ after o7 W main_v35 = W main_v35 ∧ after o7 W main_v36 = W main_v36 ∧ after o7 W main_v38 = W main_v38
    ∧ (after o7 W main_v67 : Arr (F := F)) = rung 0x40000000#32 0x3E800000#32 (W main_v36 : Arr (F := F)) (W main_v63 : Arr (F := F)) := by
  refine ⟨?_, ?_, ?_, ?_, ?_⟩ <;> after_results <;> rfl
theorem r8 : after o8 W main_v33 = W main_v33 ∧ after o8 W main_v35 = W main_v35 ∧ after o8 W main_v36 = W main_v36 ∧ after o8 W main_v38 = W main_v38
    ∧ (after o8 W main_v71 : Arr (F := F)) = rung 0x40800000#32 0x3F000000#32 (W main_v36 : Arr (F := F)) (W main_v67 : Arr (F := F)) := by
  refine ⟨?_, ?_, ?_, ?_, ?_⟩ <;> after_results <;> rfl
theorem r9 : after o9 W main_v33 = W main_v33 ∧ after o9 W main_v35 = W main_v35 ∧ after o9 W main_v36 = W main_v36 ∧ after o9 W main_v38 = W main_v38
    ∧ (after o9 W main_v75 : Arr (F := F)) = rung 0x41000000#32 0x3F800000#32 (W main_v36 : Arr (F := F)) (W main_v71 : Arr (F := F)) := by
  refine ⟨?_, ?_, ?_, ?_, ?_⟩ <;> after_results <;> rfl
theorem r10 : after o10 W main_v33 = W main_v33 ∧ after o10 W main_v35 = W main_v35 ∧ after o10 W main_v36 = W main_v36 ∧ after o10 W main_v38 = W main_v38
    ∧ (after o10 W main_v79 : Arr (F := F)) = rung 0x41800000#32 0x40000000#32 (W main_v36 : Arr (F := F)) (W main_v75 : Arr (F := F)) := by
  refine ⟨?_, ?_, ?_, ?_, ?_⟩ <;> after_results <;> rfl
theorem r11 : after o11 W main_v33 = W main_v33 ∧ after o11 W main_v35 = W main_v35 ∧ after o11 W main_v36 = W main_v36 ∧ after o11 W main_v38 = W main_v38
    ∧ (after o11 W main_v83 : Arr (F := F)) = rung 0x42000000#32 0x40800000#32 (W main_v36 : Arr (F := F)) (W main_v79 : Arr (F := F)) := by
  refine ⟨?_, ?_, ?_, ?_, ?_⟩ <;> after_results <;> rfl
theorem r12 : after o12 W main_v33 = W main_v33 ∧ after o12 W main_v35 = W main_v35 ∧ after o12 W main_v36 = W main_v36 ∧ after o12 W main_v38 = W main_v38
    ∧ (after o12 W main_v87 : Arr (F := F)) = rung 0x42800000#32 0x41000000#32 (W main_v36 : Arr (F := F)) (W main_v83 : Arr (F := F)) := by
  refine ⟨?_, ?_, ?_, ?_, ?_⟩ <;> after_results <;> rfl
theorem r13 : after o13 W main_v33 = W main_v33 ∧ after o13 W main_v35 = W main_v35 ∧ after o13 W main_v36 = W main_v36 ∧ after o13 W main_v38 = W main_v38
    ∧ (after o13 W main_v91 : Arr (F := F)) = rung 0x43000000#32 0x41800000#32 (W main_v36 : Arr (F := F)) (W main_v87 : Arr (F := F)) := by
  refine ⟨?_, ?_, ?_, ?_, ?_⟩ <;> after_results <;> rfl
theorem r14 : after o14 W main_v33 = W main_v33 ∧ after o14 W main_v35 = W main_v35 ∧ after o14 W main_v36 = W main_v36 ∧ after o14 W main_v38 = W main_v38
    ∧ (after o14 W main_v95 : Arr (F := F)) = rung 0x43800000#32 0x42000000#32 (W main_v36 : Arr (F := F)) (W main_v91 : Arr (F := F)) := by
  refine ⟨?_, ?_, ?_, ?_, ?_⟩ <;> after_results <;> rfl
theorem r15 : after o15 W main_v33 = W main_v33 ∧ after o15 W main_v35 = W main_v35 ∧ after o15 W main_v36 = W main_v36 ∧ after o15 W main_v38 = W main_v38
    ∧ after o15 W main_v95 = W main_v95 ∧ (after o15 W main_cst_45 : Sc (F := F)) = constant S_ .f32 0x3B000000#32 := by
  refine ⟨?_, ?_, ?_, ?_, ?_, ?_⟩ <;> after_results

abbrev w0 : Valuation τ sig (Elt F) := after o0 W
abbrev w1 : Valuation τ sig (Elt F) := after o1 (w0 W)
abbrev w2 : Valuation τ sig (Elt F) := after o2 (w1 W)
abbrev w3 : Valuation τ sig (Elt F) := after o3 (w2 W)
abbrev w4 : Valuation τ sig (Elt F) := after o4 (w3 W)
abbrev w5 : Valuation τ sig (Elt F) := after o5 (w4 W)
abbrev w6 : Valuation τ sig (Elt F) := after o6 (w5 W)
abbrev w7 : Valuation τ sig (Elt F) := after o7 (w6 W)
abbrev w8 : Valuation τ sig (Elt F) := after o8 (w7 W)
abbrev w9 : Valuation τ sig (Elt F) := after o9 (w8 W)
abbrev w10 : Valuation τ sig (Elt F) := after o10 (w9 W)
abbrev w11 : Valuation τ sig (Elt F) := after o11 (w10 W)
abbrev w12 : Valuation τ sig (Elt F) := after o12 (w11 W)
abbrev w13 : Valuation τ sig (Elt F) := after o13 (w12 W)
abbrev w14 : Valuation τ sig (Elt F) := after o14 (w13 W)
abbrev w15 : Valuation τ sig (Elt F) := after o15 (w14 W)

abbrev Y : Arr (F := F) := W main_v30
abbrev A : Arr (F := F) := Host.absf (val (Y W))
abbrev P (V : Valuation τ sig (Elt F)) : Prop := (V main_v33 : Sc (F := F)) = scl (Y W) ∧ (V main_v35 : Arr (F := F)) = val (Y W)
    ∧ (V main_v36 : Arr (F := F)) = A W ∧ (V main_v38 : Msk (F := F)) = (cmpf .oge (A W) (bc 0x3C800000#32) : Msk (F := F))
theorem s0 : P W (w0 W) ∧ (w0 W main_v39 : Arr (F := F)) = l0 (A W) := by
  obtain ⟨a, b, c, d, f⟩ := r0 W
  exact ⟨⟨a, b, c, d⟩, f⟩
theorem s1 : P W (w1 W) ∧ (w1 W main_v43 : Arr (F := F)) = l1 (A W) := by
  obtain ⟨⟨h3, h5, h6, h8⟩, hq⟩ := s0 W
  obtain ⟨a, b, c, d, f⟩ := r1 (w0 W)
  exact ⟨⟨a.trans h3, b.trans h5, c.trans h6, d.trans h8⟩, f.trans (congrArg₂ (fun a q => rung 0x3D000000#32 0x3B800000#32 a q) h6 hq)⟩
theorem s2 : P W (w2 W) ∧ (w2 W main_v47 : Arr (F := F)) = l2 (A W) := by
  obtain ⟨⟨h3, h5, h6, h8⟩, hq⟩ := s1 W
  obtain ⟨a, b, c, d, f⟩ := r2 (w1 W)
  exact ⟨⟨a.trans h3, b.trans h5, c.trans h6, d.trans h8⟩, f.trans (congrArg₂ (fun a q => rung 0x3D800000#32 0x3C000000#32 a q) h6 hq)⟩
theorem s3 : P W (w3 W) ∧ (w3 W main_v51 : Arr (F := F)) = l3 (A W) := by
  obtain ⟨⟨h3, h5, h6, h8⟩, hq⟩ := s2 W
  obtain ⟨a, b, c, d, f⟩ := r3 (w2 W)
  exact ⟨⟨a.trans h3, b.trans h5, c.trans h6, d.trans h8⟩, f.trans (congrArg₂ (fun a q => rung 0x3E000000#32 0x3C800000#32 a q) h6 hq)⟩
theorem s4 : P W (w4 W) ∧ (w4 W main_v55 : Arr (F := F)) = l4 (A W) := by
  obtain ⟨⟨h3, h5, h6, h8⟩, hq⟩ := s3 W
  obtain ⟨a, b, c, d, f⟩ := r4 (w3 W)
  exact ⟨⟨a.trans h3, b.trans h5, c.trans h6, d.trans h8⟩, f.trans (congrArg₂ (fun a q => rung 0x3E800000#32 0x3D000000#32 a q) h6 hq)⟩
theorem s5 : P W (w5 W) ∧ (w5 W main_v59 : Arr (F := F)) = l5 (A W) := by
  obtain ⟨⟨h3, h5, h6, h8⟩, hq⟩ := s4 W
  obtain ⟨a, b, c, d, f⟩ := r5 (w4 W)
  exact ⟨⟨a.trans h3, b.trans h5, c.trans h6, d.trans h8⟩, f.trans (congrArg₂ (fun a q => rung 0x3F000000#32 0x3D800000#32 a q) h6 hq)⟩
theorem s6 : P W (w6 W) ∧ (w6 W main_v63 : Arr (F := F)) = l6 (A W) := by
  obtain ⟨⟨h3, h5, h6, h8⟩, hq⟩ := s5 W
  obtain ⟨a, b, c, d, f⟩ := r6 (w5 W)
  exact ⟨⟨a.trans h3, b.trans h5, c.trans h6, d.trans h8⟩, f.trans (congrArg₂ (fun a q => rung 0x3F800000#32 0x3E000000#32 a q) h6 hq)⟩
theorem s7 : P W (w7 W) ∧ (w7 W main_v67 : Arr (F := F)) = l7 (A W) := by
  obtain ⟨⟨h3, h5, h6, h8⟩, hq⟩ := s6 W
  obtain ⟨a, b, c, d, f⟩ := r7 (w6 W)
  exact ⟨⟨a.trans h3, b.trans h5, c.trans h6, d.trans h8⟩, f.trans (congrArg₂ (fun a q => rung 0x40000000#32 0x3E800000#32 a q) h6 hq)⟩
theorem s8 : P W (w8 W) ∧ (w8 W main_v71 : Arr (F := F)) = l8 (A W) := by
  obtain ⟨⟨h3, h5, h6, h8⟩, hq⟩ := s7 W
  obtain ⟨a, b, c, d, f⟩ := r8 (w7 W)
  exact ⟨⟨a.trans h3, b.trans h5, c.trans h6, d.trans h8⟩, f.trans (congrArg₂ (fun a q => rung 0x40800000#32 0x3F000000#32 a q) h6 hq)⟩
theorem s9 : P W (w9 W) ∧ (w9 W main_v75 : Arr (F := F)) = l9 (A W) := by
  obtain ⟨⟨h3, h5, h6, h8⟩, hq⟩ := s8 W
  obtain ⟨a, b, c, d, f⟩ := r9 (w8 W)
  exact ⟨⟨a.trans h3, b.trans h5, c.trans h6, d.trans h8⟩, f.trans (congrArg₂ (fun a q => rung 0x41000000#32 0x3F800000#32 a q) h6 hq)⟩
theorem s10 : P W (w10 W) ∧ (w10 W main_v79 : Arr (F := F)) = l10 (A W) := by
  obtain ⟨⟨h3, h5, h6, h8⟩, hq⟩ := s9 W
  obtain ⟨a, b, c, d, f⟩ := r10 (w9 W)
  exact ⟨⟨a.trans h3, b.trans h5, c.trans h6, d.trans h8⟩, f.trans (congrArg₂ (fun a q => rung 0x41800000#32 0x40000000#32 a q) h6 hq)⟩
theorem s11 : P W (w11 W) ∧ (w11 W main_v83 : Arr (F := F)) = l11 (A W) := by
  obtain ⟨⟨h3, h5, h6, h8⟩, hq⟩ := s10 W
  obtain ⟨a, b, c, d, f⟩ := r11 (w10 W)
  exact ⟨⟨a.trans h3, b.trans h5, c.trans h6, d.trans h8⟩, f.trans (congrArg₂ (fun a q => rung 0x42000000#32 0x40800000#32 a q) h6 hq)⟩
theorem s12 : P W (w12 W) ∧ (w12 W main_v87 : Arr (F := F)) = l12 (A W) := by
  obtain ⟨⟨h3, h5, h6, h8⟩, hq⟩ := s11 W
  obtain ⟨a, b, c, d, f⟩ := r12 (w11 W)
  exact ⟨⟨a.trans h3, b.trans h5, c.trans h6, d.trans h8⟩, f.trans (congrArg₂ (fun a q => rung 0x42800000#32 0x41000000#32 a q) h6 hq)⟩
theorem s13 : P W (w13 W) ∧ (w13 W main_v91 : Arr (F := F)) = l13 (A W) := by
  obtain ⟨⟨h3, h5, h6, h8⟩, hq⟩ := s12 W
  obtain ⟨a, b, c, d, f⟩ := r13 (w12 W)
  exact ⟨⟨a.trans h3, b.trans h5, c.trans h6, d.trans h8⟩, f.trans (congrArg₂ (fun a q => rung 0x43000000#32 0x41800000#32 a q) h6 hq)⟩
theorem s14 : P W (w14 W) ∧ (w14 W main_v95 : Arr (F := F)) = l14 (A W) := by
  obtain ⟨⟨h3, h5, h6, h8⟩, hq⟩ := s13 W
  obtain ⟨a, b, c, d, f⟩ := r14 (w13 W)
  exact ⟨⟨a.trans h3, b.trans h5, c.trans h6, d.trans h8⟩, f.trans (congrArg₂ (fun a q => rung 0x43800000#32 0x42000000#32 a q) h6 hq)⟩
theorem after_eq : after hostOps1 W = w15 W := by
  rw [ops_eq]; simp only [after_app]
theorem s15 : P W (after hostOps1 W) ∧ (after hostOps1 W main_v95 : Arr (F := F)) = l14 (A W) ∧ (after hostOps1 W main_cst_45 : Sc (F := F)) = constant S_ .f32 0x3B000000#32 := by
  obtain ⟨⟨h3, h5, h6, h8⟩, hq⟩ := s14 W
  obtain ⟨a, b, c, d, e, f⟩ := r15 (w14 W)
  rw [after_eq]
  exact ⟨⟨a.trans h3, b.trans h5, c.trans h6, d.trans h8⟩, e.trans hq, f⟩

/-! ## The last stretches -/

theorem t1 : after hostOps1_1 W main_v33 = W main_v33 ∧ after hostOps1_1 W main_v35 = W main_v35 ∧ after hostOps1_1 W main_v36 = W main_v36
    ∧ (after hostOps1_1 W main_v96 : Arr (F := F)) = select (W main_v38 : Msk (F := F)) (W main_v95 : Arr (F := F)) (bs (W main_cst_45 : Sc (F := F))) := by
  refine ⟨?_, ?_, ?_, ?_⟩ <;> after_results <;> rfl
theorem t2 : after hostOps1_2 W main_v33 = W main_v33 ∧ after hostOps1_2 W main_v35 = W main_v35 ∧ after hostOps1_2 W main_v96 = W main_v96
    ∧ (after hostOps1_2 W main_v97 : Arr (F := F)) = Host.divf (W main_v36 : Arr (F := F)) (W main_v96 : Arr (F := F)) := by
  refine ⟨?_, ?_, ?_, ?_⟩ <;> after_results <;> rfl
theorem t3 : after hostOps1_3 W main_v33 = W main_v33 ∧ after hostOps1_3 W main_v35 = W main_v35 ∧ after hostOps1_3 W main_v96 = W main_v96
    ∧ (after hostOps1_3 W main_v98 : Arr (F := F)) = Host.roundeven (W main_v97 : Arr (F := F)) := by
  refine ⟨?_, ?_, ?_, ?_⟩ <;> after_results <;> rfl
theorem t4 : (after hostOps1_4 W main_v105 : Arr (F := F)) =
    mulf (mulf (Host.sign (W main_v35 : Arr (F := F))) (minimumf (mulf (W main_v98 : Arr (F := F)) (W main_v96 : Arr (F := F))) (bc 0x43E00000#32))) (bs (W main_v33 : Sc (F := F))) := by
  after_results <;> rfl

/-- The spacing the kernel's program takes: the ladder's where the magnitude is a normal one, the least elsewhere. -/
abbrev sel (a : Arr (F := F)) : Arr (F := F) := select (cmpf .oge a (bc 0x3C800000#32) : Msk (F := F)) (l14 a) (bc 0x3B000000#32)

/-- The five stretches together. -/
theorem tail_eq : (after hostOps1_4 (after hostOps1_3 (after hostOps1_2 (after hostOps1_1 (after hostOps1 W)))) main_v105 : Arr (F := F)) =
    fin (scl (Y W)) (val (Y W)) (A W) (sel (A W)) := by
  obtain ⟨⟨h3, h5, h6, h8⟩, hq, hc⟩ := s15 W
  obtain ⟨a1, b1, c1, d1⟩ := t1 (after hostOps1 W)
  obtain ⟨a2, b2, c2, d2⟩ := t2 (after hostOps1_1 (after hostOps1 W))
  obtain ⟨a3, b3, c3, d3⟩ := t3 (after hostOps1_2 (after hostOps1_1 (after hostOps1 W)))
  have e96 := d1.trans (by rw [h8, hq, hc] : _ = sel (A W))
  refine (t4 _).trans ?_
  rw [a3.trans (a2.trans (a1.trans h3)), b3.trans (b2.trans (b1.trans h5)), c3.trans (c2.trans e96), d3, d2, c1.trans h6, e96]

end Cert.KernelIdeal.Tail

end
-- ==== Proof.KernelIdeal.Value.lean ====
/- What the program computes at the ideal values, and that the reference computes the same. -/
module

public import proofs.«01_k».proof.Proof.KernelIdeal.Launch
public import proofs.«01_k».proof.Proof.KernelIdeal.Tail
public import Idealize.ShloMosaic.Lib.Pointwise.Contract
public import Idealize.ShloMosaic.Lib.Layout

@[expose] public section

noncomputable section

namespace Cert.KernelIdeal.Value

open Cert.KernelIdeal Cert.KernelIdeal.Gen Cert.KernelIdeal.Ring
open Idealize.ShloMosaic Idealize.ShloMosaic.TcCoe Idealize.ShloMosaic.StableHlo Idealize.SL.Sem

/-! ## The sum around a ring -/

variable (y : Dev nD → Whole Ideal)

theorem snd_sum (X : Bool) (g : ℕ) (hg : g ≤ 31) (c : Dev nD) (j : S64x8192.Idx) :
    (snd y X g c j : EReal) = ∑ k ∈ Finset.range (g + 1), (chunk (y (devT (sh X (posT c) k))) X (sh X (posT c) g) j : EReal) := by
  induction g generalizing c with
  | zero =>
    rw [Finset.sum_range_one, sh_zero, devT_posT]; rfl
  | succ g ih =>
    have e : (snd y X (g + 1) c j : EReal) = (chunk (y c) X (sh X (posT c) (g + 1)) j : EReal) + (snd y X g (upD X c) j : EReal) := by
      show ((if g < 31 then addf (chunk (y c) X (sh X (posT c) (g + 1))) (snd y X g (upD X c)) else snd y X g (upD X c)) j : EReal) = _
      rw [if_pos (by omega)]; rfl
    rw [e, ih (by omega), Finset.sum_range_succ' _ (g + 1), add_comm, posT_up, sh_zero, devT_posT, sh_sh]
    refine congrArg₂ (· + ·) (Finset.sum_congr rfl fun k _ => ?_) ?_
    · rw [sh_sh, Nat.add_comm 1 k, Nat.add_comm 1 g]
    · rfl

theorem ring_bij (X : Bool) (p : Fin 32) : Function.Bijective (fun k : Fin 32 => devT (sh X p k.val)) :=
  Finite.injective_iff_bijective.mp fun a b h => Fin.ext (sh_inj X p a.isLt b.isLt (by
    have := congrArg posT h
    simpa only [posT_devT] using this))

theorem sum_ring (X : Bool) (p : Fin 32) (f : Dev nD → EReal) : ∑ k ∈ Finset.range 32, f (devT (sh X p k)) = ∑ d : Dev nD, f d := by
  rw [Finset.sum_range]
  exact (ring_bij X p).sum_comp f

/-- A finished chunk holds the sum over all the devices. -/
theorem tot_sum (X : Bool) (i : Fin 32) (j : S64x8192.Idx) : (tot y X i j : EReal) = ∑ d : Dev nD, (chunk (y d) X i j : EReal) := by
  unfold tot
  rw [snd_sum y X 31 le_rfl, posT_devT, sh_not]
  exact sum_ring X _ fun d => (chunk (y d) X i j : EReal)

theorem outV_sum : outV y = fun j => (∑ d : Dev nD, (y d j : EReal) : EReal) := by
  funext j
  have hm : j ∈ half false ∪ half true := half_union ▸ Finset.mem_univ j
  rcases Finset.mem_union.mp hm with h | h
  · exact (out_half y false (fun j => (∑ d : Dev nD, (y d j : EReal) : EReal)) (fun i => funext fun jj => (tot_sum y false i jj).symm) j h).symm
  · exact (out_half y true (fun j => (∑ d : Dev nD, (y d j : EReal) : EReal)) (fun i => funext fun jj => (tot_sum y true i jj).symm) j h).symm

/-! ## The product, cut along its contraction -/

variable (m : (ℓ : Loc nD τ sig) → Buf (Elt Ideal) ℓ)

theorem ym_eq (c : Dev nD) : (ym m c : Whole Ideal) =
    Ideal.matmul dot_S4096x128_S128x8192_S4096x8192_1_0_0_1_n_n (m ((c.tc : Thread nD τ).loc main_arg0) : S4096x128.Idx → EReal) (m ((c.tc : Thread nD τ).loc main_arg1) : S128x8192.Idx → EReal) (fun _ => 0) := by
  have e : StableHlo.after (hostOps0 c) (V0 m c) = StableHlo.after ((hostOps0 c).drop 3) (StableHlo.after ((hostOps0 c).take 3) (V0 m c)) := by
    rw [← after_app, List.take_append_drop]
  show StableHlo.after (hostOps0 c) (V0 m c) main_v1 = _
  rw [e, StableHlo.after_of_writes_sub ((hostOps0 c).drop 3) _ (StableHlo.forall_writes_sub_of_map (W := hostOps0_W.drop 3) rfl) (by decide)]
  simp only [hostOps0, List.take_succ_cons, List.take_zero]
  after_results
  rfl

abbrev dK := dot_S4096x128_S128x8192_S4096x8192_1_0_0_1_n_n
abbrev dR := Cert.ReferenceIdeal.dot_S4096x4096_S4096x8192_S4096x8192_1_0_0_1_n_n

theorem kl0 (j : S4096x8192.Idx) (kk : dK.contr.Idx) : (dK.lhsIdx j kk 0).val = (j 0).val := rfl
theorem kl1 (j : S4096x8192.Idx) (kk : dK.contr.Idx) : (dK.lhsIdx j kk 1).val = (kk ⟨0, by decide⟩).val := rfl
theorem kr0 (j : S4096x8192.Idx) (kk : dK.contr.Idx) : (dK.rhsIdx j kk 0).val = (kk ⟨0, by decide⟩).val := rfl
theorem kr1 (j : S4096x8192.Idx) (kk : dK.contr.Idx) : (dK.rhsIdx j kk 1).val = (j 1).val := rfl
theorem rl0 (j : S4096x8192.Idx) (kk : dR.contr.Idx) : (dR.lhsIdx j kk 0).val = (j 0).val := rfl
theorem rl1 (j : S4096x8192.Idx) (kk : dR.contr.Idx) : (dR.lhsIdx j kk 1).val = (kk ⟨0, by decide⟩).val := rfl
theorem rr0 (j : S4096x8192.Idx) (kk : dR.contr.Idx) : (dR.rhsIdx j kk 0).val = (kk ⟨0, by decide⟩).val := rfl
theorem rr1 (j : S4096x8192.Idx) (kk : dR.contr.Idx) : (dR.rhsIdx j kk 1).val = (j 1).val := rfl

/-- A sum over 32 blocks of 128 is the sum over 4096. -/
theorem sum_blocks (f : ℕ → EReal) : ∑ d : Fin 32, ∑ k : Fin 128, f (d.val * 128 + k.val) = ∑ k : Fin 4096, f k.val := by
  rw [← Fintype.sum_prod_type' (f := fun (d : Fin 32) (k : Fin 128) => f (d.val * 128 + k.val))]
  exact Fintype.sum_equiv (finProdFinEquiv (m := 32) (n := 128)) _ (fun k : Fin (32 * 128) => f k.val) fun x => congrArg f (by
    show x.1.val * 128 + x.2.val = x.2.val + 128 * x.1.val; omega)

abbrev S40 : Shape := ⟨2, ![4096, 4096]⟩
def ixA (i : Fin 4096) (k : ℕ) : S40.Idx := fun a => match a with
  | ⟨0, _⟩ => i
  | ⟨1, _⟩ => ⟨k % 4096, Nat.mod_lt _ (by decide)⟩
def ixB (k : ℕ) (i : Fin 8192) : S4096x8192.Idx := fun a => match a with
  | ⟨0, _⟩ => ⟨k % 4096, Nat.mod_lt _ (by decide)⟩
  | ⟨1, _⟩ => i

theorem hA : Layout.Tiles ⟨2, ![4096, 128]⟩ ⟨2, ![4096, 4096]⟩ 1 32 := by decide
theorem hB : Layout.Tiles ⟨2, ![128, 8192]⟩ ⟨2, ![4096, 8192]⟩ 0 32 := by decide

theorem prod_sum (x : S40.Idx → EReal) (w : S4096x8192.Idx → EReal) (j : S4096x8192.Idx) :
    (∑ d : Dev nD, Ideal.matmul dK (Layout.block ⟨2, ![4096, 128]⟩ ⟨2, ![4096, 4096]⟩ 1 32 d x hA) (Layout.block ⟨2, ![128, 8192]⟩ ⟨2, ![4096, 8192]⟩ 0 32 d w hB) (fun _ => 0) j)
      = Ideal.matmul dR x w (fun _ => 0) j := by
  have e : ∀ d : Fin 32, Ideal.matmul dK (Layout.block ⟨2, ![4096, 128]⟩ ⟨2, ![4096, 4096]⟩ 1 32 d x hA) (Layout.block ⟨2, ![128, 8192]⟩ ⟨2, ![4096, 8192]⟩ 0 32 d w hB) (fun _ => 0) j
      = ∑ k : Fin 128, x (ixA (j 0) (d.val * 128 + k.val)) * w (ixB (d.val * 128 + k.val) (j 1)) := by
    intro d
    show (0 : EReal) + ∑ kk : dK.contr.Idx, x (hA.idx d (dK.lhsIdx j kk)) * w (hB.idx d (dK.rhsIdx j kk)) = _
    rw [zero_add, dK.sum_contr₁ (a := 1) rfl (K := 128) rfl]
    refine Finset.sum_congr rfl fun k _ => congrArg₂ (fun a b => x a * w b) (funext fun a => Fin.ext ?_) (funext fun a => Fin.ext ?_)
    · match a with
      | ⟨0, _⟩ => rfl
      | ⟨1, _⟩ =>
        have hd := d.isLt; have hk := k.isLt
        show d.val * 128 + k.val = (d.val * 128 + k.val) % 4096
        omega
    · match a with
      | ⟨0, _⟩ =>
        have hd := d.isLt; have hk := k.isLt
        show d.val * 128 + k.val = (d.val * 128 + k.val) % 4096
        omega
      | ⟨1, _⟩ => rfl
  refine (Finset.sum_congr rfl fun d _ => e d).trans ?_
  refine (sum_blocks fun n => x (ixA (j 0) n) * w (ixB n (j 1))).trans ?_
  show _ = (0 : EReal) + ∑ kk : dR.contr.Idx, x (dR.lhsIdx j kk) * w (dR.rhsIdx j kk)
  rw [zero_add, dR.sum_contr₁ (a := 1) rfl (K := 4096) rfl]
  refine Finset.sum_congr rfl fun k _ => congrArg₂ (fun a b => x a * w b) (funext fun a => Fin.ext ?_) (funext fun a => Fin.ext ?_)
  · match a with
    | ⟨0, _⟩ => rfl
    | ⟨1, _⟩ => exact Nat.mod_eq_of_lt k.isLt
  · match a with
    | ⟨0, _⟩ => exact Nat.mod_eq_of_lt k.isLt
    | ⟨1, _⟩ => rfl

/-! ## The spacings -/

theorem th0 : Ideal.ofBits .f32 0x3C800000#32 = ((1/64 : ℝ) : EReal) := by
  simp [Ideal.ofBits, Ideal.ieee, -EReal.coe_mul]; norm_num
theorem th1 : Ideal.ofBits .f32 0x3D000000#32 = ((1/32 : ℝ) : EReal) := by
  simp [Ideal.ofBits, Ideal.ieee, -EReal.coe_mul]; norm_num
theorem th2 : Ideal.ofBits .f32 0x3D800000#32 = ((1/16 : ℝ) : EReal) := by
  simp [Ideal.ofBits, Ideal.ieee, -EReal.coe_mul]; norm_num
theorem th3 : Ideal.ofBits .f32 0x3E000000#32 = ((1/8 : ℝ) : EReal) := by
  simp [Ideal.ofBits, Ideal.ieee, -EReal.coe_mul]; norm_num
theorem th4 : Ideal.ofBits .f32 0x3E800000#32 = ((1/4 : ℝ) : EReal) := by
  simp [Ideal.ofBits, Ideal.ieee, -EReal.coe_mul]; norm_num
theorem th5 : Ideal.ofBits .f32 0x3F000000#32 = ((1/2 : ℝ) : EReal) := by
  simp [Ideal.ofBits, Ideal.ieee, -EReal.coe_mul]; norm_num
theorem th6 : Ideal.ofBits .f32 0x3F800000#32 = ((1 : ℝ) : EReal) := by
  simp [Ideal.ofBits, Ideal.ieee, -EReal.coe_mul]; norm_num
theorem th7 : Ideal.ofBits .f32 0x40000000#32 = ((2 : ℝ) : EReal) := by
  simp [Ideal.ofBits, Ideal.ieee, -EReal.coe_mul]; norm_num
theorem th8 : Ideal.ofBits .f32 0x40800000#32 = ((4 : ℝ) : EReal) := by
  simp [Ideal.ofBits, Ideal.ieee, -EReal.coe_mul]; norm_num
theorem th9 : Ideal.ofBits .f32 0x41000000#32 = ((8 : ℝ) : EReal) := by
  simp [Ideal.ofBits, Ideal.ieee, -EReal.coe_mul]; norm_num
theorem th10 : Ideal.ofBits .f32 0x41800000#32 = ((16 : ℝ) : EReal) := by
  simp [Ideal.ofBits, Ideal.ieee, -EReal.coe_mul]; norm_num
theorem th11 : Ideal.ofBits .f32 0x42000000#32 = ((32 : ℝ) : EReal) := by
  simp [Ideal.ofBits, Ideal.ieee, -EReal.coe_mul]; norm_num
theorem th12 : Ideal.ofBits .f32 0x42800000#32 = ((64 : ℝ) : EReal) := by
  simp [Ideal.ofBits, Ideal.ieee, -EReal.coe_mul]; norm_num
theorem th13 : Ideal.ofBits .f32 0x43000000#32 = ((128 : ℝ) : EReal) := by
  simp [Ideal.ofBits, Ideal.ieee, -EReal.coe_mul]; norm_num
theorem th14 : Ideal.ofBits .f32 0x43800000#32 = ((256 : ℝ) : EReal) := by
  simp [Ideal.ofBits, Ideal.ieee, -EReal.coe_mul]; norm_num

theorem rung_skip (t p : BitVec 32) (a q : Tail.Arr (F := Ideal)) (i : S4096x8192.Idx) (h : ¬ Ideal.ofBits .f32 t ≤ (a i : EReal)) :
    Cert.ReferenceIdeal.Run.rung t p a q i = q i := by
  show (if BitVec.ofBool (decide (Ideal.ofBits .f32 t ≤ (a i : EReal))) = 1 then _ else q i) = q i
  rw [decide_eq_false h]; rfl

theorem sel_eq (a : Tail.Arr (F := Ideal)) : Tail.sel a = Cert.ReferenceIdeal.Run.l14 a := by
  funext i
  show (if BitVec.ofBool (decide (Ideal.ofBits .f32 0x3C800000#32 ≤ (a i : EReal))) = 1 then Cert.ReferenceIdeal.Run.l14 a i else Cert.ReferenceIdeal.Run.l0 a i) = _
  by_cases h : Ideal.ofBits .f32 0x3C800000#32 ≤ (a i : EReal)
  · rw [decide_eq_true h]; rfl
  · rw [decide_eq_false h]
    have big : ∀ t : BitVec 32, Ideal.ofBits .f32 0x3C800000#32 ≤ Ideal.ofBits .f32 t → ¬ Ideal.ofBits .f32 t ≤ (a i : EReal) := fun t ht h' => h (ht.trans h')
    refine Eq.symm ?_
    refine (rung_skip _ _ _ _ i (big _ (by rw [th0, th14]; exact EReal.coe_le_coe (by norm_num)))).trans ?_
    refine (rung_skip _ _ _ _ i (big _ (by rw [th0, th13]; exact EReal.coe_le_coe (by norm_num)))).trans ?_
    refine (rung_skip _ _ _ _ i (big _ (by rw [th0, th12]; exact EReal.coe_le_coe (by norm_num)))).trans ?_
    refine (rung_skip _ _ _ _ i (big _ (by rw [th0, th11]; exact EReal.coe_le_coe (by norm_num)))).trans ?_
    refine (rung_skip _ _ _ _ i (big _ (by rw [th0, th10]; exact EReal.coe_le_coe (by norm_num)))).trans ?_
    refine (rung_skip _ _ _ _ i (big _ (by rw [th0, th9]; exact EReal.coe_le_coe (by norm_num)))).trans ?_
    refine (rung_skip _ _ _ _ i (big _ (by rw [th0, th8]; exact EReal.coe_le_coe (by norm_num)))).trans ?_
    refine (rung_skip _ _ _ _ i (big _ (by rw [th0, th7]; exact EReal.coe_le_coe (by norm_num)))).trans ?_
    refine (rung_skip _ _ _ _ i (big _ (by rw [th0, th6]; exact EReal.coe_le_coe (by norm_num)))).trans ?_
    refine (rung_skip _ _ _ _ i (big _ (by rw [th0, th5]; exact EReal.coe_le_coe (by norm_num)))).trans ?_
    refine (rung_skip _ _ _ _ i (big _ (by rw [th0, th4]; exact EReal.coe_le_coe (by norm_num)))).trans ?_
    refine (rung_skip _ _ _ _ i (big _ (by rw [th0, th3]; exact EReal.coe_le_coe (by norm_num)))).trans ?_
    refine (rung_skip _ _ _ _ i (big _ (by rw [th0, th2]; exact EReal.coe_le_coe (by norm_num)))).trans ?_
    refine (rung_skip _ _ _ _ i (big _ (by rw [th0, th1]; exact EReal.coe_le_coe (by norm_num)))).trans ?_
    rfl

/-! ## The two programs -/

/-- Where every device holds its block of each argument, every device's result is what the reference makes of the whole arguments. -/
theorem out_eq (x : S40.Idx → EReal) (w : S4096x8192.Idx → EReal)
    (h : ∀ c : Dev nD, (m ((c.tc : Thread nD τ).loc main_arg0) : S4096x128.Idx → EReal) = Layout.block ⟨2, ![4096, 128]⟩ ⟨2, ![4096, 4096]⟩ 1 32 c x hA
      ∧ (m ((c.tc : Thread nD τ).loc main_arg1) : S128x8192.Idx → EReal) = Layout.block ⟨2, ![128, 8192]⟩ ⟨2, ![4096, 8192]⟩ 0 32 c w hB) (c : Dev nD) :
    (V7 m (outs m) c main_v105 : Tail.Arr (F := Ideal)) = Cert.ReferenceIdeal.Run.snap (Cert.ReferenceIdeal.Run.prod x w) := by
  have hy : Tail.Y (V2 m (outs m) c) = Cert.ReferenceIdeal.Run.prod (F := Ideal) x w := by
    refine (v2_v30 m c).trans ((outV_sum (ym m)).trans (funext fun j => ?_))
    refine Eq.trans (Finset.sum_congr rfl fun d _ => ?_) (prod_sum x w j)
    rw [ym_eq, (h d).1, (h d).2]
  refine (Tail.tail_eq (V2 m (outs m) c)).trans ?_
  unfold Tail.A
  rw [hy, sel_eq]
  rfl

end Cert.KernelIdeal.Value

end
-- ==== Proof.lean ====
/- The five claims: the frames of the three programs, the ideal reading, and the equality of the results. -/
module

public import proofs.«01_k».proof.Defs
public import proofs.«01_k».proof.Proof.Kernel.Frame
public import proofs.«01_k».proof.Proof.KernelIdeal.Value

@[expose] public section

noncomputable section

namespace Cert.Proof

open Idealize.ShloMosaic Idealize.SL.Sem

theorem frameKernel : Cert.quiescent_Kernel (hKernel := Cert.Kernel.Gen.facts) := fun m g _ =>
  Cert.Kernel.Ring.run_frame (F := Bits) m g

theorem frameKernelIdeal : Cert.quiescent_KernelIdeal (hKernelIdeal := Cert.KernelIdeal.Gen.facts) := fun m g _ =>
  Cert.KernelIdeal.Ring.run_frame (F := Ideal) m g

theorem frameReferenceIdeal : Cert.quiescent_ReferenceIdeal (hReferenceIdeal := Cert.ReferenceIdeal.Gen.facts) := fun m g _ =>
  θ_run_mono (Cert.ReferenceIdeal.Run.run_main (F := Ideal) m g) fun _ h => ⟨fun c => (h.1 c).2, h.2⟩

theorem algebraic : Cert.algebraic_KernelIdeal_ReferenceIdeal (hKernelIdeal := Cert.KernelIdeal.Gen.facts) (hReferenceIdeal := Cert.ReferenceIdeal.Gen.facts) := by
  intro m g m' g' _ h
  refine ⟨Cert.ReferenceIdeal.Run.snap (F := Ideal) (Cert.ReferenceIdeal.Run.prod
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))), ?_, ?_⟩
  · exact θ_run_mono (Cert.KernelIdeal.Ring.run_main (F := Ideal) m g) fun r hr c =>
      ⟨(hr.1 c).1.trans (Cert.KernelIdeal.Value.out_eq m _ _ h c), (hr.1 c).2⟩
  · exact θ_run_mono (Cert.ReferenceIdeal.Run.run_main (F := Ideal) m' g') fun r hr => hr.1 0

theorem claim : Cert.Claim :=
  ⟨Cert.Kernel.Gen.facts, Cert.KernelIdeal.Gen.facts, Cert.ReferenceIdeal.Gen.facts, frameKernel, frameKernelIdeal, frameReferenceIdeal, trivial, algebraic⟩

end Cert.Proof

end
